-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_gate [hPre_finite_gate : Cert.Pre_finite_gate.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_gate [hPre_finite_gate : Cert.Pre_finite_gate.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_gate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite_gate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_gate [hKernel2Ideal : Cert.Kernel2Ideal.Facts] [hPre_finite_gate : Cert.Pre_finite_gate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_gate m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_gate [hReference2Ideal : Cert.Reference2Ideal.Facts] [hPre_finite_gate : Cert.Pre_finite_gate.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_gate m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite_gate [hKernel2Ideal : Cert.Kernel2Ideal.Facts] [hReference2Ideal : Cert.Reference2Ideal.Facts] [hPre_finite_gate : Cert.Pre_finite_gate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_gate m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v12_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_v12_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_v31) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_inputs : Cert.Pre_finite_inputs.Facts) (hPre_finite_gate : Cert.Pre_finite_gate.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Kernel2Ideal_pre_finite_gate (hKernel2Ideal := hKernel2Ideal) (hPre_finite_gate := hPre_finite_gate)
    ∧ quiescent_Reference2Ideal (hReference2Ideal := hReference2Ideal)
    ∧ quiescent_Reference2Ideal_pre_finite_gate (hReference2Ideal := hReference2Ideal) (hPre_finite_gate := hPre_finite_gate)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal_pre_finite_gate (hKernel2Ideal := hKernel2Ideal) (hReference2Ideal := hReference2Ideal) (hPre_finite_gate := hPre_finite_gate)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_gate.lean ====
abbrev S4x4096x1024 : Shape := ⟨3, ![4, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  bcast_S_S1024x2816 : S_.BroadcastsInDim S1024x2816 (![] : Fin 0 → Fin S1024x2816.rank)

variable [Facts]

def fn {F : FTy → Type} [FloatOps F] (main_arg0 : FVec F S4x4096x1024 .f32) (main_arg1 : FVec F S1024 .f32) (main_arg2 : FVec F S1024x2816 .f32) (main_arg3 : FVec F S1024x2816 .f32) (main_arg4 : FVec F S2816x1024 .f32) (main_arg5 : FVec F S1024 .f32) : IVec S1024 1 × IVec S1024x2816 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2816 .f32 := Host.absf main_arg2
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  (main_v2, main_v5)
-- ==== Pre_finite_inputs.lean ====
abbrev S4x4096x1024 : Shape := ⟨3, ![4, 4096, 1024]⟩
abbrev S4x4096x16 : Shape := ⟨3, ![4, 4096, 16]⟩
abbrev S16 : Shape := ⟨1, ![16]⟩
abbrev S_ : Shape := ⟨0, ![]⟩

class Facts : Prop where
  bcast_S_S4x4096x1024 : S_.BroadcastsInDim S4x4096x1024 (![] : Fin 0 → Fin S4x4096x1024.rank)
  bcast_S_S4x4096x16 : S_.BroadcastsInDim S4x4096x16 (![] : Fin 0 → Fin S4x4096x16.rank)
  bcast_S_S16 : S_.BroadcastsInDim S16 (![] : Fin 0 → Fin S16.rank)

variable [Facts]

def fn {F : FTy → Type} [FloatOps F] (main_arg0 : FVec F S4x4096x1024 .f32) (main_arg1 : FVec F S4x4096x1024 .f32) (main_arg2 : FVec F S4x4096x1024 .f32) (main_arg3 : FVec F S4x4096x16 .f32) (main_arg4 : FVec F S4x4096x1024 .f32) (main_arg5 : FVec F S16 .f32) : IVec S4x4096x1024 1 × IVec S4x4096x1024 1 × IVec S4x4096x16 1 × IVec S16 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_v3 : FVec F S4x4096x1024 .f32 := Host.absf main_arg1
  let main_cst_0 : FVec F S_ .f32 := constant S_ .f32 0x7F800000#32
  let main_v4 : FVec F S4x4096x1024 .f32 := broadcastInDim S4x4096x1024 ![] bcast_S_S4x4096x1024 main_cst_0
  let main_v5 : IVec S4x4096x1024 1 := cmpf .olt main_v3 main_v4
  let main_v6 : FVec F S4x4096x16 .f32 := Host.absf main_arg3
  let main_cst_1 : FVec F S_ .f32 := constant S_ .f32 0x7F800000#32
  let main_v7 : FVec F S4x4096x16 .f32 := broadcastInDim S4x4096x16 ![] bcast_S_S4x4096x16 main_cst_1
  let main_v8 : IVec S4x4096x16 1 := cmpf .olt main_v6 main_v7
  let main_v9 : FVec F S16 .f32 := Host.absf main_arg5
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  (main_v2, main_v5, main_v8, main_v11)
-- ==== Kernel.lean ====
abbrev S4x4096x1024 : Shape := ⟨3, ![4, 4096, 1024]⟩
abbrev S4x4096x16 : Shape := ⟨3, ![4, 4096, 16]⟩
abbrev S16 : Shape := ⟨1, ![16]⟩
abbrev S4x4096x3072 : Shape := ⟨3, ![4, 4096, 3072]⟩
abbrev S16384x3072 : Shape := ⟨2, ![16384, 3072]⟩
abbrev S16384x1024 : Shape := ⟨2, ![16384, 1024]⟩
abbrev S1024x16384 : Shape := ⟨2, ![1024, 16384]⟩
abbrev S_ : Shape := ⟨0, ![]⟩
abbrev S16384x16 : Shape := ⟨2, ![16384, 16]⟩
abbrev S16384x96 : Shape := ⟨2, ![16384, 96]⟩
abbrev S16384x128 : Shape := ⟨2, ![16384, 128]⟩
abbrev S1x128 : Shape := ⟨2, ![1, 128]⟩
abbrev S1 : Shape := ⟨1, ![1]⟩
abbrev S2 : Shape := ⟨1, ![2]⟩
abbrev S128x1024 : Shape := ⟨2, ![128, 1024]⟩
abbrev S1x1024 : Shape := ⟨2, ![1, 1024]⟩
abbrev S512x128 : Shape := ⟨2, ![512, 128]⟩
abbrev S512x1024 : Shape := ⟨2, ![512, 1024]⟩
abbrev S8x128 : Shape := ⟨2, ![8, 128]⟩
abbrev S512x512 : Shape := ⟨2, ![512, 512]⟩
abbrev S512x384 : Shape := ⟨2, ![512, 384]⟩
abbrev S4096x512 : Shape := ⟨2, ![4096, 512]⟩
abbrev S512x4096 : Shape := ⟨2, ![512, 4096]⟩
abbrev S512x256 : Shape := ⟨2, ![512, 256]⟩
abbrev S1x512 : Shape := ⟨2, ![1, 512]⟩
abbrev S80x512 : Shape := ⟨2, ![80, 512]⟩
abbrev S512 : Shape := ⟨1, ![512]⟩
abbrev S64x512 : Shape := ⟨2, ![64, 512]⟩
abbrev S16x512 : Shape := ⟨2, ![16, 512]⟩
abbrev S128x512 : Shape := ⟨2, ![128, 512]⟩

abbrev nBuf : Space → Nat
  | .hbm => 110
  | .vmem => 26
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x16, .f32⟩
  | .hbm, ⟨4, _⟩ => ⟨S4x4096x1024, .f32⟩
  | .hbm, ⟨5, _⟩ => ⟨S16, .f32⟩
  | .hbm, ⟨6, _⟩ => ⟨S4x4096x3072, .f32⟩
  | .hbm, ⟨7, _⟩ => ⟨S16384x3072, .f32⟩
  | .hbm, ⟨8, _⟩ => ⟨S16384x3072, .bf16⟩
  | .hbm, ⟨9, _⟩ => ⟨S16384x1024, .f32⟩
  | .hbm, ⟨10, _⟩ => ⟨S1024x16384, .f32⟩
  | .hbm, ⟨11, _⟩ => ⟨S1024x16384, .bf16⟩
  | .hbm, ⟨12, _⟩ => ⟨S_, .f32⟩
  | .hbm, ⟨13, _⟩ => ⟨S16384x16, .f32⟩
  | .hbm, ⟨14, _⟩ => ⟨S16384x16, .f32⟩
  | .hbm, ⟨15, _⟩ => ⟨S_, .f32⟩
  | .hbm, ⟨16, _⟩ => ⟨S16384x96, .f32⟩
  | .hbm, ⟨17, _⟩ => ⟨S16384x128, .f32⟩
  | .hbm, ⟨18, _⟩ => ⟨S_, .f32⟩
  | .hbm, ⟨19, _⟩ => ⟨S1x128, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S1x128, .f32⟩
  | .hbm, ⟨26, _⟩ => ⟨S128x1024, .i32⟩
  | .hbm, ⟨27, _⟩ => ⟨S128x1024, .i32⟩
  | .hbm, ⟨28, _⟩ => ⟨S_, .i32⟩
  | .hbm, ⟨29, _⟩ => ⟨S128x1024, .i32⟩
  | .hbm, ⟨30, _⟩ => ⟨S128x1024, .i32⟩
  | .hbm, ⟨31, _⟩ => ⟨S_, .i32⟩
  | .hbm, ⟨32, _⟩ => ⟨S128x1024, .i32⟩
  | .hbm, ⟨33, _⟩ => ⟨S128x1024, .i32⟩
  | .hbm, ⟨34, _⟩ => ⟨S_, .i32⟩
  | .hbm, ⟨35, _⟩ => ⟨S128x1024, .i32⟩
  | .hbm, ⟨36, _⟩ => ⟨S128x1024, .i32⟩
  | .hbm, ⟨37, _⟩ => ⟨S_, .i32⟩
  | .hbm, ⟨38, _⟩ => ⟨S128x1024, .i32⟩
  | .hbm, ⟨39, _⟩ => ⟨S128x1024, .i32⟩
  | .hbm, ⟨40, _⟩ => ⟨S_, .i32⟩
  | .hbm, ⟨41, _⟩ => ⟨S128x1024, .i32⟩
  | .hbm, ⟨42, _⟩ => ⟨S128x1024, .i32⟩
  | .hbm, ⟨43, _⟩ => ⟨S128x1024, .i32⟩
  | .hbm, ⟨44, _⟩ => ⟨S_, .i32⟩
  | .hbm, ⟨45, _⟩ => ⟨S128x1024, .i32⟩
  | .hbm, ⟨46, _⟩ => ⟨S128x1024, .i1⟩
  | .hbm, ⟨47, _⟩ => ⟨S_, .i32⟩
  | .hbm, ⟨48, _⟩ => ⟨S128x1024, .i32⟩
  | .hbm, ⟨49, _⟩ => ⟨S128x1024, .i1⟩
  | .hbm, ⟨50, _⟩ => ⟨S128x1024, .i1⟩
  | .hbm, ⟨51, _⟩ => ⟨S_, .i32⟩
  | .hbm, ⟨52, _⟩ => ⟨S128x1024, .i32⟩
  | .hbm, ⟨53, _⟩ => ⟨S128x1024, .i1⟩
  | .hbm, ⟨54, _⟩ => ⟨S_, .i32⟩
  | .hbm, ⟨55, _⟩ => ⟨S128x1024, .i32⟩
  | .hbm, ⟨56, _⟩ => ⟨S128x1024, .i1⟩
  | .hbm, ⟨57, _⟩ => ⟨S_, .i32⟩
  | .hbm, ⟨58, _⟩ => ⟨S128x1024, .i32⟩
  | .hbm, ⟨59, _⟩ => ⟨S128x1024, .i1⟩
  | .hbm, ⟨60, _⟩ => ⟨S128x1024, .i1⟩
  | .hbm, ⟨61, _⟩ => ⟨S128x1024, .i1⟩
  | .hbm, ⟨62, _⟩ => ⟨S_, .i32⟩
  | .hbm, ⟨63, _⟩ => ⟨S128x1024, .i32⟩
  | .hbm, ⟨64, _⟩ => ⟨S128x1024, .i32⟩
  | .hbm, ⟨65, _⟩ => ⟨S_, .i32⟩
  | .hbm, ⟨66, _⟩ => ⟨S128x1024, .i32⟩
  | .hbm, ⟨67, _⟩ => ⟨S128x1024, .i32⟩
  | .hbm, ⟨68, _⟩ => ⟨S128x1024, .i32⟩
  | .hbm, ⟨69, _⟩ => ⟨S128x1024, .i1⟩
  | .hbm, ⟨70, _⟩ => ⟨S_, .i32⟩
  | .hbm, ⟨71, _⟩ => ⟨S128x1024, .i32⟩
  | .hbm, ⟨72, _⟩ => ⟨S128x1024, .i32⟩
  | .hbm, ⟨73, _⟩ => ⟨S_, .i32⟩
  | .hbm, ⟨74, _⟩ => ⟨S128x1024, .i32⟩
  | .hbm, ⟨75, _⟩ => ⟨S128x1024, .i32⟩
  | .hbm, ⟨76, _⟩ => ⟨S_, .i32⟩
  | .hbm, ⟨77, _⟩ => ⟨S128x1024, .i32⟩
  | .hbm, ⟨78, _⟩ => ⟨S128x1024, .i32⟩
  | .hbm, ⟨79, _⟩ => ⟨S128x1024, .i32⟩
  | .hbm, ⟨80, _⟩ => ⟨S128x1024, .i1⟩
  | .hbm, ⟨81, _⟩ => ⟨S128x1024, .i1⟩
  | .hbm, ⟨82, _⟩ => ⟨S_, .f32⟩
  | .hbm, ⟨83, _⟩ => ⟨S_, .f32⟩
  | .hbm, ⟨84, _⟩ => ⟨S128x1024, .f32⟩
  | .hbm, ⟨85, _⟩ => ⟨S128x1024, .f32⟩
  | .hbm, ⟨86, _⟩ => ⟨S128x1024, .f32⟩
  | .hbm, ⟨87, _⟩ => ⟨S128x1024, .i1⟩
  | .hbm, ⟨88, _⟩ => ⟨S_, .f32⟩
  | .hbm, ⟨89, _⟩ => ⟨S_, .f32⟩
  | .hbm, ⟨90, _⟩ => ⟨S128x1024, .f32⟩
  | .hbm, ⟨91, _⟩ => ⟨S128x1024, .f32⟩
  | .hbm, ⟨92, _⟩ => ⟨S128x1024, .f32⟩
  | .hbm, ⟨93, _⟩ => ⟨S1x1024, .i1⟩
  | .hbm, ⟨94, _⟩ => ⟨S_, .f32⟩
  | .hbm, ⟨95, _⟩ => ⟨S_, .f32⟩
  | .hbm, ⟨96, _⟩ => ⟨S1x1024, .f32⟩
  | .hbm, ⟨97, _⟩ => ⟨S1x1024, .f32⟩
  | .hbm, ⟨98, _⟩ => ⟨S1x1024, .f32⟩
  | .hbm, ⟨99, _⟩ => ⟨S1x1024, .i1⟩
  | .hbm, ⟨100, _⟩ => ⟨S_, .f32⟩
  | .hbm, ⟨101, _⟩ => ⟨S_, .f32⟩
  | .hbm, ⟨102, _⟩ => ⟨S1x1024, .f32⟩
  | .hbm, ⟨103, _⟩ => ⟨S1x1024, .f32⟩
  | .hbm, ⟨104, _⟩ => ⟨S1x1024, .f32⟩
  | .hbm, ⟨105, _⟩ => ⟨S128x1024, .bf16⟩
  | .hbm, ⟨106, _⟩ => ⟨S128x1024, .bf16⟩
  | .hbm, ⟨107, _⟩ => ⟨S16384x1024, .bf16⟩
  | .hbm, ⟨108, _⟩ => ⟨S16384x1024, .bf16⟩
  | .hbm, ⟨109, _⟩ => ⟨S16384x1024, .bf16⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S128x1024, .bf16⟩
  | .local _ .vmem, ⟨4, _⟩ => ⟨S128x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S8x128, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S4096x512, .bf16⟩
  | .local _ .vmem, ⟨17, _⟩ => ⟨S4096x512, .bf16⟩
  | .local _ .vmem, ⟨18, _⟩ => ⟨S4096x512, .bf16⟩
  | .local _ .vmem, ⟨19, _⟩ => ⟨S4096x512, .bf16⟩
  | .local _ .vmem, ⟨20, _⟩ => ⟨S512x4096, .bf16⟩
  | .local _ .vmem, ⟨21, _⟩ => ⟨S512x4096, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_c_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_8 : Ref sig .tc := ⟨.hbm, 44, rfl⟩
abbrev main_v28 : Ref sig .tc := ⟨.hbm, 45, rfl⟩
abbrev main_v29 : Ref sig .tc := ⟨.hbm, 46, rfl⟩
abbrev main_c_9 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_10 : Ref sig .tc := ⟨.hbm, 51, rfl⟩
abbrev main_v33 : Ref sig .tc := ⟨.hbm, 52, rfl⟩
abbrev main_v34 : Ref sig .tc := ⟨.hbm, 53, rfl⟩
abbrev main_c_11 : Ref sig .tc := ⟨.hbm, 54, rfl⟩
abbrev main_v35 : Ref sig .tc := ⟨.hbm, 55, rfl⟩
abbrev main_v36 : Ref sig .tc := ⟨.hbm, 56, rfl⟩
abbrev main_c_12 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_13 : Ref sig .tc := ⟨.hbm, 62, rfl⟩
abbrev main_v41 : Ref sig .tc := ⟨.hbm, 63, rfl⟩
abbrev main_v42 : Ref sig .tc := ⟨.hbm, 64, rfl⟩
abbrev main_c_14 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_15 : Ref sig .tc := ⟨.hbm, 70, rfl⟩
abbrev main_v47 : Ref sig .tc := ⟨.hbm, 71, rfl⟩
abbrev main_v48 : Ref sig .tc := ⟨.hbm, 72, rfl⟩
abbrev main_c_16 : Ref sig .tc := ⟨.hbm, 73, rfl⟩
abbrev main_v49 : Ref sig .tc := ⟨.hbm, 74, rfl⟩
abbrev main_v50 : Ref sig .tc := ⟨.hbm, 75, rfl⟩
abbrev main_c_17 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_18 : Ref sig .tc := ⟨.hbm, 82, rfl⟩
abbrev main_cst_19 : Ref sig .tc := ⟨.hbm, 83, rfl⟩
abbrev main_call0_v0 : Ref sig .tc := ⟨.hbm, 84, rfl⟩
abbrev main_call0_v1 : Ref sig .tc := ⟨.hbm, 85, rfl⟩
abbrev main_v56 : Ref sig .tc := ⟨.hbm, 86, rfl⟩
abbrev main_v57 : Ref sig .tc := ⟨.hbm, 87, rfl⟩
abbrev main_cst_20 : Ref sig .tc := ⟨.hbm, 88, rfl⟩
abbrev main_cst_21 : Ref sig .tc := ⟨.hbm, 89, rfl⟩
abbrev main_call1_v0 : Ref sig .tc := ⟨.hbm, 90, rfl⟩
abbrev main_call1_v1 : Ref sig .tc := ⟨.hbm, 91, rfl⟩
abbrev main_v58 : Ref sig .tc := ⟨.hbm, 92, rfl⟩
abbrev main_v59 : Ref sig .tc := ⟨.hbm, 93, rfl⟩
abbrev main_cst_22 : Ref sig .tc := ⟨.hbm, 94, rfl⟩
abbrev main_cst_23 : Ref sig .tc := ⟨.hbm, 95, rfl⟩
abbrev main_call2_v0 : Ref sig .tc := ⟨.hbm, 96, rfl⟩
abbrev main_call2_v1 : Ref sig .tc := ⟨.hbm, 97, rfl⟩
abbrev main_v60 : Ref sig .tc := ⟨.hbm, 98, rfl⟩
abbrev main_v61 : Ref sig .tc := ⟨.hbm, 99, rfl⟩
abbrev main_cst_24 : Ref sig .tc := ⟨.hbm, 100, rfl⟩
abbrev main_cst_25 : Ref sig .tc := ⟨.hbm, 101, rfl⟩
abbrev main_call3_v0 : Ref sig .tc := ⟨.hbm, 102, rfl⟩
abbrev main_call3_v1 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65_0 : Ref sig .tc := ⟨.hbm, 107, rfl⟩
abbrev main_v65_1 : Ref sig .tc := ⟨.hbm, 108, rfl⟩
abbrev main_v66 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨3, ![4, 2, 8], ![false, false, false]⟩

@[reducible] def k1_t1_loop (i : grid1.Coords) : Scf.Loop 32 :=
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_53 : BitVec 32 := 1#32
  ⟨c0_i32_51, v138, c1_i32_53⟩
def k1_mult1 (i : grid1.Coords) (k1_t1 : Fin (k1_t1_loop i).trips) : BitVec 32 :=
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_169 : BitVec 32 := 512#32
  let v530 : BitVec 32 := Scalar.muli v527 c512_i32_169
  v530
def k1_off1 (i : grid1.Coords) (k1_t1 : Fin (k1_t1_loop i).trips) : Fin 2 → Nat :=
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_169 : BitVec 32 := 512#32
  let v530 : BitVec 32 := Scalar.muli v527 c512_i32_169
  let v531 : BitVec 32 := v530
  let v532 : Index := Scalar.indexCast v531
  let c0_170 : Index := 0#32
  ![v532.toNat, 0]
def k1_mult2 (i : grid1.Coords) (k1_t1 : Fin (k1_t1_loop i).trips) : BitVec 32 :=
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_173 : BitVec 32 := 512#32
  let v540 : BitVec 32 := Scalar.muli v527 c512_i32_173
  v540
def k1_mult3 (i : grid1.Coords) (k1_t1 : Fin (k1_t1_loop i).trips) : BitVec 32 :=
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_177 : BitVec 32 := 512#32
  let v550 : BitVec 32 := Scalar.muli v527 c512_i32_177
  v550
def k1_off2 (i : grid1.Coords) (k1_t1 : Fin (k1_t1_loop i).trips) : Fin 2 → Nat :=
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_177 : BitVec 32 := 512#32
  let v550 : BitVec 32 := Scalar.muli v527 c512_i32_177
  let v551 : BitVec 32 := v550
  let v552 : Index := Scalar.indexCast v551
  let c128_178 : Index := 128#32
  ![v552.toNat, 128]
def k1_mult4 (i : grid1.Coords) (k1_t1 : Fin (k1_t1_loop i).trips) : BitVec 32 :=
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_181 : BitVec 32 := 512#32
  let v560 : BitVec 32 := Scalar.muli v527 c512_i32_181
  v560
def k1_mult5 (i : grid1.Coords) (k1_t1 : Fin (k1_t1_loop i).trips) : BitVec 32 :=
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_186 : BitVec 32 := 512#32
  let v581 : BitVec 32 := Scalar.muli v527 c512_i32_186
  v581
def k1_off3 (i : grid1.Coords) (k1_t1 : Fin (k1_t1_loop i).trips) : Fin 2 → Nat :=
  let c0_187 : Index := 0#32
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_186 : BitVec 32 := 512#32
  let v581 : BitVec 32 := Scalar.muli v527 c512_i32_186
  let v582 : BitVec 32 := v581
  let v583 : Index := Scalar.indexCast v582
  ![0, v583.toNat]
def k1_mult6 (i : grid1.Coords) (k1_t1 : Fin (k1_t1_loop i).trips) : BitVec 32 :=
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_190 : BitVec 32 := 512#32
  let v590 : BitVec 32 := Scalar.muli v527 c512_i32_190
  v590
def k1_off4 (i : grid1.Coords) (k1_t1 : Fin (k1_t1_loop i).trips) : Fin 2 → Nat :=
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_190 : BitVec 32 := 512#32
  let v590 : BitVec 32 := Scalar.muli v527 c512_i32_190
  let v591 : BitVec 32 := v590
  let v592 : Index := Scalar.indexCast v591
  let c256_191 : Index := 256#32
  ![v592.toNat, 256]
def k1_mult7 (i : grid1.Coords) (k1_t1 : Fin (k1_t1_loop i).trips) : BitVec 32 :=
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_195 : BitVec 32 := 512#32
  let v611 : BitVec 32 := Scalar.muli v527 c512_i32_195
  v611
def k1_off5 (i : grid1.Coords) (k1_t1 : Fin (k1_t1_loop i).trips) : Fin 2 → Nat :=
  let c64_196 : Index := 64#32
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_195 : BitVec 32 := 512#32
  let v611 : BitVec 32 := Scalar.muli v527 c512_i32_195
  let v612 : BitVec 32 := v611
  let v613 : Index := Scalar.indexCast v612
  ![64, v613.toNat]
def k1_mult8 (i : grid1.Coords) (k1_t1 : Fin (k1_t1_loop i).trips) : BitVec 32 :=
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_199 : BitVec 32 := 512#32
  let v620 : BitVec 32 := Scalar.muli v527 c512_i32_199
  v620
def k1_mult9 (i : grid1.Coords) (k1_t1 : Fin (k1_t1_loop i).trips) : BitVec 32 :=
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_204 : BitVec 32 := 512#32
  let v641 : BitVec 32 := Scalar.muli v527 c512_i32_204
  v641
def k1_off6 (i : grid1.Coords) (k1_t1 : Fin (k1_t1_loop i).trips) : Fin 2 → Nat :=
  let c128_205 : Index := 128#32
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_204 : BitVec 32 := 512#32
  let v641 : BitVec 32 := Scalar.muli v527 c512_i32_204
  let v642 : BitVec 32 := v641
  let v643 : Index := Scalar.indexCast v642
  ![128, v643.toNat]
def k1_mult10 (i : grid1.Coords) (k1_t1 : Fin (k1_t1_loop i).trips) : BitVec 32 :=
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_208 : BitVec 32 := 512#32
  let v650 : BitVec 32 := Scalar.muli v527 c512_i32_208
  v650
def k1_off7 (i : grid1.Coords) (k1_t1 : Fin (k1_t1_loop i).trips) : Fin 2 → Nat :=
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_208 : BitVec 32 := 512#32
  let v650 : BitVec 32 := Scalar.muli v527 c512_i32_208
  let v651 : BitVec 32 := v650
  let v652 : Index := Scalar.indexCast v651
  let c384_209 : Index := 384#32
  ![v652.toNat, 384]
def k1_mult11 (i : grid1.Coords) (k1_t1 : Fin (k1_t1_loop i).trips) : BitVec 32 :=
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_213 : BitVec 32 := 512#32
  let v671 : BitVec 32 := Scalar.muli v527 c512_i32_213
  v671
def k1_off8 (i : grid1.Coords) (k1_t1 : Fin (k1_t1_loop i).trips) : Fin 2 → Nat :=
  let c192_214 : Index := 192#32
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_213 : BitVec 32 := 512#32
  let v671 : BitVec 32 := Scalar.muli v527 c512_i32_213
  let v672 : BitVec 32 := v671
  let v673 : Index := Scalar.indexCast v672
  ![192, v673.toNat]
def k1_mult12 (i : grid1.Coords) (k1_t1 : Fin (k1_t1_loop i).trips) : BitVec 32 :=
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_217 : BitVec 32 := 512#32
  let v680 : BitVec 32 := Scalar.muli v527 c512_i32_217
  v680
def k1_mult13 (i : grid1.Coords) (k1_t1 : Fin (k1_t1_loop i).trips) : BitVec 32 :=
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_222 : BitVec 32 := 512#32
  let v701 : BitVec 32 := Scalar.muli v527 c512_i32_222
  v701
def k1_off9 (i : grid1.Coords) (k1_t1 : Fin (k1_t1_loop i).trips) : Fin 2 → Nat :=
  let c256_223 : Index := 256#32
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_222 : BitVec 32 := 512#32
  let v701 : BitVec 32 := Scalar.muli v527 c512_i32_222
  let v702 : BitVec 32 := v701
  let v703 : Index := Scalar.indexCast v702
  ![256, v703.toNat]
def k1_mult14 (i : grid1.Coords) (k1_t1 : Fin (k1_t1_loop i).trips) : BitVec 32 :=
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_226 : BitVec 32 := 512#32
  let v710 : BitVec 32 := Scalar.muli v529 c512_i32_226
  v710
def k1_off10 (i : grid1.Coords) (k1_t1 : Fin (k1_t1_loop i).trips) : Fin 2 → Nat :=
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_226 : BitVec 32 := 512#32
  let v710 : BitVec 32 := Scalar.muli v529 c512_i32_226
  let v711 : BitVec 32 := v710
  let v712 : Index := Scalar.indexCast v711
  let c0_227 : Index := 0#32
  ![v712.toNat, 0]
def k1_mult15 (i : grid1.Coords) (k1_t1 : Fin (k1_t1_loop i).trips) : BitVec 32 :=
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_231 : BitVec 32 := 512#32
  let v731 : BitVec 32 := Scalar.muli v527 c512_i32_231
  v731
def k1_off11 (i : grid1.Coords) (k1_t1 : Fin (k1_t1_loop i).trips) : Fin 2 → Nat :=
  let c320_232 : Index := 320#32
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_231 : BitVec 32 := 512#32
  let v731 : BitVec 32 := Scalar.muli v527 c512_i32_231
  let v732 : BitVec 32 := v731
  let v733 : Index := Scalar.indexCast v732
  ![320, v733.toNat]
def k1_mult16 (i : grid1.Coords) (k1_t1 : Fin (k1_t1_loop i).trips) : BitVec 32 :=
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_235 : BitVec 32 := 512#32
  let v740 : BitVec 32 := Scalar.muli v529 c512_i32_235
  v740
def k1_mult17 (i : grid1.Coords) (k1_t1 : Fin (k1_t1_loop i).trips) : BitVec 32 :=
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_240 : BitVec 32 := 512#32
  let v761 : BitVec 32 := Scalar.muli v527 c512_i32_240
  v761
def k1_off12 (i : grid1.Coords) (k1_t1 : Fin (k1_t1_loop i).trips) : Fin 2 → Nat :=
  let c384_241 : Index := 384#32
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_240 : BitVec 32 := 512#32
  let v761 : BitVec 32 := Scalar.muli v527 c512_i32_240
  let v762 : BitVec 32 := v761
  let v763 : Index := Scalar.indexCast v762
  ![384, v763.toNat]
def k1_mult18 (i : grid1.Coords) (k1_t1 : Fin (k1_t1_loop i).trips) : BitVec 32 :=
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_244 : BitVec 32 := 512#32
  let v770 : BitVec 32 := Scalar.muli v529 c512_i32_244
  v770
def k1_off13 (i : grid1.Coords) (k1_t1 : Fin (k1_t1_loop i).trips) : Fin 2 → Nat :=
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_244 : BitVec 32 := 512#32
  let v770 : BitVec 32 := Scalar.muli v529 c512_i32_244
  let v771 : BitVec 32 := v770
  let v772 : Index := Scalar.indexCast v771
  let c128_245 : Index := 128#32
  ![v772.toNat, 128]
def k1_mult19 (i : grid1.Coords) (k1_t1 : Fin (k1_t1_loop i).trips) : BitVec 32 :=
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_249 : BitVec 32 := 512#32
  let v791 : BitVec 32 := Scalar.muli v527 c512_i32_249
  v791
def k1_off14 (i : grid1.Coords) (k1_t1 : Fin (k1_t1_loop i).trips) : Fin 2 → Nat :=
  let c448_250 : Index := 448#32
  let c2_i32_166 : BitVec 32 := 2#32
  let c0_i32_51 : BitVec 32 := 0#32
  let c1_i32_53 : BitVec 32 := 1#32
  let arg10 : BitVec 32 := Scf.iv c0_i32_51 c1_i32_53 k1_t1
  let v527 : BitVec 32 := Scalar.muli c2_i32_166 arg10
  let c512_i32_249 : BitVec 32 := 512#32
  let v791 : BitVec 32 := Scalar.muli v527 c512_i32_249
  let v792 : BitVec 32 := v791
  let v793 : Index := Scalar.indexCast v792
  ![448, v793.toNat]
def k1_mult20 (i : grid1.Coords) (k1_t1 : Fin (k1_t1_loop i).trips) : BitVec 32 :=
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_253 : BitVec 32 := 512#32
  let v800 : BitVec 32 := Scalar.muli v529 c512_i32_253
  v800
def k1_mult21 (i : grid1.Coords) (k1_t1 : Fin (k1_t1_loop i).trips) : BitVec 32 :=
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_258 : BitVec 32 := 512#32
  let v821 : BitVec 32 := Scalar.muli v529 c512_i32_258
  v821
def k1_off15 (i : grid1.Coords) (k1_t1 : Fin (k1_t1_loop i).trips) : Fin 2 → Nat :=
  let c0_259 : Index := 0#32
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_258 : BitVec 32 := 512#32
  let v821 : BitVec 32 := Scalar.muli v529 c512_i32_258
  let v822 : BitVec 32 := v821
  let v823 : Index := Scalar.indexCast v822
  ![0, v823.toNat]
def k1_mult22 (i : grid1.Coords) (k1_t1 : Fin (k1_t1_loop i).trips) : BitVec 32 :=
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_262 : BitVec 32 := 512#32
  let v830 : BitVec 32 := Scalar.muli v529 c512_i32_262
  v830
def k1_off16 (i : grid1.Coords) (k1_t1 : Fin (k1_t1_loop i).trips) : Fin 2 → Nat :=
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_262 : BitVec 32 := 512#32
  let v830 : BitVec 32 := Scalar.muli v529 c512_i32_262
  let v831 : BitVec 32 := v830
  let v832 : Index := Scalar.indexCast v831
  let c256_263 : Index := 256#32
  ![v832.toNat, 256]
def k1_mult23 (i : grid1.Coords) (k1_t1 : Fin (k1_t1_loop i).trips) : BitVec 32 :=
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_267 : BitVec 32 := 512#32
  let v851 : BitVec 32 := Scalar.muli v529 c512_i32_267
  v851
def k1_off17 (i : grid1.Coords) (k1_t1 : Fin (k1_t1_loop i).trips) : Fin 2 → Nat :=
  let c64_268 : Index := 64#32
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_267 : BitVec 32 := 512#32
  let v851 : BitVec 32 := Scalar.muli v529 c512_i32_267
  let v852 : BitVec 32 := v851
  let v853 : Index := Scalar.indexCast v852
  ![64, v853.toNat]
def k1_mult24 (i : grid1.Coords) (k1_t1 : Fin (k1_t1_loop i).trips) : BitVec 32 :=
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_271 : BitVec 32 := 512#32
  let v860 : BitVec 32 := Scalar.muli v529 c512_i32_271
  v860
def k1_mult25 (i : grid1.Coords) (k1_t1 : Fin (k1_t1_loop i).trips) : BitVec 32 :=
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_276 : BitVec 32 := 512#32
  let v881 : BitVec 32 := Scalar.muli v529 c512_i32_276
  v881
def k1_off18 (i : grid1.Coords) (k1_t1 : Fin (k1_t1_loop i).trips) : Fin 2 → Nat :=
  let c128_277 : Index := 128#32
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_276 : BitVec 32 := 512#32
  let v881 : BitVec 32 := Scalar.muli v529 c512_i32_276
  let v882 : BitVec 32 := v881
  let v883 : Index := Scalar.indexCast v882
  ![128, v883.toNat]
def k1_mult26 (i : grid1.Coords) (k1_t1 : Fin (k1_t1_loop i).trips) : BitVec 32 :=
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_280 : BitVec 32 := 512#32
  let v890 : BitVec 32 := Scalar.muli v529 c512_i32_280
  v890
def k1_off19 (i : grid1.Coords) (k1_t1 : Fin (k1_t1_loop i).trips) : Fin 2 → Nat :=
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_280 : BitVec 32 := 512#32
  let v890 : BitVec 32 := Scalar.muli v529 c512_i32_280
  let v891 : BitVec 32 := v890
  let v892 : Index := Scalar.indexCast v891
  let c384_281 : Index := 384#32
  ![v892.toNat, 384]
def k1_mult27 (i : grid1.Coords) (k1_t1 : Fin (k1_t1_loop i).trips) : BitVec 32 :=
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_285 : BitVec 32 := 512#32
  let v911 : BitVec 32 := Scalar.muli v529 c512_i32_285
  v911
def k1_off20 (i : grid1.Coords) (k1_t1 : Fin (k1_t1_loop i).trips) : Fin 2 → Nat :=
  let c192_286 : Index := 192#32
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_285 : BitVec 32 := 512#32
  let v911 : BitVec 32 := Scalar.muli v529 c512_i32_285
  let v912 : BitVec 32 := v911
  let v913 : Index := Scalar.indexCast v912
  ![192, v913.toNat]
def k1_mult28 (i : grid1.Coords) (k1_t1 : Fin (k1_t1_loop i).trips) : BitVec 32 :=
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_289 : BitVec 32 := 512#32
  let v920 : BitVec 32 := Scalar.muli v529 c512_i32_289
  v920
def k1_mult29 (i : grid1.Coords) (k1_t1 : Fin (k1_t1_loop i).trips) : BitVec 32 :=
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_294 : BitVec 32 := 512#32
  let v941 : BitVec 32 := Scalar.muli v529 c512_i32_294
  v941
def k1_off21 (i : grid1.Coords) (k1_t1 : Fin (k1_t1_loop i).trips) : Fin 2 → Nat :=
  let c256_295 : Index := 256#32
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_294 : BitVec 32 := 512#32
  let v941 : BitVec 32 := Scalar.muli v529 c512_i32_294
  let v942 : BitVec 32 := v941
  let v943 : Index := Scalar.indexCast v942
  ![256, v943.toNat]
def k1_mult30 (i : grid1.Coords) (k1_t1 : Fin (k1_t1_loop i).trips) : BitVec 32 :=
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_299 : BitVec 32 := 512#32
  let v961 : BitVec 32 := Scalar.muli v529 c512_i32_299
  v961
def k1_off22 (i : grid1.Coords) (k1_t1 : Fin (k1_t1_loop i).trips) : Fin 2 → Nat :=
  let c320_300 : Index := 320#32
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_299 : BitVec 32 := 512#32
  let v961 : BitVec 32 := Scalar.muli v529 c512_i32_299
  let v962 : BitVec 32 := v961
  let v963 : Index := Scalar.indexCast v962
  ![320, v963.toNat]
def k1_mult31 (i : grid1.Coords) (k1_t1 : Fin (k1_t1_loop i).trips) : BitVec 32 :=
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_304 : BitVec 32 := 512#32
  let v981 : BitVec 32 := Scalar.muli v529 c512_i32_304
  v981
def k1_off23 (i : grid1.Coords) (k1_t1 : Fin (k1_t1_loop i).trips) : Fin 2 → Nat :=
  let c384_305 : Index := 384#32
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_304 : BitVec 32 := 512#32
  let v981 : BitVec 32 := Scalar.muli v529 c512_i32_304
  let v982 : BitVec 32 := v981
  let v983 : Index := Scalar.indexCast v982
  ![384, v983.toNat]
def k1_mult32 (i : grid1.Coords) (k1_t1 : Fin (k1_t1_loop i).trips) : BitVec 32 :=
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_309 : BitVec 32 := 512#32
  let v1001 : BitVec 32 := Scalar.muli v529 c512_i32_309
  v1001
def k1_off24 (i : grid1.Coords) (k1_t1 : Fin (k1_t1_loop i).trips) : Fin 2 → Nat :=
  let c448_310 : Index := 448#32
  let c2_i32_167 : BitVec 32 := 2#32
  let c0_i32_51 : BitVec 32 := 0#32
  let c1_i32_53 : BitVec 32 := 1#32
  let arg10 : BitVec 32 := Scf.iv c0_i32_51 c1_i32_53 k1_t1
  let v528 : BitVec 32 := Scalar.muli c2_i32_167 arg10
  let c1_i32_168 : BitVec 32 := 1#32
  let v529 : BitVec 32 := Scalar.addi v528 c1_i32_168
  let c512_i32_309 : BitVec 32 := 512#32
  let v1001 : BitVec 32 := Scalar.muli v529 c512_i32_309
  let v1002 : BitVec 32 := v1001
  let v1003 : Index := Scalar.indexCast v1002
  ![448, v1003.toNat]
@[reducible] def k1_t2_loop (i : grid1.Coords) : Scf.Loop 32 :=
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let v135 : BitVec 32 := Scalar.addi c0_i32_51 v134
  let c1_i32_54 : BitVec 32 := 1#32
  ⟨v138, v135, c1_i32_54⟩
def k1_mult33 (i : grid1.Coords) (k1_t2 : Fin (k1_t2_loop i).trips) : BitVec 32 :=
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_169 : BitVec 32 := 512#32
  let v530 : BitVec 32 := Scalar.muli v527 c512_i32_169
  v530
def k1_off25 (i : grid1.Coords) (k1_t2 : Fin (k1_t2_loop i).trips) : Fin 2 → Nat :=
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_169 : BitVec 32 := 512#32
  let v530 : BitVec 32 := Scalar.muli v527 c512_i32_169
  let v531 : BitVec 32 := v530
  let v532 : Index := Scalar.indexCast v531
  let c0_170 : Index := 0#32
  ![v532.toNat, 0]
def k1_mult34 (i : grid1.Coords) (k1_t2 : Fin (k1_t2_loop i).trips) : BitVec 32 :=
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_173 : BitVec 32 := 512#32
  let v540 : BitVec 32 := Scalar.muli v527 c512_i32_173
  v540
def k1_mult35 (i : grid1.Coords) (k1_t2 : Fin (k1_t2_loop i).trips) : BitVec 32 :=
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_177 : BitVec 32 := 512#32
  let v550 : BitVec 32 := Scalar.muli v527 c512_i32_177
  v550
def k1_off26 (i : grid1.Coords) (k1_t2 : Fin (k1_t2_loop i).trips) : Fin 2 → Nat :=
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_177 : BitVec 32 := 512#32
  let v550 : BitVec 32 := Scalar.muli v527 c512_i32_177
  let v551 : BitVec 32 := v550
  let v552 : Index := Scalar.indexCast v551
  let c128_178 : Index := 128#32
  ![v552.toNat, 128]
def k1_mult36 (i : grid1.Coords) (k1_t2 : Fin (k1_t2_loop i).trips) : BitVec 32 :=
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_181 : BitVec 32 := 512#32
  let v560 : BitVec 32 := Scalar.muli v527 c512_i32_181
  v560
def k1_mult37 (i : grid1.Coords) (k1_t2 : Fin (k1_t2_loop i).trips) : BitVec 32 :=
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_186 : BitVec 32 := 512#32
  let v581 : BitVec 32 := Scalar.muli v527 c512_i32_186
  v581
def k1_off27 (i : grid1.Coords) (k1_t2 : Fin (k1_t2_loop i).trips) : Fin 2 → Nat :=
  let c0_187 : Index := 0#32
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_186 : BitVec 32 := 512#32
  let v581 : BitVec 32 := Scalar.muli v527 c512_i32_186
  let v582 : BitVec 32 := v581
  let v583 : Index := Scalar.indexCast v582
  ![0, v583.toNat]
def k1_mult38 (i : grid1.Coords) (k1_t2 : Fin (k1_t2_loop i).trips) : BitVec 32 :=
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_190 : BitVec 32 := 512#32
  let v590 : BitVec 32 := Scalar.muli v527 c512_i32_190
  v590
def k1_off28 (i : grid1.Coords) (k1_t2 : Fin (k1_t2_loop i).trips) : Fin 2 → Nat :=
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_190 : BitVec 32 := 512#32
  let v590 : BitVec 32 := Scalar.muli v527 c512_i32_190
  let v591 : BitVec 32 := v590
  let v592 : Index := Scalar.indexCast v591
  let c256_191 : Index := 256#32
  ![v592.toNat, 256]
def k1_mult39 (i : grid1.Coords) (k1_t2 : Fin (k1_t2_loop i).trips) : BitVec 32 :=
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_195 : BitVec 32 := 512#32
  let v611 : BitVec 32 := Scalar.muli v527 c512_i32_195
  v611
def k1_off29 (i : grid1.Coords) (k1_t2 : Fin (k1_t2_loop i).trips) : Fin 2 → Nat :=
  let c64_196 : Index := 64#32
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_195 : BitVec 32 := 512#32
  let v611 : BitVec 32 := Scalar.muli v527 c512_i32_195
  let v612 : BitVec 32 := v611
  let v613 : Index := Scalar.indexCast v612
  ![64, v613.toNat]
def k1_mult40 (i : grid1.Coords) (k1_t2 : Fin (k1_t2_loop i).trips) : BitVec 32 :=
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_199 : BitVec 32 := 512#32
  let v620 : BitVec 32 := Scalar.muli v527 c512_i32_199
  v620
def k1_mult41 (i : grid1.Coords) (k1_t2 : Fin (k1_t2_loop i).trips) : BitVec 32 :=
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_204 : BitVec 32 := 512#32
  let v641 : BitVec 32 := Scalar.muli v527 c512_i32_204
  v641
def k1_off30 (i : grid1.Coords) (k1_t2 : Fin (k1_t2_loop i).trips) : Fin 2 → Nat :=
  let c128_205 : Index := 128#32
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_204 : BitVec 32 := 512#32
  let v641 : BitVec 32 := Scalar.muli v527 c512_i32_204
  let v642 : BitVec 32 := v641
  let v643 : Index := Scalar.indexCast v642
  ![128, v643.toNat]
def k1_mult42 (i : grid1.Coords) (k1_t2 : Fin (k1_t2_loop i).trips) : BitVec 32 :=
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_208 : BitVec 32 := 512#32
  let v650 : BitVec 32 := Scalar.muli v527 c512_i32_208
  v650
def k1_off31 (i : grid1.Coords) (k1_t2 : Fin (k1_t2_loop i).trips) : Fin 2 → Nat :=
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_208 : BitVec 32 := 512#32
  let v650 : BitVec 32 := Scalar.muli v527 c512_i32_208
  let v651 : BitVec 32 := v650
  let v652 : Index := Scalar.indexCast v651
  let c384_209 : Index := 384#32
  ![v652.toNat, 384]
def k1_mult43 (i : grid1.Coords) (k1_t2 : Fin (k1_t2_loop i).trips) : BitVec 32 :=
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_213 : BitVec 32 := 512#32
  let v671 : BitVec 32 := Scalar.muli v527 c512_i32_213
  v671
def k1_off32 (i : grid1.Coords) (k1_t2 : Fin (k1_t2_loop i).trips) : Fin 2 → Nat :=
  let c192_214 : Index := 192#32
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_213 : BitVec 32 := 512#32
  let v671 : BitVec 32 := Scalar.muli v527 c512_i32_213
  let v672 : BitVec 32 := v671
  let v673 : Index := Scalar.indexCast v672
  ![192, v673.toNat]
def k1_mult44 (i : grid1.Coords) (k1_t2 : Fin (k1_t2_loop i).trips) : BitVec 32 :=
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_217 : BitVec 32 := 512#32
  let v680 : BitVec 32 := Scalar.muli v527 c512_i32_217
  v680
def k1_mult45 (i : grid1.Coords) (k1_t2 : Fin (k1_t2_loop i).trips) : BitVec 32 :=
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_222 : BitVec 32 := 512#32
  let v701 : BitVec 32 := Scalar.muli v527 c512_i32_222
  v701
def k1_off33 (i : grid1.Coords) (k1_t2 : Fin (k1_t2_loop i).trips) : Fin 2 → Nat :=
  let c256_223 : Index := 256#32
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_222 : BitVec 32 := 512#32
  let v701 : BitVec 32 := Scalar.muli v527 c512_i32_222
  let v702 : BitVec 32 := v701
  let v703 : Index := Scalar.indexCast v702
  ![256, v703.toNat]
def k1_mult46 (i : grid1.Coords) (k1_t2 : Fin (k1_t2_loop i).trips) : BitVec 32 :=
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_226 : BitVec 32 := 512#32
  let v710 : BitVec 32 := Scalar.muli v529 c512_i32_226
  v710
def k1_off34 (i : grid1.Coords) (k1_t2 : Fin (k1_t2_loop i).trips) : Fin 2 → Nat :=
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_226 : BitVec 32 := 512#32
  let v710 : BitVec 32 := Scalar.muli v529 c512_i32_226
  let v711 : BitVec 32 := v710
  let v712 : Index := Scalar.indexCast v711
  let c0_227 : Index := 0#32
  ![v712.toNat, 0]
def k1_mult47 (i : grid1.Coords) (k1_t2 : Fin (k1_t2_loop i).trips) : BitVec 32 :=
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_231 : BitVec 32 := 512#32
  let v731 : BitVec 32 := Scalar.muli v527 c512_i32_231
  v731
def k1_off35 (i : grid1.Coords) (k1_t2 : Fin (k1_t2_loop i).trips) : Fin 2 → Nat :=
  let c320_232 : Index := 320#32
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_231 : BitVec 32 := 512#32
  let v731 : BitVec 32 := Scalar.muli v527 c512_i32_231
  let v732 : BitVec 32 := v731
  let v733 : Index := Scalar.indexCast v732
  ![320, v733.toNat]
def k1_mult48 (i : grid1.Coords) (k1_t2 : Fin (k1_t2_loop i).trips) : BitVec 32 :=
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_235 : BitVec 32 := 512#32
  let v740 : BitVec 32 := Scalar.muli v529 c512_i32_235
  v740
def k1_mult49 (i : grid1.Coords) (k1_t2 : Fin (k1_t2_loop i).trips) : BitVec 32 :=
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_240 : BitVec 32 := 512#32
  let v761 : BitVec 32 := Scalar.muli v527 c512_i32_240
  v761
def k1_off36 (i : grid1.Coords) (k1_t2 : Fin (k1_t2_loop i).trips) : Fin 2 → Nat :=
  let c384_241 : Index := 384#32
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_240 : BitVec 32 := 512#32
  let v761 : BitVec 32 := Scalar.muli v527 c512_i32_240
  let v762 : BitVec 32 := v761
  let v763 : Index := Scalar.indexCast v762
  ![384, v763.toNat]
def k1_mult50 (i : grid1.Coords) (k1_t2 : Fin (k1_t2_loop i).trips) : BitVec 32 :=
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_244 : BitVec 32 := 512#32
  let v770 : BitVec 32 := Scalar.muli v529 c512_i32_244
  v770
def k1_off37 (i : grid1.Coords) (k1_t2 : Fin (k1_t2_loop i).trips) : Fin 2 → Nat :=
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_244 : BitVec 32 := 512#32
  let v770 : BitVec 32 := Scalar.muli v529 c512_i32_244
  let v771 : BitVec 32 := v770
  let v772 : Index := Scalar.indexCast v771
  let c128_245 : Index := 128#32
  ![v772.toNat, 128]
def k1_mult51 (i : grid1.Coords) (k1_t2 : Fin (k1_t2_loop i).trips) : BitVec 32 :=
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_249 : BitVec 32 := 512#32
  let v791 : BitVec 32 := Scalar.muli v527 c512_i32_249
  v791
def k1_off38 (i : grid1.Coords) (k1_t2 : Fin (k1_t2_loop i).trips) : Fin 2 → Nat :=
  let c448_250 : Index := 448#32
  let c2_i32_166 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v527 : BitVec 32 := Scalar.muli c2_i32_166 arg10
  let c512_i32_249 : BitVec 32 := 512#32
  let v791 : BitVec 32 := Scalar.muli v527 c512_i32_249
  let v792 : BitVec 32 := v791
  let v793 : Index := Scalar.indexCast v792
  ![448, v793.toNat]
def k1_mult52 (i : grid1.Coords) (k1_t2 : Fin (k1_t2_loop i).trips) : BitVec 32 :=
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_253 : BitVec 32 := 512#32
  let v800 : BitVec 32 := Scalar.muli v529 c512_i32_253
  v800
def k1_mult53 (i : grid1.Coords) (k1_t2 : Fin (k1_t2_loop i).trips) : BitVec 32 :=
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_258 : BitVec 32 := 512#32
  let v821 : BitVec 32 := Scalar.muli v529 c512_i32_258
  v821
def k1_off39 (i : grid1.Coords) (k1_t2 : Fin (k1_t2_loop i).trips) : Fin 2 → Nat :=
  let c0_259 : Index := 0#32
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_258 : BitVec 32 := 512#32
  let v821 : BitVec 32 := Scalar.muli v529 c512_i32_258
  let v822 : BitVec 32 := v821
  let v823 : Index := Scalar.indexCast v822
  ![0, v823.toNat]
def k1_mult54 (i : grid1.Coords) (k1_t2 : Fin (k1_t2_loop i).trips) : BitVec 32 :=
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_262 : BitVec 32 := 512#32
  let v830 : BitVec 32 := Scalar.muli v529 c512_i32_262
  v830
def k1_off40 (i : grid1.Coords) (k1_t2 : Fin (k1_t2_loop i).trips) : Fin 2 → Nat :=
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_262 : BitVec 32 := 512#32
  let v830 : BitVec 32 := Scalar.muli v529 c512_i32_262
  let v831 : BitVec 32 := v830
  let v832 : Index := Scalar.indexCast v831
  let c256_263 : Index := 256#32
  ![v832.toNat, 256]
def k1_mult55 (i : grid1.Coords) (k1_t2 : Fin (k1_t2_loop i).trips) : BitVec 32 :=
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_267 : BitVec 32 := 512#32
  let v851 : BitVec 32 := Scalar.muli v529 c512_i32_267
  v851
def k1_off41 (i : grid1.Coords) (k1_t2 : Fin (k1_t2_loop i).trips) : Fin 2 → Nat :=
  let c64_268 : Index := 64#32
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_267 : BitVec 32 := 512#32
  let v851 : BitVec 32 := Scalar.muli v529 c512_i32_267
  let v852 : BitVec 32 := v851
  let v853 : Index := Scalar.indexCast v852
  ![64, v853.toNat]
def k1_mult56 (i : grid1.Coords) (k1_t2 : Fin (k1_t2_loop i).trips) : BitVec 32 :=
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_271 : BitVec 32 := 512#32
  let v860 : BitVec 32 := Scalar.muli v529 c512_i32_271
  v860
def k1_mult57 (i : grid1.Coords) (k1_t2 : Fin (k1_t2_loop i).trips) : BitVec 32 :=
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_276 : BitVec 32 := 512#32
  let v881 : BitVec 32 := Scalar.muli v529 c512_i32_276
  v881
def k1_off42 (i : grid1.Coords) (k1_t2 : Fin (k1_t2_loop i).trips) : Fin 2 → Nat :=
  let c128_277 : Index := 128#32
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_276 : BitVec 32 := 512#32
  let v881 : BitVec 32 := Scalar.muli v529 c512_i32_276
  let v882 : BitVec 32 := v881
  let v883 : Index := Scalar.indexCast v882
  ![128, v883.toNat]
def k1_mult58 (i : grid1.Coords) (k1_t2 : Fin (k1_t2_loop i).trips) : BitVec 32 :=
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_280 : BitVec 32 := 512#32
  let v890 : BitVec 32 := Scalar.muli v529 c512_i32_280
  v890
def k1_off43 (i : grid1.Coords) (k1_t2 : Fin (k1_t2_loop i).trips) : Fin 2 → Nat :=
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_280 : BitVec 32 := 512#32
  let v890 : BitVec 32 := Scalar.muli v529 c512_i32_280
  let v891 : BitVec 32 := v890
  let v892 : Index := Scalar.indexCast v891
  let c384_281 : Index := 384#32
  ![v892.toNat, 384]
def k1_mult59 (i : grid1.Coords) (k1_t2 : Fin (k1_t2_loop i).trips) : BitVec 32 :=
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_285 : BitVec 32 := 512#32
  let v911 : BitVec 32 := Scalar.muli v529 c512_i32_285
  v911
def k1_off44 (i : grid1.Coords) (k1_t2 : Fin (k1_t2_loop i).trips) : Fin 2 → Nat :=
  let c192_286 : Index := 192#32
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_285 : BitVec 32 := 512#32
  let v911 : BitVec 32 := Scalar.muli v529 c512_i32_285
  let v912 : BitVec 32 := v911
  let v913 : Index := Scalar.indexCast v912
  ![192, v913.toNat]
def k1_mult60 (i : grid1.Coords) (k1_t2 : Fin (k1_t2_loop i).trips) : BitVec 32 :=
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_289 : BitVec 32 := 512#32
  let v920 : BitVec 32 := Scalar.muli v529 c512_i32_289
  v920
def k1_mult61 (i : grid1.Coords) (k1_t2 : Fin (k1_t2_loop i).trips) : BitVec 32 :=
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_294 : BitVec 32 := 512#32
  let v941 : BitVec 32 := Scalar.muli v529 c512_i32_294
  v941
def k1_off45 (i : grid1.Coords) (k1_t2 : Fin (k1_t2_loop i).trips) : Fin 2 → Nat :=
  let c256_295 : Index := 256#32
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_294 : BitVec 32 := 512#32
  let v941 : BitVec 32 := Scalar.muli v529 c512_i32_294
  let v942 : BitVec 32 := v941
  let v943 : Index := Scalar.indexCast v942
  ![256, v943.toNat]
def k1_mult62 (i : grid1.Coords) (k1_t2 : Fin (k1_t2_loop i).trips) : BitVec 32 :=
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_299 : BitVec 32 := 512#32
  let v961 : BitVec 32 := Scalar.muli v529 c512_i32_299
  v961
def k1_off46 (i : grid1.Coords) (k1_t2 : Fin (k1_t2_loop i).trips) : Fin 2 → Nat :=
  let c320_300 : Index := 320#32
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_299 : BitVec 32 := 512#32
  let v961 : BitVec 32 := Scalar.muli v529 c512_i32_299
  let v962 : BitVec 32 := v961
  let v963 : Index := Scalar.indexCast v962
  ![320, v963.toNat]
def k1_mult63 (i : grid1.Coords) (k1_t2 : Fin (k1_t2_loop i).trips) : BitVec 32 :=
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_304 : BitVec 32 := 512#32
  let v981 : BitVec 32 := Scalar.muli v529 c512_i32_304
  v981
def k1_off47 (i : grid1.Coords) (k1_t2 : Fin (k1_t2_loop i).trips) : Fin 2 → Nat :=
  let c384_305 : Index := 384#32
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_304 : BitVec 32 := 512#32
  let v981 : BitVec 32 := Scalar.muli v529 c512_i32_304
  let v982 : BitVec 32 := v981
  let v983 : Index := Scalar.indexCast v982
  ![384, v983.toNat]
def k1_mult64 (i : grid1.Coords) (k1_t2 : Fin (k1_t2_loop i).trips) : BitVec 32 :=
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_309 : BitVec 32 := 512#32
  let v1001 : BitVec 32 := Scalar.muli v529 c512_i32_309
  v1001
def k1_off48 (i : grid1.Coords) (k1_t2 : Fin (k1_t2_loop i).trips) : Fin 2 → Nat :=
  let c448_310 : Index := 448#32
  let c2_i32_167 : BitVec 32 := 2#32
  let c0_i32_51 : BitVec 32 := 0#32
  let arg2 : BitVec 32 := BitVec.ofNat 32 (i 2).val
  let c0_i32 : BitVec 32 := 0#32
  let v118 : BitVec 1 := Scalar.cmpi .sgt arg2 c0_i32
  let v119 : BitVec 32 := Scalar.extui v118
  let c0_i32_47 : BitVec 32 := 0#32
  let v120 : BitVec 1 := Scalar.cmpi .slt arg2 c0_i32_47
  let v121 : BitVec 32 := Scalar.extui v120
  let v122 : BitVec 32 := Scalar.subi v119 v121
  let c2_i32 : BitVec 32 := 2#32
  let c0_i32_48 : BitVec 32 := 0#32
  let v123 : BitVec 1 := Scalar.cmpi .sgt c2_i32 c0_i32_48
  let v124 : BitVec 32 := Scalar.extui v123
  let c0_i32_49 : BitVec 32 := 0#32
  let v125 : BitVec 1 := Scalar.cmpi .slt c2_i32 c0_i32_49
  let v126 : BitVec 32 := Scalar.extui v125
  let v127 : BitVec 32 := Scalar.subi v124 v126
  let v128 : BitVec 1 := Scalar.cmpi .ne v122 v127
  let v129 : BitVec 32 := Scalar.remsi arg2 c2_i32
  let c0_i32_50 : BitVec 32 := 0#32
  let v130 : BitVec 1 := Scalar.cmpi .ne v129 c0_i32_50
  let v131 : BitVec 1 := Scalar.andi v128 v130
  let v117 : BitVec 32 := Scalar.divsi arg2 c2_i32
  let c1_i32 : BitVec 32 := 1#32
  let v132 : BitVec 32 := Scalar.subi v117 c1_i32
  let v133 : BitVec 32 := Scalar.select v131 v132 v117
  let v134 : BitVec 32 := Scalar.subi v133 c0_i32_51
  let c1_i32_52 : BitVec 32 := 1#32
  let v136 : BitVec 32 := Scalar.divsi v134 c1_i32_52
  let v137 : BitVec 32 := Scalar.muli v136 c1_i32_52
  let v138 : BitVec 32 := Scalar.addi c0_i32_51 v137
  let c1_i32_54 : BitVec 32 := 1#32
  let arg10 : BitVec 32 := Scf.iv v138 c1_i32_54 k1_t2
  let v528 : BitVec 32 := Scalar.muli c2_i32_167 arg10
  let c1_i32_168 : BitVec 32 := 1#32
  let v529 : BitVec 32 := Scalar.addi v528 c1_i32_168
  let c512_i32_309 : BitVec 32 := 512#32
  let v1001 : BitVec 32 := Scalar.muli v529 c512_i32_309
  let v1002 : BitVec 32 := v1001
  let v1003 : Index := Scalar.indexCast v1002
  ![448, v1003.toNat]
def k1_cond1 (i : grid1.Coords) : BitVec 1 :=
  let arg2 : BitVec 32 := BitVec.ofNat 32 (i 2).val
  let c2_i32_55 : BitVec 32 := 2#32
  let c0_i32_56 : BitVec 32 := 0#32
  let v141 : BitVec 1 := Scalar.cmpi .eq c2_i32_55 c0_i32_56
  let c1_i32_57 : BitVec 32 := 1#32
  let v142 : BitVec 32 := Scalar.select v141 c1_i32_57 c2_i32_55
  let v143 : BitVec 32 := Scalar.remsi arg2 v142
  let c0_i32_59 : BitVec 32 := 0#32
  let v145 : BitVec 1 := Scalar.cmpi .slt v143 c0_i32_59
  let c0_i32_60 : BitVec 32 := 0#32
  let v146 : BitVec 1 := Scalar.cmpi .slt v142 c0_i32_60
  let v147 : BitVec 1 := Scalar.xori v145 v146
  let c0_i32_58 : BitVec 32 := 0#32
  let v144 : BitVec 1 := Scalar.cmpi .ne v143 c0_i32_58
  let v148 : BitVec 1 := Scalar.andi v147 v144
  let v149 : BitVec 32 := Scalar.addi v143 v142
  let v150 : BitVec 32 := Scalar.select v148 v149 v143
  let c1_i32_61 : BitVec 32 := 1#32
  let v151 : BitVec 1 := Scalar.cmpi .eq v150 c1_i32_61
  let v152 : BitVec 32 := Scalar.extui v151
  let c0_i32_62 : BitVec 32 := 0#32
  let v153 : BitVec 1 := Scalar.cmpi .ne v152 c0_i32_62
  v153

def k1_mult65 (i : grid1.Coords) : BitVec 32 :=
  let arg2 : BitVec 32 := BitVec.ofNat 32 (i 2).val
  let c1_i32_166 : BitVec 32 := 1#32
  let v527 : BitVec 32 := Scalar.subi arg2 c1_i32_166
  let c512_i32_167 : BitVec 32 := 512#32
  let v528 : BitVec 32 := Scalar.muli v527 c512_i32_167
  v528
def k1_off49 (i : grid1.Coords) : Fin 2 → Nat :=
  let arg2 : BitVec 32 := BitVec.ofNat 32 (i 2).val
  let c1_i32_166 : BitVec 32 := 1#32
  let v527 : BitVec 32 := Scalar.subi arg2 c1_i32_166
  let c512_i32_167 : BitVec 32 := 512#32
  let v528 : BitVec 32 := Scalar.muli v527 c512_i32_167
  let v529 : BitVec 32 := v528
  let v530 : Index := Scalar.indexCast v529
  let c0_168 : Index := 0#32
  ![v530.toNat, 0]
def k1_mult66 (i : grid1.Coords) : BitVec 32 :=
  let arg2 : BitVec 32 := BitVec.ofNat 32 (i 2).val
  let c1_i32_166 : BitVec 32 := 1#32
  let v527 : BitVec 32 := Scalar.subi arg2 c1_i32_166
  let c512_i32_171 : BitVec 32 := 512#32
  let v538 : BitVec 32 := Scalar.muli v527 c512_i32_171
  v538
def k1_mult67 (i : grid1.Coords) : BitVec 32 :=
  let arg2 : BitVec 32 := BitVec.ofNat 32 (i 2).val
  let c1_i32_166 : BitVec 32 := 1#32
  let v527 : BitVec 32 := Scalar.subi arg2 c1_i32_166
  let c512_i32_175 : BitVec 32 := 512#32
  let v548 : BitVec 32 := Scalar.muli v527 c512_i32_175
  v548
def k1_off50 (i : grid1.Coords) : Fin 2 → Nat :=
  let arg2 : BitVec 32 := BitVec.ofNat 32 (i 2).val
  let c1_i32_166 : BitVec 32 := 1#32
  let v527 : BitVec 32 := Scalar.subi arg2 c1_i32_166
  let c512_i32_175 : BitVec 32 := 512#32
  let v548 : BitVec 32 := Scalar.muli v527 c512_i32_175
  let v549 : BitVec 32 := v548
  let v550 : Index := Scalar.indexCast v549
  let c128_176 : Index := 128#32
  ![v550.toNat, 128]
def k1_mult68 (i : grid1.Coords) : BitVec 32 :=
  let arg2 : BitVec 32 := BitVec.ofNat 32 (i 2).val
  let c1_i32_166 : BitVec 32 := 1#32
  let v527 : BitVec 32 := Scalar.subi arg2 c1_i32_166
  let c512_i32_179 : BitVec 32 := 512#32
  let v558 : BitVec 32 := Scalar.muli v527 c512_i32_179
  v558
def k1_mult69 (i : grid1.Coords) : BitVec 32 :=
  let arg2 : BitVec 32 := BitVec.ofNat 32 (i 2).val
  let c1_i32_166 : BitVec 32 := 1#32
  let v527 : BitVec 32 := Scalar.subi arg2 c1_i32_166
  let c512_i32_184 : BitVec 32 := 512#32
  let v579 : BitVec 32 := Scalar.muli v527 c512_i32_184
  v579
def k1_off51 (i : grid1.Coords) : Fin 2 → Nat :=
  let c0_185 : Index := 0#32
  let arg2 : BitVec 32 := BitVec.ofNat 32 (i 2).val
  let c1_i32_166 : BitVec 32 := 1#32
  let v527 : BitVec 32 := Scalar.subi arg2 c1_i32_166
  let c512_i32_184 : BitVec 32 := 512#32
  let v579 : BitVec 32 := Scalar.muli v527 c512_i32_184
  let v580 : BitVec 32 := v579
  let v581 : Index := Scalar.indexCast v580
  ![0, v581.toNat]
def k1_mult70 (i : grid1.Coords) : BitVec 32 :=
  let arg2 : BitVec 32 := BitVec.ofNat 32 (i 2).val
  let c1_i32_166 : BitVec 32 := 1#32
  let v527 : BitVec 32 := Scalar.subi arg2 c1_i32_166
  let c512_i32_188 : BitVec 32 := 512#32
  let v588 : BitVec 32 := Scalar.muli v527 c512_i32_188
  v588
def k1_off52 (i : grid1.Coords) : Fin 2 → Nat :=
  let arg2 : BitVec 32 := BitVec.ofNat 32 (i 2).val
  let c1_i32_166 : BitVec 32 := 1#32
  let v527 : BitVec 32 := Scalar.subi arg2 c1_i32_166
  let c512_i32_188 : BitVec 32 := 512#32
  let v588 : BitVec 32 := Scalar.muli v527 c512_i32_188
  let v589 : BitVec 32 := v588
  let v590 : Index := Scalar.indexCast v589
  let c256_189 : Index := 256#32
  ![v590.toNat, 256]
def k1_mult71 (i : grid1.Coords) : BitVec 32 :=
  let arg2 : BitVec 32 := BitVec.ofNat 32 (i 2).val
  let c1_i32_166 : BitVec 32 := 1#32
  let v527 : BitVec 32 := Scalar.subi arg2 c1_i32_166
  let c512_i32_193 : BitVec 32 := 512#32
  let v609 : BitVec 32 := Scalar.muli v527 c512_i32_193
  v609
def k1_off53 (i : grid1.Coords) : Fin 2 → Nat :=
  let c64_194 : Index := 64#32
  let arg2 : BitVec 32 := BitVec.ofNat 32 (i 2).val
  let c1_i32_166 : BitVec 32 := 1#32
  let v527 : BitVec 32 := Scalar.subi arg2 c1_i32_166
  let c512_i32_193 : BitVec 32 := 512#32
  let v609 : BitVec 32 := Scalar.muli v527 c512_i32_193
  let v610 : BitVec 32 := v609
  let v611 : Index := Scalar.indexCast v610
  ![64, v611.toNat]
def k1_mult72 (i : grid1.Coords) : BitVec 32 :=
  let arg2 : BitVec 32 := BitVec.ofNat 32 (i 2).val
  let c1_i32_166 : BitVec 32 := 1#32
  let v527 : BitVec 32 := Scalar.subi arg2 c1_i32_166
  let c512_i32_197 : BitVec 32 := 512#32
  let v618 : BitVec 32 := Scalar.muli v527 c512_i32_197
  v618
def k1_mult73 (i : grid1.Coords) : BitVec 32 :=
  let arg2 : BitVec 32 := BitVec.ofNat 32 (i 2).val
  let c1_i32_166 : BitVec 32 := 1#32
  let v527 : BitVec 32 := Scalar.subi arg2 c1_i32_166
  let c512_i32_202 : BitVec 32 := 512#32
  let v639 : BitVec 32 := Scalar.muli v527 c512_i32_202
  v639
def k1_off54 (i : grid1.Coords) : Fin 2 → Nat :=
  let c128_203 : Index := 128#32
  let arg2 : BitVec 32 := BitVec.ofNat 32 (i 2).val
  let c1_i32_166 : BitVec 32 := 1#32
  let v527 : BitVec 32 := Scalar.subi arg2 c1_i32_166
  let c512_i32_202 : BitVec 32 := 512#32
  let v639 : BitVec 32 := Scalar.muli v527 c512_i32_202
  let v640 : BitVec 32 := v639
  let v641 : Index := Scalar.indexCast v640
  ![128, v641.toNat]
def k1_mult74 (i : grid1.Coords) : BitVec 32 :=
  let arg2 : BitVec 32 := BitVec.ofNat 32 (i 2).val
  let c1_i32_166 : BitVec 32 := 1#32
  let v527 : BitVec 32 := Scalar.subi arg2 c1_i32_166
  let c512_i32_206 : BitVec 32 := 512#32
  let v648 : BitVec 32 := Scalar.muli v527 c512_i32_206
  v648
def k1_off55 (i : grid1.Coords) : Fin 2 → Nat :=
  let arg2 : BitVec 32 := BitVec.ofNat 32 (i 2).val
  let c1_i32_166 : BitVec 32 := 1#32
  let v527 : BitVec 32 := Scalar.subi arg2 c1_i32_166
  let c512_i32_206 : BitVec 32 := 512#32
  let v648 : BitVec 32 := Scalar.muli v527 c512_i32_206
  let v649 : BitVec 32 := v648
  let v650 : Index := Scalar.indexCast v649
  let c384_207 : Index := 384#32
  ![v650.toNat, 384]
def k1_mult75 (i : grid1.Coords) : BitVec 32 :=
  let arg2 : BitVec 32 := BitVec.ofNat 32 (i 2).val
  let c1_i32_166 : BitVec 32 := 1#32
  let v527 : BitVec 32 := Scalar.subi arg2 c1_i32_166
  let c512_i32_211 : BitVec 32 := 512#32
  let v669 : BitVec 32 := Scalar.muli v527 c512_i32_211
  v669
def k1_off56 (i : grid1.Coords) : Fin 2 → Nat :=
  let c192_212 : Index := 192#32
  let arg2 : BitVec 32 := BitVec.ofNat 32 (i 2).val
  let c1_i32_166 : BitVec 32 := 1#32
  let v527 : BitVec 32 := Scalar.subi arg2 c1_i32_166
  let c512_i32_211 : BitVec 32 := 512#32
  let v669 : BitVec 32 := Scalar.muli v527 c512_i32_211
  let v670 : BitVec 32 := v669
  let v671 : Index := Scalar.indexCast v670
  ![192, v671.toNat]
def k1_mult76 (i : grid1.Coords) : BitVec 32 :=
  let arg2 : BitVec 32 := BitVec.ofNat 32 (i 2).val
  let c1_i32_166 : BitVec 32 := 1#32
  let v527 : BitVec 32 := Scalar.subi arg2 c1_i32_166
  let c512_i32_215 : BitVec 32 := 512#32
  let v678 : BitVec 32 := Scalar.muli v527 c512_i32_215
  v678
def k1_mult77 (i : grid1.Coords) : BitVec 32 :=
  let arg2 : BitVec 32 := BitVec.ofNat 32 (i 2).val
  let c1_i32_166 : BitVec 32 := 1#32
  let v527 : BitVec 32 := Scalar.subi arg2 c1_i32_166
  let c512_i32_220 : BitVec 32 := 512#32
  let v699 : BitVec 32 := Scalar.muli v527 c512_i32_220
  v699
def k1_off57 (i : grid1.Coords) : Fin 2 → Nat :=
  let c256_221 : Index := 256#32
  let arg2 : BitVec 32 := BitVec.ofNat 32 (i 2).val
  let c1_i32_166 : BitVec 32 := 1#32
  let v527 : BitVec 32 := Scalar.subi arg2 c1_i32_166
  let c512_i32_220 : BitVec 32 := 512#32
  let v699 : BitVec 32 := Scalar.muli v527 c512_i32_220
  let v700 : BitVec 32 := v699
  let v701 : Index := Scalar.indexCast v700
  ![256, v701.toNat]
def k1_mult78 (i : grid1.Coords) : BitVec 32 :=
  let arg2 : BitVec 32 := BitVec.ofNat 32 (i 2).val
  let c1_i32_166 : BitVec 32 := 1#32
  let v527 : BitVec 32 := Scalar.subi arg2 c1_i32_166
  let c512_i32_225 : BitVec 32 := 512#32
  let v719 : BitVec 32 := Scalar.muli v527 c512_i32_225
  v719
def k1_off58 (i : grid1.Coords) : Fin 2 → Nat :=
  let c320_226 : Index := 320#32
  let arg2 : BitVec 32 := BitVec.ofNat 32 (i 2).val
  let c1_i32_166 : BitVec 32 := 1#32
  let v527 : BitVec 32 := Scalar.subi arg2 c1_i32_166
  let c512_i32_225 : BitVec 32 := 512#32
  let v719 : BitVec 32 := Scalar.muli v527 c512_i32_225
  let v720 : BitVec 32 := v719
  let v721 : Index := Scalar.indexCast v720
  ![320, v721.toNat]
def k1_mult79 (i : grid1.Coords) : BitVec 32 :=
  let arg2 : BitVec 32 := BitVec.ofNat 32 (i 2).val
  let c1_i32_166 : BitVec 32 := 1#32
  let v527 : BitVec 32 := Scalar.subi arg2 c1_i32_166
  let c512_i32_230 : BitVec 32 := 512#32
  let v739 : BitVec 32 := Scalar.muli v527 c512_i32_230
  v739
def k1_off59 (i : grid1.Coords) : Fin 2 → Nat :=
  let c384_231 : Index := 384#32
  let arg2 : BitVec 32 := BitVec.ofNat 32 (i 2).val
  let c1_i32_166 : BitVec 32 := 1#32
  let v527 : BitVec 32 := Scalar.subi arg2 c1_i32_166
  let c512_i32_230 : BitVec 32 := 512#32
  let v739 : BitVec 32 := Scalar.muli v527 c512_i32_230
  let v740 : BitVec 32 := v739
  let v741 : Index := Scalar.indexCast v740
  ![384, v741.toNat]
def k1_mult80 (i : grid1.Coords) : BitVec 32 :=
  let arg2 : BitVec 32 := BitVec.ofNat 32 (i 2).val
  let c1_i32_166 : BitVec 32 := 1#32
  let v527 : BitVec 32 := Scalar.subi arg2 c1_i32_166
  let c512_i32_235 : BitVec 32 := 512#32
  let v759 : BitVec 32 := Scalar.muli v527 c512_i32_235
  v759
def k1_off60 (i : grid1.Coords) : Fin 2 → Nat :=
  let c448_236 : Index := 448#32
  let arg2 : BitVec 32 := BitVec.ofNat 32 (i 2).val
  let c1_i32_166 : BitVec 32 := 1#32
  let v527 : BitVec 32 := Scalar.subi arg2 c1_i32_166
  let c512_i32_235 : BitVec 32 := 512#32
  let v759 : BitVec 32 := Scalar.muli v527 c512_i32_235
  let v760 : BitVec 32 := v759
  let v761 : Index := Scalar.indexCast v760
  ![448, v761.toNat]
def k1_mult81 (i : grid1.Coords) : BitVec 32 :=
  let arg2 : BitVec 32 := BitVec.ofNat 32 (i 2).val
  let c512_i32 : BitVec 32 := 512#32
  let v155 : BitVec 32 := Scalar.muli arg2 c512_i32
  v155
def k1_off61 (i : grid1.Coords) : Fin 2 → Nat :=
  let arg2 : BitVec 32 := BitVec.ofNat 32 (i 2).val
  let c512_i32 : BitVec 32 := 512#32
  let v155 : BitVec 32 := Scalar.muli arg2 c512_i32
  let v156 : BitVec 32 := v155
  let v157 : Index := Scalar.indexCast v156
  let c0_63 : Index := 0#32
  ![v157.toNat, 0]
def k1_mult82 (i : grid1.Coords) : BitVec 32 :=
  let arg2 : BitVec 32 := BitVec.ofNat 32 (i 2).val
  let c512_i32_66 : BitVec 32 := 512#32
  let v165 : BitVec 32 := Scalar.muli arg2 c512_i32_66
  v165
def k1_mult83 (i : grid1.Coords) : BitVec 32 :=
  let arg2 : BitVec 32 := BitVec.ofNat 32 (i 2).val
  let c512_i32_70 : BitVec 32 := 512#32
  let v175 : BitVec 32 := Scalar.muli arg2 c512_i32_70
  v175
def k1_off62 (i : grid1.Coords) : Fin 2 → Nat :=
  let arg2 : BitVec 32 := BitVec.ofNat 32 (i 2).val
  let c512_i32_70 : BitVec 32 := 512#32
  let v175 : BitVec 32 := Scalar.muli arg2 c512_i32_70
  let v176 : BitVec 32 := v175
  let v177 : Index := Scalar.indexCast v176
  let c128_71 : Index := 128#32
  ![v177.toNat, 128]
def k1_mult84 (i : grid1.Coords) : BitVec 32 :=
  let arg2 : BitVec 32 := BitVec.ofNat 32 (i 2).val
  let c512_i32_74 : BitVec 32 := 512#32
  let v185 : BitVec 32 := Scalar.muli arg2 c512_i32_74
  v185
def k1_mult85 (i : grid1.Coords) : BitVec 32 :=
  let arg2 : BitVec 32 := BitVec.ofNat 32 (i 2).val
  let c512_i32_80 : BitVec 32 := 512#32
  let v211 : BitVec 32 := Scalar.muli arg2 c512_i32_80
  v211
def k1_off63 (i : grid1.Coords) : Fin 2 → Nat :=
  let c0_81 : Index := 0#32
  let arg2 : BitVec 32 := BitVec.ofNat 32 (i 2).val
  let c512_i32_80 : BitVec 32 := 512#32
  let v211 : BitVec 32 := Scalar.muli arg2 c512_i32_80
  let v212 : BitVec 32 := v211
  let v213 : Index := Scalar.indexCast v212
  ![0, v213.toNat]
def k1_mult86 (i : grid1.Coords) : BitVec 32 :=
  let arg2 : BitVec 32 := BitVec.ofNat 32 (i 2).val
  let c512_i32_84 : BitVec 32 := 512#32
  let v220 : BitVec 32 := Scalar.muli arg2 c512_i32_84
  v220
def k1_off64 (i : grid1.Coords) : Fin 2 → Nat :=
  let arg2 : BitVec 32 := BitVec.ofNat 32 (i 2).val
  let c512_i32_84 : BitVec 32 := 512#32
  let v220 : BitVec 32 := Scalar.muli arg2 c512_i32_84
  let v221 : BitVec 32 := v220
  let v222 : Index := Scalar.indexCast v221
  let c256_85 : Index := 256#32
  ![v222.toNat, 256]
def k1_mult87 (i : grid1.Coords) : BitVec 32 :=
  let arg2 : BitVec 32 := BitVec.ofNat 32 (i 2).val
  let c512_i32_90 : BitVec 32 := 512#32
  let v246 : BitVec 32 := Scalar.muli arg2 c512_i32_90
  v246
def k1_off65 (i : grid1.Coords) : Fin 2 → Nat :=
  let c64 : Index := 64#32
  let arg2 : BitVec 32 := BitVec.ofNat 32 (i 2).val
  let c512_i32_90 : BitVec 32 := 512#32
  let v246 : BitVec 32 := Scalar.muli arg2 c512_i32_90
  let v247 : BitVec 32 := v246
  let v248 : Index := Scalar.indexCast v247
  ![64, v248.toNat]
def k1_mult88 (i : grid1.Coords) : BitVec 32 :=
  let arg2 : BitVec 32 := BitVec.ofNat 32 (i 2).val
  let c512_i32_93 : BitVec 32 := 512#32
  let v255 : BitVec 32 := Scalar.muli arg2 c512_i32_93
  v255
def k1_mult89 (i : grid1.Coords) : BitVec 32 :=
  let arg2 : BitVec 32 := BitVec.ofNat 32 (i 2).val
  let c512_i32_99 : BitVec 32 := 512#32
  let v281 : BitVec 32 := Scalar.muli arg2 c512_i32_99
  v281
def k1_off66 (i : grid1.Coords) : Fin 2 → Nat :=
  let c128_100 : Index := 128#32
  let arg2 : BitVec 32 := BitVec.ofNat 32 (i 2).val
  let c512_i32_99 : BitVec 32 := 512#32
  let v281 : BitVec 32 := Scalar.muli arg2 c512_i32_99
  let v282 : BitVec 32 := v281
  let v283 : Index := Scalar.indexCast v282
  ![128, v283.toNat]
def k1_mult90 (i : grid1.Coords) : BitVec 32 :=
  let arg2 : BitVec 32 := BitVec.ofNat 32 (i 2).val
  let c512_i32_103 : BitVec 32 := 512#32
  let v290 : BitVec 32 := Scalar.muli arg2 c512_i32_103
  v290
def k1_off67 (i : grid1.Coords) : Fin 2 → Nat :=
  let arg2 : BitVec 32 := BitVec.ofNat 32 (i 2).val
  let c512_i32_103 : BitVec 32 := 512#32
  let v290 : BitVec 32 := Scalar.muli arg2 c512_i32_103
  let v291 : BitVec 32 := v290
  let v292 : Index := Scalar.indexCast v291
  let c384_104 : Index := 384#32
  ![v292.toNat, 384]
def k1_mult91 (i : grid1.Coords) : BitVec 32 :=
  let arg2 : BitVec 32 := BitVec.ofNat 32 (i 2).val
  let c512_i32_109 : BitVec 32 := 512#32
  let v316 : BitVec 32 := Scalar.muli arg2 c512_i32_109
  v316
def k1_off68 (i : grid1.Coords) : Fin 2 → Nat :=
  let c192 : Index := 192#32
  let arg2 : BitVec 32 := BitVec.ofNat 32 (i 2).val
  let c512_i32_109 : BitVec 32 := 512#32
  let v316 : BitVec 32 := Scalar.muli arg2 c512_i32_109
  let v317 : BitVec 32 := v316
  let v318 : Index := Scalar.indexCast v317
  ![192, v318.toNat]
def k1_mult92 (i : grid1.Coords) : BitVec 32 :=
  let arg2 : BitVec 32 := BitVec.ofNat 32 (i 2).val
  let c512_i32_112 : BitVec 32 := 512#32
  let v325 : BitVec 32 := Scalar.muli arg2 c512_i32_112
  v325
def k1_mult93 (i : grid1.Coords) : BitVec 32 :=
  let arg2 : BitVec 32 := BitVec.ofNat 32 (i 2).val
  let c512_i32_118 : BitVec 32 := 512#32
  let v351 : BitVec 32 := Scalar.muli arg2 c512_i32_118
  v351
def k1_off69 (i : grid1.Coords) : Fin 2 → Nat :=
  let c256_119 : Index := 256#32
  let arg2 : BitVec 32 := BitVec.ofNat 32 (i 2).val
  let c512_i32_118 : BitVec 32 := 512#32
  let v351 : BitVec 32 := Scalar.muli arg2 c512_i32_118
  let v352 : BitVec 32 := v351
  let v353 : Index := Scalar.indexCast v352
  ![256, v353.toNat]
def k1_mult94 (i : grid1.Coords) : BitVec 32 :=
  let arg2 : BitVec 32 := BitVec.ofNat 32 (i 2).val
  let c512_i32_124 : BitVec 32 := 512#32
  let v376 : BitVec 32 := Scalar.muli arg2 c512_i32_124
  v376
def k1_off70 (i : grid1.Coords) : Fin 2 → Nat :=
  let c320 : Index := 320#32
  let arg2 : BitVec 32 := BitVec.ofNat 32 (i 2).val
  let c512_i32_124 : BitVec 32 := 512#32
  let v376 : BitVec 32 := Scalar.muli arg2 c512_i32_124
  let v377 : BitVec 32 := v376
  let v378 : Index := Scalar.indexCast v377
  ![320, v378.toNat]
def k1_mult95 (i : grid1.Coords) : BitVec 32 :=
  let arg2 : BitVec 32 := BitVec.ofNat 32 (i 2).val
  let c512_i32_129 : BitVec 32 := 512#32
  let v401 : BitVec 32 := Scalar.muli arg2 c512_i32_129
  v401
def k1_off71 (i : grid1.Coords) : Fin 2 → Nat :=
  let c384_130 : Index := 384#32
  let arg2 : BitVec 32 := BitVec.ofNat 32 (i 2).val
  let c512_i32_129 : BitVec 32 := 512#32
  let v401 : BitVec 32 := Scalar.muli arg2 c512_i32_129
  let v402 : BitVec 32 := v401
  let v403 : Index := Scalar.indexCast v402
  ![384, v403.toNat]
def k1_mult96 (i : grid1.Coords) : BitVec 32 :=
  let arg2 : BitVec 32 := BitVec.ofNat 32 (i 2).val
  let c512_i32_135 : BitVec 32 := 512#32
  let v426 : BitVec 32 := Scalar.muli arg2 c512_i32_135
  v426
def k1_off72 (i : grid1.Coords) : Fin 2 → Nat :=
  let c448 : Index := 448#32
  let arg2 : BitVec 32 := BitVec.ofNat 32 (i 2).val
  let c512_i32_135 : BitVec 32 := 512#32
  let v426 : BitVec 32 := Scalar.muli arg2 c512_i32_135
  let v427 : BitVec 32 := v426
  let v428 : Index := Scalar.indexCast v427
  ![448, v428.toNat]
def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S4096x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S512x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]
-- ==== KernelIdeal.lean ====
variable {F : FTy → Type} [FloatOps F] [Named F]
def κ : String → Option EReal := fun
  | "mask" => some ⊥
  | _ => none
-- ==== ReferenceIdeal.lean ====
abbrev S4x4096x1024 : Shape := ⟨3, ![4, 4096, 1024]⟩
abbrev S4x4096x16 : Shape := ⟨3, ![4, 4096, 16]⟩
abbrev S16 : Shape := ⟨1, ![16]⟩
abbrev S4x4096x16x64 : Shape := ⟨4, ![4, 4096, 16, 64]⟩
abbrev S1x1x16 : Shape := ⟨3, ![1, 1, 16]⟩
abbrev S_ : Shape := ⟨0, ![]⟩
abbrev S4x16x4096 : Shape := ⟨3, ![4, 16, 4096]⟩
abbrev S4x16x4096x4096 : Shape := ⟨4, ![4, 16, 4096, 4096]⟩
abbrev S4x16x4096x1 : Shape := ⟨4, ![4, 16, 4096, 1]⟩
abbrev S4x16x1x4096 : Shape := ⟨4, ![4, 16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x16x64x4096 : Shape := ⟨4, ![4, 16, 64, 4096]⟩
abbrev S16384x1024 : Shape := ⟨2, ![16384, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x16, .f32⟩
  | .hbm, ⟨4, _⟩ => ⟨S4x4096x1024, .f32⟩
  | .hbm, ⟨5, _⟩ => ⟨S16, .f32⟩
  | .hbm, ⟨6, _⟩ => ⟨S4x4096x16x64, .f32⟩
  | .hbm, ⟨7, _⟩ => ⟨S4x4096x16x64, .f32⟩
  | .hbm, ⟨8, _⟩ => ⟨S4x4096x16x64, .f32⟩
  | .hbm, ⟨9, _⟩ => ⟨S1x1x16, .f32⟩
  | .hbm, ⟨10, _⟩ => ⟨S4x4096x16, .f32⟩
  | .hbm, ⟨11, _⟩ => ⟨S4x4096x16, .f32⟩
  | .hbm, ⟨12, _⟩ => ⟨S4x4096x16, .f32⟩
  | .hbm, ⟨13, _⟩ => ⟨S_, .f32⟩
  | .hbm, ⟨14, _⟩ => ⟨S4x4096x16, .f32⟩
  | .hbm, ⟨15, _⟩ => ⟨S4x4096x16, .f32⟩
  | .hbm, ⟨16, _⟩ => ⟨S4x4096x16, .f32⟩
  | .hbm, ⟨17, _⟩ => ⟨S4x4096x16, .f32⟩
  | .hbm, ⟨18, _⟩ => ⟨S4x4096x16, .i1⟩
  | .hbm, ⟨19, _⟩ => ⟨S4x4096x16, .f32⟩
  | .hbm, ⟨20, _⟩ => ⟨S4x4096x16, .f32⟩
  | .hbm, ⟨21, _⟩ => ⟨S4x4096x16, .f32⟩
  | .hbm, ⟨22, _⟩ => ⟨S4x4096x16, .f32⟩
  | .hbm, ⟨23, _⟩ => ⟨S4x4096x16, .f32⟩
  | .hbm, ⟨24, _⟩ => ⟨S4x4096x16, .f32⟩
  | .hbm, ⟨25, _⟩ => ⟨S4x4096x16, .f32⟩
  | .hbm, ⟨26, _⟩ => ⟨S4x4096x16, .f32⟩
  | .hbm, ⟨27, _⟩ => ⟨S4x4096x16, .f32⟩
  | .hbm, ⟨28, _⟩ => ⟨S_, .f32⟩
  | .hbm, ⟨29, _⟩ => ⟨S_, .f32⟩
  | .hbm, ⟨30, _⟩ => ⟨S4x4096x16, .f32⟩
  | .hbm, ⟨31, _⟩ => ⟨S4x16x4096, .f32⟩
  | .hbm, ⟨32, _⟩ => ⟨S4x16x4096x4096, .f32⟩
  | .hbm, ⟨33, _⟩ => ⟨S_, .f32⟩
  | .hbm, ⟨34, _⟩ => ⟨S4x16x4096x4096, .f32⟩
  | .hbm, ⟨35, _⟩ => ⟨S4x16x4096x4096, .f32⟩
  | .hbm, ⟨36, _⟩ => ⟨S4x16x4096x1, .f32⟩
  | .hbm, ⟨37, _⟩ => ⟨S4x16x4096x4096, .f32⟩
  | .hbm, ⟨38, _⟩ => ⟨S4x16x4096x4096, .f32⟩
  | .hbm, ⟨39, _⟩ => ⟨S4x16x1x4096, .f32⟩
  | .hbm, ⟨40, _⟩ => ⟨S4x16x4096x4096, .f32⟩
  | .hbm, ⟨41, _⟩ => ⟨S4x16x4096x4096, .f32⟩
  | .hbm, ⟨42, _⟩ => ⟨S4096, .i32⟩
  | .hbm, ⟨43, _⟩ => ⟨S1x4096, .i32⟩
  | .hbm, ⟨44, _⟩ => ⟨S4096x1, .i32⟩
  | .hbm, ⟨45, _⟩ => ⟨S4096x4096, .i32⟩
  | .hbm, ⟨46, _⟩ => ⟨S4096x4096, .i32⟩
  | .hbm, ⟨47, _⟩ => ⟨S4096x4096, .i1⟩
  | .hbm, ⟨48, _⟩ => ⟨S_, .f32⟩
  | .hbm, ⟨49, _⟩ => ⟨S_, .f32⟩
  | .hbm, ⟨50, _⟩ => ⟨S4x16x4096x4096, .i1⟩
  | .hbm, ⟨51, _⟩ => ⟨S4x16x4096x4096, .f32⟩
  | .hbm, ⟨52, _⟩ => ⟨S4x16x4096x4096, .f32⟩
  | .hbm, ⟨53, _⟩ => ⟨S_, .f32⟩
  | .hbm, ⟨54, _⟩ => ⟨S4x16x4096, .f32⟩
  | .hbm, ⟨55, _⟩ => ⟨S_, .f32⟩
  | .hbm, ⟨56, _⟩ => ⟨S4x16x4096, .f32⟩
  | .hbm, ⟨57, _⟩ => ⟨S4x16x4096, .f32⟩
  | .hbm, ⟨58, _⟩ => ⟨S4x16x4096x1, .f32⟩
  | .hbm, ⟨59, _⟩ => ⟨S4x16x4096x4096, .f32⟩
  | .hbm, ⟨60, _⟩ => ⟨S4x16x4096x4096, .f32⟩
  | .hbm, ⟨61, _⟩ => ⟨S4x16x4096x4096, .f32⟩
  | .hbm, ⟨62, _⟩ => ⟨S_, .f32⟩
  | .hbm, ⟨63, _⟩ => ⟨S4x16x4096, .f32⟩
  | .hbm, ⟨64, _⟩ => ⟨S4x16x4096x1, .f32⟩
  | .hbm, ⟨65, _⟩ => ⟨S4x16x4096x4096, .f32⟩
  | .hbm, ⟨66, _⟩ => ⟨S4x16x4096x4096, .f32⟩
  | .hbm, ⟨67, _⟩ => ⟨S4x16x64x4096, .f32⟩
  | .hbm, ⟨68, _⟩ => ⟨S4x4096x16x64, .f32⟩
  | .hbm, ⟨69, _⟩ => ⟨S4x4096x1024, .f32⟩
  | .hbm, ⟨70, _⟩ => ⟨S4x4096x1024, .f32⟩
  | .hbm, ⟨71, _⟩ => ⟨S4x4096x1024, .f32⟩
  | .hbm, ⟨72, _⟩ => ⟨S_, .f32⟩
  | .hbm, ⟨73, _⟩ => ⟨S4x4096x1024, .f32⟩
  | .hbm, ⟨74, _⟩ => ⟨S4x4096x1024, .f32⟩
  | .hbm, ⟨75, _⟩ => ⟨S_, .f32⟩
  | .hbm, ⟨76, _⟩ => ⟨S4x4096x1024, .f32⟩
  | .hbm, ⟨77, _⟩ => ⟨S4x4096x1024, .f32⟩
  | .hbm, ⟨78, _⟩ => ⟨S4x4096x1024, .f32⟩
  | .hbm, ⟨79, _⟩ => ⟨S16384x1024, .f32⟩
  | .hbm, ⟨80, _⟩ => ⟨S16384x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v6 : Ref sig .tc := ⟨.hbm, 27, rfl⟩
abbrev main_call1_call0_cst : Ref sig .tc := ⟨.hbm, 28, rfl⟩
abbrev main_call1_call0_v0 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_0 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v24 : Ref sig .tc := ⟨.hbm, 52, rfl⟩
abbrev main_cst_1 : Ref sig .tc := ⟨.hbm, 53, rfl⟩
abbrev main_v25 : Ref sig .tc := ⟨.hbm, 54, rfl⟩
abbrev main_cst_2 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_3 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_4 : Ref sig .tc := ⟨.hbm, 72, rfl⟩
abbrev main_v41 : Ref sig .tc := ⟨.hbm, 73, rfl⟩
abbrev main_v42 : Ref sig .tc := ⟨.hbm, 74, rfl⟩
abbrev main_cst_5 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 13
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16384x1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S4x4096x1024 : Shape := ⟨3, ![4, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2816 : Shape := ⟨3, ![4, 4096, 2816]⟩
abbrev S16384x1024 : Shape := ⟨2, ![16384, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S4x4096x1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S4x4096x2816, .f32⟩
  | .hbm, ⟨23, _⟩ => ⟨S4x4096x2816, .f32⟩
  | .hbm, ⟨24, _⟩ => ⟨S4x4096x2816, .f32⟩
  | .hbm, ⟨25, _⟩ => ⟨S_, .f32⟩
  | .hbm, ⟨26, _⟩ => ⟨S4x4096x2816, .f32⟩
  | .hbm, ⟨27, _⟩ => ⟨S4x4096x2816, .f32⟩
  | .hbm, ⟨28, _⟩ => ⟨S_, .f32⟩
  | .hbm, ⟨29, _⟩ => ⟨S4x4096x2816, .f32⟩
  | .hbm, ⟨30, _⟩ => ⟨S4x4096x2816, .f32⟩
  | .hbm, ⟨31, _⟩ => ⟨S4x4096x2816, .f32⟩
  | .hbm, ⟨32, _⟩ => ⟨S4x4096x2816, .f32⟩
  | .hbm, ⟨33, _⟩ => ⟨S4x4096x2816, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x1, .f32⟩
  | .hbm, ⟨47, _⟩ => ⟨S4x4096x1024, .f32⟩
  | .hbm, ⟨48, _⟩ => ⟨S4x4096x1024, .f32⟩
  | .hbm, ⟨49, _⟩ => ⟨S1x1x1024, .f32⟩
  | .hbm, ⟨50, _⟩ => ⟨S4x4096x1024, .f32⟩
  | .hbm, ⟨51, _⟩ => ⟨S4x4096x1024, .f32⟩
  | .hbm, ⟨52, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024x1024 : Shape := ⟨2, ![1024, 1024]⟩
abbrev S4x4096x2048 : Shape := ⟨3, ![4, 4096, 2048]⟩
abbrev S16384x2048 : Shape := ⟨2, ![16384, 2048]⟩
abbrev S16384x1024 : Shape := ⟨2, ![16384, 1024]⟩

abbrev nBuf : Space → Nat
  | .hbm => 20
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S4x4096x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S4x4096x2048, .f32⟩
  | .hbm, ⟨9, _⟩ => ⟨S16384x2048, .f32⟩
  | .hbm, ⟨10, _⟩ => ⟨S16384x2048, .bf16⟩
  | .hbm, ⟨11, _⟩ => ⟨S16384x1024, .f32⟩
  | .hbm, ⟨12, _⟩ => ⟨S16384x1024, .f32⟩
  | .hbm, ⟨13, _⟩ => ⟨S16384x1024, .bf16⟩
  | .hbm, ⟨14, _⟩ => ⟨S16384x1024, .f32⟩
  | .hbm, ⟨15, _⟩ => ⟨S16384x1024, .bf16⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S4x4096x1024 : Shape := ⟨3, ![4, 4096, 1024]⟩
abbrev S1024x1024 : Shape := ⟨2, ![1024, 1024]⟩
abbrev S_ : Shape := ⟨0, ![]⟩
abbrev S16384x1024 : Shape := ⟨2, ![16384, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S4x4096x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S4x4096x1024, .f32⟩
  | .hbm, ⟨9, _⟩ => ⟨S4x4096x1024, .f32⟩
  | .hbm, ⟨10, _⟩ => ⟨S_, .f32⟩
  | .hbm, ⟨11, _⟩ => ⟨S4x4096x1024, .f32⟩
  | .hbm, ⟨12, _⟩ => ⟨S4x4096x1024, .f32⟩
  | .hbm, ⟨13, _⟩ => ⟨S_, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S_, .f32⟩
  | .hbm, ⟨21, _⟩ => ⟨S4x4096x1024, .f32⟩
  | .hbm, ⟨22, _⟩ => ⟨S4x4096x1024, .f32⟩
  | .hbm, ⟨23, _⟩ => ⟨S_, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== Kernel4.lean ====
abbrev S4x4096x1024 : Shape := ⟨3, ![4, 4096, 1024]⟩
abbrev S1024 : Shape := ⟨1, ![1024]⟩
abbrev S1024x10272 : Shape := ⟨2, ![1024, 10272]⟩
abbrev S1024x1024 : Shape := ⟨2, ![1024, 1024]⟩
abbrev S1024x3072 : Shape := ⟨2, ![1024, 3072]⟩
abbrev S16384x1024 : Shape := ⟨2, ![16384, 1024]⟩
abbrev S1x1024 : Shape := ⟨2, ![1, 1024]⟩
abbrev S16384x3072 : Shape := ⟨2, ![16384, 3072]⟩
abbrev S1024x16384 : Shape := ⟨2, ![1024, 16384]⟩
abbrev S1024x1 : Shape := ⟨2, ![1024, 1]⟩

abbrev nBuf : Space → Nat
  | .hbm => 15
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x10272, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x3072, .f32⟩
  | .hbm, ⟨7, _⟩ => ⟨S1024x3072, .bf16⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S16384x1024, .f32⟩
  | .hbm, ⟨12, _⟩ => ⟨S1x1024, .f32⟩
  | .hbm, ⟨13, _⟩ => ⟨S16384x3072, .bf16⟩
  | .hbm, ⟨14, _⟩ => ⟨S1024x16384, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x1024, .bf16⟩
  | .local _ .vmem, ⟨5, _⟩ => ⟨S1024x3072, .bf16⟩
  | .local _ .vmem, ⟨6, _⟩ => ⟨S1024x3072, .bf16⟩
  | .local _ .vmem, ⟨7, _⟩ => ⟨S1024x1024, .bf16⟩
  | .local _ .vmem, ⟨8, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S4x4096x1024 : Shape := ⟨3, ![4, 4096, 1024]⟩
abbrev S1024 : Shape := ⟨1, ![1024]⟩
abbrev S1024x10272 : Shape := ⟨2, ![1024, 10272]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x10272 : Shape := ⟨3, ![4, 4096, 10272]⟩
abbrev S16384x10272 : Shape := ⟨2, ![16384, 10272]⟩
abbrev S16384x1024 : Shape := ⟨2, ![16384, 1024]⟩
abbrev S16384x8 : Shape := ⟨2, ![16384, 8]⟩
abbrev S16384x16 : Shape := ⟨2, ![16384, 16]⟩
abbrev S16384x3072 : Shape := ⟨2, ![16384, 3072]⟩
abbrev S1024x16384 : Shape := ⟨2, ![1024, 16384]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x10272, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x10272, .f32⟩
  | .hbm, ⟨20, _⟩ => ⟨S16384x10272, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x8, .f32⟩
  | .hbm, ⟨26, _⟩ => ⟨S16384x8, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x16, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x3072, .f32⟩
  | .hbm, ⟨35, _⟩ => ⟨S16384x3072, .bf16⟩
  | .hbm, ⟨36, _⟩ => ⟨S1024x16384, .f32⟩
  | .hbm, ⟨37, _⟩ => ⟨S1024x16384, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩

abbrev nD : Nat := 1
abbrev τ : Topo := Topo.v7x

variable {F : FTy → Type} [FloatOps F]
-- ==== Kernel5.lean ====
abbrev S4x4096x1024 : Shape := ⟨3, ![4, 4096, 1024]⟩
abbrev S1024 : Shape := ⟨1, ![1024]⟩
abbrev S1024x10272 : Shape := ⟨2, ![1024, 10272]⟩
abbrev S1024x1024 : Shape := ⟨2, ![1024, 1024]⟩
abbrev S1024x2048 : Shape := ⟨2, ![1024, 2048]⟩
abbrev S1024x8 : Shape := ⟨2, ![1024, 8]⟩
abbrev S1024x16 : Shape := ⟨2, ![1024, 16]⟩
abbrev S_ : Shape := ⟨0, ![]⟩
abbrev S1024x96 : Shape := ⟨2, ![1024, 96]⟩
abbrev S1024x128 : Shape := ⟨2, ![1024, 128]⟩
abbrev S16384x1024 : Shape := ⟨2, ![16384, 1024]⟩
abbrev S1x1024 : Shape := ⟨2, ![1, 1024]⟩
abbrev S16384x2048 : Shape := ⟨2, ![16384, 2048]⟩
abbrev S16384x128 : Shape := ⟨2, ![16384, 128]⟩
abbrev S1024x1 : Shape := ⟨2, ![1024, 1]⟩

abbrev nBuf : Space → Nat
  | .hbm => 18
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x10272, .f32⟩
  | .hbm, ⟨3, _⟩ => ⟨S1024x1024, .f32⟩
  | .hbm, ⟨4, _⟩ => ⟨S1024x1024, .f32⟩
  | .hbm, ⟨5, _⟩ => ⟨S1024x2048, .f32⟩
  | .hbm, ⟨6, _⟩ => ⟨S1024x2048, .bf16⟩
  | .hbm, ⟨7, _⟩ => ⟨S1024x8, .f32⟩
  | .hbm, ⟨8, _⟩ => ⟨S1024x8, .f32⟩
  | .hbm, ⟨9, _⟩ => ⟨S1024x16, .f32⟩
  | .hbm, ⟨10, _⟩ => ⟨S_, .f32⟩
  | .hbm, ⟨11, _⟩ => ⟨S1024x96, .f32⟩
  | .hbm, ⟨12, _⟩ => ⟨S1024x128, .f32⟩
  | .hbm, ⟨13, _⟩ => ⟨S1024x128, .bf16⟩
  | .hbm, ⟨14, _⟩ => ⟨S16384x1024, .f32⟩
  | .hbm, ⟨15, _⟩ => ⟨S1x1024, .f32⟩
  | .hbm, ⟨16, _⟩ => ⟨S16384x2048, .bf16⟩
  | .hbm, ⟨17, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1024x128, .bf16⟩
  | .local _ .vmem, ⟨5, _⟩ => ⟨S1024x2048, .bf16⟩
  | .local _ .vmem, ⟨6, _⟩ => ⟨S1024x2048, .bf16⟩
  | .local _ .vmem, ⟨7, _⟩ => ⟨S1024x128, .f32⟩
  | .local _ .vmem, ⟨8, _⟩ => ⟨S1024x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S4x4096x1024 : Shape := ⟨3, ![4, 4096, 1024]⟩
abbrev S1024 : Shape := ⟨1, ![1024]⟩
abbrev S1024x10272 : Shape := ⟨2, ![1024, 10272]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x10272 : Shape := ⟨3, ![4, 4096, 10272]⟩
abbrev S16384x10272 : Shape := ⟨2, ![16384, 10272]⟩
abbrev S16384x1024 : Shape := ⟨2, ![16384, 1024]⟩
abbrev S16384x8 : Shape := ⟨2, ![16384, 8]⟩
abbrev S16384x16 : Shape := ⟨2, ![16384, 16]⟩
abbrev S16384x32 : Shape := ⟨2, ![16384, 32]⟩
abbrev S16384x2048 : Shape := ⟨2, ![16384, 2048]⟩
abbrev S16384x128 : Shape := ⟨2, ![16384, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x10272, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x10272, .f32⟩
  | .hbm, ⟨20, _⟩ => ⟨S16384x10272, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x8, .f32⟩
  | .hbm, ⟨26, _⟩ => ⟨S16384x8, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x16, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x32, .f32⟩
  | .hbm, ⟨35, _⟩ => ⟨S16384x2048, .f32⟩
  | .hbm, ⟨36, _⟩ => ⟨S16384x2048, .bf16⟩
  | .hbm, ⟨37, _⟩ => ⟨S_, .i32⟩
  | .hbm, ⟨38, _⟩ => ⟨S_, .f32⟩
  | .hbm, ⟨39, _⟩ => ⟨S16384x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_c : Ref sig .tc := ⟨.hbm, 37, rfl⟩
abbrev main_call0_v0 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Kernel6.lean ====
abbrev S4x4096x1024 : Shape := ⟨3, ![4, 4096, 1024]⟩
abbrev S1024 : Shape := ⟨1, ![1024]⟩
abbrev S1024x10272 : Shape := ⟨2, ![1024, 10272]⟩
abbrev S1024x1024 : Shape := ⟨2, ![1024, 1024]⟩
abbrev S1024x4096 : Shape := ⟨2, ![1024, 4096]⟩
abbrev S16384x1024 : Shape := ⟨2, ![16384, 1024]⟩
abbrev S1x1024 : Shape := ⟨2, ![1, 1024]⟩
abbrev S16384x4096 : Shape := ⟨2, ![16384, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 12
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x10272, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x4096, .f32⟩
  | .hbm, ⟨8, _⟩ => ⟨S1024x4096, .bf16⟩
  | .hbm, ⟨9, _⟩ => ⟨S16384x1024, .f32⟩
  | .hbm, ⟨10, _⟩ => ⟨S1x1024, .f32⟩
  | .hbm, ⟨11, _⟩ => ⟨S16384x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x4096, .f32⟩
  | .local _ .vmem, ⟨5, _⟩ => ⟨S512x4096, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S4x4096x1024 : Shape := ⟨3, ![4, 4096, 1024]⟩
abbrev S1024 : Shape := ⟨1, ![1024]⟩
abbrev S1024x10272 : Shape := ⟨2, ![1024, 10272]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x10272 : Shape := ⟨3, ![4, 4096, 10272]⟩
abbrev S16384x10272 : Shape := ⟨2, ![16384, 10272]⟩
abbrev S16384x1024 : Shape := ⟨2, ![16384, 1024]⟩
abbrev S16384x8 : Shape := ⟨2, ![16384, 8]⟩
abbrev S16384x16 : Shape := ⟨2, ![16384, 16]⟩
abbrev S16384x4096 : Shape := ⟨2, ![16384, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x10272, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x10272, .f32⟩
  | .hbm, ⟨20, _⟩ => ⟨S16384x10272, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x8, .f32⟩
  | .hbm, ⟨26, _⟩ => ⟨S16384x8, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x16, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== Proof.AttnLoop.lean ====
module

public import proofs.«01_k».proof.Proof.Gen.KernelIdeal.Points
public import proofs.«01_k».proof.Proof.Gen.KernelIdeal.Loops
public import proofs.«01_k».proof.Proof.Gen.KernelIdeal.Launch
public import proofs.«01_k».proof.Proof.Gen.KernelIdeal.Regions
public import Idealize.ShloMosaic.Lib.Pipeline.FrameBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The loop over pairs of key tiles, at the values the body enters it with. -/
@[sl_loop, instance_reducible] def attnLoop (c : Dev nD) (E : Set ℕ) (i : grid1.Coords) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S512x4096 .bf16) (harg7 : arg7.IsWhole) (arg8 : Memref sig .tc .vmem S512x512 .bf16) (harg8 : arg8.IsWhole) (arg9 : Memref sig .tc .vmem S512x512 .bf16) (harg9 : arg9.IsWhole)
    (v19 v28 v43 v52 v67 v76 v91 v100 : FVec F S512x256 .bf16) (X5 : BufTy.Contents (Elt F) arg5.view.ty) (X6 : BufTy.Contents (Elt F) arg6.view.ty) (X7 : BufTy.Contents (Elt F) arg7.view.ty) :=
  loopInv_k1_t1 (F := F) Variants.none c none E i arg3 harg3 arg4 harg4 arg5 harg5 arg6 harg6 arg7 harg7 arg8 harg8 arg9 harg9 (0#32) v19 v28 v43 v52 v67 v76 v91 v100 k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) X5 X6 X7 (k1_pay175, k1_pay176, k1_pay177, k1_pay178, k1_pay179, k1_pay180, k1_pay181, k1_pay182, k1_pay183, k1_pay184, k1_pay185, k1_pay186, k1_pay187, k1_pay188, k1_pay189, k1_pay190)

/-- The remainder loop of the pairing has no trip: its bounds are equal at every point. -/
theorem rest_trips : ∀ i : grid1.Coords, (k1_t2_loop i).trips = 0 := by decide +kernel

end Cert.KernelIdeal.Gen
-- ==== Proof.AttnOdd.lean ====
module

public import proofs.«01_k».proof.Proof.AttnLoop

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 16000000 in
/-- One grid point of the attention call with an odd number of key tiles below the diagonal: on whole staging buffers, the inputs
at their contents, the body runs and leaves the output written with a list of pieces the run finds. -/
noncomputable def attnRun_T (c : Dev nD) (i : grid1.Coords) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S512x4096 .bf16) (harg7 : arg7.IsWhole) (arg8 : Memref sig .tc .vmem S512x512 .bf16) (harg8 : arg8.IsWhole) (arg9 : Memref sig .tc .vmem S512x512 .bf16) (harg9 : arg9.IsWhole) (hc : k1_cond1 i = 1#1)
    (x0 : Vec F S512x512 .bf16) (x1 : Vec F S512x512 .bf16) (x2 : Vec F S4096x512 .bf16) (x3 : Vec F S4096x512 .bf16) (x4 : Vec F S512x4096 .bf16) (x5 : Vec F S512x512 .bf16) :
    { L : List (View.Piece (Elt F) S512x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L)) -∗ K ⟨⟩))
          ⊢ wp frame (wpE (defs₀ (F := F)) Variants.none c none) E (cc1_fox_attention i arg3 harg3 arg4 harg4 arg5 harg5 arg6 harg6 arg7 harg7 arg8 harg8 arg9 harg9) K } := by
  refine ⟨?_, fun E K => ?run⟩
  case run =>
    simp only [cc1_fox_attention_eq_skeleton]; unfold cc1_fox_attention_skel
    simp only [k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    have htr : Scf.trips (k1_t2_loop i).lb (k1_t2_loop i).ub (k1_t2_loop i).st = 0 := rest_trips i
    sl_exec (disch := first | sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact H6

end Cert.KernelIdeal.Gen
-- ==== Proof.AttnEven.lean ====
module

public import proofs.«01_k».proof.Proof.AttnOdd

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 16000000 in
/-- One grid point of the attention call with an even number of key tiles below the diagonal: on whole staging buffers, the inputs
at their contents, the body runs and leaves the output written with a list of pieces the run finds. -/
noncomputable def attnRun_E (c : Dev nD) (i : grid1.Coords) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S512x4096 .bf16) (harg7 : arg7.IsWhole) (arg8 : Memref sig .tc .vmem S512x512 .bf16) (harg8 : arg8.IsWhole) (arg9 : Memref sig .tc .vmem S512x512 .bf16) (harg9 : arg9.IsWhole) (hc : ¬ k1_cond1 i = 1#1)
    (x0 : Vec F S512x512 .bf16) (x1 : Vec F S512x512 .bf16) (x2 : Vec F S4096x512 .bf16) (x3 : Vec F S4096x512 .bf16) (x4 : Vec F S512x4096 .bf16) (x5 : Vec F S512x512 .bf16) :
    { L : List (View.Piece (Elt F) S512x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L)) -∗ K ⟨⟩))
          ⊢ wp frame (wpE (defs₀ (F := F)) Variants.none c none) E (cc1_fox_attention i arg3 harg3 arg4 harg4 arg5 harg5 arg6 harg6 arg7 harg7 arg8 harg8 arg9 harg9) K } := by
  refine ⟨?_, fun E K => ?run⟩
  case run =>
    simp only [cc1_fox_attention_eq_skeleton]; unfold cc1_fox_attention_skel
    simp only [k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    have htr : Scf.trips (k1_t2_loop i).lb (k1_t2_loop i).ub (k1_t2_loop i).st = 0 := rest_trips i
    sl_exec (disch := first | sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact H6

end Cert.KernelIdeal.Gen
-- ==== Proof.AttnData.lean ====
module

public import proofs.«01_k».proof.Proof.AttnOdd
public import proofs.«01_k».proof.Proof.AttnEven
public import Idealize.ShloMosaic.Lib.Ring

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Window `w`'s block at point `t` of the attention region, read off its array as the region finds it. -/
def blk1 (V : (c : Dev nD) → (b : Ref sig .tc) → Buf (Elt F) ((c : Thread nD τ).loc b)) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem found1_0 (V : (c : Dev nD) → (b : Ref sig .tc) → Buf (Elt F) ((c : Thread nD τ).loc b)) {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

theorem found1_1 (V : (c : Dev nD) → (b : Ref sig .tc) → Buf (Elt F) ((c : Thread nD τ).loc b)) {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

theorem found1_2 (V : (c : Dev nD) → (b : Ref sig .tc) → Buf (Elt F) ((c : Thread nD τ).loc b)) {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

theorem found1_3 (V : (c : Dev nD) → (b : Ref sig .tc) → Buf (Elt F) ((c : Thread nD τ).loc b)) {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

theorem found1_4 (V : (c : Dev nD) → (b : Ref sig .tc) → Buf (Elt F) ((c : Thread nD τ).loc b)) {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

theorem found1_5 (V : (c : Dev nD) → (b : Ref sig .tc) → Buf (Elt F) ((c : Thread nD τ).loc b)) {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

abbrev mem1_0 (t : Fin cfg1.N) : Memref sig .tc .vmem S512x512 .bf16 := win1_0.stage (cfg1.slots t 0)
abbrev whole1_0 (t : Fin cfg1.N) : (mem1_0 t).IsWhole := hstage1_0 ((cfg1.slots t 0).cast nbuf1_0)
abbrev mem1_1 (t : Fin cfg1.N) : Memref sig .tc .vmem S512x512 .bf16 := win1_1.stage (cfg1.slots t 1)
abbrev whole1_1 (t : Fin cfg1.N) : (mem1_1 t).IsWhole := hstage1_1 ((cfg1.slots t 1).cast nbuf1_1)
abbrev mem1_2 (t : Fin cfg1.N) : Memref sig .tc .vmem S4096x512 .bf16 := win1_2.stage (cfg1.slots t 2)
abbrev whole1_2 (t : Fin cfg1.N) : (mem1_2 t).IsWhole := hstage1_2 ((cfg1.slots t 2).cast nbuf1_2)
abbrev mem1_3 (t : Fin cfg1.N) : Memref sig .tc .vmem S4096x512 .bf16 := win1_3.stage (cfg1.slots t 3)
abbrev whole1_3 (t : Fin cfg1.N) : (mem1_3 t).IsWhole := hstage1_3 ((cfg1.slots t 3).cast nbuf1_3)
abbrev mem1_4 (t : Fin cfg1.N) : Memref sig .tc .vmem S512x4096 .bf16 := win1_4.stage (cfg1.slots t 4)
abbrev whole1_4 (t : Fin cfg1.N) : (mem1_4 t).IsWhole := hstage1_4 ((cfg1.slots t 4).cast nbuf1_4)
abbrev mem1_5 (t : Fin cfg1.N) : Memref sig .tc .vmem S512x512 .bf16 := win1_5.stage (cfg1.slots t 5)
abbrev whole1_5 (t : Fin cfg1.N) : (mem1_5 t).IsWhole := hstage1_5 ((cfg1.slots t 5).cast nbuf1_5)
abbrev mem1_6 (t : Fin cfg1.N) : Memref sig .tc .vmem S512x512 .bf16 := win1_6.stage (cfg1.slots t 6)
abbrev whole1_6 (t : Fin cfg1.N) : (mem1_6 t).IsWhole := hstage1_6 ((cfg1.slots t 6).cast nbuf1_6)

set_option maxHeartbeats 4000000 in
theorem attnCover_T (c : Dev nD) (i : grid1.Coords) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S512x4096 .bf16) (harg7 : arg7.IsWhole) (arg8 : Memref sig .tc .vmem S512x512 .bf16) (harg8 : arg8.IsWhole) (arg9 : Memref sig .tc .vmem S512x512 .bf16) (harg9 : arg9.IsWhole) (hc : k1_cond1 i = 1#1)
    (x0 : Vec F S512x512 .bf16) (x1 : Vec F S512x512 .bf16) (x2 : Vec F S4096x512 .bf16) (x3 : Vec F S4096x512 .bf16) (x4 : Vec F S512x4096 .bf16) (x5 : Vec F S512x512 .bf16) (y : S512x512.Idx) : ∃ pc ∈ (attnRun_T c i arg3 harg3 arg4 harg4 arg5 harg5 arg6 harg6 arg7 harg7 arg8 harg8 arg9 harg9 hc x0 x1 x2 x3 x4 x5).1, y ∈ pc.1.set :=
  View.cover_of_tiledL (attnRun_T c i arg3 harg3 arg4 harg4 arg5 harg5 arg6 harg6 arg7 harg7 arg8 harg8 arg9 harg9 hc x0 x1 x2 x3 x4 x5).1 S512x128.size (by sl_kernel_rfl) y

/-- What the attention body leaves in its output at a point of this case. -/
def attnOut_T (c : Dev nD) (i : grid1.Coords) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S512x4096 .bf16) (harg7 : arg7.IsWhole) (arg8 : Memref sig .tc .vmem S512x512 .bf16) (harg8 : arg8.IsWhole) (arg9 : Memref sig .tc .vmem S512x512 .bf16) (harg9 : arg9.IsWhole) (hc : k1_cond1 i = 1#1)
    (x0 : Vec F S512x512 .bf16) (x1 : Vec F S512x512 .bf16) (x2 : Vec F S4096x512 .bf16) (x3 : Vec F S4096x512 .bf16) (x4 : Vec F S512x4096 .bf16) (x5 : Vec F S512x512 .bf16) : Vec F S512x512 .bf16 :=
  arg9.view.read (Elt F) (arg9.view.writes (Elt F) arg9.view.junk (attnRun_T c i arg3 harg3 arg4 harg4 arg5 harg5 arg6 harg6 arg7 harg7 arg8 harg8 arg9 harg9 hc x0 x1 x2 x3 x4 x5).1)

set_option maxHeartbeats 4000000 in
theorem attnCover_E (c : Dev nD) (i : grid1.Coords) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S512x4096 .bf16) (harg7 : arg7.IsWhole) (arg8 : Memref sig .tc .vmem S512x512 .bf16) (harg8 : arg8.IsWhole) (arg9 : Memref sig .tc .vmem S512x512 .bf16) (harg9 : arg9.IsWhole) (hc : ¬ k1_cond1 i = 1#1)
    (x0 : Vec F S512x512 .bf16) (x1 : Vec F S512x512 .bf16) (x2 : Vec F S4096x512 .bf16) (x3 : Vec F S4096x512 .bf16) (x4 : Vec F S512x4096 .bf16) (x5 : Vec F S512x512 .bf16) (y : S512x512.Idx) : ∃ pc ∈ (attnRun_E c i arg3 harg3 arg4 harg4 arg5 harg5 arg6 harg6 arg7 harg7 arg8 harg8 arg9 harg9 hc x0 x1 x2 x3 x4 x5).1, y ∈ pc.1.set :=
  View.cover_of_tiledL (attnRun_E c i arg3 harg3 arg4 harg4 arg5 harg5 arg6 harg6 arg7 harg7 arg8 harg8 arg9 harg9 hc x0 x1 x2 x3 x4 x5).1 S512x128.size (by sl_kernel_rfl) y

/-- What the attention body leaves in its output at a point of this case. -/
def attnOut_E (c : Dev nD) (i : grid1.Coords) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S512x4096 .bf16) (harg7 : arg7.IsWhole) (arg8 : Memref sig .tc .vmem S512x512 .bf16) (harg8 : arg8.IsWhole) (arg9 : Memref sig .tc .vmem S512x512 .bf16) (harg9 : arg9.IsWhole) (hc : ¬ k1_cond1 i = 1#1)
    (x0 : Vec F S512x512 .bf16) (x1 : Vec F S512x512 .bf16) (x2 : Vec F S4096x512 .bf16) (x3 : Vec F S4096x512 .bf16) (x4 : Vec F S512x4096 .bf16) (x5 : Vec F S512x512 .bf16) : Vec F S512x512 .bf16 :=
  arg9.view.read (Elt F) (arg9.view.writes (Elt F) arg9.view.junk (attnRun_E c i arg3 harg3 arg4 harg4 arg5 harg5 arg6 harg6 arg7 harg7 arg8 harg8 arg9 harg9 hc x0 x1 x2 x3 x4 x5).1)

variable (V : (c : Dev nD) → (b : Ref sig .tc) → Buf (Elt F) ((c : Thread nD τ).loc b))

/-- What the attention body leaves in its output at point `t`. -/
def attnAt (c : Dev nD) (t : Fin cfg1.N) : Vec F S512x512 .bf16 :=
  if hc : k1_cond1 (grid1.coords t) = 1#1 then attnOut_T c (grid1.coords t) (mem1_0 t) (whole1_0 t) (mem1_1 t) (whole1_1 t) (mem1_2 t) (whole1_2 t) (mem1_3 t) (whole1_3 t) (mem1_4 t) (whole1_4 t) (mem1_5 t) (whole1_5 t) (mem1_6 t) (whole1_6 t) hc (blk1 V c 0 t) (blk1 V c 1 t) (blk1 V c 2 t) (blk1 V c 3 t) (blk1 V c 4 t) (blk1 V c 5 t)
  else attnOut_E c (grid1.coords t) (mem1_0 t) (whole1_0 t) (mem1_1 t) (whole1_1 t) (mem1_2 t) (whole1_2 t) (mem1_3 t) (whole1_3 t) (mem1_4 t) (whole1_4 t) (mem1_5 t) (whole1_5 t) (mem1_6 t) (whole1_6 t) hc (blk1 V c 0 t) (blk1 V c 1 t) (blk1 V c 2 t) (blk1 V c 3 t) (blk1 V c 4 t) (blk1 V c 5 t)

/-- The attention region's proof data: the arrays as found, each input left in place, the output at what the body leaves. -/
def attnDat (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => attnAt V c t
  Φ _ := Pipeline.ΦA spec1 c
  q w := Pipeline.shareOf spec1 w
  owed _ := 0

theorem attnDat_A (c : Dev nD) (w : Fin cfg1.W) : (attnDat V c).A w = V c (Pipeline.arrRef spec1 w) := by
  dsimp only [attnDat]
theorem attnAfter_0 (c : Dev nD) (t : Fin cfg1.N) : (attnDat V c).after 0 t = blk1 V c 0 t := by dsimp only [attnDat]
theorem attnBefore_0 (c : Dev nD) (t : Fin cfg1.N) (d) : (attnDat V c).before 0 t d = blk1 V c 0 t :=
  found1_0 V (attnDat V c) (attnDat_A V c 0) (attnAfter_0 V c) t d
theorem attnAfter_1 (c : Dev nD) (t : Fin cfg1.N) : (attnDat V c).after 1 t = blk1 V c 1 t := by dsimp only [attnDat]
theorem attnBefore_1 (c : Dev nD) (t : Fin cfg1.N) (d) : (attnDat V c).before 1 t d = blk1 V c 1 t :=
  found1_1 V (attnDat V c) (attnDat_A V c 1) (attnAfter_1 V c) t d
theorem attnAfter_2 (c : Dev nD) (t : Fin cfg1.N) : (attnDat V c).after 2 t = blk1 V c 2 t := by dsimp only [attnDat]
theorem attnBefore_2 (c : Dev nD) (t : Fin cfg1.N) (d) : (attnDat V c).before 2 t d = blk1 V c 2 t :=
  found1_2 V (attnDat V c) (attnDat_A V c 2) (attnAfter_2 V c) t d
theorem attnAfter_3 (c : Dev nD) (t : Fin cfg1.N) : (attnDat V c).after 3 t = blk1 V c 3 t := by dsimp only [attnDat]
theorem attnBefore_3 (c : Dev nD) (t : Fin cfg1.N) (d) : (attnDat V c).before 3 t d = blk1 V c 3 t :=
  found1_3 V (attnDat V c) (attnDat_A V c 3) (attnAfter_3 V c) t d
theorem attnAfter_4 (c : Dev nD) (t : Fin cfg1.N) : (attnDat V c).after 4 t = blk1 V c 4 t := by dsimp only [attnDat]
theorem attnBefore_4 (c : Dev nD) (t : Fin cfg1.N) (d) : (attnDat V c).before 4 t d = blk1 V c 4 t :=
  found1_4 V (attnDat V c) (attnDat_A V c 4) (attnAfter_4 V c) t d
theorem attnAfter_5 (c : Dev nD) (t : Fin cfg1.N) : (attnDat V c).after 5 t = blk1 V c 5 t := by dsimp only [attnDat]
theorem attnBefore_5 (c : Dev nD) (t : Fin cfg1.N) (d) : (attnDat V c).before 5 t d = blk1 V c 5 t :=
  found1_5 V (attnDat V c) (attnDat_A V c 5) (attnAfter_5 V c) t d
theorem attnAfter_6 (c : Dev nD) (t : Fin cfg1.N) : (attnDat V c).after 6 t = attnAt V c t := by dsimp only [attnDat]

/-- What the body is called with at point `t`, -/
def attnPre (c : Dev nD) (t : Fin cfg1.N) : sProp 𝕄 :=
  iprop((attnDat V c).Φ t.castSucc ∗ (attnDat V c).owesAt () t.castSucc ∗ (∃ d, owns (c : Thread nD τ) (mem1_0 t) fullShare ((attnDat V c).before 0 t d)) ∗ (∃ d, owns (c : Thread nD τ) (mem1_1 t) fullShare ((attnDat V c).before 1 t d)) ∗ (∃ d, owns (c : Thread nD τ) (mem1_2 t) fullShare ((attnDat V c).before 2 t d)) ∗ (∃ d, owns (c : Thread nD τ) (mem1_3 t) fullShare ((attnDat V c).before 3 t d)) ∗ (∃ d, owns (c : Thread nD τ) (mem1_4 t) fullShare ((attnDat V c).before 4 t d)) ∗ (∃ d, owns (c : Thread nD τ) (mem1_5 t) fullShare ((attnDat V c).before 5 t d)) ∗ (∃ d, owns (c : Thread nD τ) (mem1_6 t) fullShare ((attnDat V c).before 6 t d)))

/-- and what it returns. -/
def attnPost (c : Dev nD) (t : Fin cfg1.N) : sProp 𝕄 :=
  iprop((attnDat V c).Φ t.succ ∗ (attnDat V c).owesAt () t.succ ∗ owns (c : Thread nD τ) (mem1_0 t) fullShare ((attnDat V c).after 0 t) ∗ owns (c : Thread nD τ) (mem1_1 t) fullShare ((attnDat V c).after 1 t) ∗ owns (c : Thread nD τ) (mem1_2 t) fullShare ((attnDat V c).after 2 t) ∗ owns (c : Thread nD τ) (mem1_3 t) fullShare ((attnDat V c).after 3 t) ∗ owns (c : Thread nD τ) (mem1_4 t) fullShare ((attnDat V c).after 4 t) ∗ owns (c : Thread nD τ) (mem1_5 t) fullShare ((attnDat V c).after 5 t) ∗ owns (c : Thread nD τ) (mem1_6 t) fullShare ((attnDat V c).after 6 t))

set_option maxHeartbeats 6400000 in
/-- The body at any point, by the run of the case the point is in. -/
theorem attnBody (c : Dev nD) (t : Fin cfg1.N) :
    attnPre V c t ⊢ wp frame (wpE (defs₀ (F := F)) Variants.none c none) Set.univ (bodyAt1 t) (fun _ => attnPost V c t) := by
  unfold attnPre attnPost bodyAt1
  simp only [attnBefore_0, attnBefore_1, attnBefore_2, attnBefore_3, attnBefore_4, attnBefore_5]
  rw [show (attnDat V c).owesAt () t.succ = (attnDat V c).owesAt () t.castSucc from rfl,
    attnAfter_0, attnAfter_1, attnAfter_2, attnAfter_3, attnAfter_4, attnAfter_5, attnAfter_6]
  rw [show (attnDat V c).Φ t.succ = Pipeline.ΦA spec1 c from rfl, show (attnDat V c).Φ t.castSucc = Pipeline.ΦA spec1 c from rfl]
  unfold attnAt
  by_cases hc : k1_cond1 (grid1.coords t) = 1#1
  · rw [dif_pos hc]
    unfold attnOut_T
    iintro ⟨Hg, Ho, ⟨%d0, H0⟩, ⟨%d1, H1⟩, ⟨%d2, H2⟩, ⟨%d3, H3⟩, ⟨%d4, H4⟩, ⟨%d5, H5⟩, ⟨%d6, H6⟩⟩
    iapply ((attnRun_T c (grid1.coords t) _ _ _ _ _ _ _ _ _ _ _ _ _ _ hc (blk1 V c 0 t) (blk1 V c 1 t) (blk1 V c 2 t) (blk1 V c 3 t) (blk1 V c 4 t) (blk1 V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (attnCover_T c _ _ _ _ _ _ _ _ _ _ _ _ _ _ _ hc _ _ _ _ _ _)
  · rw [dif_neg hc]
    unfold attnOut_E
    iintro ⟨Hg, Ho, ⟨%d0, H0⟩, ⟨%d1, H1⟩, ⟨%d2, H2⟩, ⟨%d3, H3⟩, ⟨%d4, H4⟩, ⟨%d5, H5⟩, ⟨%d6, H6⟩⟩
    iapply ((attnRun_E c (grid1.coords t) _ _ _ _ _ _ _ _ _ _ _ _ _ _ hc (blk1 V c 0 t) (blk1 V c 1 t) (blk1 V c 2 t) (blk1 V c 3 t) (blk1 V c 4 t) (blk1 V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (attnCover_E c _ _ _ _ _ _ _ _ _ _ _ _ _ _ _ hc _ _ _ _ _ _)

theorem row1 (t : Fin cfg1.N) :
    defs₀ (F := F) .tc cfg1.body (cfg1.bodyArgs t (cfg1.slots t)) = bodyAt1 t := by
  unfold defs₀; rw [Defs.onTc_tc]

/-- The pipeline's obligation on the attention body. -/
theorem attnObligation (c : Dev nD) : BodyObligation (attnDat (F := F) V c) (defs₀ (F := F)) Variants.none () Set.univ := fun t => by
  rw [bigSep_W1, bigSep_W1, row1]
  exact triple_restated (attnBody V c t) rfl .rfl fun _ => .rfl

end Cert.KernelIdeal.Gen
-- ==== Proof.BiasBody.lean ====
module

public import proofs.«01_k».proof.Proof.AttnLoop
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition under which the carried row is reset: the block is the first one of its sequence. -/
abbrev biasFirst (i : grid0.Coords) : Prop := (Scalar.cmpi .ne (Scalar.extui (Scalar.cmpi .eq (BitVec.ofNat 32 (i 1).val) 0#32)) 0#32) = 1#1

/-- It is the first block exactly at the points divisible by eight. -/
theorem biasFirst_iff : ∀ t : Fin cfg0.N, biasFirst (grid0.coords t) ↔ t.val % 8 = 0 :=
  (fun t => by
    have ht : t.val < 32 := Nat.lt_of_lt_of_eq t.isLt N_0
    have e1 : (grid0.coords t 1).val = t.val / 1 % 8 := Pipeline.Grid.coords_val t 1 (by decide) rfl
    simp only [biasFirst, e1]
    word_cmp
   : ∀ t : Fin grid0.N, biasFirst (grid0.coords t) ↔ t.val % 8 = 0)

set_option maxHeartbeats 4000000 in
/-- One block of the bias call that starts a sequence: the carried row is set to zero first. -/
noncomputable def biasRun_A (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x128 .f32) (harg10 : arg10.IsWhole) (hc : biasFirst i)
    (x0 : Vec F S512x128 .f32) (x1 : Vec F S1x128 .f32) (x2 : Vec F S128x1024 .bf16) (x3 : Vec F S128x1024 .bf16) (x4 : Vec F S1x1024 .f32) (x5 : Vec F S1x1024 .f32) :
    Σ' (L6 : List (View.Piece (Elt F) S512x1024 .bf16)) (L7 : List (View.Piece (Elt F) S512x1024 .bf16)), { LS : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc0_fox_bias i arg2 harg2 arg3 harg3 arg4 harg4 arg5 harg5 arg6 harg6 arg7 harg7 arg8 harg8 arg9 harg9 arg10 harg10) K } := by
  refine ⟨?_, ?_, ?_, fun E K => ?run⟩
  case run =>
    simp only [cc0_fox_bias_eq_skeleton]; unfold cc0_fox_bias_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS

set_option maxHeartbeats 4000000 in
/-- One block of the bias call that continues a sequence from the carried row. -/
noncomputable def biasRun_B (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x128 .f32) (harg10 : arg10.IsWhole) (hc : ¬ biasFirst i)
    (x0 : Vec F S512x128 .f32) (x1 : Vec F S1x128 .f32) (x2 : Vec F S128x1024 .bf16) (x3 : Vec F S128x1024 .bf16) (x4 : Vec F S1x1024 .f32) (x5 : Vec F S1x1024 .f32) (xs : Vec F S8x128 .f32) :
    Σ' (L6 : List (View.Piece (Elt F) S512x1024 .bf16)) (L7 : List (View.Piece (Elt F) S512x1024 .bf16)), { LS : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc0_fox_bias i arg2 harg2 arg3 harg3 arg4 harg4 arg5 harg5 arg6 harg6 arg7 harg7 arg8 harg8 arg9 harg9 arg10 harg10) K } := by
  refine ⟨?_, ?_, ?_, fun E K => ?run⟩
  case run =>
    simp only [cc0_fox_bias_eq_skeleton]; unfold cc0_fox_bias_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS

end Cert.KernelIdeal.Gen
-- ==== Proof.BiasOut.lean ====
module

public import proofs.«01_k».proof.Proof.BiasBody
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first row of the carried block, the only one read. -/
def rowOf (xs : Vec F S8x128 .f32) : Vec F S1x128 .f32 := View.ld xs (Rect.unit (s := S8x128) ![0, 0] S1x128.size inb_S8x128_S1x128_0_0)

/-- The three parts of the running sums, lane by lane, for a block of gates over a carried block. -/
def biasTerms (x0 : Vec F S512x128 .f32) (x1 : Vec F S1x128 .f32) (xs : Vec F S8x128 .f32) : FVec F S512x128 .bf16 :=
  k0_pay9 (k0_pay5 x0 x1) (k0_pay6 x0 x1) (rowOf xs)

/-- The block carried to the next point. -/
def biasNext (x0 : Vec F S512x128 .f32) (x1 : Vec F S1x128 .f32) (xs : Vec F S8x128 .f32) : Vec F S8x128 .f32 :=
  k0_pay8 (k0_pay5 x0 x1) (k0_pay6 x0 x1) (rowOf xs)

/-- The query side of the bias lanes. -/
def biasEq (x0 : Vec F S512x128 .f32) (x1 : Vec F S1x128 .f32) (x2 : Vec F S128x1024 .bf16) (x4 : Vec F S1x1024 .f32) (xs : Vec F S8x128 .f32) : Vec F S512x1024 .bf16 :=
  k0_pay1 (biasTerms x0 x1 xs) x4 x2

/-- The key side of the bias lanes. -/
def biasEk (x0 : Vec F S512x128 .f32) (x1 : Vec F S1x128 .f32) (x3 : Vec F S128x1024 .bf16) (x5 : Vec F S1x1024 .f32) (xs : Vec F S8x128 .f32) : Vec F S512x1024 .bf16 :=
  k0_pay2 (biasTerms x0 x1 xs) x5 x3

theorem biasZero : (![0, 0] : Fin 2 → Nat) = fun _ => 0 := funext fun a => by fin_cases a <;> rfl

set_option maxHeartbeats 4000000 in
/-- The query lanes a point leaves, whatever its buffer held before (a first block of a sequence). -/
theorem biasA_6 (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x128 .f32) (harg10 : arg10.IsWhole) (hc : biasFirst i)
    (x0 : Vec F S512x128 .f32) (x1 : Vec F S1x128 .f32) (x2 : Vec F S128x1024 .bf16) (x3 : Vec F S128x1024 .bf16) (x4 : Vec F S1x1024 .f32) (x5 : Vec F S1x1024 .f32) (f : arg8.view.ty.Contents (Elt F)) :
    arg8.view.read (Elt F) (arg8.view.writes (Elt F) f (biasRun_A c i arg2 harg2 arg3 harg3 arg4 harg4 arg5 harg5 arg6 harg6 arg7 harg7 arg8 harg8 arg9 harg9 arg10 harg10 hc x0 x1 x2 x3 x4 x5).1) = biasEq x0 x1 x2 x4 k0_pay3 := by
  rw [View.read_writes_eq_canon _ _ _ (View.cover_of_tiledL (biasRun_A c i arg2 harg2 arg3 harg3 arg4 harg4 arg5 harg5 arg6 harg6 arg7 harg7 arg8 harg8 arg9 harg9 arg10 harg10 hc x0 x1 x2 x3 x4 x5).1 S512x1024.size (by sl_kernel_rfl))]
  unfold biasRun_A
  dsimp only
  sl_unfold_words
  rw [View.canon_unit_zero (S := S512x1024) biasZero]
  simp only [View.readCov_eq_canon', View.canon_unit_zero (S := S8x128) biasZero, View.readAt_eq_ld, harg2.read_unread, harg3.read_unread, harg4.read_unread, harg5.read_unread, harg6.read_unread, harg7.read_unread, View.ld_unit_zero (S := S512x128) biasZero, View.ld_unit_zero (S := S1x128) biasZero, View.ld_unit_zero (S := S1x1024) biasZero, View.ld_unit_zero (S := S128x1024) biasZero, shapeCast_self]
  rfl

set_option maxHeartbeats 4000000 in
/-- The key lanes a point leaves, whatever its buffer held before (a first block of a sequence). -/
theorem biasA_7 (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x128 .f32) (harg10 : arg10.IsWhole) (hc : biasFirst i)
    (x0 : Vec F S512x128 .f32) (x1 : Vec F S1x128 .f32) (x2 : Vec F S128x1024 .bf16) (x3 : Vec F S128x1024 .bf16) (x4 : Vec F S1x1024 .f32) (x5 : Vec F S1x1024 .f32) (f : arg9.view.ty.Contents (Elt F)) :
    arg9.view.read (Elt F) (arg9.view.writes (Elt F) f (biasRun_A c i arg2 harg2 arg3 harg3 arg4 harg4 arg5 harg5 arg6 harg6 arg7 harg7 arg8 harg8 arg9 harg9 arg10 harg10 hc x0 x1 x2 x3 x4 x5).2.1) = biasEk x0 x1 x3 x5 k0_pay3 := by
  rw [View.read_writes_eq_canon _ _ _ (View.cover_of_tiledL (biasRun_A c i arg2 harg2 arg3 harg3 arg4 harg4 arg5 harg5 arg6 harg6 arg7 harg7 arg8 harg8 arg9 harg9 arg10 harg10 hc x0 x1 x2 x3 x4 x5).2.1 S512x1024.size (by sl_kernel_rfl))]
  unfold biasRun_A
  dsimp only
  sl_unfold_words
  rw [View.canon_unit_zero (S := S512x1024) biasZero]
  simp only [View.readCov_eq_canon', View.canon_unit_zero (S := S8x128) biasZero, View.readAt_eq_ld, harg2.read_unread, harg3.read_unread, harg4.read_unread, harg5.read_unread, harg6.read_unread, harg7.read_unread, View.ld_unit_zero (S := S512x128) biasZero, View.ld_unit_zero (S := S1x128) biasZero, View.ld_unit_zero (S := S1x1024) biasZero, View.ld_unit_zero (S := S128x1024) biasZero, shapeCast_self]
  rfl

set_option maxHeartbeats 4000000 in
/-- The carried block a point leaves, whatever its buffer held before (a first block of a sequence). -/
theorem biasA_S (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x128 .f32) (harg10 : arg10.IsWhole) (hc : biasFirst i)
    (x0 : Vec F S512x128 .f32) (x1 : Vec F S1x128 .f32) (x2 : Vec F S128x1024 .bf16) (x3 : Vec F S128x1024 .bf16) (x4 : Vec F S1x1024 .f32) (x5 : Vec F S1x1024 .f32) (f : arg10.view.ty.Contents (Elt F)) :
    arg10.view.read (Elt F) (arg10.view.writes (Elt F) f (biasRun_A c i arg2 harg2 arg3 harg3 arg4 harg4 arg5 harg5 arg6 harg6 arg7 harg7 arg8 harg8 arg9 harg9 arg10 harg10 hc x0 x1 x2 x3 x4 x5).2.2.val) = biasNext x0 x1 k0_pay3 := by
  rw [View.read_writes_eq_canon _ _ _ (View.cover_of_tiledL (biasRun_A c i arg2 harg2 arg3 harg3 arg4 harg4 arg5 harg5 arg6 harg6 arg7 harg7 arg8 harg8 arg9 harg9 arg10 harg10 hc x0 x1 x2 x3 x4 x5).2.2.val S8x128.size (by sl_kernel_rfl))]
  unfold biasRun_A
  dsimp only
  sl_unfold_words
  rw [View.canon_cons_unit_zero (S := S8x128) biasZero]
  simp only [View.readCov_eq_canon', View.canon_unit_zero (S := S8x128) biasZero, View.readAt_eq_ld, harg2.read_unread, harg3.read_unread, harg4.read_unread, harg5.read_unread, harg6.read_unread, harg7.read_unread, View.ld_unit_zero (S := S512x128) biasZero, View.ld_unit_zero (S := S1x128) biasZero, View.ld_unit_zero (S := S1x1024) biasZero, View.ld_unit_zero (S := S128x1024) biasZero, shapeCast_self]
  rfl

set_option maxHeartbeats 4000000 in
/-- The query lanes a point leaves, whatever its buffer held before (a later block of a sequence). -/
theorem biasB_6 (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x128 .f32) (harg10 : arg10.IsWhole) (hc : ¬ biasFirst i)
    (x0 : Vec F S512x128 .f32) (x1 : Vec F S1x128 .f32) (x2 : Vec F S128x1024 .bf16) (x3 : Vec F S128x1024 .bf16) (x4 : Vec F S1x1024 .f32) (x5 : Vec F S1x1024 .f32) (xs : Vec F S8x128 .f32) (f : arg8.view.ty.Contents (Elt F)) :
    arg8.view.read (Elt F) (arg8.view.writes (Elt F) f (biasRun_B c i arg2 harg2 arg3 harg3 arg4 harg4 arg5 harg5 arg6 harg6 arg7 harg7 arg8 harg8 arg9 harg9 arg10 harg10 hc x0 x1 x2 x3 x4 x5 xs).1) = biasEq x0 x1 x2 x4 xs := by
  rw [View.read_writes_eq_canon _ _ _ (View.cover_of_tiledL (biasRun_B c i arg2 harg2 arg3 harg3 arg4 harg4 arg5 harg5 arg6 harg6 arg7 harg7 arg8 harg8 arg9 harg9 arg10 harg10 hc x0 x1 x2 x3 x4 x5 xs).1 S512x1024.size (by sl_kernel_rfl))]
  unfold biasRun_B
  dsimp only
  sl_unfold_words
  rw [View.canon_unit_zero (S := S512x1024) biasZero]
  simp only [harg10.read_unread, View.readAt_eq_ld, harg2.read_unread, harg3.read_unread, harg4.read_unread, harg5.read_unread, harg6.read_unread, harg7.read_unread, View.ld_unit_zero (S := S512x128) biasZero, View.ld_unit_zero (S := S1x128) biasZero, View.ld_unit_zero (S := S1x1024) biasZero, View.ld_unit_zero (S := S128x1024) biasZero, shapeCast_self]
  rfl

set_option maxHeartbeats 4000000 in
/-- The key lanes a point leaves, whatever its buffer held before (a later block of a sequence). -/
theorem biasB_7 (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x128 .f32) (harg10 : arg10.IsWhole) (hc : ¬ biasFirst i)
    (x0 : Vec F S512x128 .f32) (x1 : Vec F S1x128 .f32) (x2 : Vec F S128x1024 .bf16) (x3 : Vec F S128x1024 .bf16) (x4 : Vec F S1x1024 .f32) (x5 : Vec F S1x1024 .f32) (xs : Vec F S8x128 .f32) (f : arg9.view.ty.Contents (Elt F)) :
    arg9.view.read (Elt F) (arg9.view.writes (Elt F) f (biasRun_B c i arg2 harg2 arg3 harg3 arg4 harg4 arg5 harg5 arg6 harg6 arg7 harg7 arg8 harg8 arg9 harg9 arg10 harg10 hc x0 x1 x2 x3 x4 x5 xs).2.1) = biasEk x0 x1 x3 x5 xs := by
  rw [View.read_writes_eq_canon _ _ _ (View.cover_of_tiledL (biasRun_B c i arg2 harg2 arg3 harg3 arg4 harg4 arg5 harg5 arg6 harg6 arg7 harg7 arg8 harg8 arg9 harg9 arg10 harg10 hc x0 x1 x2 x3 x4 x5 xs).2.1 S512x1024.size (by sl_kernel_rfl))]
  unfold biasRun_B
  dsimp only
  sl_unfold_words
  rw [View.canon_unit_zero (S := S512x1024) biasZero]
  simp only [harg10.read_unread, View.readAt_eq_ld, harg2.read_unread, harg3.read_unread, harg4.read_unread, harg5.read_unread, harg6.read_unread, harg7.read_unread, View.ld_unit_zero (S := S512x128) biasZero, View.ld_unit_zero (S := S1x128) biasZero, View.ld_unit_zero (S := S1x1024) biasZero, View.ld_unit_zero (S := S128x1024) biasZero, shapeCast_self]
  rfl

set_option maxHeartbeats 4000000 in
/-- The carried block a point leaves, whatever its buffer held before (a later block of a sequence). -/
theorem biasB_S (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x128 .f32) (harg10 : arg10.IsWhole) (hc : ¬ biasFirst i)
    (x0 : Vec F S512x128 .f32) (x1 : Vec F S1x128 .f32) (x2 : Vec F S128x1024 .bf16) (x3 : Vec F S128x1024 .bf16) (x4 : Vec F S1x1024 .f32) (x5 : Vec F S1x1024 .f32) (xs : Vec F S8x128 .f32) (f : arg10.view.ty.Contents (Elt F)) :
    arg10.view.read (Elt F) (arg10.view.writes (Elt F) f (biasRun_B c i arg2 harg2 arg3 harg3 arg4 harg4 arg5 harg5 arg6 harg6 arg7 harg7 arg8 harg8 arg9 harg9 arg10 harg10 hc x0 x1 x2 x3 x4 x5 xs).2.2.val) = biasNext x0 x1 xs := by
  rw [View.read_writes_eq_canon _ _ _ (View.cover_of_tiledL (biasRun_B c i arg2 harg2 arg3 harg3 arg4 harg4 arg5 harg5 arg6 harg6 arg7 harg7 arg8 harg8 arg9 harg9 arg10 harg10 hc x0 x1 x2 x3 x4 x5 xs).2.2.val S8x128.size (by sl_kernel_rfl))]
  unfold biasRun_B
  dsimp only
  sl_unfold_words
  rw [View.canon_unit_zero (S := S8x128) biasZero]
  simp only [harg10.read_unread, View.readAt_eq_ld, harg2.read_unread, harg3.read_unread, harg4.read_unread, harg5.read_unread, harg6.read_unread, harg7.read_unread, View.ld_unit_zero (S := S512x128) biasZero, View.ld_unit_zero (S := S1x128) biasZero, View.ld_unit_zero (S := S1x1024) biasZero, View.ld_unit_zero (S := S128x1024) biasZero, shapeCast_self]
  rfl

end Cert.KernelIdeal.Gen
-- ==== Proof.BiasData.lean ====
module

public import proofs.«01_k».proof.Proof.BiasOut

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Window `w`'s block at point `t` of the bias region, read off its array as the region finds it. -/
def blk0 (V : (c : Dev nD) → (b : Ref sig .tc) → Buf (Elt F) ((c : Thread nD τ).loc b)) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem found0_0 (V : (c : Dev nD) → (b : Ref sig .tc) → Buf (Elt F) ((c : Thread nD τ).loc b)) {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

theorem found0_1 (V : (c : Dev nD) → (b : Ref sig .tc) → Buf (Elt F) ((c : Thread nD τ).loc b)) {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

theorem found0_2 (V : (c : Dev nD) → (b : Ref sig .tc) → Buf (Elt F) ((c : Thread nD τ).loc b)) {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

theorem found0_3 (V : (c : Dev nD) → (b : Ref sig .tc) → Buf (Elt F) ((c : Thread nD τ).loc b)) {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

theorem found0_4 (V : (c : Dev nD) → (b : Ref sig .tc) → Buf (Elt F) ((c : Thread nD τ).loc b)) {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

theorem found0_5 (V : (c : Dev nD) → (b : Ref sig .tc) → Buf (Elt F) ((c : Thread nD τ).loc b)) {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)

abbrev mem0_0 (t : Fin cfg0.N) : Memref sig .tc .vmem S512x128 .f32 := win0_0.stage (cfg0.slots t 0)
abbrev whole0_0 (t : Fin cfg0.N) : (mem0_0 t).IsWhole := hstage0_0 ((cfg0.slots t 0).cast nbuf0_0)
abbrev mem0_1 (t : Fin cfg0.N) : Memref sig .tc .vmem S1x128 .f32 := win0_1.stage (cfg0.slots t 1)
abbrev whole0_1 (t : Fin cfg0.N) : (mem0_1 t).IsWhole := hstage0_1 ((cfg0.slots t 1).cast nbuf0_1)
abbrev mem0_2 (t : Fin cfg0.N) : Memref sig .tc .vmem S128x1024 .bf16 := win0_2.stage (cfg0.slots t 2)
abbrev whole0_2 (t : Fin cfg0.N) : (mem0_2 t).IsWhole := hstage0_2 ((cfg0.slots t 2).cast nbuf0_2)
abbrev mem0_3 (t : Fin cfg0.N) : Memref sig .tc .vmem S128x1024 .bf16 := win0_3.stage (cfg0.slots t 3)
abbrev whole0_3 (t : Fin cfg0.N) : (mem0_3 t).IsWhole := hstage0_3 ((cfg0.slots t 3).cast nbuf0_3)
abbrev mem0_4 (t : Fin cfg0.N) : Memref sig .tc .vmem S1x1024 .f32 := win0_4.stage (cfg0.slots t 4)
abbrev whole0_4 (t : Fin cfg0.N) : (mem0_4 t).IsWhole := hstage0_4 ((cfg0.slots t 4).cast nbuf0_4)
abbrev mem0_5 (t : Fin cfg0.N) : Memref sig .tc .vmem S1x1024 .f32 := win0_5.stage (cfg0.slots t 5)
abbrev whole0_5 (t : Fin cfg0.N) : (mem0_5 t).IsWhole := hstage0_5 ((cfg0.slots t 5).cast nbuf0_5)
abbrev mem0_6 (t : Fin cfg0.N) : Memref sig .tc .vmem S512x1024 .bf16 := win0_6.stage (cfg0.slots t 6)
abbrev whole0_6 (t : Fin cfg0.N) : (mem0_6 t).IsWhole := hstage0_6 ((cfg0.slots t 6).cast nbuf0_6)
abbrev mem0_7 (t : Fin cfg0.N) : Memref sig .tc .vmem S512x1024 .bf16 := win0_7.stage (cfg0.slots t 7)
abbrev whole0_7 (t : Fin cfg0.N) : (mem0_7 t).IsWhole := hstage0_7 ((cfg0.slots t 7).cast nbuf0_7)

/-- The scratch that carries the running sums. -/
abbrev carry0 : Memref sig .tc .vmem S8x128 .f32 := Memref.whole cc0_scratch0

/-- The other scoped buffers, the attention's staging buffers, at anything. -/
def others0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

theorem rest0 (c : Dev nD) :
    (Pipeline.ΦA spec0 c : sProp 𝕄)
      = iprop(iprop((∃ d, owns (c : Thread nD τ) carry0 fullShare d) ∗ others0 c) ∗ (∃ r, prngReg c r)) := by
  unfold Pipeline.ΦA others0; rw [scopedRest0_eq]; simp only [carry0, owns_whole]; try rfl

variable (V : (c : Dev nD) → (b : Ref sig .tc) → Buf (Elt F) ((c : Thread nD τ).loc b))

/-- What the scratch holds after point `n`: the block's sums over zero at the start of a sequence, over what the point
    before left elsewhere. -/
def sums (c : Dev nD) : (n : ℕ) → n < cfg0.N → Vec F S8x128 .f32
  | 0, hn => biasNext (blk0 V c 0 ⟨0, hn⟩) (blk0 V c 1 ⟨0, hn⟩) k0_pay3
  | n + 1, hn => biasNext (blk0 V c 0 ⟨n + 1, hn⟩) (blk0 V c 1 ⟨n + 1, hn⟩)
      (if (n + 1) % 8 = 0 then k0_pay3 else sums c n (Nat.lt_of_succ_lt hn))

/-- What the body finds in the scratch at point `t`, or would after resetting it. -/
def sumsIn (c : Dev nD) (t : Fin cfg0.N) : Vec F S8x128 .f32 :=
  if t.val % 8 = 0 then k0_pay3 else sums V c (t.val - 1) (Nat.lt_of_le_of_lt (Nat.sub_le _ _) t.isLt)

theorem sums_eq (c : Dev nD) (t : Fin cfg0.N) :
    sums V c t.val t.isLt = biasNext (blk0 V c 0 t) (blk0 V c 1 t) (sumsIn V c t) := by
  obtain ⟨n, hn⟩ := t
  cases n with
  | zero => rfl
  | succ n => rfl

theorem sumsIn_first (c : Dev nD) (t : Fin cfg0.N) (h : t.val % 8 = 0) : sumsIn V c t = k0_pay3 := if_pos h
theorem sumsIn_later (c : Dev nD) (t : Fin cfg0.N) (h : ¬ t.val % 8 = 0) :
    sumsIn V c t = sums V c (t.val - 1) (Nat.lt_of_le_of_lt (Nat.sub_le _ _) t.isLt) := if_neg h

/-- The invariant before position `n`: the scratch at what the point before left, the generator register at something. -/
def inv0 (c : Dev nD) : (n : ℕ) → n ≤ cfg0.N → sProp 𝕄
  | 0, _ => Pipeline.ΦA spec0 c
  | n + 1, hn => iprop(iprop(owns (c : Thread nD τ) carry0 fullShare (sums V c n hn) ∗ others0 c) ∗ (∃ r, prngReg c r))

theorem inv0_zero (c : Dev nD) (n : ℕ) (h : n ≤ cfg0.N) (hz : n = 0) : inv0 V c n h = Pipeline.ΦA spec0 c := by
  subst hz; rfl
theorem inv0_succ (c : Dev nD) (n : ℕ) (hn : n < cfg0.N) :
    inv0 V c (n + 1) hn = iprop(iprop(owns (c : Thread nD τ) carry0 fullShare (sums V c n hn) ∗ others0 c) ∗ (∃ r, prngReg c r)) := rfl
theorem inv0_pos (c : Dev nD) (n : ℕ) (h : n ≤ cfg0.N) (hz : n ≠ 0) :
    inv0 V c n h = iprop(iprop(owns (c : Thread nD τ) carry0 fullShare (sums V c (n - 1) (by omega)) ∗ others0 c) ∗ (∃ r, prngReg c r)) := by
  cases n with
  | zero => exact absurd rfl hz
  | succ n => rfl

/-- The bias region's proof data: the arrays as found, each input left in place, the two outputs at the bias lanes of the point. -/
def biasDat (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => biasEq (blk0 V c 0 t) (blk0 V c 1 t) (blk0 V c 2 t) (blk0 V c 4 t) (sumsIn V c t)
    | ⟨7, _⟩ => biasEk (blk0 V c 0 t) (blk0 V c 1 t) (blk0 V c 3 t) (blk0 V c 5 t) (sumsIn V c t)
  Φ t := inv0 V c t.val (Nat.le_of_lt_succ t.isLt)
  q _ := fullShare
  owed _ := 0

theorem biasDat_A (c : Dev nD) (w : Fin cfg0.W) : (biasDat V c).A w = V c (Pipeline.arrRef spec0 w) := by
  dsimp only [biasDat]
theorem biasDat_inv (c : Dev nD) (t : Fin cfg0.N) :
    (biasDat V c).Φ t.castSucc = inv0 V c t.val (Nat.le_of_lt t.isLt) := by
  dsimp only [biasDat]; exact Pipeline.Dat.Φ_castSucc (inv0 V c) t
theorem biasAfter_0 (c : Dev nD) (t : Fin cfg0.N) : (biasDat V c).after 0 t = blk0 V c 0 t := by dsimp only [biasDat]
theorem biasBefore_0 (c : Dev nD) (t : Fin cfg0.N) (d) : (biasDat V c).before 0 t d = blk0 V c 0 t :=
  found0_0 V (biasDat V c) (biasDat_A V c 0) (biasAfter_0 V c) t d
theorem biasAfter_1 (c : Dev nD) (t : Fin cfg0.N) : (biasDat V c).after 1 t = blk0 V c 1 t := by dsimp only [biasDat]
theorem biasBefore_1 (c : Dev nD) (t : Fin cfg0.N) (d) : (biasDat V c).before 1 t d = blk0 V c 1 t :=
  found0_1 V (biasDat V c) (biasDat_A V c 1) (biasAfter_1 V c) t d
theorem biasAfter_2 (c : Dev nD) (t : Fin cfg0.N) : (biasDat V c).after 2 t = blk0 V c 2 t := by dsimp only [biasDat]
theorem biasBefore_2 (c : Dev nD) (t : Fin cfg0.N) (d) : (biasDat V c).before 2 t d = blk0 V c 2 t :=
  found0_2 V (biasDat V c) (biasDat_A V c 2) (biasAfter_2 V c) t d
theorem biasAfter_3 (c : Dev nD) (t : Fin cfg0.N) : (biasDat V c).after 3 t = blk0 V c 3 t := by dsimp only [biasDat]
theorem biasBefore_3 (c : Dev nD) (t : Fin cfg0.N) (d) : (biasDat V c).before 3 t d = blk0 V c 3 t :=
  found0_3 V (biasDat V c) (biasDat_A V c 3) (biasAfter_3 V c) t d
theorem biasAfter_4 (c : Dev nD) (t : Fin cfg0.N) : (biasDat V c).after 4 t = blk0 V c 4 t := by dsimp only [biasDat]
theorem biasBefore_4 (c : Dev nD) (t : Fin cfg0.N) (d) : (biasDat V c).before 4 t d = blk0 V c 4 t :=
  found0_4 V (biasDat V c) (biasDat_A V c 4) (biasAfter_4 V c) t d
theorem biasAfter_5 (c : Dev nD) (t : Fin cfg0.N) : (biasDat V c).after 5 t = blk0 V c 5 t := by dsimp only [biasDat]
theorem biasBefore_5 (c : Dev nD) (t : Fin cfg0.N) (d) : (biasDat V c).before 5 t d = blk0 V c 5 t :=
  found0_5 V (biasDat V c) (biasDat_A V c 5) (biasAfter_5 V c) t d
theorem biasAfter_6 (c : Dev nD) (t : Fin cfg0.N) : (biasDat V c).after 6 t = biasEq (blk0 V c 0 t) (blk0 V c 1 t) (blk0 V c 2 t) (blk0 V c 4 t) (sumsIn V c t) := by dsimp only [biasDat]
theorem biasAfter_7 (c : Dev nD) (t : Fin cfg0.N) : (biasDat V c).after 7 t = biasEk (blk0 V c 0 t) (blk0 V c 1 t) (blk0 V c 3 t) (blk0 V c 5 t) (sumsIn V c t) := by dsimp only [biasDat]

/-- What the body is called with at point `t`, -/
def biasPre (c : Dev nD) (t : Fin cfg0.N) : sProp 𝕄 :=
  iprop((biasDat V c).Φ t.castSucc ∗ (biasDat V c).owesAt () t.castSucc ∗ (∃ d, owns (c : Thread nD τ) (mem0_0 t) fullShare ((biasDat V c).before 0 t d)) ∗ (∃ d, owns (c : Thread nD τ) (mem0_1 t) fullShare ((biasDat V c).before 1 t d)) ∗ (∃ d, owns (c : Thread nD τ) (mem0_2 t) fullShare ((biasDat V c).before 2 t d)) ∗ (∃ d, owns (c : Thread nD τ) (mem0_3 t) fullShare ((biasDat V c).before 3 t d)) ∗ (∃ d, owns (c : Thread nD τ) (mem0_4 t) fullShare ((biasDat V c).before 4 t d)) ∗ (∃ d, owns (c : Thread nD τ) (mem0_5 t) fullShare ((biasDat V c).before 5 t d)) ∗ (∃ d, owns (c : Thread nD τ) (mem0_6 t) fullShare ((biasDat V c).before 6 t d)) ∗ (∃ d, owns (c : Thread nD τ) (mem0_7 t) fullShare ((biasDat V c).before 7 t d)))

/-- and what it returns. -/
def biasPost (c : Dev nD) (t : Fin cfg0.N) : sProp 𝕄 :=
  iprop((biasDat V c).Φ t.succ ∗ (biasDat V c).owesAt () t.succ ∗ owns (c : Thread nD τ) (mem0_0 t) fullShare ((biasDat V c).after 0 t) ∗ owns (c : Thread nD τ) (mem0_1 t) fullShare ((biasDat V c).after 1 t) ∗ owns (c : Thread nD τ) (mem0_2 t) fullShare ((biasDat V c).after 2 t) ∗ owns (c : Thread nD τ) (mem0_3 t) fullShare ((biasDat V c).after 3 t) ∗ owns (c : Thread nD τ) (mem0_4 t) fullShare ((biasDat V c).after 4 t) ∗ owns (c : Thread nD τ) (mem0_5 t) fullShare ((biasDat V c).after 5 t) ∗ owns (c : Thread nD τ) (mem0_6 t) fullShare ((biasDat V c).after 6 t) ∗ owns (c : Thread nD τ) (mem0_7 t) fullShare ((biasDat V c).after 7 t))

set_option maxHeartbeats 6400000 in
/-- The body at any point, by the run of the case the point is in. -/
theorem biasBody (c : Dev nD) (t : Fin cfg0.N) :
    biasPre V c t ⊢ wp frame (wpE (defs₀ (F := F)) Variants.none c none) Set.univ (bodyAt0 t) (fun _ => biasPost V c t) := by
  unfold biasPre biasPost bodyAt0
  simp only [biasBefore_0, biasBefore_1, biasBefore_2, biasBefore_3, biasBefore_4, biasBefore_5]
  rw [show (biasDat V c).owesAt () t.succ = (biasDat V c).owesAt () t.castSucc from rfl,
    biasAfter_0, biasAfter_1, biasAfter_2, biasAfter_3, biasAfter_4, biasAfter_5, biasAfter_6, biasAfter_7]
  rw [show (biasDat V c).Φ t.succ = inv0 V c (t.val + 1) t.isLt from rfl, inv0_succ]
  have hN : t.val < 32 := lt_of_lt_of_eq t.isLt (show cfg0.N = 32 from N_0)
  rw [sums_eq V c t, biasDat_inv V c t]
  by_cases h0 : t.val % 8 = 0
  · rw [sumsIn_first V c t h0]
    by_cases hz : t.val = 0
    · rw [inv0_zero V c _ _ hz, rest0]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((biasRun_A c (grid0.coords t) _ _ _ _ _ _ _ _ _ _ _ _ _ _ _ _ _ _ ((biasFirst_iff t).mpr h0) (blk0 V c 0 t) (blk0 V c 1 t) (blk0 V c 2 t) (blk0 V c 3 t) (blk0 V c 4 t) (blk0 V c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es, HS0⟩⟩
      isplitl [HS0 Hr Hg]
      · isplitl [HS0 Hr]
        · isplitl [HS0]
          · unfold owns; iexists _; isplitr
            swap; · iexact HS0
            ipureintro; exact biasA_S _ _ _ _ _ _ _ _ _ _ _ _ _ _ _ _ _ _ _ _ ((biasFirst_iff t).mpr h0) _ _ _ _ _ _ _
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact biasA_6 _ _ _ _ _ _ _ _ _ _ _ _ _ _ _ _ _ _ _ _ ((biasFirst_iff t).mpr h0) _ _ _ _ _ _ _
      unfold owns; iexists _; isplitr
      swap; · iexact H7
      ipureintro; exact biasA_7 _ _ _ _ _ _ _ _ _ _ _ _ _ _ _ _ _ _ _ _ ((biasFirst_iff t).mpr h0) _ _ _ _ _ _ _
    · rw [inv0_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((biasRun_A c (grid0.coords t) _ _ _ _ _ _ _ _ _ _ _ _ _ _ _ _ _ _ ((biasFirst_iff t).mpr h0) (blk0 V c 0 t) (blk0 V c 1 t) (blk0 V c 2 t) (blk0 V c 3 t) (blk0 V c 4 t) (blk0 V c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexists _; iexact HS0
      iintro ⟨H0, H1, H2, H3, H4, H5, ⟨%e6, H6⟩, ⟨%e7, H7⟩, ⟨%es, HS0⟩⟩
      isplitl [HS0 Hr Hg]
      · isplitl [HS0 Hr]
        · isplitl [HS0]
          · unfold owns; iexists _; isplitr
            swap; · iexact HS0
            ipureintro; exact biasA_S _ _ _ _ _ _ _ _ _ _ _ _ _ _ _ _ _ _ _ _ ((biasFirst_iff t).mpr h0) _ _ _ _ _ _ _
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact biasA_6 _ _ _ _ _ _ _ _ _ _ _ _ _ _ _ _ _ _ _ _ ((biasFirst_iff t).mpr h0) _ _ _ _ _ _ _
      unfold owns; iexists _; isplitr
      swap; · iexact H7
      ipureintro; exact biasA_7 _ _ _ _ _ _ _ _ _ _ _ _ _ _ _ _ _ _ _ _ ((biasFirst_iff t).mpr h0) _ _ _ _ _ _ _
  · rw [sumsIn_later V c t h0, inv0_pos V c _ _ (fun hz => h0 (by rw [hz]))]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((biasRun_B c (grid0.coords t) _ _ _ _ _ _ _ _ _ _ _ _ _ _ _ _ _ _ (fun h => h0 ((biasFirst_iff t).mp h)) (blk0 V c 0 t) (blk0 V c 1 t) (blk0 V c 2 t) (blk0 V c 3 t) (blk0 V c 4 t) (blk0 V c 5 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, ⟨%es, HS0⟩⟩
    isplitl [HS0 Hr Hg]
    · isplitl [HS0 Hr]
      · isplitl [HS0]
        · unfold owns; iexists _; isplitr
          swap; · iexact HS0
          ipureintro; exact biasB_S _ _ _ _ _ _ _ _ _ _ _ _ _ _ _ _ _ _ _ _ (fun h => h0 ((biasFirst_iff t).mp h)) _ _ _ _ _ _ _ _
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact biasB_6 _ _ _ _ _ _ _ _ _ _ _ _ _ _ _ _ _ _ _ _ (fun h => h0 ((biasFirst_iff t).mp h)) _ _ _ _ _ _ _ _
    unfold owns; iexists _; isplitr
    swap; · iexact H7
    ipureintro; exact biasB_7 _ _ _ _ _ _ _ _ _ _ _ _ _ _ _ _ _ _ _ _ (fun h => h0 ((biasFirst_iff t).mp h)) _ _ _ _ _ _ _ _

theorem row0 (t : Fin cfg0.N) :
    defs₀ (F := F) .tc cfg0.body (cfg0.bodyArgs t (cfg0.slots t)) = bodyAt0 t := by
  unfold defs₀; rw [Defs.onTc_tc]

/-- The pipeline's obligation on the bias body. -/
theorem biasObligation (c : Dev nD) : BodyObligation (biasDat (F := F) V c) (defs₀ (F := F)) Variants.none () Set.univ := fun t => by
  rw [bigSep_W0, bigSep_W0, row0]
  exact triple_restated (biasBody V c t) rfl .rfl fun _ => .rfl

theorem biasIn (c : Dev nD) : Pipeline.ΦA spec0 c ⊢ (biasDat V c).Φ 0 := by
  rw [show (biasDat V c).Φ 0 = inv0 V c 0 (Nat.zero_le _) from rfl, inv0_zero V c 0 _ rfl]
  try exact Idealize.SL.BI.Entails.refl _

theorem biasLast (c : Dev nD) : (biasDat V c).Φ (Fin.last cfg0.N) ⊢ Pipeline.ΦA spec0 c := by
  have ht : (Fin.last cfg0.N).val ≠ 0 := by rw [Fin.val_last]; have : cfg0.N = 32 := N_0; omega
  rw [show (biasDat V c).Φ (Fin.last cfg0.N) = inv0 V c (Fin.last cfg0.N).val (Nat.le_of_lt_succ (Fin.last cfg0.N).isLt) from rfl, inv0_pos V c _ _ ht, rest0]
  iintro ⟨⟨HS0, Hr⟩, Hg⟩
  isplitl [HS0 Hr]
  · isplitl [HS0]
    · iexists _; iexact HS0
    iexact Hr
  iexact Hg

end Cert.KernelIdeal.Gen
-- ==== Proof.Run.lean ====
module

public import proofs.«01_k».proof.Proof.AttnData
public import proofs.«01_k».proof.Proof.BiasData
public import proofs.«01_k».proof.Proof.Gen.KernelIdeal.Regions
public import Idealize.ShloMosaic.Lib.Pipeline.RegionsLoop
public import Idealize.ShloMosaic.Lib.Pipeline.RegionArrays
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers the bias region finds. -/
abbrev found0 (c : Dev nD) (b : Ref sig .tc) : Buf (Elt F) ((c : Thread nD τ).loc b) := V9 m c b

/-- The query and the key lanes the bias region leaves. -/
def lanesQ (c : Dev nD) : Buf (Elt F) ((c : Thread nD τ).loc main_v65_0) := (biasDat (found0 m) c).arrAt 6 cfg0.N
def lanesK (c : Dev nD) : Buf (Elt F) ((c : Thread nD τ).loc main_v65_1) := (biasDat (found0 m) c).arrAt 7 cfg0.N

/-- The buffers the attention region finds: the bias region's two outputs written. -/
def between (c : Dev nD) : Valuation τ sig (Elt F) :=
  Function.update (Function.update (V9 m c) main_v65_0 (lanesQ m c)) main_v65_1 (lanesK m c)
abbrev found1 (c : Dev nD) (b : Ref sig .tc) : Buf (Elt F) ((c : Thread nD τ).loc b) := between m c b

/-- The result the attention region leaves. -/
def result (c : Dev nD) : Buf (Elt F) ((c : Thread nD τ).loc main_v66) := (attnDat (found1 m) c).arrAt 6 cfg1.N

/-- What the two regions leave, by reference. -/
def left : Outs (F := F) := fun _ r c =>
  Function.update (Function.update (Function.update (fun b : Ref sig .tc => (V9 m c b : Buf (Elt F) ((c : Thread nD τ).loc b))) main_v65_0 (lanesQ m c)) main_v65_1 (lanesK m c)) main_v66 (result m c) r

theorem left_result (n : ℕ) (c : Dev nD) : left m n main_v66 c = result m c := Function.update_self ..
theorem left_lanesK (n : ℕ) (c : Dev nD) : left m n main_v65_1 c = lanesK m c :=
  (Function.update_of_ne (by decide) ..).trans (Function.update_self ..)
theorem left_lanesQ (n : ℕ) (c : Dev nD) : left m n main_v65_0 c = lanesQ m c :=
  (Function.update_of_ne (by decide) ..).trans ((Function.update_of_ne (by decide) ..).trans (Function.update_self ..))

theorem V10_left (c : Dev nD) : V10 m (left m) c = between m c := by
  unfold between V10; rw [left_lanesQ, left_lanesK]

theorem V11_left (c : Dev nD) : V11 m (left m) c = Function.update (between m c) main_v66 (result m c) := by
  unfold V11; rw [V10_left, left_result]

theorem between_lanesQ (c : Dev nD) : between m c main_v65_0 = lanesQ m c :=
  (Function.update_of_ne (StableHlo.devRef_ne_of_ne (by decide)) ..).trans (Function.update_self ..)
theorem between_lanesK (c : Dev nD) : between m c main_v65_1 = lanesK m c := Function.update_self ..
theorem between_of (c : Dev nD) (r : Ref sig .tc) (h0 : r ≠ main_v65_0) (h1 : r ≠ main_v65_1) : between m c r = V9 m c r :=
  (Function.update_of_ne (StableHlo.devRef_ne_of_ne h1) ..).trans (Function.update_of_ne (StableHlo.devRef_ne_of_ne h0) ..)

/-- The proof data of the two pipelines. -/
def dats : (p : Fin 2) → (c : Dev nD) → Dat τ (Elt F) Unit ℕ (UR sig nD τ) ℕ (cfgs p) c
  | ⟨0, _⟩ => fun c => biasDat (found0 m) c
  | ⟨1, _⟩ => fun c => attnDat (found1 m) c

/-- No core owes another anything: no level is assigned. -/
abbrev lvls : GSem nD τ sig → Finset Unit := fun _ => ∅
abbrev lvlOf : GSem nD τ sig → Unit → ℕ := fun _ _ => 0

/-- What rides beside the buffers: the core owes nothing, the generator register is at something. -/
abbrev ride (c : Dev nD) : sProp 𝕄 := iprop((∃ W, owes (c : Thread nD τ) (0 : CellTallies nD τ sig Unit) W) ∗ ∃ r, prngReg c r)

/-- The arrays of region 0 at the end are the buffers after it. -/
theorem arrays_end0 (c : Dev nD) (w : Fin cfg0.W) : (biasDat (found0 m) c).arrAt w cfg0.N = (between m c : Valuation τ sig (Elt F)) (Pipeline.arrRef spec0 w) := by
  have hin : (cfg0.win w).isOut = false → (between m c : Valuation τ sig (Elt F)) (Pipeline.arrRef spec0 w) = found0 m c (Pipeline.arrRef spec0 w) →
      (biasDat (found0 m) c).arrAt w cfg0.N = (between m c : Valuation τ sig (Elt F)) (Pipeline.arrRef spec0 w) := fun h e =>
    ((biasDat (found0 m) c).arrAt_in w h cfg0.N).trans ((biasDat_A (found0 m) c w).trans e.symm)
  fin_cases w
  · exact hin rfl (between_of m c main_v9 (by decide) (by decide))
  · exact hin rfl (between_of m c main_v14 (by decide) (by decide))
  · exact hin rfl (between_of m c main_v63 (by decide) (by decide))
  · exact hin rfl (between_of m c main_v64 (by decide) (by decide))
  · exact hin rfl (between_of m c main_v60 (by decide) (by decide))
  · exact hin rfl (between_of m c main_v62 (by decide) (by decide))
  · exact (between_lanesQ m c).symm
  · exact (between_lanesK m c).symm

theorem others_end0 (c : Dev nD) (b : Ref sig .tc) (hb : b ∉ Finset.univ.image (Pipeline.arrRef spec0)) :
    (between m c : Valuation τ sig (Elt F)) b = found0 m c b := by
  have h6 : b ≠ main_v65_0 := fun e => hb (e ▸ Finset.mem_image.mpr ⟨6, Finset.mem_univ _, rfl⟩)
  have h7 : b ≠ main_v65_1 := fun e => hb (e ▸ Finset.mem_image.mpr ⟨7, Finset.mem_univ _, rfl⟩)
  exact between_of m c b h6 h7

set_option backward.isDefEq.respectTransparency.types false in
/-- Region 0: entered from the buffers it finds, left with its outputs written. -/
def region0 : Pipeline.RegionSeg (pcfgs (F := F)) adm (dats m) () defs₀ Variants.none lvls lvlOf 0 where
  win := launch0.win.to₀
  block_pos := launch0.block_pos
  stage_whole := launch0.stage_whole
  K := PEmpty
  osem k := k.elim
  ho := Pipeline.OwnSemFacts.none _
  hbody c := (biasObligation (found0 m) c).loose
  hwaits := Pipeline.hwaits_of_owed_zero _ _ _ _ lvls lvlOf 0 fun _ _ => rfl
  pre c := iprop(StableHlo.held (c : Thread nD τ) (Pipeline.ucRefs τ sig) (V9 m c) ∗ ride c)
  post c := iprop(StableHlo.held (c : Thread nD τ) (Pipeline.ucRefs τ sig) (between m c) ∗ ride c)
  X c := iprop(∃ r, prngReg c r)
  Y c := iprop(∃ r, prngReg c r)
  Z c := Pipeline.unscopedRest spec0 c (found0 m c)
  hentry c := by
    rw [show StableHlo.held (c : Thread nD τ) (Pipeline.ucRefs τ sig) (V9 m c) = unscopedBufs c (found0 m c) from (Pipeline.unscopedBufs_held c _).symm,
      Pipeline.ownSems0_none]
    have hsplit := Pipeline.arrays_of_unscopedBufs_shared (pcfgs (F := F)) adm (dats m) (p := 0) launch0.win.to₀ (by decide : Pipeline.SharedIn spec0) launch0.arr_whole c
      (fun w _ => (Pipeline.shareOf_eq_fullShare_of_injective spec0 launch0.win.arr_inj w).symm) (found0 m c) (biasDat_A (found0 m) c)
    iintro ⟨⟨Hub, HO, Hg⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hr
  hin c := by
    refine BIBase.Entails.trans ?_ (biasIn (found0 m) c : (Pipeline.ΦA spec0 c : sProp 𝕄) ⊢ (dats m 0 c).Φ 0)
    unfold Pipeline.ΦA
    iintro ⟨Hg, -, Hr⟩
    isplitl [Hr]; · iexact Hr
    iexact Hg
  hout c := by
    rw [Pipeline.ownSems0_none]
    have hl : (dats m 0 c).Φ (Fin.last cfg0.N) ⊢ (Pipeline.ΦA spec0 c : sProp 𝕄) := biasLast (found0 m) c
    refine hl.trans ?_
    unfold Pipeline.ΦA
    iintro ⟨Hr, Hg⟩
    isplitl [Hg]; · iexact Hg
    isplitr; · iempintro
    iexact Hr
  hexit c := by
    rw [show StableHlo.held (c : Thread nD τ) (Pipeline.ucRefs τ sig) (between m c) = unscopedBufs c (fun b => (between m c : Valuation τ sig (Elt F)) b) from (Pipeline.unscopedBufs_held c _).symm]
    have hjoin := Pipeline.unscopedBufs_of_arrays_shared (pcfgs (F := F)) adm (p := 0) launch0.win.to₀ (by decide : Pipeline.SharedIn spec0) launch0.arr_whole c (dats m)
      (fun w _ => (Pipeline.shareOf_eq_fullShare_of_injective spec0 launch0.win.arr_inj w).symm) (found0 m c) (fun b => (between m c : Valuation τ sig (Elt F)) b) _ (arrays_end0 m c) (others_end0 m c)
    iintro ⟨Ha, HO, HY, HZ⟩
    imodintro
    isplitl [Ha HZ]
    · iapply hjoin
      isplitl [Ha]; · iexact Ha
      iexact HZ
    isplitl [HO]
    · unfold Pipeline.Dat.owesAt Pipeline.owesWithin
      icases HO with ⟨%W, -, HO⟩; iexists W; iexact HO
    iexact HY

/-- The arrays of region 1 at the end are the buffers after it. -/
theorem arrays_end1 (c : Dev nD) (w : Fin cfg1.W) : (attnDat (found1 m) c).arrAt w cfg1.N = (Function.update (between m c) main_v66 (result m c) : Valuation τ sig (Elt F)) (Pipeline.arrRef spec1 w) := by
  have hin : (cfg1.win w).isOut = false → (Function.update (between m c) main_v66 (result m c) : Valuation τ sig (Elt F)) (Pipeline.arrRef spec1 w) = found1 m c (Pipeline.arrRef spec1 w) →
      (attnDat (found1 m) c).arrAt w cfg1.N = (Function.update (between m c) main_v66 (result m c) : Valuation τ sig (Elt F)) (Pipeline.arrRef spec1 w) := fun h e =>
    ((attnDat (found1 m) c).arrAt_in w h cfg1.N).trans ((attnDat_A (found1 m) c w).trans e.symm)
  fin_cases w
  · exact hin rfl (Function.update_of_ne (StableHlo.devRef_ne_of_ne (by decide : main_v2 ≠ main_v66)) ..)
  · exact hin rfl (Function.update_of_ne (StableHlo.devRef_ne_of_ne (by decide : main_v65_0 ≠ main_v66)) ..)
  · exact hin rfl (Function.update_of_ne (StableHlo.devRef_ne_of_ne (by decide : main_v2 ≠ main_v66)) ..)
  · exact hin rfl (Function.update_of_ne (StableHlo.devRef_ne_of_ne (by decide : main_v65_1 ≠ main_v66)) ..)
  · exact hin rfl (Function.update_of_ne (StableHlo.devRef_ne_of_ne (by decide : main_v5 ≠ main_v66)) ..)
  · exact hin rfl (Function.update_of_ne (StableHlo.devRef_ne_of_ne (by decide : main_v2 ≠ main_v66)) ..)
  · exact (Function.update_self (Proc.devRef .tc main_v66) (result m c) (between m c)).symm

theorem others_end1 (c : Dev nD) (b : Ref sig .tc) (hb : b ∉ Finset.univ.image (Pipeline.arrRef spec1)) :
    (Function.update (between m c) main_v66 (result m c) : Valuation τ sig (Elt F)) b = found1 m c b := by
  have h6 : b ≠ main_v66 := fun e => hb (e ▸ Finset.mem_image.mpr ⟨6, Finset.mem_univ _, rfl⟩)
  exact Function.update_of_ne (StableHlo.devRef_ne_of_ne h6) ..

set_option backward.isDefEq.respectTransparency.types false in
/-- Region 1: entered from the buffers it finds, left with its outputs written. -/
def region1 : Pipeline.RegionSeg (pcfgs (F := F)) adm (dats m) () defs₀ Variants.none lvls lvlOf 1 where
  win := winFacts₀1
  block_pos := block_pos1
  stage_whole := stage_whole1
  K := PEmpty
  osem k := k.elim
  ho := Pipeline.OwnSemFacts.none _
  hbody c := (attnObligation (found1 m) c).loose
  hwaits := Pipeline.hwaits_of_owed_zero _ _ _ _ lvls lvlOf 1 fun _ _ => rfl
  pre c := iprop(StableHlo.held (c : Thread nD τ) (Pipeline.ucRefs τ sig) (between m c) ∗ ride c)
  post c := iprop(StableHlo.held (c : Thread nD τ) (Pipeline.ucRefs τ sig) (Function.update (between m c) main_v66 (result m c)) ∗ ride c)
  X c := iprop(∃ r, prngReg c r)
  Y c := iprop(∃ r, prngReg c r)
  Z c := Pipeline.unscopedRest spec1 c (found1 m c)
  hentry c := by
    rw [show StableHlo.held (c : Thread nD τ) (Pipeline.ucRefs τ sig) (between m c) = unscopedBufs c (found1 m c) from (Pipeline.unscopedBufs_held c _).symm,
      Pipeline.ownSems0_none]
    have hsplit := Pipeline.arrays_of_unscopedBufs_shared (pcfgs (F := F)) adm (dats m) (p := 1) winFacts₀1 sharedIn1 arr_whole1 c
      (fun w _ => rfl) (found1 m c) (attnDat_A (found1 m) c)
    iintro ⟨⟨Hub, HO, Hg⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hr
  hin c := by
    refine BIBase.Entails.trans ?_ (BIBase.Entails.rfl : (Pipeline.ΦA spec1 c : sProp 𝕄) ⊢ (dats m 1 c).Φ 0)
    unfold Pipeline.ΦA
    iintro ⟨Hg, -, Hr⟩
    isplitl [Hr]; · iexact Hr
    iexact Hg
  hout c := by
    rw [Pipeline.ownSems0_none]
    have hl : (dats m 1 c).Φ (Fin.last cfg1.N) ⊢ (Pipeline.ΦA spec1 c : sProp 𝕄) := BIBase.Entails.rfl
    refine hl.trans ?_
    unfold Pipeline.ΦA
    iintro ⟨Hr, Hg⟩
    isplitl [Hg]; · iexact Hg
    isplitr; · iempintro
    iexact Hr
  hexit c := by
    rw [show StableHlo.held (c : Thread nD τ) (Pipeline.ucRefs τ sig) (Function.update (between m c) main_v66 (result m c)) = unscopedBufs c (fun b => (Function.update (between m c) main_v66 (result m c) : Valuation τ sig (Elt F)) b) from (Pipeline.unscopedBufs_held c _).symm]
    have hjoin := Pipeline.unscopedBufs_of_arrays_shared (pcfgs (F := F)) adm (p := 1) winFacts₀1 sharedIn1 arr_whole1 c (dats m)
      (fun w _ => rfl) (found1 m c) (fun b => (Function.update (between m c) main_v66 (result m c) : Valuation τ sig (Elt F)) b) _ (arrays_end1 m c) (others_end1 m c)
    iintro ⟨Ha, HO, HY, HZ⟩
    imodintro
    isplitl [Ha HZ]
    · iapply hjoin
      isplitl [Ha]; · iexact Ha
      iexact HZ
    isplitl [HO]
    · unfold Pipeline.Dat.owesAt Pipeline.owesWithin
      icases HO with ⟨%W, -, HO⟩; iexists W; iexact HO
    iexact HY

theorem ends (c : Dev nD) : (region1 m).post c ⊢ (iprop(StableHlo.held (c : Thread nD τ) (Pipeline.ucRefs τ sig) (V11 m (left m) c) ∗ ∃ W, owes (c : Thread nD τ) (0 : CellTallies nD τ sig Unit) W) : sProp 𝕄) := by
  rw [V11_left]
  exact sep_mono .rfl (by iintro ⟨HO, -⟩; iexact HO)

theorem meets (c : Dev nD) : (region0 m).post c ⊢ (region1 m).pre c := .rfl

set_option backward.isDefEq.respectTransparency.types false in
/-- THE RUN: every execution of the program ends, with every counter at zero, the result at what the attention region
    leaves and every argument as launched. -/
theorem run_main : θ_run defs (onTc (τ := τ) (main (F := F))) ⟨m, fun _ => 0, ρ⟩ (fun r => (∀ c : Dev nD,
      r.2.mem ((c.tc : Thread nD τ).loc main_v66) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine Pipeline.θ_run_regions_kit_dev_sems (pcfgs (F := F)) adm (dats m) () cellOf_inj emb₁ defs₀ Variants.none lvls lvlOf m ρ main
    (segs m Variants.none lvls lvlOf (fun _ => ride) () (dats m) (region0 m) (region1 m))
    (fun c Q => by
      rewrite [main_chain c, Pipeline.Seg.run_eq_chain,
        show (segs m Variants.none lvls lvlOf (fun _ => ride) () (dats m) (region0 m) (region1 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide) (O₀ := fun _ => 0) (fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ ride c))
    (Tₙ := fun c => StableHlo.held (c : Thread nD τ) (Pipeline.ucRefs τ sig) (V11 m (left m) c))
    (hch := fun c => ⟨.rfl, .rfl, .rfl, .rfl, .rfl, .rfl, .rfl, .rfl, .rfl, .rfl, meets m c, ends m c⟩)
    (hinit := by
      refine Pipeline.initEach lvls lvlOf fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, Hg, -⟩, -⟩
      imodintro
      isplitl [Hh]; · iexact Hh
      isplitl [HO]; · iexists ∅; iexact HO
      iexists _; iexact Hg)
    (QY := fun c s => s.mem ((c.tc : Thread nD τ).loc main_v66) = result m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => by
      unfold StableHlo.held
      iintro ⟨Hh, HSI⟩
      ihave Hr := (pointsTo_read_all (Pipeline.ucRefs τ sig) (fun b => ((c : Thread nD τ).1, b)) (V11 m (left m) c) s') $$ [Hh HSI]
      · isplitl [Hh] <;> iassumption
      icases Hr with ⟨%h, HSI⟩
      imodintro
      isplitr
      · ipureintro
        exact ⟨(h (Proc.devRef .tc main_v66) (Finset.mem_filter.mpr ⟨StableHlo.devRef_mem_tcRefs main_v66, by decide⟩)).trans (by rw [V11_left]; exact Function.update_self ..),
          (h (Proc.devRef .tc main_arg0) (Finset.mem_filter.mpr ⟨StableHlo.devRef_mem_tcRefs main_arg0, by decide⟩)).trans (V11_main_arg0 m (left m) c),
          (h (Proc.devRef .tc main_arg1) (Finset.mem_filter.mpr ⟨StableHlo.devRef_mem_tcRefs main_arg1, by decide⟩)).trans (V11_main_arg1 m (left m) c),
          (h (Proc.devRef .tc main_arg2) (Finset.mem_filter.mpr ⟨StableHlo.devRef_mem_tcRefs main_arg2, by decide⟩)).trans (V11_main_arg2 m (left m) c),
          (h (Proc.devRef .tc main_arg3) (Finset.mem_filter.mpr ⟨StableHlo.devRef_mem_tcRefs main_arg3, by decide⟩)).trans (V11_main_arg3 m (left m) c),
          (h (Proc.devRef .tc main_arg4) (Finset.mem_filter.mpr ⟨StableHlo.devRef_mem_tcRefs main_arg4, by decide⟩)).trans (V11_main_arg4 m (left m) c),
          (h (Proc.devRef .tc main_arg5) (Finset.mem_filter.mpr ⟨StableHlo.devRef_mem_tcRefs main_arg5, by decide⟩)).trans (V11_main_arg5 m (left m) c)⟩
      · iexact HSI)
    (hQ := fun _ h hz => ⟨h, funext fun g => hz g (.inr (regions_no_unscoped g.2))⟩)

/-- THE FRAME: every execution ends, with every counter at zero and every argument as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
 ∧       r.2.mem ((c.tc : Thread nD τ).loc main_arg1) = m ((c.tc : Thread nD τ).loc main_arg1)
 ∧       r.2.mem ((c.tc : Thread nD τ).loc main_arg2) = m ((c.tc : Thread nD τ).loc main_arg2)
 ∧       r.2.mem ((c.tc : Thread nD τ).loc main_arg3) = m ((c.tc : Thread nD τ).loc main_arg3)
 ∧       r.2.mem ((c.tc : Thread nD τ).loc main_arg4) = m ((c.tc : Thread nD τ).loc main_arg4)
 ∧       r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run_main m ρ)

end Cert.KernelIdeal.Gen
-- ==== Proof.ReferenceRun.lean ====
module

public import Idealize.ShloMosaic.Lib.StableHlo.Run
public import proofs.«01_k».proof.Proof.Gen.ReferenceIdeal

/-! The run of the reference: a straight line of host operations, so every buffer ends at the operations' results
    folded over the launch contents. -/

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The reference's operations in order, its calls opened. -/
abbrev ops : List (HloOp τ sig (Elt F)) :=
  [ reshape main_arg0 main_v0 (rfl : (.f32 : EltTy) = .f32) shapeCasts_S4x4096x1024_S4x4096x16x64,
    reshape main_arg1 main_v1 (rfl : (.f32 : EltTy) = .f32) shapeCasts_S4x4096x1024_S4x4096x16x64,
    reshape main_arg2 main_v2 (rfl : (.f32 : EltTy) = .f32) shapeCasts_S4x4096x1024_S4x4096x16x64,
    unary main_arg5 main_v3 (broadcastInDim S1x1x16 ![2] bcast_S16_S1x1x16_2),
    unary main_v3 main_v4 (broadcastInDim S4x4096x16 ![0, 1, 2] bcast_S1x1x16_S4x4096x16_0_1_2),
    binary main_arg3 main_v4 main_v5 (addf),
    unary main_v5 main_call0_v0 Host.negf,
    nullary main_call0_call0_cst (constant S_ .f32 0x00000000#32),
    unary main_call0_call0_cst main_call0_call0_v0 (broadcastInDim S4x4096x16 ![] bcast_S_S4x4096x16),
    binary main_call0_v0 main_call0_call0_v0 main_call0_call0_v1 maximumf,
    unary main_call0_call0_cst main_call0_call0_v2 (broadcastInDim S4x4096x16 ![] bcast_S_S4x4096x16),
    binary main_call0_v0 main_call0_call0_v2 main_call0_call0_v3 subf,
    binary main_call0_call0_v3 main_call0_call0_v3 main_call0_call0_v4 (cmpf .une),
    unary main_call0_call0_cst main_call0_call0_v5 (broadcastInDim S4x4096x16 ![] bcast_S_S4x4096x16),
    binary main_call0_v0 main_call0_call0_v5 main_call0_call0_v6 addf,
    unary main_call0_call0_v3 main_call0_call0_v7 Host.absf,
    unary main_call0_call0_v7 main_call0_call0_v8 Host.negf,
    unary main_call0_call0_v8 main_call0_call0_v9 Host.exp,
    unary main_call0_call0_v9 main_call0_call0_v10 Host.log1p,
    binary main_call0_call0_v1 main_call0_call0_v10 main_call0_call0_v11 addf,
    ternary main_call0_call0_v4 main_call0_call0_v6 main_call0_call0_v11 main_call0_v1 select,
    unary main_call0_v1 main_v6 Host.negf,
    nullary main_call1_call0_cst (constant S_ .f32 0x00000000#32),
    unary main_call1_call0_cst main_call1_call0_v0 (broadcastInDim S_ ![] bcast_S_S_),
    binary main_v6 main_call1_call0_v0 main_v7 (fun x v => Host.reduceWindowAdd ![1, 4096, 1] ![1, 1, 1] ![0, 4095, 0] ![0, 0, 0] x v reduceWindows_S4x4096x16_S4x4096x16_w1s1p0_0_w4096s1p4095_0_w1s1p0_0 h_S_),
    unary main_v7 main_v8 ((transpose S4x16x4096 [0, 2, 1] · transposes_S4x4096x16_S4x16x4096_0_2_1)),
    binary main_v0 main_v1 main_v9 ((fun l r => Host.dotGeneral dot_S4x4096x16x64_S4x4096x16x64_S4x16x4096x4096_3_3_1_1_02_02 none l r)),
    nullary main_cst (constant S_ .f32 0x3E000000#32),
    unary main_cst main_v10 (broadcastInDim S4x16x4096x4096 ![] bcast_S_S4x16x4096x4096),
    binary main_v9 main_v10 main_v11 (mulf),
    unary main_v8 main_v12 (broadcastInDim S4x16x4096x1 ![0, 1, 2] bcast_S4x16x4096_S4x16x4096x1_0_1_2),
    unary main_v12 main_v13 (broadcastInDim S4x16x4096x4096 ![0, 1, 2, 3] bcast_S4x16x4096x1_S4x16x4096x4096_0_1_2_3),
    binary main_v11 main_v13 main_v14 (addf),
    unary main_v8 main_v15 (broadcastInDim S4x16x1x4096 ![0, 1, 3] bcast_S4x16x4096_S4x16x1x4096_0_1_3),
    unary main_v15 main_v16 (broadcastInDim S4x16x4096x4096 ![0, 1, 2, 3] bcast_S4x16x1x4096_S4x16x4096x4096_0_1_2_3),
    binary main_v14 main_v16 main_v17 (subf),
    nullary main_v18 (iotaInDim S4096 32 0),
    unary main_v18 main_v19 (broadcastInDim S1x4096 ![1] bcast_S4096_S1x4096_1),
    unary main_v18 main_v20 (broadcastInDim S4096x1 ![0] bcast_S4096_S4096x1_0),
    unary main_v19 main_v21 (broadcastInDim S4096x4096 ![0, 1] bcast_S1x4096_S4096x4096_0_1),
    unary main_v20 main_v22 (broadcastInDim S4096x4096 ![0, 1] bcast_S4096x1_S4096x4096_0_1),
    binary main_v21 main_v22 main_v23 (cmpi .sle),
    nullary main_cst_0 (constant S_ .f32 0xFF800000#32),
    unary main_cst_0 main_call2_v0 id,
    unary main_v23 main_call2_v1 (broadcastInDim S4x16x4096x4096 ![2, 3] bcast_S4096x4096_S4x16x4096x4096_2_3),
    unary main_call2_v0 main_call2_v2 (broadcastInDim S4x16x4096x4096 ![] bcast_S_S4x16x4096x4096),
    ternary main_call2_v1 main_v17 main_call2_v2 main_v24 select,
    nullary main_cst_1 (constant S_ .f32 0xFF800000#32),
    binary main_v24 main_cst_1 main_v25 ((fun x v => Host.reduce FloatOps.maximumf x v reducesTo_S4x16x4096x4096_S4x16x4096_d3 h_S_)),
    nullary main_cst_2 (constant S_ .f32 0xFF800000#32),
    unary main_cst_2 main_v26 (broadcastInDim S4x16x4096 ![] bcast_S_S4x16x4096),
    binary main_v26 main_v25 main_v27 (maximumf),
    unary main_v27 main_v28 (broadcastInDim S4x16x4096x1 ![0, 1, 2] bcast_S4x16x4096_S4x16x4096x1_0_1_2),
    unary main_v28 main_v29 (broadcastInDim S4x16x4096x4096 ![0, 1, 2, 3] bcast_S4x16x4096x1_S4x16x4096x4096_0_1_2_3),
    binary main_v24 main_v29 main_v30 (subf),
    unary main_v30 main_v31 (Host.exp),
    nullary main_cst_3 (constant S_ .f32 0x00000000#32),
    binary main_v31 main_cst_3 main_v32 ((fun x v => Host.reduceAdd x v reducesTo_S4x16x4096x4096_S4x16x4096_d3 h_S_)),
    unary main_v32 main_v33 (broadcastInDim S4x16x4096x1 ![0, 1, 2] bcast_S4x16x4096_S4x16x4096x1_0_1_2),
    unary main_v33 main_v34 (broadcastInDim S4x16x4096x4096 ![0, 1, 2, 3] bcast_S4x16x4096x1_S4x16x4096x4096_0_1_2_3),
    binary main_v31 main_v34 main_v35 (Host.divf),
    binary main_v2 main_v35 main_v36 ((fun l r => Host.dotGeneral dot_S4x4096x16x64_S4x16x4096x4096_S4x16x64x4096_1_3_3_2_02_01 none l r)),
    unary main_v36 main_v37 ((transpose S4x4096x16x64 [0, 3, 1, 2] · transposes_S4x16x64x4096_S4x4096x16x64_0_3_1_2)),
    reshape main_v37 main_v38 (rfl : (.f32 : EltTy) = .f32) shapeCasts_S4x4096x16x64_S4x4096x1024,
    unary main_arg4 main_v39 (Host.negf),
    unary main_v39 main_v40 (Host.exp),
    nullary main_cst_4 (constant S_ .f32 0x3F800000#32),
    unary main_cst_4 main_v41 (broadcastInDim S4x4096x1024 ![] bcast_S_S4x4096x1024),
    binary main_v41 main_v40 main_v42 (addf),
    nullary main_cst_5 (constant S_ .f32 0x3F800000#32),
    unary main_cst_5 main_v43 (broadcastInDim S4x4096x1024 ![] bcast_S_S4x4096x1024),
    binary main_v43 main_v42 main_v44 (Host.divf),
    binary main_v38 main_v44 main_v45 (mulf),
    reshape main_v45 main_v46 (rfl : (.f32 : EltTy) = .f32) shapeCasts_S4x4096x1024_S16384x1024,
    unary main_v46 main_v47 ((truncf .bf16 · bitsLt_bf16_f32)) ]

/-- The program is that straight line. -/
theorem main_eq (c : Dev nD) : main (F := F) c = seq ops := rfl

theorem scopedRefs_eq : (Finset.univ.filter fun b : Ref sig .tc => b.isScoped) = ∅ := by decide +kernel
theorem scopedSems_eq : (Finset.univ.filter fun sm : SemLoc sig => sm.isScoped .tc) = ∅ := by decide +kernel

/-- Every operation touches buffers of the one thread only. -/
theorem ops_sub : (ops : List (HloOp τ sig (Elt F))).Forall fun op => op.bufs ⊆ tcRefs τ sig :=
  ⟨reshape_bufs_sub .., reshape_bufs_sub .., reshape_bufs_sub .., unary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., unary_bufs_sub .., unary_bufs_sub .., unary_bufs_sub .., binary_bufs_sub .., nullary_bufs_sub .., unary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub .., unary_bufs_sub .., unary_bufs_sub .., nullary_bufs_sub .., unary_bufs_sub .., binary_bufs_sub .., nullary_bufs_sub .., unary_bufs_sub .., binary_bufs_sub .., binary_bufs_sub .., reshape_bufs_sub .., unary_bufs_sub ..⟩

/-- From any memory every run ends, each buffer at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  (θ_run defs _ _).mono (fun _ h c b => h c b) (run_seq scopedRefs_eq scopedSems_eq defs main (fun _ => ops) main_eq (fun _ => ops_sub) m ρ)

end Cert.Proof.Ref

end
-- ==== Proof.Frames.lean ====
module

public import proofs.«01_k».proof.Defs
public import proofs.«01_k».proof.Proof.Run
public import proofs.«01_k».proof.Proof.RunWord
public import proofs.«01_k».proof.Proof.ReferenceRun

/-! The frames of the three programs, and the one rewrite of the idealized text. -/

@[expose] public section

set_option maxRecDepth 16384

noncomputable section

namespace Cert.Proof

open Idealize.ShloMosaic Idealize.ShloMosaic.StableHlo Idealize.SL.Sem

theorem kernel_frame : Cert.quiescent_Kernel (hKernel := Cert.Kernel.Gen.facts) :=
  fun m ρ _ => Cert.Kernel.Gen.frame m ρ

theorem ideal_frame : Cert.quiescent_KernelIdeal (hKernelIdeal := Cert.KernelIdeal.Gen.facts) :=
  fun m ρ _ => Cert.KernelIdeal.Gen.frame m ρ

theorem mask_preserved : Cert.preserves_Kernel_KernelIdeal := IdealRules.named_const.statement _ _ _ _ _ rfl

namespace Ref

open Cert.ReferenceIdeal Cert.ReferenceIdeal.Gen

/-- No operation of the reference writes an argument. -/
theorem args_eq {F : FTy → Type} [FloatOps F] (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5) := by
  refine ⟨?_, ?_, ?_, ?_, ?_, ?_⟩ <;> after_results

/-- The reference's result array: its last buffer after the operations. -/
def out (m : (ℓ : Loc nD τ sig) → Buf (Elt Ideal) ℓ) (c : Dev nD) :
    Buf (Elt Ideal) ((c.tc : Thread nD τ).loc main_v47) := after ops (launchContents m c) (Proc.devRef .tc main_v47)

/-- Every run of the reference ends with its result at `out` and its arguments unchanged. -/
theorem run_main (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v47) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => have e := args_eq (launchContents m c)
    ⟨h c main_v47, (h c main_arg0).trans e.1, (h c main_arg1).trans e.2.1, (h c main_arg2).trans e.2.2.1,
      (h c main_arg3).trans e.2.2.2.1, (h c main_arg4).trans e.2.2.2.2.1, (h c main_arg5).trans e.2.2.2.2.2⟩) (run_all m ρ)

end Ref

/-- The reference's frame; it names no semaphore at all. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Ref.run_main m ρ)

end Cert.Proof

end
-- ==== Proof.Online.lean ====
module

public import Idealize.ShloMosaic.PureOps.Ideal
public import Mathlib.Data.EReal.Operations
public import Mathlib.Data.EReal.Inv
public import Mathlib.Algebra.BigOperators.Intervals
public import Mathlib.Algebra.Order.BigOperators.Group.Finset

@[expose] public section

noncomputable section

namespace Cert.Online

open Idealize.ShloMosaic

/-- A real factor moves into a finite sum of extended reals. -/
theorem mul_sum {ι : Type} (S : Finset ι) (f : ι → EReal) {c : EReal} (h0 : 0 ≤ c) (h1 : c ≠ ⊤) : c * ∑ k ∈ S, f k = ∑ k ∈ S, c * f k := by
  classical
  induction S using Finset.induction_on with
  | empty => simp
  | insert a S ha ih => rw [Finset.sum_insert ha, Finset.sum_insert ha, EReal.left_distrib_of_nonneg_of_ne_top h0 h1, ih]

theorem sum_mul {ι : Type} (S : Finset ι) (f : ι → EReal) {c : EReal} (h0 : 0 ≤ c) (h1 : c ≠ ⊤) : (∑ k ∈ S, f k) * c = ∑ k ∈ S, f k * c := by
  rw [mul_comm, mul_sum S f h0 h1]
  exact Finset.sum_congr rfl fun k _ => mul_comm _ _

/-- A finite sum of reals, read among the extended reals. -/
theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

theorem exp_bot : Ideal.exp ⊥ = 0 := rfl
theorem exp_coe (r : ℝ) : Ideal.exp (r : EReal) = (Real.exp r : EReal) := rfl

theorem exp_nonneg (x : EReal) : 0 ≤ Ideal.exp x := by
  induction x with
  | bot => exact le_rfl
  | top => exact le_top
  | coe r => rw [exp_coe]; exact_mod_cast (Real.exp_pos r).le

theorem exp_ne_top {x : EReal} (h : x ≠ ⊤) : Ideal.exp x ≠ ⊤ := by
  induction x with
  | bot => rw [exp_bot]; exact EReal.zero_ne_top
  | top => exact absurd rfl h
  | coe r => rw [exp_coe]; exact EReal.coe_ne_top _

/-- A weight taken at an earlier maximum, rescaled to a later one. -/
theorem exp_rescale {s a b : EReal} (hsa : s ≤ a) (hab : a ≤ b) (hb : b ≠ ⊤) :
    Ideal.exp (a - b) * Ideal.exp (s - a) = Ideal.exp (s - b) := by
  have ha : a ≠ ⊤ := fun h => hb (top_le_iff.mp (h ▸ hab))
  have hs : s ≠ ⊤ := fun h => ha (top_le_iff.mp (h ▸ hsa))
  induction s with
  | top => exact absurd rfl hs
  | bot => rw [EReal.bot_sub, EReal.bot_sub, exp_bot, mul_zero]
  | coe s =>
    induction a with
    | top => exact absurd rfl ha
    | bot => exact absurd (le_bot_iff.mp hsa) (EReal.coe_ne_bot s)
    | coe a =>
      induction b with
      | top => exact absurd rfl hb
      | bot => exact absurd (le_bot_iff.mp hab) (EReal.coe_ne_bot a)
      | coe b =>
        rw [← EReal.coe_sub, ← EReal.coe_sub, ← EReal.coe_sub, exp_coe, exp_coe, exp_coe, ← EReal.coe_mul, ← Real.exp_add]
        congr 2
        ring

theorem sub_ne_top {a b : EReal} (hab : a ≤ b) (hb : b ≠ ⊤) : a - b ≠ ⊤ := by
  have ha : a ≠ ⊤ := fun h => hb (top_le_iff.mp (h ▸ hab))
  induction a with
  | top => exact absurd rfl ha
  | bot => rw [EReal.bot_sub]; exact bot_ne_top
  | coe a =>
    induction b with
    | top => exact absurd rfl hb
    | bot => exact absurd (le_bot_iff.mp hab) (EReal.coe_ne_bot a)
    | coe b => rw [← EReal.coe_sub]; exact EReal.coe_ne_top _

/-- The greatest of the first `n` scores. -/
def top (s : ℕ → EReal) (n : ℕ) : EReal := (Finset.range n).sup s

/-- The values of the first `n` keys, weighted by their scores. -/
def wsum (s v : ℕ → EReal) (n : ℕ) : EReal := ∑ k ∈ Finset.range n, Ideal.exp (s k - top s n) * v k

variable {s v : ℕ → EReal}

theorem top_zero : top s 0 = ⊥ := rfl
theorem wsum_zero : wsum s v 0 = 0 := rfl

theorem le_top' {n k : ℕ} (h : k < n) : s k ≤ top s n := Finset.le_sup (f := s) (Finset.mem_range.mpr h)

theorem top_ne_top (h : ∀ k, s k ≠ ⊤) (n : ℕ) : top s n ≠ ⊤ := by
  induction n with
  | zero => exact bot_ne_top
  | succ n ih =>
    unfold top at ih ⊢
    rw [Finset.range_add_one, Finset.sup_insert]
    rcases max_choice (s n) ((Finset.range n).sup s) with e | e
    · exact fun x => h n (e.symm.trans x)
    · exact fun x => ih (e.symm.trans x)

theorem top_add (n N : ℕ) : top s (n + N) = max (top s n) ((Finset.univ : Finset (Fin N)).sup fun r => s (n + r.val)) := by
  apply le_antisymm
  · refine Finset.sup_le fun k hk => ?_
    have hk := Finset.mem_range.mp hk
    by_cases h : k < n
    · exact le_max_of_le_left (le_top' h)
    · refine le_max_of_le_right ?_
      have e : n + (k - n) = k := by omega
      have := Finset.le_sup (f := fun r : Fin N => s (n + r.val)) (Finset.mem_univ ⟨k - n, by omega⟩)
      simpa only [e] using this
  · refine max_le (Finset.sup_mono fun k hk => ?_) (Finset.sup_le fun r _ => le_top' (by omega))
    rw [Finset.mem_range] at hk ⊢
    omega

/-- One tile of `N` keys taken into the running sum. -/
theorem wsum_add (h : ∀ k, s k ≠ ⊤) (n N : ℕ) :
    wsum s v (n + N) = Ideal.exp (top s n - top s (n + N)) * wsum s v n
      + ∑ r : Fin N, Ideal.exp (s (n + r.val) - top s (n + N)) * v (n + r.val) := by
  have hle : top s n ≤ top s (n + N) := by rw [top_add]; exact le_max_left _ _
  have hne := top_ne_top h (n + N)
  unfold wsum
  rw [Finset.sum_range_add, mul_sum _ _ (exp_nonneg _) (exp_ne_top (sub_ne_top hle hne))]
  congr 1
  · refine Finset.sum_congr rfl fun k hk => ?_
    rw [← mul_assoc, exp_rescale (le_top' (Finset.mem_range.mp hk)) hle hne]
  · exact Finset.sum_range fun r => Ideal.exp (s (n + r) - top s (n + N)) * v (n + r)

/-- Keys whose scores are all `⊥` weigh nothing. -/
theorem top_mono_bot {n N : ℕ} (hn : n ≤ N) (h : ∀ k, n ≤ k → s k = ⊥) : top s N = top s n := by
  apply le_antisymm
  · refine Finset.sup_le fun k hk => ?_
    by_cases hk' : k < n
    · exact le_top' hk'
    · rw [h k (by omega)]; exact bot_le
  · exact Finset.sup_mono fun k hk => Finset.mem_range.mpr (lt_of_lt_of_le (Finset.mem_range.mp hk) hn)

theorem wsum_mono_bot {n N : ℕ} (hn : n ≤ N) (h : ∀ k, n ≤ k → s k = ⊥) : wsum s v N = wsum s v n := by
  obtain ⟨d, rfl⟩ := Nat.exists_eq_add_of_le hn
  unfold wsum
  rw [top_mono_bot hn h, Finset.sum_range_add]
  have : ∑ k ∈ Finset.range d, Ideal.exp (s (n + k) - top s n) * v (n + k) = 0 :=
    Finset.sum_eq_zero fun k _ => by rw [h (n + k) (by omega), EReal.bot_sub, exp_bot, zero_mul]
  rw [this, add_zero]

/-- The total weight is real and positive when the first score is real. -/
theorem weight_pos (h : ∀ k, s k ≠ ⊤) {n : ℕ} (hn : 0 < n) (h0 : s 0 ≠ ⊥) :
    ∃ L : ℝ, 0 < L ∧ ∑ k ∈ Finset.range n, Ideal.exp (s k - top s n) = (L : EReal) := by
  have hne := top_ne_top h n
  have hr : ∀ k ∈ Finset.range n, ∃ e : ℝ, 0 ≤ e ∧ Ideal.exp (s k - top s n) = (e : EReal) := by
    intro k hk
    have h1 := sub_ne_top (le_top' (s := s) (Finset.mem_range.mp hk)) hne
    have h2 := exp_ne_top h1
    have h3 := exp_nonneg (s k - top s n)
    refine ⟨(Ideal.exp (s k - top s n)).toReal, EReal.toReal_nonneg h3, (EReal.coe_toReal h2 ?_).symm⟩
    intro e; rw [e] at h3; exact absurd h3 (by simp)
  choose! e he0 he using hr
  refine ⟨∑ k ∈ Finset.range n, e k, ?_, ?_⟩
  · refine Finset.sum_pos' (fun k hk => he0 k hk) ⟨0, Finset.mem_range.mpr hn, ?_⟩
    have hb : top s n ≠ ⊥ := fun x => h0 (le_bot_iff.mp (x ▸ le_top' hn))
    have := he 0 (Finset.mem_range.mpr hn)
    rw [← EReal.coe_toReal (h 0) h0, ← EReal.coe_toReal hne hb, ← EReal.coe_sub, exp_coe] at this
    have := EReal.coe_injective this
    rw [← this]; exact Real.exp_pos _
  · rw [Finset.sum_congr rfl he]
    exact (coe_sum _ _).symm

/-- The quotient of the running sums is the sum of the values at the normalized weights. -/
theorem quotient (h : ∀ k, s k ≠ ⊤) {n : ℕ} (hn : 0 < n) (h0 : s 0 ≠ ⊥) :
    Ideal.div (wsum s v n) (wsum s (fun _ => 1) n)
      = ∑ k ∈ Finset.range n, v k * Ideal.div (Ideal.exp (s k - top s n)) (∑ j ∈ Finset.range n, Ideal.exp (s j - top s n)) := by
  obtain ⟨L, hL, e⟩ := weight_pos h hn h0
  have e1 : wsum s (fun _ => 1) n = (L : EReal) := by
    unfold wsum; rw [← e]; exact Finset.sum_congr rfl fun k _ => mul_one _
  have hL0 : (L : EReal) ≠ 0 := by exact_mod_cast hL.ne'
  rw [e1, e]
  unfold Ideal.div
  simp only [if_neg hL0]
  rw [← EReal.coe_inv]
  have hi : (0 : EReal) ≤ ((L⁻¹ : ℝ) : EReal) := by exact_mod_cast (inv_pos.mpr hL).le
  unfold wsum
  rw [sum_mul _ _ hi (EReal.coe_ne_top _)]
  refine Finset.sum_congr rfl fun k _ => ?_
  rw [mul_comm (Ideal.exp _) (v k), mul_assoc]

end Cert.Online
-- ==== Proof.Consts.lean ====
module

public import proofs.«01_k».proof.Proof.Online
public import Idealize.ShloMosaic.Lib.IdealHost
public import Mathlib.Analysis.SpecialFunctions.Trigonometric.DerivHyp

@[expose] public section

noncomputable section

namespace Cert.Online

open Idealize.ShloMosaic

theorem half_f32 : Ideal.ofBits .f32 0x3F000000#32 = ((1 / 2 : ℝ) : EReal) := by
  simp [Ideal.ofBits, Ideal.ieee]
  norm_num [← EReal.coe_mul, ← EReal.coe_inv]

theorem eighth_bf16 : Ideal.ofBits .bf16 0x3E00#16 = ((1 / 8 : ℝ) : EReal) := by
  simp [Ideal.ofBits, Ideal.ieee]
  norm_num [← EReal.coe_mul, ← EReal.coe_inv]

theorem eighth_f32 : Ideal.ofBits .f32 0x3E000000#32 = ((1 / 8 : ℝ) : EReal) := by
  simp [Ideal.ofBits, Ideal.ieee]
  norm_num [← EReal.coe_mul, ← EReal.coe_inv]

theorem ninf_f32 : Ideal.ofBits .f32 0xFF800000#32 = (⊥ : EReal) := by
  simp [Ideal.ofBits, Ideal.ieee]

theorem inf_f32 : Ideal.ofBits .f32 0x7F800000#32 = (⊤ : EReal) := by
  simp [Ideal.ofBits, Ideal.ieee]

/-- The kernel's gate, by the hyperbolic tangent, is the logistic function. -/
theorem gate_eq (y : EReal) : ((1 / 2 : ℝ) : EReal) * Ideal.tanh (((1 / 2 : ℝ) : EReal) * y) + ((1 / 2 : ℝ) : EReal) = Ideal.logistic y := by
  induction y with
  | bot =>
    rw [EReal.coe_mul_bot_of_pos (by norm_num), Ideal.tanh_bot, Ideal.logistic_bot]
    rw [show (-1 : EReal) = ((-1 : ℝ) : EReal) by simp, ← EReal.coe_mul, ← EReal.coe_add]
    norm_num
  | top =>
    rw [EReal.coe_mul_top_of_pos (by norm_num), Ideal.tanh_top, Ideal.logistic_top]
    exact_mod_cast (by norm_num : (1 / 2 : ℝ) * 1 + 1 / 2 = 1)
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have e : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    rw [e]
    set a := Real.exp (1 / 2 * r)
    set b := Real.exp (-(1 / 2 * r))
    have ha : 0 < a := Real.exp_pos _
    have hb : 0 < b := Real.exp_pos _
    field_simp
    nlinarith [e2]

end Cert.Online
-- ==== Proof.BiasIdeal.lean ====
module

public import proofs.«01_k».proof.Proof.BiasOut
public import proofs.«01_k».proof.Proof.Consts
public import Idealize.ShloMosaic.Lib.Pipeline.ValueKit.Tiles
public import Idealize.ShloMosaic.Lib.Pointwise
public import Idealize.ShloMosaic.Lib.WordCmp

@[expose] public section

set_option maxRecDepth 16384

noncomputable section

namespace Cert.KernelIdeal.Gen

open Idealize.ShloMosaic Idealize.ShloMosaic.TcCoe Idealize.ShloMosaic.Tactic Cert.Online

/-- The logarithm of the sigmoid, of a real gate. -/
def logSig (z : ℝ) : ℝ := -(max (-z) 0 + Real.log (1 + Real.exp (-|z|)))

theorem coe_max (a b : ℝ) : ((max a b : ℝ) : EReal) = max (a : EReal) (b : EReal) := EReal.coe_strictMono.monotone.map_max

theorem absf_coe (z : ℝ) : FloatOps.absf (F := Ideal) (φ := .f32) (z : EReal) = ((|z| : ℝ) : EReal) := by
  show max (z : EReal) (-(z : EReal)) = _
  rw [← EReal.coe_neg, ← coe_max]
  rfl

theorem log_soft (z : ℝ) : Ideal.log (1 + Ideal.exp ((-|z| : ℝ) : EReal)) = ((Real.log (1 + Real.exp (-|z|)) : ℝ) : EReal) := by
  rw [exp_coe, ← EReal.coe_one, ← EReal.coe_add, Ideal.log_coe, if_neg (not_le.mpr (by positivity))]

/-- The gate's logarithm as the kernel computes it. -/
theorem lf_coe (z : ℝ) : (0 : EReal) - (max (0 - (z : EReal)) 0 + Ideal.log (1 + Ideal.exp (0 - FloatOps.absf (F := Ideal) (φ := .f32) (0 - (z : EReal))))) = ((logSig z : ℝ) : EReal) := by
  have e : (0 : EReal) - (z : EReal) = ((-z : ℝ) : EReal) := by rw [zero_sub, EReal.coe_neg]
  have e2 : (0 : EReal) - ((|z| : ℝ) : EReal) = ((-|z| : ℝ) : EReal) := by rw [zero_sub, EReal.coe_neg]
  rw [e, absf_coe, abs_neg, e2, log_soft, zero_sub, ← EReal.coe_zero, ← coe_max, ← EReal.coe_add, ← EReal.coe_neg]
  rfl

theorem tril_at (r x : Fin 512) (y : EReal) : Scalar.select (IntOp.cmpi CmpIPredicate.sge (BitVec.ofNat 32 r.val) (BitVec.ofNat 32 x.val)) y 0 = if x.val ≤ r.val then y else 0 := by
  rw [WordCmp.cmpi_sge_ofNat (by omega) (by omega)]
  by_cases c : x.val ≤ r.val
  · rw [decide_eq_true c, if_pos c]; rfl
  · rw [decide_eq_false c, if_neg c]; rfl

/-- The triangular contraction, at the first part's lanes. -/
theorem part4_first (x0 : Vec Ideal S512x128 .f32) (x1 : Vec Ideal S1x128 .f32) (r : Fin 512) (l : Fin 128) (a : Fin 512 → ℝ)
    (ha : ∀ j, x0 (ix2 j l) + x1 (ix2 (0 : Fin 1) l) = (a j : EReal)) :
    k0_pay4 x0 x1 (ix2 r (⟨l.val, by omega⟩ : Fin 384)) = ∑ j : Fin 512, if j.val ≤ r.val then ((logSig (a j) : ℝ) : EReal) else 0 := by
  pointwise [k0_pay4]
  refine Finset.sum_congr rfl fun j _ => ?_
  rw [tril_at, ha, lf_coe]

theorem sub_self_coe (z : ℝ) : (z : EReal) - (z : EReal) = 0 := by rw [← EReal.coe_sub, sub_self, EReal.coe_zero]

/-- The second part's lanes of it are zero. -/
theorem part4_second (x0 : Vec Ideal S512x128 .f32) (x1 : Vec Ideal S1x128 .f32) (r : Fin 512) (l : Fin 128) (a : Fin 512 → ℝ)
    (ha : ∀ j, x0 (ix2 j l) + x1 (ix2 (0 : Fin 1) l) = (a j : EReal)) :
    k0_pay4 x0 x1 (ix2 r (⟨128 + l.val, by omega⟩ : Fin 384)) = 0 := by
  have e : (⟨128 + l.val - 128, by omega⟩ : Fin 128) = l := Fin.ext (by show 128 + l.val - 128 = l.val; omega)
  pointwise [k0_pay4]
  refine Finset.sum_eq_zero fun j _ => ?_
  rw [tril_at, ha, lf_coe, sub_self_coe, ite_self]

/-- The third part's lanes of it are zero. -/
theorem part4_third (x0 : Vec Ideal S512x128 .f32) (x1 : Vec Ideal S1x128 .f32) (r : Fin 512) (l : Fin 128) (a : Fin 512 → ℝ)
    (ha : ∀ j, x0 (ix2 j l) + x1 (ix2 (0 : Fin 1) l) = (a j : EReal)) :
    k0_pay4 x0 x1 (ix2 r (⟨256 + l.val, by omega⟩ : Fin 384)) = 0 := by
  have e : (⟨256 + l.val - 128 - 128, by omega⟩ : Fin 128) = l := Fin.ext (by show 256 + l.val - 128 - 128 = l.val; omega)
  pointwise [k0_pay4]
  refine Finset.sum_eq_zero fun j _ => ?_
  rw [tril_at, dif_neg (by omega), dif_neg (by omega)]
  simp only [e, ha, lf_coe, sub_self_coe, sub_zero, ite_self]

theorem row_at (x : Vec Ideal S8x128 .f32) (l : Fin 128) : rowOf x (ix2 (0 : Fin 1) l) = x (ix2 (0 : Fin 8) l) := by
  refine View.ld_unit_apply_of _ _ _ _ _ _ ?_
  intro a
  match a with
  | 0 => rfl
  | 1 => exact (Nat.zero_add _).symm

/-- The running sums of a block: the carried row, and the block's rows up to this one. -/
theorem running_at (x0 : Vec Ideal S512x128 .f32) (x1 : Vec Ideal S1x128 .f32) (w : Vec Ideal S1x128 .f32) (r : Fin 512) (l : Fin 128) (a : Fin 512 → ℝ) (s : ℝ)
    (ha : ∀ j, x0 (ix2 j l) + x1 (ix2 (0 : Fin 1) l) = (a j : EReal)) (hw : w (ix2 (0 : Fin 1) l) = (s : EReal)) :
    k0_pay7 (k0_pay5 x0 x1) (k0_pay6 x0 x1) w (ix2 r l) = ((∑ j : Fin 512, (if j.val ≤ r.val then logSig (a j) else 0) + s : ℝ) : EReal) := by
  have e : k0_pay7 (k0_pay5 x0 x1) (k0_pay6 x0 x1) w (ix2 r l)
      = k0_pay4 x0 x1 (ix2 r (⟨l.val, by omega⟩ : Fin 384)) + k0_pay4 x0 x1 (ix2 r (⟨128 + l.val, by omega⟩ : Fin 384))
        + k0_pay4 x0 x1 (ix2 r (⟨256 + l.val, by omega⟩ : Fin 384)) + w (ix2 (0 : Fin 1) l) := by
    pointwise [k0_pay7, k0_pay5, k0_pay6]
  rw [e, part4_first x0 x1 r l a ha, part4_second x0 x1 r l a ha, part4_third x0 x1 r l a ha, hw, add_zero, add_zero, EReal.coe_add, coe_sum]
  congr 1
  refine Finset.sum_congr rfl fun j _ => ?_
  split <;> rfl

/-- The carried block of the next point: the last row of the running sums. -/
theorem next8_at (u v : FVec Ideal S512x128 .f32) (w : Vec Ideal S1x128 .f32) (r : Fin 8) (l : Fin 128) :
    k0_pay8 u v w (ix2 r l) = k0_pay7 u v w (ix2 (511 : Fin 512) l) := by
  pointwise [k0_pay8]

theorem zero3_at (r : Fin 8) (l : Fin 128) : k0_pay3 (F := Ideal) (ix2 r l) = (0 : EReal) := by
  pointwise [k0_pay3]

theorem ff_lane {α : Type} (n : ℕ) (hn : n < 128) (x y : α) :
    Scalar.select (IntOp.andi (IntOp.cmpi CmpIPredicate.sge (BitVec.ofNat 32 n) 16#32) (IntOp.cmpi CmpIPredicate.slt (BitVec.ofNat 32 n) 32#32)) x y
      = if 16 ≤ n ∧ n < 32 then x else y := by
  rw [WordCmp.cmpi_sge_ofNat (by omega) (by omega), WordCmp.cmpi_slt_ofNat (by omega) (by omega)]
  by_cases c : 16 ≤ n
  · by_cases d : n < 32
    · rw [decide_eq_true c, decide_eq_true d, if_pos ⟨c, d⟩]; rfl
    · rw [decide_eq_true c, decide_eq_false d, if_neg (fun h => d h.2)]; rfl
  · by_cases d : n < 32
    · rw [decide_eq_false c, decide_eq_true d, if_neg (fun h => c h.1)]; rfl
    · rw [decide_eq_false c, decide_eq_false d, if_neg (fun h => c h.1)]; rfl

/-- The parts laid out lane by lane: the running sums themselves at lanes 16 to 31, zeros at the other parts' lanes. -/
theorem terms9_at (u v : FVec Ideal S512x128 .f32) (w : Vec Ideal S1x128 .f32) (r : Fin 512) (l : Fin 128)
    (hr : ∀ j : Fin 128, 16 ≤ j.val → j.val < 32 → ∃ s : ℝ, k0_pay7 u v w (ix2 r j) = (s : EReal)) :
    k0_pay9 u v w (ix2 r l) = if 16 ≤ l.val ∧ l.val < 32 then k0_pay7 u v w (ix2 r l) else 0 := by
  have hl := l.isLt
  have m : ∀ j : Fin 128, (if 16 ≤ j.val ∧ j.val < 32 then k0_pay7 u v w (ix2 r j) - k0_pay7 u v w (ix2 r j) else 0) = 0 := by
    intro j
    split
    · rename_i h
      obtain ⟨s, e⟩ := hr j h.1 h.2
      rw [e, sub_self_coe]
    · rfl
  have m2 : ∀ j : Fin 128, (if 16 ≤ j.val ∧ j.val < 32 then k0_pay7 u v w (ix2 r j) - k0_pay7 u v w (ix2 r j) - (k0_pay7 u v w (ix2 r j) - k0_pay7 u v w (ix2 r j)) else 0) = 0 := by
    intro j
    split
    · rename_i h
      obtain ⟨s, e⟩ := hr j h.1 h.2
      rw [e, sub_self_coe, sub_zero]
    · rfl
  pointwise [k0_pay9]
  rw [ff_lane _ hl, ff_lane _ (Nat.mod_lt _ (by decide)), ff_lane _ (Nat.mod_lt _ (by decide))]
  have a1 := m ⟨(l.val + 128 - 16) % 128, Nat.mod_lt _ (by decide)⟩
  have a2 := m2 ⟨(l.val + 128 - 32) % 128, Nat.mod_lt _ (by decide)⟩
  dsimp only at a1 a2
  rw [a1, a2, add_zero, add_zero]

theorem lanes1_at (u : FVec Ideal S512x128 .bf16) (v : Vec Ideal S1x1024 .f32) (w : Vec Ideal S128x1024 .bf16) (r : Fin 512) (l : Fin 1024) :
    k0_pay1 u v w (ix2 r l) = v (ix2 (0 : Fin 1) l) + ∑ j : Fin 128, u (ix2 r j) * w (ix2 j l) := by
  pointwise [k0_pay1]

theorem lanes2_at (u : FVec Ideal S512x128 .bf16) (v : Vec Ideal S1x1024 .f32) (w : Vec Ideal S128x1024 .bf16) (r : Fin 512) (l : Fin 1024) :
    k0_pay2 u v w (ix2 r l) = v (ix2 (0 : Fin 1) l) + ∑ j : Fin 128, u (ix2 r j) * w (ix2 j l) := by
  pointwise [k0_pay2]

end Cert.KernelIdeal.Gen
-- ==== Proof.AttnCell.lean ====
module

public import proofs.«01_k».proof.Proof.AttnLoop
public import Idealize.ShloMosaic.Lib.Pipeline.ValueKit.Tiles
public import Idealize.ShloMosaic.Lib.Pointwise

@[expose] public section

set_option maxRecDepth 16384

noncomputable section

namespace Cert.KernelIdeal.Gen

open Idealize.ShloMosaic Idealize.ShloMosaic.TcCoe Idealize.ShloMosaic.Tactic

variable {F : FTy → Type} [FloatOps F] [Named F]

/-- The running state of one head: the row maxima and the weighted sums (row 64 is the sum of the weights). -/
abbrev HeadState (F : FTy → Type) [FloatOps F] : Type := FVec F S1x512 .f32 × FVec F S80x512 .f32

/-- The states of the eight heads, in the order the loop carries them. -/
abbrev LoopState (F : FTy → Type) [FloatOps F] : Type := FVec F S1x512 .f32 × FVec F S80x512 .f32 × FVec F S1x512 .f32 × FVec F S80x512 .f32 × FVec F S1x512 .f32 × FVec F S80x512 .f32 × FVec F S1x512 .f32 × FVec F S80x512 .f32 × FVec F S1x512 .f32 × FVec F S80x512 .f32 × FVec F S1x512 .f32 × FVec F S80x512 .f32 × FVec F S1x512 .f32 × FVec F S80x512 .f32 × FVec F S1x512 .f32 × FVec F S80x512 .f32

/-- One head's part of the loop's state. -/
def pick (h : Fin 8) (t : LoopState F) : HeadState F :=
  match h with
  | 0 => (t.1, t.2.1)
  | 1 => (t.2.2.1, t.2.2.2.1)
  | 2 => (t.2.2.2.2.1, t.2.2.2.2.2.1)
  | 3 => (t.2.2.2.2.2.2.1, t.2.2.2.2.2.2.2.1)
  | 4 => (t.2.2.2.2.2.2.2.2.1, t.2.2.2.2.2.2.2.2.2.1)
  | 5 => (t.2.2.2.2.2.2.2.2.2.2.1, t.2.2.2.2.2.2.2.2.2.2.2.1)
  | 6 => (t.2.2.2.2.2.2.2.2.2.2.2.2.1, t.2.2.2.2.2.2.2.2.2.2.2.2.2.1)
  | 7 => (t.2.2.2.2.2.2.2.2.2.2.2.2.2.2.1, t.2.2.2.2.2.2.2.2.2.2.2.2.2.2.2)

/-- One key tile taken into a head's state, at the tile's scores and values. -/
def cell (st : HeadState F) (s : FVec F S512x512 .f32) (v : Vec F S64x512 .bf16) : HeadState F :=
  (k1_pay8 st.1 s, k1_pay9 st.1 st.2 s v)

/-- The diagonal tile's scores: a key after its query is masked. -/
def maskOf (s : FVec F S512x512 .f32) : FVec F S512x512 .f32 :=
  select (cmpi .sle (iota .tc S512x512 32 [0] iota_S512x512_d0_w32) (iota .tc S512x512 32 [1] iota_S512x512_d1_w32)) s
    (broadcast S512x512 (Named.named κ "mask" 0xF149F2CA#32))

/-- Key tile `j` of the head pair `p`: rows `512 j …`, lanes `128 p …`. -/
def keyTile (x : Vec F S4096x512 .bf16) (j p : ℕ) : Vec F S512x128 .bf16 := fun y =>
  x (ix2 (⟨(512 * j + (y 0).val) % 4096, Nat.mod_lt _ (by decide)⟩ : Fin 4096) (⟨(128 * p + (y 1).val) % 512, Nat.mod_lt _ (by decide)⟩ : Fin 512))

/-- Value tile `j` of head `h`: rows `64 h …`, columns `512 j …`. -/
def valTile (x : Vec F S512x4096 .bf16) (j h : ℕ) : Vec F S64x512 .bf16 := fun y =>
  x (ix2 (⟨(64 * h + (y 0).val) % 512, Nat.mod_lt _ (by decide)⟩ : Fin 512) (⟨(512 * j + (y 1).val) % 4096, Nat.mod_lt _ (by decide)⟩ : Fin 4096))

/-- The lanes of head pair `p` of a query block. -/
def laneTile (x : Vec F S512x512 .bf16) (p : ℕ) : Vec F S512x128 .bf16 := fun y =>
  x (ix2 (⟨(y 0).val % 512, Nat.mod_lt _ (by decide)⟩ : Fin 512) (⟨(128 * p + (y 1).val) % 512, Nat.mod_lt _ (by decide)⟩ : Fin 512))

theorem key_load {arg : Memref sig .tc .vmem S4096x512 .bf16} (harg : arg.IsWhole) (x : Vec F S4096x512 .bf16) (off : Fin 2 → ℕ)
    (inb : ∀ a, off a + S512x128.size a ≤ S4096x512.size a) (j p : ℕ) (h : off = ![512 * j, 128 * p]) :
    View.readAt (Elt F) arg.view (Rect.unit off S512x128.size inb : Rect S4096x512).toLoadRect (harg.unread x) = keyTile x j p := by
  subst h
  funext y
  rw [View.readAt_eq_ld, harg.read_unread]
  refine View.ld_unit_apply_of _ _ _ _ _ _ ?_
  have h0 : (y 0).val < 512 := (y 0).isLt
  have h1 : (y 1).val < 128 := (y 1).isLt
  have b0 : 512 * j + 512 ≤ 4096 := inb 0
  have b1 : 128 * p + 128 ≤ 512 := inb 1
  intro a
  match a with
  | 0 => exact Nat.mod_eq_of_lt (by omega)
  | 1 => exact Nat.mod_eq_of_lt (by omega)

theorem val_load {arg : Memref sig .tc .vmem S512x4096 .bf16} (harg : arg.IsWhole) (x : Vec F S512x4096 .bf16) (off : Fin 2 → ℕ)
    (inb : ∀ a, off a + S64x512.size a ≤ S512x4096.size a) (j h : ℕ) (e : off = ![64 * h, 512 * j]) :
    View.readAt (Elt F) arg.view (Rect.unit off S64x512.size inb : Rect S512x4096).toLoadRect (harg.unread x) = valTile x j h := by
  subst e
  funext y
  rw [View.readAt_eq_ld, harg.read_unread]
  refine View.ld_unit_apply_of _ _ _ _ _ _ ?_
  have h0 : (y 0).val < 64 := (y 0).isLt
  have h1 : (y 1).val < 512 := (y 1).isLt
  have b0 : 64 * h + 64 ≤ 512 := inb 0
  have b1 : 512 * j + 512 ≤ 4096 := inb 1
  intro a
  match a with
  | 0 => exact Nat.mod_eq_of_lt (by omega)
  | 1 => exact Nat.mod_eq_of_lt (by omega)

theorem lane_load {arg : Memref sig .tc .vmem S512x512 .bf16} (harg : arg.IsWhole) (x : Vec F S512x512 .bf16) (off : Fin 2 → ℕ)
    (inb : ∀ a, off a + S512x128.size a ≤ S512x512.size a) (p : ℕ) (e : off = ![0, 128 * p]) :
    View.readAt (Elt F) arg.view (Rect.unit off S512x128.size inb : Rect S512x512).toLoadRect (harg.unread x) = laneTile x p := by
  subst e
  funext y
  rw [View.readAt_eq_ld, harg.read_unread]
  refine View.ld_unit_apply_of _ _ _ _ _ _ ?_
  have h0 : (y 0).val < 512 := (y 0).isLt
  have h1 : (y 1).val < 128 := (y 1).isLt
  have b1 : 128 * p + 128 ≤ 512 := inb 1
  intro a
  match a with
  | 0 => exact (Nat.mod_eq_of_lt h0).trans (Nat.zero_add _).symm
  | 1 => exact Nat.mod_eq_of_lt (by omega)

/-- The two lane masks of a head pair. -/
def lane64 : IVec S1x128 1 := cmpi .slt (iota .tc S1x128 32 [1] iota_S1x128_d1_w32) (broadcast S1x128 64#32)
def lane8 : IVec S1x128 1 := cmpi .slt (iota .tc S1x128 32 [1] iota_S1x128_d1_w32) (broadcast S1x128 8#32)

/-- The scaled query lanes. -/
def scaled (q : Vec F S512x128 .bf16) : FVec F S512x128 .bf16 :=
  mulf (shapeCast S512x128 q shapeCasts_S512x128_S512x128) (broadcast S512x128 (Scalar.ofBits .bf16 0x3E00#16))

def castLanes (e : Vec F S512x128 .bf16) : FVec F S512x128 .bf16 := shapeCast S512x128 e shapeCasts_S512x128_S512x128

/-- The first and the second head of a pair: the pair's lanes with the other head's zero. -/
def queryLo (q e : Vec F S512x128 .bf16) : FVec F S512x256 .bf16 := k1_pay173 lane64 lane8 (scaled q) (castLanes e)
def queryHi (q e : Vec F S512x128 .bf16) : FVec F S512x256 .bf16 := k1_pay174 lane64 lane8 (scaled q) (castLanes e)

/-- The query operand of each head. -/
def queryOf (x0 x1 : Vec F S512x512 .bf16) (h : Fin 8) : FVec F S512x256 .bf16 :=
  match h with
  | 0 => queryLo (laneTile x0 0) (laneTile x1 0)
  | 1 => queryHi (laneTile x0 0) (laneTile x1 0)
  | 2 => queryLo (laneTile x0 1) (laneTile x1 1)
  | 3 => queryHi (laneTile x0 1) (laneTile x1 1)
  | 4 => queryLo (laneTile x0 2) (laneTile x1 2)
  | 5 => queryHi (laneTile x0 2) (laneTile x1 2)
  | 6 => queryLo (laneTile x0 3) (laneTile x1 3)
  | 7 => queryHi (laneTile x0 3) (laneTile x1 3)

/-- One key tile taken into every head's state. -/
def tileStep (Q : Fin 8 → FVec F S512x256 .bf16) (x2 x3 : Vec F S4096x512 .bf16) (x4 : Vec F S512x4096 .bf16) (h : Fin 8) (j : ℕ)
    (st : HeadState F) : HeadState F :=
  cell st (k1_pay2 (Q h) (keyTile x2 j (h.val / 2)) (keyTile x3 j (h.val / 2))) (valTile x4 j h.val)

/-- The diagonal tile taken into a head's state. -/
def lastStep (Q : Fin 8 → FVec F S512x256 .bf16) (x2 x3 : Vec F S4096x512 .bf16) (x4 : Vec F S512x4096 .bf16) (h : Fin 8) (j : ℕ)
    (st : HeadState F) : HeadState F :=
  cell st (maskOf (k1_pay2 (Q h) (keyTile x2 j (h.val / 2)) (keyTile x3 j (h.val / 2)))) (valTile x4 j h.val)

/-- The state of head `h` after the key tiles below `n`. -/
def tilesBelow (Q : Fin 8 → FVec F S512x256 .bf16) (x2 x3 : Vec F S4096x512 .bf16) (x4 : Vec F S512x4096 .bf16) (h : Fin 8) : ℕ → HeadState F
  | 0 => (k1_pay175, k1_pay176)
  | n + 1 => tileStep Q x2 x3 x4 h n (tilesBelow Q x2 x3 x4 h n)

/-- What is stored of a pair of heads. -/
def pairOut (fo : Vec F S512x128 .bf16) (a b : FVec F S80x512 .f32) : FVec F S512x128 .bf16 := k1_pay1 (k1_pay239 fo) (k1_pay240 a b)

theorem off1_eq : ∀ (i : grid1.Coords) (k : Fin (k1_t1_loop i).trips), k1_off1 i k = ![512 * (2 * k.val + 0), 128 * 0] := by decide +kernel
theorem off2_eq : ∀ (i : grid1.Coords) (k : Fin (k1_t1_loop i).trips), k1_off2 i k = ![512 * (2 * k.val + 0), 128 * 1] := by decide +kernel
theorem off3_eq : ∀ (i : grid1.Coords) (k : Fin (k1_t1_loop i).trips), k1_off3 i k = ![64 * 0, 512 * (2 * k.val + 0)] := by decide +kernel
theorem off4_eq : ∀ (i : grid1.Coords) (k : Fin (k1_t1_loop i).trips), k1_off4 i k = ![512 * (2 * k.val + 0), 128 * 2] := by decide +kernel
theorem off5_eq : ∀ (i : grid1.Coords) (k : Fin (k1_t1_loop i).trips), k1_off5 i k = ![64 * 1, 512 * (2 * k.val + 0)] := by decide +kernel
theorem off6_eq : ∀ (i : grid1.Coords) (k : Fin (k1_t1_loop i).trips), k1_off6 i k = ![64 * 2, 512 * (2 * k.val + 0)] := by decide +kernel
theorem off7_eq : ∀ (i : grid1.Coords) (k : Fin (k1_t1_loop i).trips), k1_off7 i k = ![512 * (2 * k.val + 0), 128 * 3] := by decide +kernel
theorem off8_eq : ∀ (i : grid1.Coords) (k : Fin (k1_t1_loop i).trips), k1_off8 i k = ![64 * 3, 512 * (2 * k.val + 0)] := by decide +kernel
theorem off9_eq : ∀ (i : grid1.Coords) (k : Fin (k1_t1_loop i).trips), k1_off9 i k = ![64 * 4, 512 * (2 * k.val + 0)] := by decide +kernel
theorem off10_eq : ∀ (i : grid1.Coords) (k : Fin (k1_t1_loop i).trips), k1_off10 i k = ![512 * (2 * k.val + 1), 128 * 0] := by decide +kernel
theorem off11_eq : ∀ (i : grid1.Coords) (k : Fin (k1_t1_loop i).trips), k1_off11 i k = ![64 * 5, 512 * (2 * k.val + 0)] := by decide +kernel
theorem off12_eq : ∀ (i : grid1.Coords) (k : Fin (k1_t1_loop i).trips), k1_off12 i k = ![64 * 6, 512 * (2 * k.val + 0)] := by decide +kernel
theorem off13_eq : ∀ (i : grid1.Coords) (k : Fin (k1_t1_loop i).trips), k1_off13 i k = ![512 * (2 * k.val + 1), 128 * 1] := by decide +kernel
theorem off14_eq : ∀ (i : grid1.Coords) (k : Fin (k1_t1_loop i).trips), k1_off14 i k = ![64 * 7, 512 * (2 * k.val + 0)] := by decide +kernel
theorem off15_eq : ∀ (i : grid1.Coords) (k : Fin (k1_t1_loop i).trips), k1_off15 i k = ![64 * 0, 512 * (2 * k.val + 1)] := by decide +kernel
theorem off16_eq : ∀ (i : grid1.Coords) (k : Fin (k1_t1_loop i).trips), k1_off16 i k = ![512 * (2 * k.val + 1), 128 * 2] := by decide +kernel
theorem off17_eq : ∀ (i : grid1.Coords) (k : Fin (k1_t1_loop i).trips), k1_off17 i k = ![64 * 1, 512 * (2 * k.val + 1)] := by decide +kernel
theorem off18_eq : ∀ (i : grid1.Coords) (k : Fin (k1_t1_loop i).trips), k1_off18 i k = ![64 * 2, 512 * (2 * k.val + 1)] := by decide +kernel
theorem off19_eq : ∀ (i : grid1.Coords) (k : Fin (k1_t1_loop i).trips), k1_off19 i k = ![512 * (2 * k.val + 1), 128 * 3] := by decide +kernel
theorem off20_eq : ∀ (i : grid1.Coords) (k : Fin (k1_t1_loop i).trips), k1_off20 i k = ![64 * 3, 512 * (2 * k.val + 1)] := by decide +kernel
theorem off21_eq : ∀ (i : grid1.Coords) (k : Fin (k1_t1_loop i).trips), k1_off21 i k = ![64 * 4, 512 * (2 * k.val + 1)] := by decide +kernel
theorem off22_eq : ∀ (i : grid1.Coords) (k : Fin (k1_t1_loop i).trips), k1_off22 i k = ![64 * 5, 512 * (2 * k.val + 1)] := by decide +kernel
theorem off23_eq : ∀ (i : grid1.Coords) (k : Fin (k1_t1_loop i).trips), k1_off23 i k = ![64 * 6, 512 * (2 * k.val + 1)] := by decide +kernel
theorem off24_eq : ∀ (i : grid1.Coords) (k : Fin (k1_t1_loop i).trips), k1_off24 i k = ![64 * 7, 512 * (2 * k.val + 1)] := by decide +kernel
theorem off49_eq : ∀ (i : grid1.Coords), k1_cond1 i = 1#1 → k1_off49 i = ![512 * ((i 2).val - 1), 128 * 0] := by decide +kernel
theorem off50_eq : ∀ (i : grid1.Coords), k1_cond1 i = 1#1 → k1_off50 i = ![512 * ((i 2).val - 1), 128 * 1] := by decide +kernel
theorem off51_eq : ∀ (i : grid1.Coords), k1_cond1 i = 1#1 → k1_off51 i = ![64 * 0, 512 * ((i 2).val - 1)] := by decide +kernel
theorem off52_eq : ∀ (i : grid1.Coords), k1_cond1 i = 1#1 → k1_off52 i = ![512 * ((i 2).val - 1), 128 * 2] := by decide +kernel
theorem off53_eq : ∀ (i : grid1.Coords), k1_cond1 i = 1#1 → k1_off53 i = ![64 * 1, 512 * ((i 2).val - 1)] := by decide +kernel
theorem off54_eq : ∀ (i : grid1.Coords), k1_cond1 i = 1#1 → k1_off54 i = ![64 * 2, 512 * ((i 2).val - 1)] := by decide +kernel
theorem off55_eq : ∀ (i : grid1.Coords), k1_cond1 i = 1#1 → k1_off55 i = ![512 * ((i 2).val - 1), 128 * 3] := by decide +kernel
theorem off56_eq : ∀ (i : grid1.Coords), k1_cond1 i = 1#1 → k1_off56 i = ![64 * 3, 512 * ((i 2).val - 1)] := by decide +kernel
theorem off57_eq : ∀ (i : grid1.Coords), k1_cond1 i = 1#1 → k1_off57 i = ![64 * 4, 512 * ((i 2).val - 1)] := by decide +kernel
theorem off58_eq : ∀ (i : grid1.Coords), k1_cond1 i = 1#1 → k1_off58 i = ![64 * 5, 512 * ((i 2).val - 1)] := by decide +kernel
theorem off59_eq : ∀ (i : grid1.Coords), k1_cond1 i = 1#1 → k1_off59 i = ![64 * 6, 512 * ((i 2).val - 1)] := by decide +kernel
theorem off60_eq : ∀ (i : grid1.Coords), k1_cond1 i = 1#1 → k1_off60 i = ![64 * 7, 512 * ((i 2).val - 1)] := by decide +kernel
theorem off61_eq : ∀ (i : grid1.Coords), k1_off61 i = ![512 * (i 2).val, 128 * 0] := by decide +kernel
theorem off62_eq : ∀ (i : grid1.Coords), k1_off62 i = ![512 * (i 2).val, 128 * 1] := by decide +kernel
theorem off63_eq : ∀ (i : grid1.Coords), k1_off63 i = ![64 * 0, 512 * (i 2).val] := by decide +kernel
theorem off64_eq : ∀ (i : grid1.Coords), k1_off64 i = ![512 * (i 2).val, 128 * 2] := by decide +kernel
theorem off65_eq : ∀ (i : grid1.Coords), k1_off65 i = ![64 * 1, 512 * (i 2).val] := by decide +kernel
theorem off66_eq : ∀ (i : grid1.Coords), k1_off66 i = ![64 * 2, 512 * (i 2).val] := by decide +kernel
theorem off67_eq : ∀ (i : grid1.Coords), k1_off67 i = ![512 * (i 2).val, 128 * 3] := by decide +kernel
theorem off68_eq : ∀ (i : grid1.Coords), k1_off68 i = ![64 * 3, 512 * (i 2).val] := by decide +kernel
theorem off69_eq : ∀ (i : grid1.Coords), k1_off69 i = ![64 * 4, 512 * (i 2).val] := by decide +kernel
theorem off70_eq : ∀ (i : grid1.Coords), k1_off70 i = ![64 * 5, 512 * (i 2).val] := by decide +kernel
theorem off71_eq : ∀ (i : grid1.Coords), k1_off71 i = ![64 * 6, 512 * (i 2).val] := by decide +kernel
theorem off72_eq : ∀ (i : grid1.Coords), k1_off72 i = ![64 * 7, 512 * (i 2).val] := by decide +kernel
theorem trips_two : ∀ i : grid1.Coords, k1_cond1 i ≠ 1#1 → 2 * (k1_t1_loop i).trips = (i 2).val := by decide +kernel
theorem trips_odd : ∀ i : grid1.Coords, k1_cond1 i = 1#1 → 2 * (k1_t1_loop i).trips = (i 2).val - 1 ∧ 1 ≤ (i 2).val := by decide +kernel

end Cert.KernelIdeal.Gen
-- ==== Proof.AttnIdeal.lean ====
module

public import proofs.«01_k».proof.Proof.AttnCell
public import proofs.«01_k».proof.Proof.Consts
public import Idealize.ShloMosaic.Lib.Pointwise
public import Idealize.ShloMosaic.Lib.WordCmp

@[expose] public section

set_option maxRecDepth 16384

noncomputable section

namespace Cert.KernelIdeal.Gen

open Idealize.ShloMosaic Idealize.ShloMosaic.TcCoe Idealize.ShloMosaic.Tactic Cert.Online

/-! The attention's pieces, read at an index over the extended reals. -/

theorem mask_bot : (Named.named (F := Ideal) (φ := .f32) κ "mask" 0xF149F2CA#32) = (⊥ : EReal) := rfl

theorem select_bool {α : Type} (b : Bool) (x y : α) : Scalar.select (BitVec.ofBool b) x y = if b then x else y := by
  cases b <;> rfl

theorem rowMax_at (m : FVec Ideal S1x512 .f32) (s : FVec Ideal S512x512 .f32) (q : Fin 512) :
    k1_pay8 m s (ix2 (0 : Fin 1) q) = max (m (ix2 (0 : Fin 1) q)) ((Finset.univ : Finset (Fin 512)).sup fun r => s (ix2 r q)) := by
  pointwise [k1_pay8]
  rw [ninf_f32]
  rfl

theorem sums_at (m : FVec Ideal S1x512 .f32) (a : FVec Ideal S80x512 .f32) (s : FVec Ideal S512x512 .f32) (v : Vec Ideal S64x512 .bf16) (d : Fin 80) (q : Fin 512) :
    k1_pay9 m a s v (ix2 d q) = Ideal.exp (m (ix2 (0 : Fin 1) q) - k1_pay8 m s (ix2 (0 : Fin 1) q)) * a (ix2 d q)
      + ∑ r : Fin 512, Ideal.exp (s (ix2 r q) - k1_pay8 m s (ix2 (0 : Fin 1) q)) * (if h : d.val < 64 then v (ix2 (⟨d.val, h⟩ : Fin 64) r) else 1) := by
  pointwise [k1_pay9]
  congr 1
  exact Finset.sum_congr rfl fun r _ => mul_comm _ _

theorem masked_at (s : FVec Ideal S512x512 .f32) (r q : Fin 512) :
    maskOf s (ix2 r q) = if r.val ≤ q.val then s (ix2 r q) else ⊥ := by
  pointwise [maskOf]
  rw [WordCmp.cmpi_sle_ofNat (by omega) (by omega), select_bool]
  simp only [decide_eq_true_eq]
  rfl

theorem init_max (q : Fin 512) : k1_pay175 (F := Ideal) (ix2 (0 : Fin 1) q) = (⊥ : EReal) := by
  pointwise [k1_pay175]
  rfl

theorem init_sum (d : Fin 80) (q : Fin 512) : k1_pay176 (F := Ideal) (ix2 d q) = (0 : EReal) := by
  pointwise [k1_pay176]

theorem score_at (Q : FVec Ideal S512x256 .bf16) (kk ek : Vec Ideal S512x128 .bf16) (r q : Fin 512) :
    k1_pay2 Q kk ek (ix2 r q) = (∑ l : Fin 128, kk (ix2 r l) * Q (ix2 q (⟨l.val, by omega⟩ : Fin 256)))
      + ∑ l : Fin 128, ek (ix2 r l) * Q (ix2 q (⟨128 + l.val, by omega⟩ : Fin 256)) := by
  pointwise [k1_pay2]

theorem pair_at (fo : Vec Ideal S512x128 .bf16) (a b : FVec Ideal S80x512 .f32) (q : Fin 512) (l : Fin 128) :
    pairOut fo a b (ix2 q l)
      = (if h : l.val < 64 then Ideal.div (a (ix2 (⟨l.val, by omega⟩ : Fin 80) q)) (a (ix2 (64 : Fin 80) q))
          else Ideal.div (b (ix2 (⟨l.val - 64, by omega⟩ : Fin 80) q)) (b (ix2 (64 : Fin 80) q)))
        * Ideal.logistic (fo (ix2 q l)) := by
  pointwise [pairOut, k1_pay1, k1_pay239, k1_pay240]
  rw [half_f32, gate_eq]

theorem laneTile_at (x : Vec Ideal S512x512 .bf16) (p : ℕ) (q : Fin 512) (l : Fin 128) :
    laneTile x p (ix2 q l) = x (ix2 q (⟨(128 * p + l.val) % 512, Nat.mod_lt _ (by decide)⟩ : Fin 512)) := by
  show x _ = x _
  congr 2
  exact Fin.ext (Nat.mod_eq_of_lt q.isLt)

theorem lo_at (x e : Vec Ideal S512x128 .bf16) (q : Fin 512) (l : Fin 256) :
    queryLo x e (ix2 q l) = if h : l.val < 128 then (if l.val < 64 then x (ix2 q (⟨l.val, h⟩ : Fin 128)) * ((1 / 8 : ℝ) : EReal) else 0)
      else (if l.val - 128 < 8 then e (ix2 q (⟨l.val - 128, by omega⟩ : Fin 128)) else 0) := by
  pointwise [queryLo, k1_pay173, lane64, lane8, scaled, castLanes]
  refine dite_congr rfl (fun c => ?_) fun c => ?_
  · rw [WordCmp.cmpi_slt_ofNat (by omega) (by omega), select_bool, eighth_bf16]
    simp only [decide_eq_true_eq]
  · rw [WordCmp.cmpi_slt_ofNat (by omega) (by omega), select_bool]
    simp only [decide_eq_true_eq]

theorem hi_at (x e : Vec Ideal S512x128 .bf16) (q : Fin 512) (l : Fin 256) :
    queryHi x e (ix2 q l) = if h : l.val < 128 then (if l.val < 64 then 0 else x (ix2 q (⟨l.val, h⟩ : Fin 128)) * ((1 / 8 : ℝ) : EReal))
      else (if l.val - 128 < 8 then 0 else e (ix2 q (⟨l.val - 128, by omega⟩ : Fin 128))) := by
  pointwise [queryHi, k1_pay174, lane64, lane8, scaled, castLanes]
  refine dite_congr rfl (fun c => ?_) fun c => ?_
  · rw [WordCmp.cmpi_slt_ofNat (by omega) (by omega), select_bool, eighth_bf16]
    simp only [decide_eq_true_eq]
  · rw [WordCmp.cmpi_slt_ofNat (by omega) (by omega), select_bool]
    simp only [decide_eq_true_eq]

/-- The query operand's lanes: the head's own scaled lanes, the other head's zero. -/
theorem query_lane (x0 x1 : Vec Ideal S512x512 .bf16) (h : Fin 8) (q : Fin 512) (l : Fin 128) :
    queryOf x0 x1 h (ix2 q (⟨l.val, by omega⟩ : Fin 256))
      = if l.val / 64 = h.val % 2 then x0 (ix2 q (⟨(128 * (h.val / 2) + l.val) % 512, Nat.mod_lt _ (by decide)⟩ : Fin 512)) * ((1 / 8 : ℝ) : EReal) else 0 := by
  have hl := l.isLt
  have lo : ∀ p, queryLo (laneTile x0 p) (laneTile x1 p) (ix2 q (⟨l.val, by omega⟩ : Fin 256))
      = if l.val / 64 = 0 then x0 (ix2 q (⟨(128 * p + l.val) % 512, Nat.mod_lt _ (by decide)⟩ : Fin 512)) * ((1 / 8 : ℝ) : EReal) else 0 := by
    intro p
    rw [lo_at, dif_pos hl, laneTile_at]
    by_cases c : l.val < 64
    · rw [if_pos c, if_pos (by omega)]
    · rw [if_neg c, if_neg (by omega)]
  have hi : ∀ p, queryHi (laneTile x0 p) (laneTile x1 p) (ix2 q (⟨l.val, by omega⟩ : Fin 256))
      = if l.val / 64 = 1 then x0 (ix2 q (⟨(128 * p + l.val) % 512, Nat.mod_lt _ (by decide)⟩ : Fin 512)) * ((1 / 8 : ℝ) : EReal) else 0 := by
    intro p
    rw [hi_at, dif_pos hl, laneTile_at]
    by_cases c : l.val < 64
    · rw [if_pos c, if_neg (by omega)]
    · rw [if_neg c, if_pos (by omega)]
  match h with
  | 0 => exact lo 0
  | 1 => exact hi 0
  | 2 => exact lo 1
  | 3 => exact hi 1
  | 4 => exact lo 2
  | 5 => exact hi 2
  | 6 => exact lo 3
  | 7 => exact hi 3

/-- The query operand's bias lanes. -/
theorem query_bias (x0 x1 : Vec Ideal S512x512 .bf16) (h : Fin 8) (q : Fin 512) (l : Fin 128) :
    queryOf x0 x1 h (ix2 q (⟨128 + l.val, by omega⟩ : Fin 256))
      = if (l.val < 8 ↔ h.val % 2 = 0) then x1 (ix2 q (⟨(128 * (h.val / 2) + l.val) % 512, Nat.mod_lt _ (by decide)⟩ : Fin 512)) else 0 := by
  have hl := l.isLt
  have e : (⟨128 + l.val - 128, by omega⟩ : Fin 128) = l := Fin.ext (by show 128 + l.val - 128 = l.val; omega)
  have lo : ∀ p, queryLo (laneTile x0 p) (laneTile x1 p) (ix2 q (⟨128 + l.val, by omega⟩ : Fin 256))
      = if (l.val < 8 ↔ 0 = 0) then x1 (ix2 q (⟨(128 * p + l.val) % 512, Nat.mod_lt _ (by decide)⟩ : Fin 512)) else 0 := by
    intro p
    rw [lo_at, dif_neg (by show ¬ 128 + l.val < 128; omega)]
    by_cases c : l.val < 8
    · rw [if_pos (by show 128 + l.val - 128 < 8; omega), if_pos (by simp [c]), e, laneTile_at]
    · rw [if_neg (by show ¬ 128 + l.val - 128 < 8; omega), if_neg (by simp [c])]
  have hi : ∀ p, queryHi (laneTile x0 p) (laneTile x1 p) (ix2 q (⟨128 + l.val, by omega⟩ : Fin 256))
      = if (l.val < 8 ↔ 1 = 0) then x1 (ix2 q (⟨(128 * p + l.val) % 512, Nat.mod_lt _ (by decide)⟩ : Fin 512)) else 0 := by
    intro p
    rw [hi_at, dif_neg (by show ¬ 128 + l.val < 128; omega)]
    by_cases c : l.val < 8
    · rw [if_pos (by show 128 + l.val - 128 < 8; omega), if_neg (by simp [c])]
    · rw [if_neg (by show ¬ 128 + l.val - 128 < 8; omega), if_pos (by simp [c]), e, laneTile_at]
  match h with
  | 0 => exact lo 0
  | 1 => exact hi 0
  | 2 => exact lo 1
  | 3 => exact hi 1
  | 4 => exact lo 2
  | 5 => exact hi 2
  | 6 => exact lo 3
  | 7 => exact hi 3

/-- A key's score against a query, as the kernel contracts it: the lanes, then the bias lanes. -/
def rawScore (Q : FVec Ideal S512x256 .bf16) (x2 x3 : Vec Ideal S4096x512 .bf16) (p : ℕ) (q : Fin 512) (k : ℕ) : EReal :=
  (∑ l : Fin 128, x2 (ix2 (⟨k % 4096, Nat.mod_lt _ (by decide)⟩ : Fin 4096) (⟨(128 * p + l.val) % 512, Nat.mod_lt _ (by decide)⟩ : Fin 512)) * Q (ix2 q (⟨l.val, by omega⟩ : Fin 256)))
    + ∑ l : Fin 128, x3 (ix2 (⟨k % 4096, Nat.mod_lt _ (by decide)⟩ : Fin 4096) (⟨(128 * p + l.val) % 512, Nat.mod_lt _ (by decide)⟩ : Fin 512)) * Q (ix2 q (⟨128 + l.val, by omega⟩ : Fin 256))

theorem tile_score (Q : FVec Ideal S512x256 .bf16) (x2 x3 : Vec Ideal S4096x512 .bf16) (j p : ℕ) (r q : Fin 512) :
    k1_pay2 Q (keyTile x2 j p) (keyTile x3 j p) (ix2 r q) = rawScore Q x2 x3 p q (512 * j + r.val) := score_at ..

/-- A key's value, a row of ones standing below the head's lanes. -/
def rawValue (x4 : Vec Ideal S512x4096 .bf16) (h : ℕ) (d : Fin 80) (k : ℕ) : EReal :=
  if d.val < 64 then x4 (ix2 (⟨(64 * h + d.val) % 512, Nat.mod_lt _ (by decide)⟩ : Fin 512) (⟨k % 4096, Nat.mod_lt _ (by decide)⟩ : Fin 4096)) else 1

/-- A key's score, masked past the query at position `n`. -/
def causal (s : ℕ → EReal) (n k : ℕ) : EReal := if k ≤ n then s k else ⊥

theorem cell_max {s : ℕ → EReal} {n : ℕ} {q : Fin 512} {st : HeadState Ideal} {t : FVec Ideal S512x512 .f32}
    (hm : st.1 (ix2 (0 : Fin 1) q) = top s n) (ht : ∀ r : Fin 512, t (ix2 r q) = s (n + r.val)) (v : Vec Ideal S64x512 .bf16) :
    (cell st t v).1 (ix2 (0 : Fin 1) q) = top s (n + 512) := by
  show k1_pay8 st.1 t (ix2 (0 : Fin 1) q) = _
  rw [rowMax_at, hm, top_add]
  simp only [ht]

theorem cell_sum {s w : ℕ → EReal} (hs : ∀ k, s k ≠ ⊤) {n : ℕ} {q : Fin 512} {d : Fin 80} {st : HeadState Ideal} {t : FVec Ideal S512x512 .f32} {v : Vec Ideal S64x512 .bf16}
    (hm : st.1 (ix2 (0 : Fin 1) q) = top s n) (ha : st.2 (ix2 d q) = wsum s w n) (ht : ∀ r : Fin 512, t (ix2 r q) = s (n + r.val))
    (hv : ∀ r : Fin 512, (if h : d.val < 64 then v (ix2 (⟨d.val, h⟩ : Fin 64) r) else 1) = w (n + r.val)) :
    (cell st t v).2 (ix2 d q) = wsum s w (n + 512) := by
  have e : k1_pay8 st.1 t (ix2 (0 : Fin 1) q) = top s (n + 512) := cell_max hm ht v
  show k1_pay9 st.1 st.2 t v (ix2 d q) = _
  rw [sums_at, e, hm, ha, wsum_add hs]
  simp only [ht, hv]

theorem val_row (x4 : Vec Ideal S512x4096 .bf16) (j h : ℕ) (d : Fin 80) (r : Fin 512) :
    (if c : d.val < 64 then valTile x4 j h (ix2 (⟨d.val, c⟩ : Fin 64) r) else 1) = rawValue x4 h d (512 * j + r.val) := by
  unfold rawValue
  split
  · rfl
  · rfl

theorem top_congr {s s' : ℕ → EReal} {n : ℕ} (h : ∀ k, k < n → s k = s' k) : top s n = top s' n :=
  Finset.sup_congr rfl fun k hk => h k (Finset.mem_range.mp hk)

theorem wsum_congr {s s' w : ℕ → EReal} {n : ℕ} (h : ∀ k, k < n → s k = s' k) : wsum s w n = wsum s' w n := by
  unfold wsum
  rw [top_congr h]
  exact Finset.sum_congr rfl fun k hk => by rw [h k (Finset.mem_range.mp hk)]

/-- The running state after the tiles below `n`. -/
theorem below_eq (Q : Fin 8 → FVec Ideal S512x256 .bf16) (x2 x3 : Vec Ideal S4096x512 .bf16) (x4 : Vec Ideal S512x4096 .bf16) (h : Fin 8) (q : Fin 512) (d : Fin 80)
    (hs : ∀ k, rawScore (Q h) x2 x3 (h.val / 2) q k ≠ ⊤) (n : ℕ) :
    (tilesBelow Q x2 x3 x4 h n).1 (ix2 (0 : Fin 1) q) = top (rawScore (Q h) x2 x3 (h.val / 2) q) (512 * n)
      ∧ (tilesBelow Q x2 x3 x4 h n).2 (ix2 d q) = wsum (rawScore (Q h) x2 x3 (h.val / 2) q) (rawValue x4 h.val d) (512 * n) := by
  induction n with
  | zero => exact ⟨init_max q, init_sum d q⟩
  | succ n ih =>
    have ht : ∀ r : Fin 512, k1_pay2 (Q h) (keyTile x2 n (h.val / 2)) (keyTile x3 n (h.val / 2)) (ix2 r q) = rawScore (Q h) x2 x3 (h.val / 2) q (512 * n + r.val) :=
      fun r => tile_score ..
    exact ⟨cell_max ih.1 ht _, cell_sum hs ih.1 ih.2 ht fun r => val_row ..⟩

theorem causal_ne_top {s : ℕ → EReal} (hs : ∀ k, s k ≠ ⊤) (n k : ℕ) : causal s n k ≠ ⊤ := by
  unfold causal
  split
  · exact hs k
  · exact bot_ne_top

/-- The weighted sums of a head after the diagonal tile: over every key, the later ones masked. -/
theorem last_eq (Q : Fin 8 → FVec Ideal S512x256 .bf16) (x2 x3 : Vec Ideal S4096x512 .bf16) (x4 : Vec Ideal S512x4096 .bf16) (h : Fin 8) (q : Fin 512) (d : Fin 80)
    (hs : ∀ k, rawScore (Q h) x2 x3 (h.val / 2) q k ≠ ⊤) (n : ℕ) (hn : n < 8) :
    (lastStep Q x2 x3 x4 h n (tilesBelow Q x2 x3 x4 h n)).2 (ix2 d q)
      = wsum (causal (rawScore (Q h) x2 x3 (h.val / 2) q) (512 * n + q.val)) (rawValue x4 h.val d) 4096 := by
  have hq := q.isLt
  have ih := below_eq Q x2 x3 x4 h q d hs n
  have c : ∀ k, k < 512 * n → rawScore (Q h) x2 x3 (h.val / 2) q k = causal (rawScore (Q h) x2 x3 (h.val / 2) q) (512 * n + q.val) k :=
    fun k hk => (if_pos (by omega)).symm
  rw [top_congr c, wsum_congr c] at ih
  rw [wsum_mono_bot (s := causal (rawScore (Q h) x2 x3 (h.val / 2) q) (512 * n + q.val)) (n := 512 * n + 512) (N := 4096) (by omega) (fun k hk => if_neg (by omega))]
  refine cell_sum (causal_ne_top hs _) ih.1 ih.2 (fun r => ?_) fun r => val_row ..
  rw [masked_at, tile_score]
  unfold causal
  by_cases e : r.val ≤ q.val
  · rw [if_pos e, if_pos (by omega)]
  · rw [if_neg e, if_neg (by omega)]

end Cert.KernelIdeal.Gen
-- ==== Proof.AttnTrip.lean ====
module

public import proofs.«01_k».proof.Proof.AttnCell
public import Idealize.ShloMosaic.Lib.Pipeline.ValueKit.Tiles
public import Idealize.ShloMosaic.Lib.Pointwise

@[expose] public section

set_option maxRecDepth 16384

noncomputable section

namespace Cert.KernelIdeal.Gen

open Idealize.ShloMosaic Idealize.ShloMosaic.TcCoe Idealize.ShloMosaic.Tactic

variable {F : FTy → Type} [FloatOps F] [Named F]

variable (c : Dev nD) (i : grid1.Coords) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S512x4096 .bf16) (harg7 : arg7.IsWhole) (arg8 : Memref sig .tc .vmem S512x512 .bf16) (harg8 : arg8.IsWhole) (arg9 : Memref sig .tc .vmem S512x512 .bf16) (harg9 : arg9.IsWhole)
    (Q : Fin 8 → FVec F S512x256 .bf16) (x2 x3 : Vec F S4096x512 .bf16) (x4 : Vec F S512x4096 .bf16)

theorem trip_raw0 (k : Fin (k1_t1_loop i).trips) (acc : LoopState F) :
    pick 0 (tripR_k1_t1 Variants.none c none i arg3 harg3 arg4 harg4 arg5 harg5 arg6 harg6 arg7 harg7 arg8 harg8 arg9 harg9 (0#32) (Q 0) (Q 1) (Q 2) (Q 3) (Q 4) (Q 5) (Q 6) (Q 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) k acc)
      = cell (cell (pick 0 acc) (k1_pay2 (Q 0) (View.readAt (Elt F) arg5.view (Rect.unit (k1_off1 i k) S512x128.size (k1_off1_inb i k) : Rect S4096x512).toLoadRect (harg5.unread x2)) (View.readAt (Elt F) arg6.view (Rect.unit (k1_off1 i k) S512x128.size (k1_off1_inb i k) : Rect S4096x512).toLoadRect (harg6.unread x3))) (View.readAt (Elt F) arg7.view (Rect.unit (k1_off3 i k) S64x512.size (k1_off3_inb i k) : Rect S512x4096).toLoadRect (harg7.unread x4))) (k1_pay2 (Q 0) (View.readAt (Elt F) arg5.view (Rect.unit (k1_off10 i k) S512x128.size (k1_off10_inb i k) : Rect S4096x512).toLoadRect (harg5.unread x2)) (View.readAt (Elt F) arg6.view (Rect.unit (k1_off10 i k) S512x128.size (k1_off10_inb i k) : Rect S4096x512).toLoadRect (harg6.unread x3))) (View.readAt (Elt F) arg7.view (Rect.unit (k1_off15 i k) S64x512.size (k1_off15_inb i k) : Rect S512x4096).toLoadRect (harg7.unread x4)) := by
  unfold tripR_k1_t1 trip_k1_t1
  rfl

theorem trip0 (k : Fin (k1_t1_loop i).trips) (acc : LoopState F) :
    pick 0 (tripR_k1_t1 Variants.none c none i arg3 harg3 arg4 harg4 arg5 harg5 arg6 harg6 arg7 harg7 arg8 harg8 arg9 harg9 (0#32) (Q 0) (Q 1) (Q 2) (Q 3) (Q 4) (Q 5) (Q 6) (Q 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) k acc)
      = tileStep Q x2 x3 x4 0 (2 * k.val + 1) (tileStep Q x2 x3 x4 0 (2 * k.val) (pick 0 acc)) := by
  rw [trip_raw0]
  rw [key_load harg5 _ _ _ _ _ (off1_eq i k), key_load harg6 _ _ _ _ _ (off1_eq i k), val_load harg7 _ _ _ _ _ (off3_eq i k),
    key_load harg5 _ _ _ _ _ (off10_eq i k), key_load harg6 _ _ _ _ _ (off10_eq i k), val_load harg7 _ _ _ _ _ (off15_eq i k)]
  rfl

theorem trip_raw1 (k : Fin (k1_t1_loop i).trips) (acc : LoopState F) :
    pick 1 (tripR_k1_t1 Variants.none c none i arg3 harg3 arg4 harg4 arg5 harg5 arg6 harg6 arg7 harg7 arg8 harg8 arg9 harg9 (0#32) (Q 0) (Q 1) (Q 2) (Q 3) (Q 4) (Q 5) (Q 6) (Q 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) k acc)
      = cell (cell (pick 1 acc) (k1_pay2 (Q 1) (View.readAt (Elt F) arg5.view (Rect.unit (k1_off1 i k) S512x128.size (k1_off1_inb i k) : Rect S4096x512).toLoadRect (harg5.unread x2)) (View.readAt (Elt F) arg6.view (Rect.unit (k1_off1 i k) S512x128.size (k1_off1_inb i k) : Rect S4096x512).toLoadRect (harg6.unread x3))) (View.readAt (Elt F) arg7.view (Rect.unit (k1_off5 i k) S64x512.size (k1_off5_inb i k) : Rect S512x4096).toLoadRect (harg7.unread x4))) (k1_pay2 (Q 1) (View.readAt (Elt F) arg5.view (Rect.unit (k1_off10 i k) S512x128.size (k1_off10_inb i k) : Rect S4096x512).toLoadRect (harg5.unread x2)) (View.readAt (Elt F) arg6.view (Rect.unit (k1_off10 i k) S512x128.size (k1_off10_inb i k) : Rect S4096x512).toLoadRect (harg6.unread x3))) (View.readAt (Elt F) arg7.view (Rect.unit (k1_off17 i k) S64x512.size (k1_off17_inb i k) : Rect S512x4096).toLoadRect (harg7.unread x4)) := by
  unfold tripR_k1_t1 trip_k1_t1
  rfl

theorem trip1 (k : Fin (k1_t1_loop i).trips) (acc : LoopState F) :
    pick 1 (tripR_k1_t1 Variants.none c none i arg3 harg3 arg4 harg4 arg5 harg5 arg6 harg6 arg7 harg7 arg8 harg8 arg9 harg9 (0#32) (Q 0) (Q 1) (Q 2) (Q 3) (Q 4) (Q 5) (Q 6) (Q 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) k acc)
      = tileStep Q x2 x3 x4 1 (2 * k.val + 1) (tileStep Q x2 x3 x4 1 (2 * k.val) (pick 1 acc)) := by
  rw [trip_raw1]
  rw [key_load harg5 _ _ _ _ _ (off1_eq i k), key_load harg6 _ _ _ _ _ (off1_eq i k), val_load harg7 _ _ _ _ _ (off5_eq i k),
    key_load harg5 _ _ _ _ _ (off10_eq i k), key_load harg6 _ _ _ _ _ (off10_eq i k), val_load harg7 _ _ _ _ _ (off17_eq i k)]
  rfl

theorem trip_raw2 (k : Fin (k1_t1_loop i).trips) (acc : LoopState F) :
    pick 2 (tripR_k1_t1 Variants.none c none i arg3 harg3 arg4 harg4 arg5 harg5 arg6 harg6 arg7 harg7 arg8 harg8 arg9 harg9 (0#32) (Q 0) (Q 1) (Q 2) (Q 3) (Q 4) (Q 5) (Q 6) (Q 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) k acc)
      = cell (cell (pick 2 acc) (k1_pay2 (Q 2) (View.readAt (Elt F) arg5.view (Rect.unit (k1_off2 i k) S512x128.size (k1_off2_inb i k) : Rect S4096x512).toLoadRect (harg5.unread x2)) (View.readAt (Elt F) arg6.view (Rect.unit (k1_off2 i k) S512x128.size (k1_off2_inb i k) : Rect S4096x512).toLoadRect (harg6.unread x3))) (View.readAt (Elt F) arg7.view (Rect.unit (k1_off6 i k) S64x512.size (k1_off6_inb i k) : Rect S512x4096).toLoadRect (harg7.unread x4))) (k1_pay2 (Q 2) (View.readAt (Elt F) arg5.view (Rect.unit (k1_off13 i k) S512x128.size (k1_off13_inb i k) : Rect S4096x512).toLoadRect (harg5.unread x2)) (View.readAt (Elt F) arg6.view (Rect.unit (k1_off13 i k) S512x128.size (k1_off13_inb i k) : Rect S4096x512).toLoadRect (harg6.unread x3))) (View.readAt (Elt F) arg7.view (Rect.unit (k1_off18 i k) S64x512.size (k1_off18_inb i k) : Rect S512x4096).toLoadRect (harg7.unread x4)) := by
  unfold tripR_k1_t1 trip_k1_t1
  rfl

theorem trip2 (k : Fin (k1_t1_loop i).trips) (acc : LoopState F) :
    pick 2 (tripR_k1_t1 Variants.none c none i arg3 harg3 arg4 harg4 arg5 harg5 arg6 harg6 arg7 harg7 arg8 harg8 arg9 harg9 (0#32) (Q 0) (Q 1) (Q 2) (Q 3) (Q 4) (Q 5) (Q 6) (Q 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) k acc)
      = tileStep Q x2 x3 x4 2 (2 * k.val + 1) (tileStep Q x2 x3 x4 2 (2 * k.val) (pick 2 acc)) := by
  rw [trip_raw2]
  rw [key_load harg5 _ _ _ _ _ (off2_eq i k), key_load harg6 _ _ _ _ _ (off2_eq i k), val_load harg7 _ _ _ _ _ (off6_eq i k),
    key_load harg5 _ _ _ _ _ (off13_eq i k), key_load harg6 _ _ _ _ _ (off13_eq i k), val_load harg7 _ _ _ _ _ (off18_eq i k)]
  rfl

theorem trip_raw3 (k : Fin (k1_t1_loop i).trips) (acc : LoopState F) :
    pick 3 (tripR_k1_t1 Variants.none c none i arg3 harg3 arg4 harg4 arg5 harg5 arg6 harg6 arg7 harg7 arg8 harg8 arg9 harg9 (0#32) (Q 0) (Q 1) (Q 2) (Q 3) (Q 4) (Q 5) (Q 6) (Q 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) k acc)
      = cell (cell (pick 3 acc) (k1_pay2 (Q 3) (View.readAt (Elt F) arg5.view (Rect.unit (k1_off2 i k) S512x128.size (k1_off2_inb i k) : Rect S4096x512).toLoadRect (harg5.unread x2)) (View.readAt (Elt F) arg6.view (Rect.unit (k1_off2 i k) S512x128.size (k1_off2_inb i k) : Rect S4096x512).toLoadRect (harg6.unread x3))) (View.readAt (Elt F) arg7.view (Rect.unit (k1_off8 i k) S64x512.size (k1_off8_inb i k) : Rect S512x4096).toLoadRect (harg7.unread x4))) (k1_pay2 (Q 3) (View.readAt (Elt F) arg5.view (Rect.unit (k1_off13 i k) S512x128.size (k1_off13_inb i k) : Rect S4096x512).toLoadRect (harg5.unread x2)) (View.readAt (Elt F) arg6.view (Rect.unit (k1_off13 i k) S512x128.size (k1_off13_inb i k) : Rect S4096x512).toLoadRect (harg6.unread x3))) (View.readAt (Elt F) arg7.view (Rect.unit (k1_off20 i k) S64x512.size (k1_off20_inb i k) : Rect S512x4096).toLoadRect (harg7.unread x4)) := by
  unfold tripR_k1_t1 trip_k1_t1
  rfl

theorem trip3 (k : Fin (k1_t1_loop i).trips) (acc : LoopState F) :
    pick 3 (tripR_k1_t1 Variants.none c none i arg3 harg3 arg4 harg4 arg5 harg5 arg6 harg6 arg7 harg7 arg8 harg8 arg9 harg9 (0#32) (Q 0) (Q 1) (Q 2) (Q 3) (Q 4) (Q 5) (Q 6) (Q 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) k acc)
      = tileStep Q x2 x3 x4 3 (2 * k.val + 1) (tileStep Q x2 x3 x4 3 (2 * k.val) (pick 3 acc)) := by
  rw [trip_raw3]
  rw [key_load harg5 _ _ _ _ _ (off2_eq i k), key_load harg6 _ _ _ _ _ (off2_eq i k), val_load harg7 _ _ _ _ _ (off8_eq i k),
    key_load harg5 _ _ _ _ _ (off13_eq i k), key_load harg6 _ _ _ _ _ (off13_eq i k), val_load harg7 _ _ _ _ _ (off20_eq i k)]
  rfl

theorem trip_raw4 (k : Fin (k1_t1_loop i).trips) (acc : LoopState F) :
    pick 4 (tripR_k1_t1 Variants.none c none i arg3 harg3 arg4 harg4 arg5 harg5 arg6 harg6 arg7 harg7 arg8 harg8 arg9 harg9 (0#32) (Q 0) (Q 1) (Q 2) (Q 3) (Q 4) (Q 5) (Q 6) (Q 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) k acc)
      = cell (cell (pick 4 acc) (k1_pay2 (Q 4) (View.readAt (Elt F) arg5.view (Rect.unit (k1_off4 i k) S512x128.size (k1_off4_inb i k) : Rect S4096x512).toLoadRect (harg5.unread x2)) (View.readAt (Elt F) arg6.view (Rect.unit (k1_off4 i k) S512x128.size (k1_off4_inb i k) : Rect S4096x512).toLoadRect (harg6.unread x3))) (View.readAt (Elt F) arg7.view (Rect.unit (k1_off9 i k) S64x512.size (k1_off9_inb i k) : Rect S512x4096).toLoadRect (harg7.unread x4))) (k1_pay2 (Q 4) (View.readAt (Elt F) arg5.view (Rect.unit (k1_off16 i k) S512x128.size (k1_off16_inb i k) : Rect S4096x512).toLoadRect (harg5.unread x2)) (View.readAt (Elt F) arg6.view (Rect.unit (k1_off16 i k) S512x128.size (k1_off16_inb i k) : Rect S4096x512).toLoadRect (harg6.unread x3))) (View.readAt (Elt F) arg7.view (Rect.unit (k1_off21 i k) S64x512.size (k1_off21_inb i k) : Rect S512x4096).toLoadRect (harg7.unread x4)) := by
  unfold tripR_k1_t1 trip_k1_t1
  rfl

theorem trip4 (k : Fin (k1_t1_loop i).trips) (acc : LoopState F) :
    pick 4 (tripR_k1_t1 Variants.none c none i arg3 harg3 arg4 harg4 arg5 harg5 arg6 harg6 arg7 harg7 arg8 harg8 arg9 harg9 (0#32) (Q 0) (Q 1) (Q 2) (Q 3) (Q 4) (Q 5) (Q 6) (Q 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) k acc)
      = tileStep Q x2 x3 x4 4 (2 * k.val + 1) (tileStep Q x2 x3 x4 4 (2 * k.val) (pick 4 acc)) := by
  rw [trip_raw4]
  rw [key_load harg5 _ _ _ _ _ (off4_eq i k), key_load harg6 _ _ _ _ _ (off4_eq i k), val_load harg7 _ _ _ _ _ (off9_eq i k),
    key_load harg5 _ _ _ _ _ (off16_eq i k), key_load harg6 _ _ _ _ _ (off16_eq i k), val_load harg7 _ _ _ _ _ (off21_eq i k)]
  rfl

theorem trip_raw5 (k : Fin (k1_t1_loop i).trips) (acc : LoopState F) :
    pick 5 (tripR_k1_t1 Variants.none c none i arg3 harg3 arg4 harg4 arg5 harg5 arg6 harg6 arg7 harg7 arg8 harg8 arg9 harg9 (0#32) (Q 0) (Q 1) (Q 2) (Q 3) (Q 4) (Q 5) (Q 6) (Q 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) k acc)
      = cell (cell (pick 5 acc) (k1_pay2 (Q 5) (View.readAt (Elt F) arg5.view (Rect.unit (k1_off4 i k) S512x128.size (k1_off4_inb i k) : Rect S4096x512).toLoadRect (harg5.unread x2)) (View.readAt (Elt F) arg6.view (Rect.unit (k1_off4 i k) S512x128.size (k1_off4_inb i k) : Rect S4096x512).toLoadRect (harg6.unread x3))) (View.readAt (Elt F) arg7.view (Rect.unit (k1_off11 i k) S64x512.size (k1_off11_inb i k) : Rect S512x4096).toLoadRect (harg7.unread x4))) (k1_pay2 (Q 5) (View.readAt (Elt F) arg5.view (Rect.unit (k1_off16 i k) S512x128.size (k1_off16_inb i k) : Rect S4096x512).toLoadRect (harg5.unread x2)) (View.readAt (Elt F) arg6.view (Rect.unit (k1_off16 i k) S512x128.size (k1_off16_inb i k) : Rect S4096x512).toLoadRect (harg6.unread x3))) (View.readAt (Elt F) arg7.view (Rect.unit (k1_off22 i k) S64x512.size (k1_off22_inb i k) : Rect S512x4096).toLoadRect (harg7.unread x4)) := by
  unfold tripR_k1_t1 trip_k1_t1
  rfl

theorem trip5 (k : Fin (k1_t1_loop i).trips) (acc : LoopState F) :
    pick 5 (tripR_k1_t1 Variants.none c none i arg3 harg3 arg4 harg4 arg5 harg5 arg6 harg6 arg7 harg7 arg8 harg8 arg9 harg9 (0#32) (Q 0) (Q 1) (Q 2) (Q 3) (Q 4) (Q 5) (Q 6) (Q 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) k acc)
      = tileStep Q x2 x3 x4 5 (2 * k.val + 1) (tileStep Q x2 x3 x4 5 (2 * k.val) (pick 5 acc)) := by
  rw [trip_raw5]
  rw [key_load harg5 _ _ _ _ _ (off4_eq i k), key_load harg6 _ _ _ _ _ (off4_eq i k), val_load harg7 _ _ _ _ _ (off11_eq i k),
    key_load harg5 _ _ _ _ _ (off16_eq i k), key_load harg6 _ _ _ _ _ (off16_eq i k), val_load harg7 _ _ _ _ _ (off22_eq i k)]
  rfl

theorem trip_raw6 (k : Fin (k1_t1_loop i).trips) (acc : LoopState F) :
    pick 6 (tripR_k1_t1 Variants.none c none i arg3 harg3 arg4 harg4 arg5 harg5 arg6 harg6 arg7 harg7 arg8 harg8 arg9 harg9 (0#32) (Q 0) (Q 1) (Q 2) (Q 3) (Q 4) (Q 5) (Q 6) (Q 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) k acc)
      = cell (cell (pick 6 acc) (k1_pay2 (Q 6) (View.readAt (Elt F) arg5.view (Rect.unit (k1_off7 i k) S512x128.size (k1_off7_inb i k) : Rect S4096x512).toLoadRect (harg5.unread x2)) (View.readAt (Elt F) arg6.view (Rect.unit (k1_off7 i k) S512x128.size (k1_off7_inb i k) : Rect S4096x512).toLoadRect (harg6.unread x3))) (View.readAt (Elt F) arg7.view (Rect.unit (k1_off12 i k) S64x512.size (k1_off12_inb i k) : Rect S512x4096).toLoadRect (harg7.unread x4))) (k1_pay2 (Q 6) (View.readAt (Elt F) arg5.view (Rect.unit (k1_off19 i k) S512x128.size (k1_off19_inb i k) : Rect S4096x512).toLoadRect (harg5.unread x2)) (View.readAt (Elt F) arg6.view (Rect.unit (k1_off19 i k) S512x128.size (k1_off19_inb i k) : Rect S4096x512).toLoadRect (harg6.unread x3))) (View.readAt (Elt F) arg7.view (Rect.unit (k1_off23 i k) S64x512.size (k1_off23_inb i k) : Rect S512x4096).toLoadRect (harg7.unread x4)) := by
  unfold tripR_k1_t1 trip_k1_t1
  rfl

theorem trip6 (k : Fin (k1_t1_loop i).trips) (acc : LoopState F) :
    pick 6 (tripR_k1_t1 Variants.none c none i arg3 harg3 arg4 harg4 arg5 harg5 arg6 harg6 arg7 harg7 arg8 harg8 arg9 harg9 (0#32) (Q 0) (Q 1) (Q 2) (Q 3) (Q 4) (Q 5) (Q 6) (Q 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) k acc)
      = tileStep Q x2 x3 x4 6 (2 * k.val + 1) (tileStep Q x2 x3 x4 6 (2 * k.val) (pick 6 acc)) := by
  rw [trip_raw6]
  rw [key_load harg5 _ _ _ _ _ (off7_eq i k), key_load harg6 _ _ _ _ _ (off7_eq i k), val_load harg7 _ _ _ _ _ (off12_eq i k),
    key_load harg5 _ _ _ _ _ (off19_eq i k), key_load harg6 _ _ _ _ _ (off19_eq i k), val_load harg7 _ _ _ _ _ (off23_eq i k)]
  rfl

theorem trip_raw7 (k : Fin (k1_t1_loop i).trips) (acc : LoopState F) :
    pick 7 (tripR_k1_t1 Variants.none c none i arg3 harg3 arg4 harg4 arg5 harg5 arg6 harg6 arg7 harg7 arg8 harg8 arg9 harg9 (0#32) (Q 0) (Q 1) (Q 2) (Q 3) (Q 4) (Q 5) (Q 6) (Q 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) k acc)
      = cell (cell (pick 7 acc) (k1_pay2 (Q 7) (View.readAt (Elt F) arg5.view (Rect.unit (k1_off7 i k) S512x128.size (k1_off7_inb i k) : Rect S4096x512).toLoadRect (harg5.unread x2)) (View.readAt (Elt F) arg6.view (Rect.unit (k1_off7 i k) S512x128.size (k1_off7_inb i k) : Rect S4096x512).toLoadRect (harg6.unread x3))) (View.readAt (Elt F) arg7.view (Rect.unit (k1_off14 i k) S64x512.size (k1_off14_inb i k) : Rect S512x4096).toLoadRect (harg7.unread x4))) (k1_pay2 (Q 7) (View.readAt (Elt F) arg5.view (Rect.unit (k1_off19 i k) S512x128.size (k1_off19_inb i k) : Rect S4096x512).toLoadRect (harg5.unread x2)) (View.readAt (Elt F) arg6.view (Rect.unit (k1_off19 i k) S512x128.size (k1_off19_inb i k) : Rect S4096x512).toLoadRect (harg6.unread x3))) (View.readAt (Elt F) arg7.view (Rect.unit (k1_off24 i k) S64x512.size (k1_off24_inb i k) : Rect S512x4096).toLoadRect (harg7.unread x4)) := by
  unfold tripR_k1_t1 trip_k1_t1
  rfl

theorem trip7 (k : Fin (k1_t1_loop i).trips) (acc : LoopState F) :
    pick 7 (tripR_k1_t1 Variants.none c none i arg3 harg3 arg4 harg4 arg5 harg5 arg6 harg6 arg7 harg7 arg8 harg8 arg9 harg9 (0#32) (Q 0) (Q 1) (Q 2) (Q 3) (Q 4) (Q 5) (Q 6) (Q 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) k acc)
      = tileStep Q x2 x3 x4 7 (2 * k.val + 1) (tileStep Q x2 x3 x4 7 (2 * k.val) (pick 7 acc)) := by
  rw [trip_raw7]
  rw [key_load harg5 _ _ _ _ _ (off7_eq i k), key_load harg6 _ _ _ _ _ (off7_eq i k), val_load harg7 _ _ _ _ _ (off14_eq i k),
    key_load harg5 _ _ _ _ _ (off19_eq i k), key_load harg6 _ _ _ _ _ (off19_eq i k), val_load harg7 _ _ _ _ _ (off24_eq i k)]
  rfl

/-- The loop's state after `n` trips holds, for every head, the key tiles below `2 n`. -/
theorem loop_state (h : Fin 8) : ∀ n : ℕ, n ≤ (k1_t1_loop i).trips →
    pick h (st_k1_t1 Variants.none c none i arg3 harg3 arg4 harg4 arg5 harg5 arg6 harg6 arg7 harg7 arg8 harg8 arg9 harg9 (0#32) (Q 0) (Q 1) (Q 2) (Q 3) (Q 4) (Q 5) (Q 6) (Q 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) (k1_pay175, k1_pay176, k1_pay177, k1_pay178, k1_pay179, k1_pay180, k1_pay181, k1_pay182, k1_pay183, k1_pay184, k1_pay185, k1_pay186, k1_pay187, k1_pay188, k1_pay189, k1_pay190) n) = tilesBelow Q x2 x3 x4 h (2 * n)
  | 0, _ => by
    rw [st_k1_t1_zero]
    fin_cases h <;> rfl
  | n + 1, hn => by
    have e := st_k1_t1_succ Variants.none c none i arg3 harg3 arg4 harg4 arg5 harg5 arg6 harg6 arg7 harg7 arg8 harg8 arg9 harg9 (0#32) (Q 0) (Q 1) (Q 2) (Q 3) (Q 4) (Q 5) (Q 6) (Q 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) (k1_pay175, k1_pay176, k1_pay177, k1_pay178, k1_pay179, k1_pay180, k1_pay181, k1_pay182, k1_pay183, k1_pay184, k1_pay185, k1_pay186, k1_pay187, k1_pay188, k1_pay189, k1_pay190) ⟨n, hn⟩
    rw [e]
    have ih := loop_state h n (Nat.le_of_succ_le hn)
    have step : ∀ acc : LoopState F, pick h (tripR_k1_t1 Variants.none c none i arg3 harg3 arg4 harg4 arg5 harg5 arg6 harg6 arg7 harg7 arg8 harg8 arg9 harg9 (0#32) (Q 0) (Q 1) (Q 2) (Q 3) (Q 4) (Q 5) (Q 6) (Q 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) ⟨n, hn⟩ acc)
        = tileStep Q x2 x3 x4 h (2 * n + 1) (tileStep Q x2 x3 x4 h (2 * n) (pick h acc)) := by
      intro acc
      match h with
      | 0 => exact trip0 c i arg3 harg3 arg4 harg4 arg5 harg5 arg6 harg6 arg7 harg7 arg8 harg8 arg9 harg9 Q x2 x3 x4 ⟨n, hn⟩ acc
      | 1 => exact trip1 c i arg3 harg3 arg4 harg4 arg5 harg5 arg6 harg6 arg7 harg7 arg8 harg8 arg9 harg9 Q x2 x3 x4 ⟨n, hn⟩ acc
      | 2 => exact trip2 c i arg3 harg3 arg4 harg4 arg5 harg5 arg6 harg6 arg7 harg7 arg8 harg8 arg9 harg9 Q x2 x3 x4 ⟨n, hn⟩ acc
      | 3 => exact trip3 c i arg3 harg3 arg4 harg4 arg5 harg5 arg6 harg6 arg7 harg7 arg8 harg8 arg9 harg9 Q x2 x3 x4 ⟨n, hn⟩ acc
      | 4 => exact trip4 c i arg3 harg3 arg4 harg4 arg5 harg5 arg6 harg6 arg7 harg7 arg8 harg8 arg9 harg9 Q x2 x3 x4 ⟨n, hn⟩ acc
      | 5 => exact trip5 c i arg3 harg3 arg4 harg4 arg5 harg5 arg6 harg6 arg7 harg7 arg8 harg8 arg9 harg9 Q x2 x3 x4 ⟨n, hn⟩ acc
      | 6 => exact trip6 c i arg3 harg3 arg4 harg4 arg5 harg5 arg6 harg6 arg7 harg7 arg8 harg8 arg9 harg9 Q x2 x3 x4 ⟨n, hn⟩ acc
      | 7 => exact trip7 c i arg3 harg3 arg4 harg4 arg5 harg5 arg6 harg6 arg7 harg7 arg8 harg8 arg9 harg9 Q x2 x3 x4 ⟨n, hn⟩ acc
    rw [step, ih]
    rfl

end Cert.KernelIdeal.Gen
-- ==== Proof.OutEven.lean ====
module

public import proofs.«01_k».proof.Proof.AttnTrip
public import proofs.«01_k».proof.Proof.AttnEven
public import Idealize.ShloMosaic.Lib.Pipeline.ValueKit.Tiles
public import Idealize.ShloMosaic.Lib.Pointwise

@[expose] public section

set_option maxRecDepth 16384

noncomputable section

namespace Cert.KernelIdeal.Gen

open Idealize.ShloMosaic Idealize.ShloMosaic.TcCoe Idealize.ShloMosaic.Tactic

variable {F : FTy → Type} [FloatOps F] [Named F]

/-- The query operands as the body loads them. -/
def rawQuery (arg3 : Memref sig .tc .vmem S512x512 .bf16) (harg3 : arg3.IsWhole) (arg4 : Memref sig .tc .vmem S512x512 .bf16) (harg4 : arg4.IsWhole)
    (x0 x1 : Vec F S512x512 .bf16) (h : Fin 8) : FVec F S512x256 .bf16 :=
  match h with
  | 0 => queryLo (View.readAt (Elt F) arg3.view (Rect.unit ![0, 0] S512x128.size inb_S512x512_S512x128_0_0 : Rect S512x512).toLoadRect (harg3.unread x0)) (View.readAt (Elt F) arg4.view (Rect.unit ![0, 0] S512x128.size inb_S512x512_S512x128_0_0 : Rect S512x512).toLoadRect (harg4.unread x1))
  | 1 => queryHi (View.readAt (Elt F) arg3.view (Rect.unit ![0, 0] S512x128.size inb_S512x512_S512x128_0_0 : Rect S512x512).toLoadRect (harg3.unread x0)) (View.readAt (Elt F) arg4.view (Rect.unit ![0, 0] S512x128.size inb_S512x512_S512x128_0_0 : Rect S512x512).toLoadRect (harg4.unread x1))
  | 2 => queryLo (View.readAt (Elt F) arg3.view (Rect.unit ![0, 128] S512x128.size inb_S512x512_S512x128_0_128 : Rect S512x512).toLoadRect (harg3.unread x0)) (View.readAt (Elt F) arg4.view (Rect.unit ![0, 128] S512x128.size inb_S512x512_S512x128_0_128 : Rect S512x512).toLoadRect (harg4.unread x1))
  | 3 => queryHi (View.readAt (Elt F) arg3.view (Rect.unit ![0, 128] S512x128.size inb_S512x512_S512x128_0_128 : Rect S512x512).toLoadRect (harg3.unread x0)) (View.readAt (Elt F) arg4.view (Rect.unit ![0, 128] S512x128.size inb_S512x512_S512x128_0_128 : Rect S512x512).toLoadRect (harg4.unread x1))
  | 4 => queryLo (View.readAt (Elt F) arg3.view (Rect.unit ![0, 256] S512x128.size inb_S512x512_S512x128_0_256 : Rect S512x512).toLoadRect (harg3.unread x0)) (View.readAt (Elt F) arg4.view (Rect.unit ![0, 256] S512x128.size inb_S512x512_S512x128_0_256 : Rect S512x512).toLoadRect (harg4.unread x1))
  | 5 => queryHi (View.readAt (Elt F) arg3.view (Rect.unit ![0, 256] S512x128.size inb_S512x512_S512x128_0_256 : Rect S512x512).toLoadRect (harg3.unread x0)) (View.readAt (Elt F) arg4.view (Rect.unit ![0, 256] S512x128.size inb_S512x512_S512x128_0_256 : Rect S512x512).toLoadRect (harg4.unread x1))
  | 6 => queryLo (View.readAt (Elt F) arg3.view (Rect.unit ![0, 384] S512x128.size inb_S512x512_S512x128_0_384 : Rect S512x512).toLoadRect (harg3.unread x0)) (View.readAt (Elt F) arg4.view (Rect.unit ![0, 384] S512x128.size inb_S512x512_S512x128_0_384 : Rect S512x512).toLoadRect (harg4.unread x1))
  | 7 => queryHi (View.readAt (Elt F) arg3.view (Rect.unit ![0, 384] S512x128.size inb_S512x512_S512x128_0_384 : Rect S512x512).toLoadRect (harg3.unread x0)) (View.readAt (Elt F) arg4.view (Rect.unit ![0, 384] S512x128.size inb_S512x512_S512x128_0_384 : Rect S512x512).toLoadRect (harg4.unread x1))

theorem rawQuery_eq (arg3 : Memref sig .tc .vmem S512x512 .bf16) (harg3 : arg3.IsWhole) (arg4 : Memref sig .tc .vmem S512x512 .bf16) (harg4 : arg4.IsWhole)
    (x0 x1 : Vec F S512x512 .bf16) : rawQuery arg3 harg3 arg4 harg4 x0 x1 = queryOf x0 x1 := by
  funext h
  match h with
  | 0 => exact congrArg₂ queryLo (lane_load harg3 x0 _ _ 0 rfl) (lane_load harg4 x1 _ _ 0 rfl)
  | 1 => exact congrArg₂ queryHi (lane_load harg3 x0 _ _ 0 rfl) (lane_load harg4 x1 _ _ 0 rfl)
  | 2 => exact congrArg₂ queryLo (lane_load harg3 x0 _ _ 1 rfl) (lane_load harg4 x1 _ _ 1 rfl)
  | 3 => exact congrArg₂ queryHi (lane_load harg3 x0 _ _ 1 rfl) (lane_load harg4 x1 _ _ 1 rfl)
  | 4 => exact congrArg₂ queryLo (lane_load harg3 x0 _ _ 2 rfl) (lane_load harg4 x1 _ _ 2 rfl)
  | 5 => exact congrArg₂ queryHi (lane_load harg3 x0 _ _ 2 rfl) (lane_load harg4 x1 _ _ 2 rfl)
  | 6 => exact congrArg₂ queryLo (lane_load harg3 x0 _ _ 3 rfl) (lane_load harg4 x1 _ _ 3 rfl)
  | 7 => exact congrArg₂ queryHi (lane_load harg3 x0 _ _ 3 rfl) (lane_load harg4 x1 _ _ 3 rfl)

/-- The weighted sums the body ends with, as it loads its operands. -/
def rawSums_E (c : Dev nD) (i : grid1.Coords) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S512x4096 .bf16) (harg7 : arg7.IsWhole) (arg8 : Memref sig .tc .vmem S512x512 .bf16) (harg8 : arg8.IsWhole) (arg9 : Memref sig .tc .vmem S512x512 .bf16) (harg9 : arg9.IsWhole)
    (Q : Fin 8 → FVec F S512x256 .bf16) (x2 x3 : Vec F S4096x512 .bf16) (x4 : Vec F S512x4096 .bf16) (st : LoopState F) (h : Fin 8) : FVec F S80x512 .f32 :=
  match h with
  | 0 => (cell (pick 0 (st)) (maskOf (k1_pay2 (Q 0) (View.readAt (Elt F) arg5.view (Rect.unit (k1_off61 i) S512x128.size (k1_off61_inb i) : Rect S4096x512).toLoadRect (harg5.unread x2)) (View.readAt (Elt F) arg6.view (Rect.unit (k1_off61 i) S512x128.size (k1_off61_inb i) : Rect S4096x512).toLoadRect (harg6.unread x3)))) (View.readAt (Elt F) arg7.view (Rect.unit (k1_off63 i) S64x512.size (k1_off63_inb i) : Rect S512x4096).toLoadRect (harg7.unread x4))).2
  | 1 => (cell (pick 1 (st)) (maskOf (k1_pay2 (Q 1) (View.readAt (Elt F) arg5.view (Rect.unit (k1_off61 i) S512x128.size (k1_off61_inb i) : Rect S4096x512).toLoadRect (harg5.unread x2)) (View.readAt (Elt F) arg6.view (Rect.unit (k1_off61 i) S512x128.size (k1_off61_inb i) : Rect S4096x512).toLoadRect (harg6.unread x3)))) (View.readAt (Elt F) arg7.view (Rect.unit (k1_off65 i) S64x512.size (k1_off65_inb i) : Rect S512x4096).toLoadRect (harg7.unread x4))).2
  | 2 => (cell (pick 2 (st)) (maskOf (k1_pay2 (Q 2) (View.readAt (Elt F) arg5.view (Rect.unit (k1_off62 i) S512x128.size (k1_off62_inb i) : Rect S4096x512).toLoadRect (harg5.unread x2)) (View.readAt (Elt F) arg6.view (Rect.unit (k1_off62 i) S512x128.size (k1_off62_inb i) : Rect S4096x512).toLoadRect (harg6.unread x3)))) (View.readAt (Elt F) arg7.view (Rect.unit (k1_off66 i) S64x512.size (k1_off66_inb i) : Rect S512x4096).toLoadRect (harg7.unread x4))).2
  | 3 => (cell (pick 3 (st)) (maskOf (k1_pay2 (Q 3) (View.readAt (Elt F) arg5.view (Rect.unit (k1_off62 i) S512x128.size (k1_off62_inb i) : Rect S4096x512).toLoadRect (harg5.unread x2)) (View.readAt (Elt F) arg6.view (Rect.unit (k1_off62 i) S512x128.size (k1_off62_inb i) : Rect S4096x512).toLoadRect (harg6.unread x3)))) (View.readAt (Elt F) arg7.view (Rect.unit (k1_off68 i) S64x512.size (k1_off68_inb i) : Rect S512x4096).toLoadRect (harg7.unread x4))).2
  | 4 => (cell (pick 4 (st)) (maskOf (k1_pay2 (Q 4) (View.readAt (Elt F) arg5.view (Rect.unit (k1_off64 i) S512x128.size (k1_off64_inb i) : Rect S4096x512).toLoadRect (harg5.unread x2)) (View.readAt (Elt F) arg6.view (Rect.unit (k1_off64 i) S512x128.size (k1_off64_inb i) : Rect S4096x512).toLoadRect (harg6.unread x3)))) (View.readAt (Elt F) arg7.view (Rect.unit (k1_off69 i) S64x512.size (k1_off69_inb i) : Rect S512x4096).toLoadRect (harg7.unread x4))).2
  | 5 => (cell (pick 5 (st)) (maskOf (k1_pay2 (Q 5) (View.readAt (Elt F) arg5.view (Rect.unit (k1_off64 i) S512x128.size (k1_off64_inb i) : Rect S4096x512).toLoadRect (harg5.unread x2)) (View.readAt (Elt F) arg6.view (Rect.unit (k1_off64 i) S512x128.size (k1_off64_inb i) : Rect S4096x512).toLoadRect (harg6.unread x3)))) (View.readAt (Elt F) arg7.view (Rect.unit (k1_off70 i) S64x512.size (k1_off70_inb i) : Rect S512x4096).toLoadRect (harg7.unread x4))).2
  | 6 => (cell (pick 6 (st)) (maskOf (k1_pay2 (Q 6) (View.readAt (Elt F) arg5.view (Rect.unit (k1_off67 i) S512x128.size (k1_off67_inb i) : Rect S4096x512).toLoadRect (harg5.unread x2)) (View.readAt (Elt F) arg6.view (Rect.unit (k1_off67 i) S512x128.size (k1_off67_inb i) : Rect S4096x512).toLoadRect (harg6.unread x3)))) (View.readAt (Elt F) arg7.view (Rect.unit (k1_off71 i) S64x512.size (k1_off71_inb i) : Rect S512x4096).toLoadRect (harg7.unread x4))).2
  | 7 => (cell (pick 7 (st)) (maskOf (k1_pay2 (Q 7) (View.readAt (Elt F) arg5.view (Rect.unit (k1_off67 i) S512x128.size (k1_off67_inb i) : Rect S4096x512).toLoadRect (harg5.unread x2)) (View.readAt (Elt F) arg6.view (Rect.unit (k1_off67 i) S512x128.size (k1_off67_inb i) : Rect S4096x512).toLoadRect (harg6.unread x3)))) (View.readAt (Elt F) arg7.view (Rect.unit (k1_off72 i) S64x512.size (k1_off72_inb i) : Rect S512x4096).toLoadRect (harg7.unread x4))).2

theorem rawSums_E_eq (c : Dev nD) (i : grid1.Coords) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S512x4096 .bf16) (harg7 : arg7.IsWhole) (arg8 : Memref sig .tc .vmem S512x512 .bf16) (harg8 : arg8.IsWhole) (arg9 : Memref sig .tc .vmem S512x512 .bf16) (harg9 : arg9.IsWhole)
    (Q : Fin 8 → FVec F S512x256 .bf16) (x2 x3 : Vec F S4096x512 .bf16) (x4 : Vec F S512x4096 .bf16) (st : LoopState F) (h : Fin 8) :
    rawSums_E c i arg3 harg3 arg4 harg4 arg5 harg5 arg6 harg6 arg7 harg7 arg8 harg8 arg9 harg9  Q x2 x3 x4 st h = (lastStep Q x2 x3 x4 h (i 2).val (pick h st)).2 := by
  match h with
  | 0 =>
    unfold rawSums_E
    dsimp only
    rw [key_load harg5 _ _ _ _ _ (off61_eq i), key_load harg6 _ _ _ _ _ (off61_eq i), val_load harg7 _ _ _ _ _ (off63_eq i)]
    rfl
  | 1 =>
    unfold rawSums_E
    dsimp only
    rw [key_load harg5 _ _ _ _ _ (off61_eq i), key_load harg6 _ _ _ _ _ (off61_eq i), val_load harg7 _ _ _ _ _ (off65_eq i)]
    rfl
  | 2 =>
    unfold rawSums_E
    dsimp only
    rw [key_load harg5 _ _ _ _ _ (off62_eq i), key_load harg6 _ _ _ _ _ (off62_eq i), val_load harg7 _ _ _ _ _ (off66_eq i)]
    rfl
  | 3 =>
    unfold rawSums_E
    dsimp only
    rw [key_load harg5 _ _ _ _ _ (off62_eq i), key_load harg6 _ _ _ _ _ (off62_eq i), val_load harg7 _ _ _ _ _ (off68_eq i)]
    rfl
  | 4 =>
    unfold rawSums_E
    dsimp only
    rw [key_load harg5 _ _ _ _ _ (off64_eq i), key_load harg6 _ _ _ _ _ (off64_eq i), val_load harg7 _ _ _ _ _ (off69_eq i)]
    rfl
  | 5 =>
    unfold rawSums_E
    dsimp only
    rw [key_load harg5 _ _ _ _ _ (off64_eq i), key_load harg6 _ _ _ _ _ (off64_eq i), val_load harg7 _ _ _ _ _ (off70_eq i)]
    rfl
  | 6 =>
    unfold rawSums_E
    dsimp only
    rw [key_load harg5 _ _ _ _ _ (off67_eq i), key_load harg6 _ _ _ _ _ (off67_eq i), val_load harg7 _ _ _ _ _ (off71_eq i)]
    rfl
  | 7 =>
    unfold rawSums_E
    dsimp only
    rw [key_load harg5 _ _ _ _ _ (off67_eq i), key_load harg6 _ _ _ _ _ (off67_eq i), val_load harg7 _ _ _ _ _ (off72_eq i)]
    rfl

set_option maxHeartbeats 16000000 in
/-- The pieces the run writes. -/
theorem pieces_E (c : Dev nD) (i : grid1.Coords) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S512x4096 .bf16) (harg7 : arg7.IsWhole) (arg8 : Memref sig .tc .vmem S512x512 .bf16) (harg8 : arg8.IsWhole) (arg9 : Memref sig .tc .vmem S512x512 .bf16) (harg9 : arg9.IsWhole) (hc : ¬ k1_cond1 i = 1#1) (x0 x1 : Vec F S512x512 .bf16) (x2 x3 : Vec F S4096x512 .bf16) (x4 : Vec F S512x4096 .bf16) (x5 : Vec F S512x512 .bf16) :
    (attnRun_E c i arg3 harg3 arg4 harg4 arg5 harg5 arg6 harg6 arg7 harg7 arg8 harg8 arg9 harg9 hc x0 x1 x2 x3 x4 x5).1 = [⟨Rect.unit ![0, 384] S512x128.size inb_S512x512_S512x128_0_384, pairOut (View.readAt (Elt F) arg8.view (Rect.unit ![0, 384] S512x128.size inb_S512x512_S512x128_0_384 : Rect S512x512).toLoadRect (harg8.unread x5)) (rawSums_E c i arg3 harg3 arg4 harg4 arg5 harg5 arg6 harg6 arg7 harg7 arg8 harg8 arg9 harg9  (rawQuery arg3 harg3 arg4 harg4 x0 x1) x2 x3 x4 (st_k1_t1 Variants.none c none i arg3 harg3 arg4 harg4 arg5 harg5 arg6 harg6 arg7 harg7 arg8 harg8 arg9 harg9 (0#32) (rawQuery arg3 harg3 arg4 harg4 x0 x1 0) (rawQuery arg3 harg3 arg4 harg4 x0 x1 1) (rawQuery arg3 harg3 arg4 harg4 x0 x1 2) (rawQuery arg3 harg3 arg4 harg4 x0 x1 3) (rawQuery arg3 harg3 arg4 harg4 x0 x1 4) (rawQuery arg3 harg3 arg4 harg4 x0 x1 5) (rawQuery arg3 harg3 arg4 harg4 x0 x1 6) (rawQuery arg3 harg3 arg4 harg4 x0 x1 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) (k1_pay175, k1_pay176, k1_pay177, k1_pay178, k1_pay179, k1_pay180, k1_pay181, k1_pay182, k1_pay183, k1_pay184, k1_pay185, k1_pay186, k1_pay187, k1_pay188, k1_pay189, k1_pay190) (k1_t1_loop i).trips) 6) (rawSums_E c i arg3 harg3 arg4 harg4 arg5 harg5 arg6 harg6 arg7 harg7 arg8 harg8 arg9 harg9  (rawQuery arg3 harg3 arg4 harg4 x0 x1) x2 x3 x4 (st_k1_t1 Variants.none c none i arg3 harg3 arg4 harg4 arg5 harg5 arg6 harg6 arg7 harg7 arg8 harg8 arg9 harg9 (0#32) (rawQuery arg3 harg3 arg4 harg4 x0 x1 0) (rawQuery arg3 harg3 arg4 harg4 x0 x1 1) (rawQuery arg3 harg3 arg4 harg4 x0 x1 2) (rawQuery arg3 harg3 arg4 harg4 x0 x1 3) (rawQuery arg3 harg3 arg4 harg4 x0 x1 4) (rawQuery arg3 harg3 arg4 harg4 x0 x1 5) (rawQuery arg3 harg3 arg4 harg4 x0 x1 6) (rawQuery arg3 harg3 arg4 harg4 x0 x1 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) (k1_pay175, k1_pay176, k1_pay177, k1_pay178, k1_pay179, k1_pay180, k1_pay181, k1_pay182, k1_pay183, k1_pay184, k1_pay185, k1_pay186, k1_pay187, k1_pay188, k1_pay189, k1_pay190) (k1_t1_loop i).trips) 7)⟩,
      ⟨Rect.unit ![0, 256] S512x128.size inb_S512x512_S512x128_0_256, pairOut (View.readAt (Elt F) arg8.view (Rect.unit ![0, 256] S512x128.size inb_S512x512_S512x128_0_256 : Rect S512x512).toLoadRect (harg8.unread x5)) (rawSums_E c i arg3 harg3 arg4 harg4 arg5 harg5 arg6 harg6 arg7 harg7 arg8 harg8 arg9 harg9  (rawQuery arg3 harg3 arg4 harg4 x0 x1) x2 x3 x4 (st_k1_t1 Variants.none c none i arg3 harg3 arg4 harg4 arg5 harg5 arg6 harg6 arg7 harg7 arg8 harg8 arg9 harg9 (0#32) (rawQuery arg3 harg3 arg4 harg4 x0 x1 0) (rawQuery arg3 harg3 arg4 harg4 x0 x1 1) (rawQuery arg3 harg3 arg4 harg4 x0 x1 2) (rawQuery arg3 harg3 arg4 harg4 x0 x1 3) (rawQuery arg3 harg3 arg4 harg4 x0 x1 4) (rawQuery arg3 harg3 arg4 harg4 x0 x1 5) (rawQuery arg3 harg3 arg4 harg4 x0 x1 6) (rawQuery arg3 harg3 arg4 harg4 x0 x1 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) (k1_pay175, k1_pay176, k1_pay177, k1_pay178, k1_pay179, k1_pay180, k1_pay181, k1_pay182, k1_pay183, k1_pay184, k1_pay185, k1_pay186, k1_pay187, k1_pay188, k1_pay189, k1_pay190) (k1_t1_loop i).trips) 4) (rawSums_E c i arg3 harg3 arg4 harg4 arg5 harg5 arg6 harg6 arg7 harg7 arg8 harg8 arg9 harg9  (rawQuery arg3 harg3 arg4 harg4 x0 x1) x2 x3 x4 (st_k1_t1 Variants.none c none i arg3 harg3 arg4 harg4 arg5 harg5 arg6 harg6 arg7 harg7 arg8 harg8 arg9 harg9 (0#32) (rawQuery arg3 harg3 arg4 harg4 x0 x1 0) (rawQuery arg3 harg3 arg4 harg4 x0 x1 1) (rawQuery arg3 harg3 arg4 harg4 x0 x1 2) (rawQuery arg3 harg3 arg4 harg4 x0 x1 3) (rawQuery arg3 harg3 arg4 harg4 x0 x1 4) (rawQuery arg3 harg3 arg4 harg4 x0 x1 5) (rawQuery arg3 harg3 arg4 harg4 x0 x1 6) (rawQuery arg3 harg3 arg4 harg4 x0 x1 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) (k1_pay175, k1_pay176, k1_pay177, k1_pay178, k1_pay179, k1_pay180, k1_pay181, k1_pay182, k1_pay183, k1_pay184, k1_pay185, k1_pay186, k1_pay187, k1_pay188, k1_pay189, k1_pay190) (k1_t1_loop i).trips) 5)⟩,
      ⟨Rect.unit ![0, 128] S512x128.size inb_S512x512_S512x128_0_128, pairOut (View.readAt (Elt F) arg8.view (Rect.unit ![0, 128] S512x128.size inb_S512x512_S512x128_0_128 : Rect S512x512).toLoadRect (harg8.unread x5)) (rawSums_E c i arg3 harg3 arg4 harg4 arg5 harg5 arg6 harg6 arg7 harg7 arg8 harg8 arg9 harg9  (rawQuery arg3 harg3 arg4 harg4 x0 x1) x2 x3 x4 (st_k1_t1 Variants.none c none i arg3 harg3 arg4 harg4 arg5 harg5 arg6 harg6 arg7 harg7 arg8 harg8 arg9 harg9 (0#32) (rawQuery arg3 harg3 arg4 harg4 x0 x1 0) (rawQuery arg3 harg3 arg4 harg4 x0 x1 1) (rawQuery arg3 harg3 arg4 harg4 x0 x1 2) (rawQuery arg3 harg3 arg4 harg4 x0 x1 3) (rawQuery arg3 harg3 arg4 harg4 x0 x1 4) (rawQuery arg3 harg3 arg4 harg4 x0 x1 5) (rawQuery arg3 harg3 arg4 harg4 x0 x1 6) (rawQuery arg3 harg3 arg4 harg4 x0 x1 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) (k1_pay175, k1_pay176, k1_pay177, k1_pay178, k1_pay179, k1_pay180, k1_pay181, k1_pay182, k1_pay183, k1_pay184, k1_pay185, k1_pay186, k1_pay187, k1_pay188, k1_pay189, k1_pay190) (k1_t1_loop i).trips) 2) (rawSums_E c i arg3 harg3 arg4 harg4 arg5 harg5 arg6 harg6 arg7 harg7 arg8 harg8 arg9 harg9  (rawQuery arg3 harg3 arg4 harg4 x0 x1) x2 x3 x4 (st_k1_t1 Variants.none c none i arg3 harg3 arg4 harg4 arg5 harg5 arg6 harg6 arg7 harg7 arg8 harg8 arg9 harg9 (0#32) (rawQuery arg3 harg3 arg4 harg4 x0 x1 0) (rawQuery arg3 harg3 arg4 harg4 x0 x1 1) (rawQuery arg3 harg3 arg4 harg4 x0 x1 2) (rawQuery arg3 harg3 arg4 harg4 x0 x1 3) (rawQuery arg3 harg3 arg4 harg4 x0 x1 4) (rawQuery arg3 harg3 arg4 harg4 x0 x1 5) (rawQuery arg3 harg3 arg4 harg4 x0 x1 6) (rawQuery arg3 harg3 arg4 harg4 x0 x1 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) (k1_pay175, k1_pay176, k1_pay177, k1_pay178, k1_pay179, k1_pay180, k1_pay181, k1_pay182, k1_pay183, k1_pay184, k1_pay185, k1_pay186, k1_pay187, k1_pay188, k1_pay189, k1_pay190) (k1_t1_loop i).trips) 3)⟩,
      ⟨Rect.unit ![0, 0] S512x128.size inb_S512x512_S512x128_0_0, pairOut (View.readAt (Elt F) arg8.view (Rect.unit ![0, 0] S512x128.size inb_S512x512_S512x128_0_0 : Rect S512x512).toLoadRect (harg8.unread x5)) (rawSums_E c i arg3 harg3 arg4 harg4 arg5 harg5 arg6 harg6 arg7 harg7 arg8 harg8 arg9 harg9  (rawQuery arg3 harg3 arg4 harg4 x0 x1) x2 x3 x4 (st_k1_t1 Variants.none c none i arg3 harg3 arg4 harg4 arg5 harg5 arg6 harg6 arg7 harg7 arg8 harg8 arg9 harg9 (0#32) (rawQuery arg3 harg3 arg4 harg4 x0 x1 0) (rawQuery arg3 harg3 arg4 harg4 x0 x1 1) (rawQuery arg3 harg3 arg4 harg4 x0 x1 2) (rawQuery arg3 harg3 arg4 harg4 x0 x1 3) (rawQuery arg3 harg3 arg4 harg4 x0 x1 4) (rawQuery arg3 harg3 arg4 harg4 x0 x1 5) (rawQuery arg3 harg3 arg4 harg4 x0 x1 6) (rawQuery arg3 harg3 arg4 harg4 x0 x1 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) (k1_pay175, k1_pay176, k1_pay177, k1_pay178, k1_pay179, k1_pay180, k1_pay181, k1_pay182, k1_pay183, k1_pay184, k1_pay185, k1_pay186, k1_pay187, k1_pay188, k1_pay189, k1_pay190) (k1_t1_loop i).trips) 0) (rawSums_E c i arg3 harg3 arg4 harg4 arg5 harg5 arg6 harg6 arg7 harg7 arg8 harg8 arg9 harg9  (rawQuery arg3 harg3 arg4 harg4 x0 x1) x2 x3 x4 (st_k1_t1 Variants.none c none i arg3 harg3 arg4 harg4 arg5 harg5 arg6 harg6 arg7 harg7 arg8 harg8 arg9 harg9 (0#32) (rawQuery arg3 harg3 arg4 harg4 x0 x1 0) (rawQuery arg3 harg3 arg4 harg4 x0 x1 1) (rawQuery arg3 harg3 arg4 harg4 x0 x1 2) (rawQuery arg3 harg3 arg4 harg4 x0 x1 3) (rawQuery arg3 harg3 arg4 harg4 x0 x1 4) (rawQuery arg3 harg3 arg4 harg4 x0 x1 5) (rawQuery arg3 harg3 arg4 harg4 x0 x1 6) (rawQuery arg3 harg3 arg4 harg4 x0 x1 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) (k1_pay175, k1_pay176, k1_pay177, k1_pay178, k1_pay179, k1_pay180, k1_pay181, k1_pay182, k1_pay183, k1_pay184, k1_pay185, k1_pay186, k1_pay187, k1_pay188, k1_pay189, k1_pay190) (k1_t1_loop i).trips) 1)⟩] := by
  unfold attnRun_E
  rfl

/-- The weighted sums of head `h` after all its key tiles. -/
def headSums (i : ℕ) (x0 x1 : Vec F S512x512 .bf16) (x2 x3 : Vec F S4096x512 .bf16) (x4 : Vec F S512x4096 .bf16) (h : Fin 8) : FVec F S80x512 .f32 :=
  (lastStep (queryOf x0 x1) x2 x3 x4 h i (tilesBelow (queryOf x0 x1) x2 x3 x4 h i)).2

theorem sums_E (c : Dev nD) (i : grid1.Coords) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S512x4096 .bf16) (harg7 : arg7.IsWhole) (arg8 : Memref sig .tc .vmem S512x512 .bf16) (harg8 : arg8.IsWhole) (arg9 : Memref sig .tc .vmem S512x512 .bf16) (harg9 : arg9.IsWhole) (hc : ¬ k1_cond1 i = 1#1) (x0 x1 : Vec F S512x512 .bf16) (x2 x3 : Vec F S4096x512 .bf16) (x4 : Vec F S512x4096 .bf16) (x5 : Vec F S512x512 .bf16) (h : Fin 8) :
    rawSums_E c i arg3 harg3 arg4 harg4 arg5 harg5 arg6 harg6 arg7 harg7 arg8 harg8 arg9 harg9  (rawQuery arg3 harg3 arg4 harg4 x0 x1) x2 x3 x4 (st_k1_t1 Variants.none c none i arg3 harg3 arg4 harg4 arg5 harg5 arg6 harg6 arg7 harg7 arg8 harg8 arg9 harg9 (0#32) (rawQuery arg3 harg3 arg4 harg4 x0 x1 0) (rawQuery arg3 harg3 arg4 harg4 x0 x1 1) (rawQuery arg3 harg3 arg4 harg4 x0 x1 2) (rawQuery arg3 harg3 arg4 harg4 x0 x1 3) (rawQuery arg3 harg3 arg4 harg4 x0 x1 4) (rawQuery arg3 harg3 arg4 harg4 x0 x1 5) (rawQuery arg3 harg3 arg4 harg4 x0 x1 6) (rawQuery arg3 harg3 arg4 harg4 x0 x1 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) (k1_pay175, k1_pay176, k1_pay177, k1_pay178, k1_pay179, k1_pay180, k1_pay181, k1_pay182, k1_pay183, k1_pay184, k1_pay185, k1_pay186, k1_pay187, k1_pay188, k1_pay189, k1_pay190) (k1_t1_loop i).trips) h = headSums (i 2).val x0 x1 x2 x3 x4 h := by
  rw [rawSums_E_eq, loop_state c i arg3 harg3 arg4 harg4 arg5 harg5 arg6 harg6 arg7 harg7 arg8 harg8 arg9 harg9 (rawQuery arg3 harg3 arg4 harg4 x0 x1) x2 x3 x4 h _ le_rfl, rawQuery_eq]
  rw [trips_two i hc]
  rfl

theorem pieces_E_eq (c : Dev nD) (i : grid1.Coords) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S512x4096 .bf16) (harg7 : arg7.IsWhole) (arg8 : Memref sig .tc .vmem S512x512 .bf16) (harg8 : arg8.IsWhole) (arg9 : Memref sig .tc .vmem S512x512 .bf16) (harg9 : arg9.IsWhole) (hc : ¬ k1_cond1 i = 1#1) (x0 x1 : Vec F S512x512 .bf16) (x2 x3 : Vec F S4096x512 .bf16) (x4 : Vec F S512x4096 .bf16) (x5 : Vec F S512x512 .bf16) :
    (attnRun_E c i arg3 harg3 arg4 harg4 arg5 harg5 arg6 harg6 arg7 harg7 arg8 harg8 arg9 harg9 hc x0 x1 x2 x3 x4 x5).1 = [⟨Rect.unit ![0, 384] S512x128.size inb_S512x512_S512x128_0_384, pairOut (laneTile x5 3) (headSums (i 2).val x0 x1 x2 x3 x4 6) (headSums (i 2).val x0 x1 x2 x3 x4 7)⟩,
      ⟨Rect.unit ![0, 256] S512x128.size inb_S512x512_S512x128_0_256, pairOut (laneTile x5 2) (headSums (i 2).val x0 x1 x2 x3 x4 4) (headSums (i 2).val x0 x1 x2 x3 x4 5)⟩,
      ⟨Rect.unit ![0, 128] S512x128.size inb_S512x512_S512x128_0_128, pairOut (laneTile x5 1) (headSums (i 2).val x0 x1 x2 x3 x4 2) (headSums (i 2).val x0 x1 x2 x3 x4 3)⟩,
      ⟨Rect.unit ![0, 0] S512x128.size inb_S512x512_S512x128_0_0, pairOut (laneTile x5 0) (headSums (i 2).val x0 x1 x2 x3 x4 0) (headSums (i 2).val x0 x1 x2 x3 x4 1)⟩] := by
  rw [pieces_E]
  simp only [sums_E c i arg3 harg3 arg4 harg4 arg5 harg5 arg6 harg6 arg7 harg7 arg8 harg8 arg9 harg9 hc x0 x1 x2 x3 x4 x5]
  rw [lane_load harg8 x5 ![0, 0] inb_S512x512_S512x128_0_0 0 rfl, lane_load harg8 x5 ![0, 128] inb_S512x512_S512x128_0_128 1 rfl, lane_load harg8 x5 ![0, 256] inb_S512x512_S512x128_0_256 2 rfl, lane_load harg8 x5 ![0, 384] inb_S512x512_S512x128_0_384 3 rfl]

end Cert.KernelIdeal.Gen
-- ==== Proof.OutOdd.lean ====
module

public import proofs.«01_k».proof.Proof.AttnTrip
public import proofs.«01_k».proof.Proof.AttnOdd
public import proofs.«01_k».proof.Proof.OutEven
public import Idealize.ShloMosaic.Lib.Pipeline.ValueKit.Tiles
public import Idealize.ShloMosaic.Lib.Pointwise

@[expose] public section

set_option maxRecDepth 16384

noncomputable section

namespace Cert.KernelIdeal.Gen

open Idealize.ShloMosaic Idealize.ShloMosaic.TcCoe Idealize.ShloMosaic.Tactic

variable {F : FTy → Type} [FloatOps F] [Named F]

/-- The weighted sums the body ends with, as it loads its operands. -/
def rawSums_T (c : Dev nD) (i : grid1.Coords) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S512x4096 .bf16) (harg7 : arg7.IsWhole) (arg8 : Memref sig .tc .vmem S512x512 .bf16) (harg8 : arg8.IsWhole) (arg9 : Memref sig .tc .vmem S512x512 .bf16) (harg9 : arg9.IsWhole) (hc : k1_cond1 i = 1#1)
    (Q : Fin 8 → FVec F S512x256 .bf16) (x2 x3 : Vec F S4096x512 .bf16) (x4 : Vec F S512x4096 .bf16) (st : LoopState F) (h : Fin 8) : FVec F S80x512 .f32 :=
  match h with
  | 0 => (cell (cell (pick 0 (st)) (k1_pay2 (Q 0) (View.readAt (Elt F) arg5.view (Rect.unit (k1_off49 i) S512x128.size (k1_off49_inb i hc) : Rect S4096x512).toLoadRect (harg5.unread x2)) (View.readAt (Elt F) arg6.view (Rect.unit (k1_off49 i) S512x128.size (k1_off49_inb i hc) : Rect S4096x512).toLoadRect (harg6.unread x3))) (View.readAt (Elt F) arg7.view (Rect.unit (k1_off51 i) S64x512.size (k1_off51_inb i hc) : Rect S512x4096).toLoadRect (harg7.unread x4))) (maskOf (k1_pay2 (Q 0) (View.readAt (Elt F) arg5.view (Rect.unit (k1_off61 i) S512x128.size (k1_off61_inb i) : Rect S4096x512).toLoadRect (harg5.unread x2)) (View.readAt (Elt F) arg6.view (Rect.unit (k1_off61 i) S512x128.size (k1_off61_inb i) : Rect S4096x512).toLoadRect (harg6.unread x3)))) (View.readAt (Elt F) arg7.view (Rect.unit (k1_off63 i) S64x512.size (k1_off63_inb i) : Rect S512x4096).toLoadRect (harg7.unread x4))).2
  | 1 => (cell (cell (pick 1 (st)) (k1_pay2 (Q 1) (View.readAt (Elt F) arg5.view (Rect.unit (k1_off49 i) S512x128.size (k1_off49_inb i hc) : Rect S4096x512).toLoadRect (harg5.unread x2)) (View.readAt (Elt F) arg6.view (Rect.unit (k1_off49 i) S512x128.size (k1_off49_inb i hc) : Rect S4096x512).toLoadRect (harg6.unread x3))) (View.readAt (Elt F) arg7.view (Rect.unit (k1_off53 i) S64x512.size (k1_off53_inb i hc) : Rect S512x4096).toLoadRect (harg7.unread x4))) (maskOf (k1_pay2 (Q 1) (View.readAt (Elt F) arg5.view (Rect.unit (k1_off61 i) S512x128.size (k1_off61_inb i) : Rect S4096x512).toLoadRect (harg5.unread x2)) (View.readAt (Elt F) arg6.view (Rect.unit (k1_off61 i) S512x128.size (k1_off61_inb i) : Rect S4096x512).toLoadRect (harg6.unread x3)))) (View.readAt (Elt F) arg7.view (Rect.unit (k1_off65 i) S64x512.size (k1_off65_inb i) : Rect S512x4096).toLoadRect (harg7.unread x4))).2
  | 2 => (cell (cell (pick 2 (st)) (k1_pay2 (Q 2) (View.readAt (Elt F) arg5.view (Rect.unit (k1_off50 i) S512x128.size (k1_off50_inb i hc) : Rect S4096x512).toLoadRect (harg5.unread x2)) (View.readAt (Elt F) arg6.view (Rect.unit (k1_off50 i) S512x128.size (k1_off50_inb i hc) : Rect S4096x512).toLoadRect (harg6.unread x3))) (View.readAt (Elt F) arg7.view (Rect.unit (k1_off54 i) S64x512.size (k1_off54_inb i hc) : Rect S512x4096).toLoadRect (harg7.unread x4))) (maskOf (k1_pay2 (Q 2) (View.readAt (Elt F) arg5.view (Rect.unit (k1_off62 i) S512x128.size (k1_off62_inb i) : Rect S4096x512).toLoadRect (harg5.unread x2)) (View.readAt (Elt F) arg6.view (Rect.unit (k1_off62 i) S512x128.size (k1_off62_inb i) : Rect S4096x512).toLoadRect (harg6.unread x3)))) (View.readAt (Elt F) arg7.view (Rect.unit (k1_off66 i) S64x512.size (k1_off66_inb i) : Rect S512x4096).toLoadRect (harg7.unread x4))).2
  | 3 => (cell (cell (pick 3 (st)) (k1_pay2 (Q 3) (View.readAt (Elt F) arg5.view (Rect.unit (k1_off50 i) S512x128.size (k1_off50_inb i hc) : Rect S4096x512).toLoadRect (harg5.unread x2)) (View.readAt (Elt F) arg6.view (Rect.unit (k1_off50 i) S512x128.size (k1_off50_inb i hc) : Rect S4096x512).toLoadRect (harg6.unread x3))) (View.readAt (Elt F) arg7.view (Rect.unit (k1_off56 i) S64x512.size (k1_off56_inb i hc) : Rect S512x4096).toLoadRect (harg7.unread x4))) (maskOf (k1_pay2 (Q 3) (View.readAt (Elt F) arg5.view (Rect.unit (k1_off62 i) S512x128.size (k1_off62_inb i) : Rect S4096x512).toLoadRect (harg5.unread x2)) (View.readAt (Elt F) arg6.view (Rect.unit (k1_off62 i) S512x128.size (k1_off62_inb i) : Rect S4096x512).toLoadRect (harg6.unread x3)))) (View.readAt (Elt F) arg7.view (Rect.unit (k1_off68 i) S64x512.size (k1_off68_inb i) : Rect S512x4096).toLoadRect (harg7.unread x4))).2
  | 4 => (cell (cell (pick 4 (st)) (k1_pay2 (Q 4) (View.readAt (Elt F) arg5.view (Rect.unit (k1_off52 i) S512x128.size (k1_off52_inb i hc) : Rect S4096x512).toLoadRect (harg5.unread x2)) (View.readAt (Elt F) arg6.view (Rect.unit (k1_off52 i) S512x128.size (k1_off52_inb i hc) : Rect S4096x512).toLoadRect (harg6.unread x3))) (View.readAt (Elt F) arg7.view (Rect.unit (k1_off57 i) S64x512.size (k1_off57_inb i hc) : Rect S512x4096).toLoadRect (harg7.unread x4))) (maskOf (k1_pay2 (Q 4) (View.readAt (Elt F) arg5.view (Rect.unit (k1_off64 i) S512x128.size (k1_off64_inb i) : Rect S4096x512).toLoadRect (harg5.unread x2)) (View.readAt (Elt F) arg6.view (Rect.unit (k1_off64 i) S512x128.size (k1_off64_inb i) : Rect S4096x512).toLoadRect (harg6.unread x3)))) (View.readAt (Elt F) arg7.view (Rect.unit (k1_off69 i) S64x512.size (k1_off69_inb i) : Rect S512x4096).toLoadRect (harg7.unread x4))).2
  | 5 => (cell (cell (pick 5 (st)) (k1_pay2 (Q 5) (View.readAt (Elt F) arg5.view (Rect.unit (k1_off52 i) S512x128.size (k1_off52_inb i hc) : Rect S4096x512).toLoadRect (harg5.unread x2)) (View.readAt (Elt F) arg6.view (Rect.unit (k1_off52 i) S512x128.size (k1_off52_inb i hc) : Rect S4096x512).toLoadRect (harg6.unread x3))) (View.readAt (Elt F) arg7.view (Rect.unit (k1_off58 i) S64x512.size (k1_off58_inb i hc) : Rect S512x4096).toLoadRect (harg7.unread x4))) (maskOf (k1_pay2 (Q 5) (View.readAt (Elt F) arg5.view (Rect.unit (k1_off64 i) S512x128.size (k1_off64_inb i) : Rect S4096x512).toLoadRect (harg5.unread x2)) (View.readAt (Elt F) arg6.view (Rect.unit (k1_off64 i) S512x128.size (k1_off64_inb i) : Rect S4096x512).toLoadRect (harg6.unread x3)))) (View.readAt (Elt F) arg7.view (Rect.unit (k1_off70 i) S64x512.size (k1_off70_inb i) : Rect S512x4096).toLoadRect (harg7.unread x4))).2
  | 6 => (cell (cell (pick 6 (st)) (k1_pay2 (Q 6) (View.readAt (Elt F) arg5.view (Rect.unit (k1_off55 i) S512x128.size (k1_off55_inb i hc) : Rect S4096x512).toLoadRect (harg5.unread x2)) (View.readAt (Elt F) arg6.view (Rect.unit (k1_off55 i) S512x128.size (k1_off55_inb i hc) : Rect S4096x512).toLoadRect (harg6.unread x3))) (View.readAt (Elt F) arg7.view (Rect.unit (k1_off59 i) S64x512.size (k1_off59_inb i hc) : Rect S512x4096).toLoadRect (harg7.unread x4))) (maskOf (k1_pay2 (Q 6) (View.readAt (Elt F) arg5.view (Rect.unit (k1_off67 i) S512x128.size (k1_off67_inb i) : Rect S4096x512).toLoadRect (harg5.unread x2)) (View.readAt (Elt F) arg6.view (Rect.unit (k1_off67 i) S512x128.size (k1_off67_inb i) : Rect S4096x512).toLoadRect (harg6.unread x3)))) (View.readAt (Elt F) arg7.view (Rect.unit (k1_off71 i) S64x512.size (k1_off71_inb i) : Rect S512x4096).toLoadRect (harg7.unread x4))).2
  | 7 => (cell (cell (pick 7 (st)) (k1_pay2 (Q 7) (View.readAt (Elt F) arg5.view (Rect.unit (k1_off55 i) S512x128.size (k1_off55_inb i hc) : Rect S4096x512).toLoadRect (harg5.unread x2)) (View.readAt (Elt F) arg6.view (Rect.unit (k1_off55 i) S512x128.size (k1_off55_inb i hc) : Rect S4096x512).toLoadRect (harg6.unread x3))) (View.readAt (Elt F) arg7.view (Rect.unit (k1_off60 i) S64x512.size (k1_off60_inb i hc) : Rect S512x4096).toLoadRect (harg7.unread x4))) (maskOf (k1_pay2 (Q 7) (View.readAt (Elt F) arg5.view (Rect.unit (k1_off67 i) S512x128.size (k1_off67_inb i) : Rect S4096x512).toLoadRect (harg5.unread x2)) (View.readAt (Elt F) arg6.view (Rect.unit (k1_off67 i) S512x128.size (k1_off67_inb i) : Rect S4096x512).toLoadRect (harg6.unread x3)))) (View.readAt (Elt F) arg7.view (Rect.unit (k1_off72 i) S64x512.size (k1_off72_inb i) : Rect S512x4096).toLoadRect (harg7.unread x4))).2

theorem rawSums_T_eq (c : Dev nD) (i : grid1.Coords) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S512x4096 .bf16) (harg7 : arg7.IsWhole) (arg8 : Memref sig .tc .vmem S512x512 .bf16) (harg8 : arg8.IsWhole) (arg9 : Memref sig .tc .vmem S512x512 .bf16) (harg9 : arg9.IsWhole) (hc : k1_cond1 i = 1#1)
    (Q : Fin 8 → FVec F S512x256 .bf16) (x2 x3 : Vec F S4096x512 .bf16) (x4 : Vec F S512x4096 .bf16) (st : LoopState F) (h : Fin 8) :
    rawSums_T c i arg3 harg3 arg4 harg4 arg5 harg5 arg6 harg6 arg7 harg7 arg8 harg8 arg9 harg9 hc Q x2 x3 x4 st h = (lastStep Q x2 x3 x4 h (i 2).val (tileStep Q x2 x3 x4 h ((i 2).val - 1) (pick h st))).2 := by
  match h with
  | 0 =>
    unfold rawSums_T
    dsimp only
    rw [key_load harg5 _ _ _ _ _ (off61_eq i), key_load harg6 _ _ _ _ _ (off61_eq i), val_load harg7 _ _ _ _ _ (off63_eq i),
      key_load harg5 _ _ _ _ _ (off49_eq i hc), key_load harg6 _ _ _ _ _ (off49_eq i hc), val_load harg7 _ _ _ _ _ (off51_eq i hc)]
    rfl
  | 1 =>
    unfold rawSums_T
    dsimp only
    rw [key_load harg5 _ _ _ _ _ (off61_eq i), key_load harg6 _ _ _ _ _ (off61_eq i), val_load harg7 _ _ _ _ _ (off65_eq i),
      key_load harg5 _ _ _ _ _ (off49_eq i hc), key_load harg6 _ _ _ _ _ (off49_eq i hc), val_load harg7 _ _ _ _ _ (off53_eq i hc)]
    rfl
  | 2 =>
    unfold rawSums_T
    dsimp only
    rw [key_load harg5 _ _ _ _ _ (off62_eq i), key_load harg6 _ _ _ _ _ (off62_eq i), val_load harg7 _ _ _ _ _ (off66_eq i),
      key_load harg5 _ _ _ _ _ (off50_eq i hc), key_load harg6 _ _ _ _ _ (off50_eq i hc), val_load harg7 _ _ _ _ _ (off54_eq i hc)]
    rfl
  | 3 =>
    unfold rawSums_T
    dsimp only
    rw [key_load harg5 _ _ _ _ _ (off62_eq i), key_load harg6 _ _ _ _ _ (off62_eq i), val_load harg7 _ _ _ _ _ (off68_eq i),
      key_load harg5 _ _ _ _ _ (off50_eq i hc), key_load harg6 _ _ _ _ _ (off50_eq i hc), val_load harg7 _ _ _ _ _ (off56_eq i hc)]
    rfl
  | 4 =>
    unfold rawSums_T
    dsimp only
    rw [key_load harg5 _ _ _ _ _ (off64_eq i), key_load harg6 _ _ _ _ _ (off64_eq i), val_load harg7 _ _ _ _ _ (off69_eq i),
      key_load harg5 _ _ _ _ _ (off52_eq i hc), key_load harg6 _ _ _ _ _ (off52_eq i hc), val_load harg7 _ _ _ _ _ (off57_eq i hc)]
    rfl
  | 5 =>
    unfold rawSums_T
    dsimp only
    rw [key_load harg5 _ _ _ _ _ (off64_eq i), key_load harg6 _ _ _ _ _ (off64_eq i), val_load harg7 _ _ _ _ _ (off70_eq i),
      key_load harg5 _ _ _ _ _ (off52_eq i hc), key_load harg6 _ _ _ _ _ (off52_eq i hc), val_load harg7 _ _ _ _ _ (off58_eq i hc)]
    rfl
  | 6 =>
    unfold rawSums_T
    dsimp only
    rw [key_load harg5 _ _ _ _ _ (off67_eq i), key_load harg6 _ _ _ _ _ (off67_eq i), val_load harg7 _ _ _ _ _ (off71_eq i),
      key_load harg5 _ _ _ _ _ (off55_eq i hc), key_load harg6 _ _ _ _ _ (off55_eq i hc), val_load harg7 _ _ _ _ _ (off59_eq i hc)]
    rfl
  | 7 =>
    unfold rawSums_T
    dsimp only
    rw [key_load harg5 _ _ _ _ _ (off67_eq i), key_load harg6 _ _ _ _ _ (off67_eq i), val_load harg7 _ _ _ _ _ (off72_eq i),
      key_load harg5 _ _ _ _ _ (off55_eq i hc), key_load harg6 _ _ _ _ _ (off55_eq i hc), val_load harg7 _ _ _ _ _ (off60_eq i hc)]
    rfl

set_option maxHeartbeats 16000000 in
/-- The pieces the run writes. -/
theorem pieces_T (c : Dev nD) (i : grid1.Coords) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S512x4096 .bf16) (harg7 : arg7.IsWhole) (arg8 : Memref sig .tc .vmem S512x512 .bf16) (harg8 : arg8.IsWhole) (arg9 : Memref sig .tc .vmem S512x512 .bf16) (harg9 : arg9.IsWhole) (hc : k1_cond1 i = 1#1) (x0 x1 : Vec F S512x512 .bf16) (x2 x3 : Vec F S4096x512 .bf16) (x4 : Vec F S512x4096 .bf16) (x5 : Vec F S512x512 .bf16) :
    (attnRun_T c i arg3 harg3 arg4 harg4 arg5 harg5 arg6 harg6 arg7 harg7 arg8 harg8 arg9 harg9 hc x0 x1 x2 x3 x4 x5).1 = [⟨Rect.unit ![0, 384] S512x128.size inb_S512x512_S512x128_0_384, pairOut (View.readAt (Elt F) arg8.view (Rect.unit ![0, 384] S512x128.size inb_S512x512_S512x128_0_384 : Rect S512x512).toLoadRect (harg8.unread x5)) (rawSums_T c i arg3 harg3 arg4 harg4 arg5 harg5 arg6 harg6 arg7 harg7 arg8 harg8 arg9 harg9 hc (rawQuery arg3 harg3 arg4 harg4 x0 x1) x2 x3 x4 (st_k1_t1 Variants.none c none i arg3 harg3 arg4 harg4 arg5 harg5 arg6 harg6 arg7 harg7 arg8 harg8 arg9 harg9 (0#32) (rawQuery arg3 harg3 arg4 harg4 x0 x1 0) (rawQuery arg3 harg3 arg4 harg4 x0 x1 1) (rawQuery arg3 harg3 arg4 harg4 x0 x1 2) (rawQuery arg3 harg3 arg4 harg4 x0 x1 3) (rawQuery arg3 harg3 arg4 harg4 x0 x1 4) (rawQuery arg3 harg3 arg4 harg4 x0 x1 5) (rawQuery arg3 harg3 arg4 harg4 x0 x1 6) (rawQuery arg3 harg3 arg4 harg4 x0 x1 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) (k1_pay175, k1_pay176, k1_pay177, k1_pay178, k1_pay179, k1_pay180, k1_pay181, k1_pay182, k1_pay183, k1_pay184, k1_pay185, k1_pay186, k1_pay187, k1_pay188, k1_pay189, k1_pay190) (k1_t1_loop i).trips) 6) (rawSums_T c i arg3 harg3 arg4 harg4 arg5 harg5 arg6 harg6 arg7 harg7 arg8 harg8 arg9 harg9 hc (rawQuery arg3 harg3 arg4 harg4 x0 x1) x2 x3 x4 (st_k1_t1 Variants.none c none i arg3 harg3 arg4 harg4 arg5 harg5 arg6 harg6 arg7 harg7 arg8 harg8 arg9 harg9 (0#32) (rawQuery arg3 harg3 arg4 harg4 x0 x1 0) (rawQuery arg3 harg3 arg4 harg4 x0 x1 1) (rawQuery arg3 harg3 arg4 harg4 x0 x1 2) (rawQuery arg3 harg3 arg4 harg4 x0 x1 3) (rawQuery arg3 harg3 arg4 harg4 x0 x1 4) (rawQuery arg3 harg3 arg4 harg4 x0 x1 5) (rawQuery arg3 harg3 arg4 harg4 x0 x1 6) (rawQuery arg3 harg3 arg4 harg4 x0 x1 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) (k1_pay175, k1_pay176, k1_pay177, k1_pay178, k1_pay179, k1_pay180, k1_pay181, k1_pay182, k1_pay183, k1_pay184, k1_pay185, k1_pay186, k1_pay187, k1_pay188, k1_pay189, k1_pay190) (k1_t1_loop i).trips) 7)⟩,
      ⟨Rect.unit ![0, 256] S512x128.size inb_S512x512_S512x128_0_256, pairOut (View.readAt (Elt F) arg8.view (Rect.unit ![0, 256] S512x128.size inb_S512x512_S512x128_0_256 : Rect S512x512).toLoadRect (harg8.unread x5)) (rawSums_T c i arg3 harg3 arg4 harg4 arg5 harg5 arg6 harg6 arg7 harg7 arg8 harg8 arg9 harg9 hc (rawQuery arg3 harg3 arg4 harg4 x0 x1) x2 x3 x4 (st_k1_t1 Variants.none c none i arg3 harg3 arg4 harg4 arg5 harg5 arg6 harg6 arg7 harg7 arg8 harg8 arg9 harg9 (0#32) (rawQuery arg3 harg3 arg4 harg4 x0 x1 0) (rawQuery arg3 harg3 arg4 harg4 x0 x1 1) (rawQuery arg3 harg3 arg4 harg4 x0 x1 2) (rawQuery arg3 harg3 arg4 harg4 x0 x1 3) (rawQuery arg3 harg3 arg4 harg4 x0 x1 4) (rawQuery arg3 harg3 arg4 harg4 x0 x1 5) (rawQuery arg3 harg3 arg4 harg4 x0 x1 6) (rawQuery arg3 harg3 arg4 harg4 x0 x1 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) (k1_pay175, k1_pay176, k1_pay177, k1_pay178, k1_pay179, k1_pay180, k1_pay181, k1_pay182, k1_pay183, k1_pay184, k1_pay185, k1_pay186, k1_pay187, k1_pay188, k1_pay189, k1_pay190) (k1_t1_loop i).trips) 4) (rawSums_T c i arg3 harg3 arg4 harg4 arg5 harg5 arg6 harg6 arg7 harg7 arg8 harg8 arg9 harg9 hc (rawQuery arg3 harg3 arg4 harg4 x0 x1) x2 x3 x4 (st_k1_t1 Variants.none c none i arg3 harg3 arg4 harg4 arg5 harg5 arg6 harg6 arg7 harg7 arg8 harg8 arg9 harg9 (0#32) (rawQuery arg3 harg3 arg4 harg4 x0 x1 0) (rawQuery arg3 harg3 arg4 harg4 x0 x1 1) (rawQuery arg3 harg3 arg4 harg4 x0 x1 2) (rawQuery arg3 harg3 arg4 harg4 x0 x1 3) (rawQuery arg3 harg3 arg4 harg4 x0 x1 4) (rawQuery arg3 harg3 arg4 harg4 x0 x1 5) (rawQuery arg3 harg3 arg4 harg4 x0 x1 6) (rawQuery arg3 harg3 arg4 harg4 x0 x1 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) (k1_pay175, k1_pay176, k1_pay177, k1_pay178, k1_pay179, k1_pay180, k1_pay181, k1_pay182, k1_pay183, k1_pay184, k1_pay185, k1_pay186, k1_pay187, k1_pay188, k1_pay189, k1_pay190) (k1_t1_loop i).trips) 5)⟩,
      ⟨Rect.unit ![0, 128] S512x128.size inb_S512x512_S512x128_0_128, pairOut (View.readAt (Elt F) arg8.view (Rect.unit ![0, 128] S512x128.size inb_S512x512_S512x128_0_128 : Rect S512x512).toLoadRect (harg8.unread x5)) (rawSums_T c i arg3 harg3 arg4 harg4 arg5 harg5 arg6 harg6 arg7 harg7 arg8 harg8 arg9 harg9 hc (rawQuery arg3 harg3 arg4 harg4 x0 x1) x2 x3 x4 (st_k1_t1 Variants.none c none i arg3 harg3 arg4 harg4 arg5 harg5 arg6 harg6 arg7 harg7 arg8 harg8 arg9 harg9 (0#32) (rawQuery arg3 harg3 arg4 harg4 x0 x1 0) (rawQuery arg3 harg3 arg4 harg4 x0 x1 1) (rawQuery arg3 harg3 arg4 harg4 x0 x1 2) (rawQuery arg3 harg3 arg4 harg4 x0 x1 3) (rawQuery arg3 harg3 arg4 harg4 x0 x1 4) (rawQuery arg3 harg3 arg4 harg4 x0 x1 5) (rawQuery arg3 harg3 arg4 harg4 x0 x1 6) (rawQuery arg3 harg3 arg4 harg4 x0 x1 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) (k1_pay175, k1_pay176, k1_pay177, k1_pay178, k1_pay179, k1_pay180, k1_pay181, k1_pay182, k1_pay183, k1_pay184, k1_pay185, k1_pay186, k1_pay187, k1_pay188, k1_pay189, k1_pay190) (k1_t1_loop i).trips) 2) (rawSums_T c i arg3 harg3 arg4 harg4 arg5 harg5 arg6 harg6 arg7 harg7 arg8 harg8 arg9 harg9 hc (rawQuery arg3 harg3 arg4 harg4 x0 x1) x2 x3 x4 (st_k1_t1 Variants.none c none i arg3 harg3 arg4 harg4 arg5 harg5 arg6 harg6 arg7 harg7 arg8 harg8 arg9 harg9 (0#32) (rawQuery arg3 harg3 arg4 harg4 x0 x1 0) (rawQuery arg3 harg3 arg4 harg4 x0 x1 1) (rawQuery arg3 harg3 arg4 harg4 x0 x1 2) (rawQuery arg3 harg3 arg4 harg4 x0 x1 3) (rawQuery arg3 harg3 arg4 harg4 x0 x1 4) (rawQuery arg3 harg3 arg4 harg4 x0 x1 5) (rawQuery arg3 harg3 arg4 harg4 x0 x1 6) (rawQuery arg3 harg3 arg4 harg4 x0 x1 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) (k1_pay175, k1_pay176, k1_pay177, k1_pay178, k1_pay179, k1_pay180, k1_pay181, k1_pay182, k1_pay183, k1_pay184, k1_pay185, k1_pay186, k1_pay187, k1_pay188, k1_pay189, k1_pay190) (k1_t1_loop i).trips) 3)⟩,
      ⟨Rect.unit ![0, 0] S512x128.size inb_S512x512_S512x128_0_0, pairOut (View.readAt (Elt F) arg8.view (Rect.unit ![0, 0] S512x128.size inb_S512x512_S512x128_0_0 : Rect S512x512).toLoadRect (harg8.unread x5)) (rawSums_T c i arg3 harg3 arg4 harg4 arg5 harg5 arg6 harg6 arg7 harg7 arg8 harg8 arg9 harg9 hc (rawQuery arg3 harg3 arg4 harg4 x0 x1) x2 x3 x4 (st_k1_t1 Variants.none c none i arg3 harg3 arg4 harg4 arg5 harg5 arg6 harg6 arg7 harg7 arg8 harg8 arg9 harg9 (0#32) (rawQuery arg3 harg3 arg4 harg4 x0 x1 0) (rawQuery arg3 harg3 arg4 harg4 x0 x1 1) (rawQuery arg3 harg3 arg4 harg4 x0 x1 2) (rawQuery arg3 harg3 arg4 harg4 x0 x1 3) (rawQuery arg3 harg3 arg4 harg4 x0 x1 4) (rawQuery arg3 harg3 arg4 harg4 x0 x1 5) (rawQuery arg3 harg3 arg4 harg4 x0 x1 6) (rawQuery arg3 harg3 arg4 harg4 x0 x1 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) (k1_pay175, k1_pay176, k1_pay177, k1_pay178, k1_pay179, k1_pay180, k1_pay181, k1_pay182, k1_pay183, k1_pay184, k1_pay185, k1_pay186, k1_pay187, k1_pay188, k1_pay189, k1_pay190) (k1_t1_loop i).trips) 0) (rawSums_T c i arg3 harg3 arg4 harg4 arg5 harg5 arg6 harg6 arg7 harg7 arg8 harg8 arg9 harg9 hc (rawQuery arg3 harg3 arg4 harg4 x0 x1) x2 x3 x4 (st_k1_t1 Variants.none c none i arg3 harg3 arg4 harg4 arg5 harg5 arg6 harg6 arg7 harg7 arg8 harg8 arg9 harg9 (0#32) (rawQuery arg3 harg3 arg4 harg4 x0 x1 0) (rawQuery arg3 harg3 arg4 harg4 x0 x1 1) (rawQuery arg3 harg3 arg4 harg4 x0 x1 2) (rawQuery arg3 harg3 arg4 harg4 x0 x1 3) (rawQuery arg3 harg3 arg4 harg4 x0 x1 4) (rawQuery arg3 harg3 arg4 harg4 x0 x1 5) (rawQuery arg3 harg3 arg4 harg4 x0 x1 6) (rawQuery arg3 harg3 arg4 harg4 x0 x1 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) (k1_pay175, k1_pay176, k1_pay177, k1_pay178, k1_pay179, k1_pay180, k1_pay181, k1_pay182, k1_pay183, k1_pay184, k1_pay185, k1_pay186, k1_pay187, k1_pay188, k1_pay189, k1_pay190) (k1_t1_loop i).trips) 1)⟩] := by
  unfold attnRun_T
  rfl

theorem sums_T (c : Dev nD) (i : grid1.Coords) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S512x4096 .bf16) (harg7 : arg7.IsWhole) (arg8 : Memref sig .tc .vmem S512x512 .bf16) (harg8 : arg8.IsWhole) (arg9 : Memref sig .tc .vmem S512x512 .bf16) (harg9 : arg9.IsWhole) (hc : k1_cond1 i = 1#1) (x0 x1 : Vec F S512x512 .bf16) (x2 x3 : Vec F S4096x512 .bf16) (x4 : Vec F S512x4096 .bf16) (x5 : Vec F S512x512 .bf16) (h : Fin 8) :
    rawSums_T c i arg3 harg3 arg4 harg4 arg5 harg5 arg6 harg6 arg7 harg7 arg8 harg8 arg9 harg9 hc (rawQuery arg3 harg3 arg4 harg4 x0 x1) x2 x3 x4 (st_k1_t1 Variants.none c none i arg3 harg3 arg4 harg4 arg5 harg5 arg6 harg6 arg7 harg7 arg8 harg8 arg9 harg9 (0#32) (rawQuery arg3 harg3 arg4 harg4 x0 x1 0) (rawQuery arg3 harg3 arg4 harg4 x0 x1 1) (rawQuery arg3 harg3 arg4 harg4 x0 x1 2) (rawQuery arg3 harg3 arg4 harg4 x0 x1 3) (rawQuery arg3 harg3 arg4 harg4 x0 x1 4) (rawQuery arg3 harg3 arg4 harg4 x0 x1 5) (rawQuery arg3 harg3 arg4 harg4 x0 x1 6) (rawQuery arg3 harg3 arg4 harg4 x0 x1 7) k1_pay175 k1_pay176 k1_pay177 k1_pay178 k1_pay179 k1_pay180 k1_pay181 k1_pay182 k1_pay183 k1_pay184 k1_pay185 k1_pay186 k1_pay187 k1_pay188 k1_pay189 k1_pay190 (0#32) (0#32) (0#32) (0#32) (harg5.unread x2) (harg6.unread x3) (harg7.unread x4) (k1_pay175, k1_pay176, k1_pay177, k1_pay178, k1_pay179, k1_pay180, k1_pay181, k1_pay182, k1_pay183, k1_pay184, k1_pay185, k1_pay186, k1_pay187, k1_pay188, k1_pay189, k1_pay190) (k1_t1_loop i).trips) h = headSums (i 2).val x0 x1 x2 x3 x4 h := by
  rw [rawSums_T_eq, loop_state c i arg3 harg3 arg4 harg4 arg5 harg5 arg6 harg6 arg7 harg7 arg8 harg8 arg9 harg9 (rawQuery arg3 harg3 arg4 harg4 x0 x1) x2 x3 x4 h _ le_rfl, rawQuery_eq]
  obtain ⟨e, h1⟩ := trips_odd i hc
  rw [e]
  generalize (i 2).val = n at h1
  obtain ⟨n, rfl⟩ : ∃ m, n = m + 1 := ⟨n - 1, by omega⟩
  rfl

theorem pieces_T_eq (c : Dev nD) (i : grid1.Coords) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S512x4096 .bf16) (harg7 : arg7.IsWhole) (arg8 : Memref sig .tc .vmem S512x512 .bf16) (harg8 : arg8.IsWhole) (arg9 : Memref sig .tc .vmem S512x512 .bf16) (harg9 : arg9.IsWhole) (hc : k1_cond1 i = 1#1) (x0 x1 : Vec F S512x512 .bf16) (x2 x3 : Vec F S4096x512 .bf16) (x4 : Vec F S512x4096 .bf16) (x5 : Vec F S512x512 .bf16) :
    (attnRun_T c i arg3 harg3 arg4 harg4 arg5 harg5 arg6 harg6 arg7 harg7 arg8 harg8 arg9 harg9 hc x0 x1 x2 x3 x4 x5).1 = [⟨Rect.unit ![0, 384] S512x128.size inb_S512x512_S512x128_0_384, pairOut (laneTile x5 3) (headSums (i 2).val x0 x1 x2 x3 x4 6) (headSums (i 2).val x0 x1 x2 x3 x4 7)⟩,
      ⟨Rect.unit ![0, 256] S512x128.size inb_S512x512_S512x128_0_256, pairOut (laneTile x5 2) (headSums (i 2).val x0 x1 x2 x3 x4 4) (headSums (i 2).val x0 x1 x2 x3 x4 5)⟩,
      ⟨Rect.unit ![0, 128] S512x128.size inb_S512x512_S512x128_0_128, pairOut (laneTile x5 1) (headSums (i 2).val x0 x1 x2 x3 x4 2) (headSums (i 2).val x0 x1 x2 x3 x4 3)⟩,
      ⟨Rect.unit ![0, 0] S512x128.size inb_S512x512_S512x128_0_0, pairOut (laneTile x5 0) (headSums (i 2).val x0 x1 x2 x3 x4 0) (headSums (i 2).val x0 x1 x2 x3 x4 1)⟩] := by
  rw [pieces_T]
  simp only [sums_T c i arg3 harg3 arg4 harg4 arg5 harg5 arg6 harg6 arg7 harg7 arg8 harg8 arg9 harg9 hc x0 x1 x2 x3 x4 x5]
  rw [lane_load harg8 x5 ![0, 0] inb_S512x512_S512x128_0_0 0 rfl, lane_load harg8 x5 ![0, 128] inb_S512x512_S512x128_0_128 1 rfl, lane_load harg8 x5 ![0, 256] inb_S512x512_S512x128_0_256 2 rfl, lane_load harg8 x5 ![0, 384] inb_S512x512_S512x128_0_384 3 rfl]

end Cert.KernelIdeal.Gen
-- ==== Proof.AttnBlock.lean ====
module

public import proofs.«01_k».proof.Proof.OutEven
public import proofs.«01_k».proof.Proof.OutOdd
public import proofs.«01_k».proof.Proof.AttnData
public import Idealize.ShloMosaic.Lib.Pipeline.ValueKit.Tiles
public import Idealize.ShloMosaic.Lib.Pointwise

@[expose] public section

set_option maxRecDepth 16384

noncomputable section

namespace Cert.KernelIdeal.Gen

open Idealize.ShloMosaic Idealize.ShloMosaic.TcCoe Idealize.ShloMosaic.Tactic

variable {F : FTy → Type} [FloatOps F] [Named F]

/-- What one grid point stores of the head pair `p`. -/
def tileOut (n : ℕ) (x0 x1 : Vec F S512x512 .bf16) (x2 x3 : Vec F S4096x512 .bf16) (x4 : Vec F S512x4096 .bf16) (x5 : Vec F S512x512 .bf16) (p : ℕ) : FVec F S512x128 .bf16 :=
  pairOut (laneTile x5 p) (headSums n x0 x1 x2 x3 x4 ⟨(2 * p) % 8, Nat.mod_lt _ (by decide)⟩)
    (headSums n x0 x1 x2 x3 x4 ⟨(2 * p + 1) % 8, Nat.mod_lt _ (by decide)⟩)

/-- What one grid point stores. -/
def blockOut (n : ℕ) (x0 x1 : Vec F S512x512 .bf16) (x2 x3 : Vec F S4096x512 .bf16) (x4 : Vec F S512x4096 .bf16) (x5 : Vec F S512x512 .bf16) : Vec F S512x512 .bf16 := fun y =>
  tileOut n x0 x1 x2 x3 x4 x5 ((y 1).val / 128) (ix2 (⟨(y 0).val % 512, Nat.mod_lt _ (by decide)⟩ : Fin 512) (⟨(y 1).val % 128, Nat.mod_lt _ (by decide)⟩ : Fin 128))

theorem tiles_canon (P : ℕ → FVec F S512x128 .bf16) (y : S512x512.Idx) :
    View.canon (s := S512x512) (Val := Elt F) (e := .bf16) [⟨(Rect.unit ![0, 384] S512x128.size inb_S512x512_S512x128_0_384 : Rect S512x512), P 3⟩, ⟨(Rect.unit ![0, 256] S512x128.size inb_S512x512_S512x128_0_256 : Rect S512x512), P 2⟩,
      ⟨(Rect.unit ![0, 128] S512x128.size inb_S512x512_S512x128_0_128 : Rect S512x512), P 1⟩, ⟨(Rect.unit ![0, 0] S512x128.size inb_S512x512_S512x128_0_0 : Rect S512x512), P 0⟩] y
      = P ((y 1).val / 128) (ix2 (⟨(y 0).val % 512, Nat.mod_lt _ (by decide)⟩ : Fin 512) (⟨(y 1).val % 128, Nat.mod_lt _ (by decide)⟩ : Fin 128)) := by
  have h0 : (y 0).val < 512 := (y 0).isLt
  have h1 : (y 1).val < 512 := (y 1).isLt
  have inb : ∀ (k : Fin 4) (a : Fin 2), (![0, 128 * (3 - k.val)] : Fin 2 → ℕ) a + S512x128.size a ≤ S512x512.size a := by decide
  have e := View.canon_ofFn_unit_eq_of_forall (Val := Elt F) (S := S512x512) (e := .bf16) (N := 4) (fun k => ![0, 128 * (3 - k.val)]) S512x128.size
    inb (fun k => P (3 - k.val)) y
    (P ((y 1).val / 128) (ix2 (⟨(y 0).val % 512, Nat.mod_lt _ (by decide)⟩ : Fin 512) (⟨(y 1).val % 128, Nat.mod_lt _ (by decide)⟩ : Fin 128)))
    ⟨⟨3 - (y 1).val / 128, by omega⟩, fun a => by
      match a with
      | 0 => exact ⟨Nat.zero_le _, by show (y 0).val < 0 + 512; omega⟩
      | 1 =>
        refine ⟨?_, ?_⟩
        · show 128 * (3 - (3 - (y 1).val / 128)) ≤ (y 1).val; omega
        · show (y 1).val < 128 * (3 - (3 - (y 1).val / 128)) + 128; omega⟩
    (fun k x hx => by
      have e0 := hx 0
      have e1 := hx 1
      have x0 : (x 0).val < 512 := (x 0).isLt
      have x1 : (x 1).val < 128 := (x 1).isLt
      have f0 : (y 0).val = 0 + (x 0).val := e0
      have f1 : (y 1).val = 128 * (3 - k.val) + (x 1).val := e1
      have d : (y 1).val / 128 = 3 - k.val := by omega
      have m : (y 1).val % 128 = (x 1).val := by omega
      show P (3 - k.val) x = _
      rw [d]
      congr 1
      funext a
      match a with
      | 0 => exact Fin.ext (by show (x 0).val = (y 0).val % 512; omega)
      | 1 => exact Fin.ext m.symm)
  exact e

theorem attnOut_E_eq (c : Dev nD) (i : grid1.Coords) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S512x4096 .bf16) (harg7 : arg7.IsWhole) (arg8 : Memref sig .tc .vmem S512x512 .bf16) (harg8 : arg8.IsWhole) (arg9 : Memref sig .tc .vmem S512x512 .bf16) (harg9 : arg9.IsWhole) (hc : ¬ k1_cond1 i = 1#1) (x0 x1 : Vec F S512x512 .bf16) (x2 x3 : Vec F S4096x512 .bf16) (x4 : Vec F S512x4096 .bf16) (x5 : Vec F S512x512 .bf16) :
    attnOut_E c i arg3 harg3 arg4 harg4 arg5 harg5 arg6 harg6 arg7 harg7 arg8 harg8 arg9 harg9 hc x0 x1 x2 x3 x4 x5 = blockOut (i 2).val x0 x1 x2 x3 x4 x5 := by
  unfold attnOut_E
  rw [View.read_writes_junk_eq_canon, pieces_E_eq]
  funext y
  exact tiles_canon (tileOut (i 2).val x0 x1 x2 x3 x4 x5) y

theorem attnOut_T_eq (c : Dev nD) (i : grid1.Coords) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S512x4096 .bf16) (harg7 : arg7.IsWhole) (arg8 : Memref sig .tc .vmem S512x512 .bf16) (harg8 : arg8.IsWhole) (arg9 : Memref sig .tc .vmem S512x512 .bf16) (harg9 : arg9.IsWhole) (hc : k1_cond1 i = 1#1) (x0 x1 : Vec F S512x512 .bf16) (x2 x3 : Vec F S4096x512 .bf16) (x4 : Vec F S512x4096 .bf16) (x5 : Vec F S512x512 .bf16) :
    attnOut_T c i arg3 harg3 arg4 harg4 arg5 harg5 arg6 harg6 arg7 harg7 arg8 harg8 arg9 harg9 hc x0 x1 x2 x3 x4 x5 = blockOut (i 2).val x0 x1 x2 x3 x4 x5 := by
  unfold attnOut_T
  rw [View.read_writes_junk_eq_canon, pieces_T_eq]
  funext y
  exact tiles_canon (tileOut (i 2).val x0 x1 x2 x3 x4 x5) y

theorem attnAt_eq (V : (c : Dev nD) → (b : Ref sig .tc) → Buf (Elt F) ((c : Thread nD τ).loc b)) (c : Dev nD) (t : Fin cfg1.N) :
    attnAt V c t = blockOut ((grid1.coords t) 2).val (blk1 V c 0 t) (blk1 V c 1 t) (blk1 V c 2 t) (blk1 V c 3 t) (blk1 V c 4 t) (blk1 V c 5 t) := by
  unfold attnAt
  split
  · exact attnOut_T_eq c _ _ _ _ _ _ _ _ _ _ _ _ _ _ _ _ _ _ _ _ _ _
  · exact attnOut_E_eq c _ _ _ _ _ _ _ _ _ _ _ _ _ _ _ _ _ _ _ _ _ _

end Cert.KernelIdeal.Gen
-- ==== Proof.AttnValue.lean ====
module

public import proofs.«01_k».proof.Proof.AttnIdeal
public import proofs.«01_k».proof.Proof.AttnBlock

@[expose] public section

set_option maxRecDepth 16384

noncomputable section

namespace Cert.KernelIdeal.Gen

open Idealize.ShloMosaic Idealize.ShloMosaic.TcCoe Idealize.ShloMosaic.Tactic Cert.Online

/-- A query's bias lanes: the first three hold its forget sum's parts, the next three ones. -/
def laneQ (c : ℕ → EReal) (p l : ℕ) : EReal :=
  if l < 16 then (if l % 8 = 0 then c (2 * p + l / 8) else if l % 8 < 3 then 0 else if l % 8 < 6 then 1 else 0) else 0

/-- A key's bias lanes: three ones, then its forget sum's parts with their signs turned. -/
def laneK (c : ℕ → EReal) (p l : ℕ) : EReal :=
  if l < 16 then (if l % 8 < 3 then 1 else if l % 8 = 3 then -c (2 * p + l / 8) else 0) else 0

theorem sum_halves (f : Fin 128 → EReal) :
    ∑ l, f l = (∑ d : Fin 64, f ⟨d.val, by omega⟩) + ∑ d : Fin 64, f ⟨64 + d.val, by omega⟩ :=
  Fin.sum_univ_add (a := 64) (b := 64) f

theorem sum_lanes (f : Fin 128 → EReal) :
    ∑ l, f l = (∑ t : Fin 8, f ⟨t.val, by omega⟩) + ((∑ t : Fin 8, f ⟨8 + t.val, by omega⟩) + ∑ t : Fin 112, f ⟨16 + t.val, by omega⟩) := by
  rw [show ∑ l, f l = (∑ t : Fin 8, f ⟨t.val, by omega⟩) + ∑ t : Fin 120, f ⟨8 + t.val, by omega⟩ from Fin.sum_univ_add (a := 8) (b := 120) f]
  congr 1
  have e : (∑ t : Fin 120, f ⟨8 + t.val, by omega⟩) = _ := Fin.sum_univ_add (a := 8) (b := 112) (fun t : Fin 120 => f ⟨8 + t.val, by omega⟩)
  rw [e]
  congr 1

/-- The bias lanes' contraction leaves the two forget sums' difference. -/
theorem bias_lanes (cq ck : ℕ → EReal) (h : Fin 8) :
    (∑ l : Fin 128, laneK ck (h.val / 2) l.val * (if (l.val < 8 ↔ h.val % 2 = 0) then laneQ cq (h.val / 2) l.val else 0)) = cq h.val + -ck h.val := by
  have hh := h.isLt
  rw [sum_lanes]
  have tail : (∑ t : Fin 112, laneK ck (h.val / 2) (16 + t.val) * (if (16 + t.val < 8 ↔ h.val % 2 = 0) then laneQ cq (h.val / 2) (16 + t.val) else 0)) = 0 :=
    Finset.sum_eq_zero fun t _ => by
      have : laneK ck (h.val / 2) (16 + t.val) = 0 := if_neg (by omega)
      rw [this, zero_mul]
  dsimp only
  rw [tail, add_zero, Fin.sum_univ_eight, Fin.sum_univ_eight]
  have hm : h.val % 2 = 0 ∨ h.val % 2 = 1 := by omega
  rcases hm with e | e
  · have e2 : 2 * (h.val / 2) = h.val := by omega
    simp [laneK, laneQ, e, e2]
  · have e2 : 2 * (h.val / 2) + 1 = h.val := by omega
    simp [laneK, laneQ, e, e2]

/-- A head's score of a key against a query: the lanes' contraction, and the forget sums' difference. -/
def headScore (x0 : Vec Ideal S512x512 .bf16) (x2 : Vec Ideal S4096x512 .bf16) (cq : ℕ → EReal) (ck : ℕ → ℕ → EReal) (h : ℕ) (q : Fin 512) (k : ℕ) : EReal :=
  (∑ d : Fin 64, x2 (ix2 (⟨k % 4096, Nat.mod_lt _ (by decide)⟩ : Fin 4096) (⟨(64 * h + d.val) % 512, Nat.mod_lt _ (by decide)⟩ : Fin 512))
    * (x0 (ix2 q (⟨(64 * h + d.val) % 512, Nat.mod_lt _ (by decide)⟩ : Fin 512)) * ((1 / 8 : ℝ) : EReal))) + (cq h + -ck k h)

theorem rawScore_eq (x0 x1 : Vec Ideal S512x512 .bf16) (x2 x3 : Vec Ideal S4096x512 .bf16) (h : Fin 8) (q : Fin 512) (k : ℕ) (cq : ℕ → EReal) (ck : ℕ → ℕ → EReal)
    (h1 : ∀ p l : ℕ, p < 4 → l < 128 → x1 (ix2 q (⟨(128 * p + l) % 512, Nat.mod_lt _ (by decide)⟩ : Fin 512)) = laneQ cq p l)
    (h3 : ∀ p l : ℕ, p < 4 → l < 128 → x3 (ix2 (⟨k % 4096, Nat.mod_lt _ (by decide)⟩ : Fin 4096) (⟨(128 * p + l) % 512, Nat.mod_lt _ (by decide)⟩ : Fin 512)) = laneK (ck k) p l) :
    rawScore (queryOf x0 x1 h) x2 x3 (h.val / 2) q k = headScore x0 x2 cq ck h.val q k := by
  have hh := h.isLt
  unfold rawScore headScore
  congr 1
  · simp only [query_lane]
    rw [sum_halves]
    dsimp only
    have z : ∀ (f : Fin 64 → EReal), (∀ d, f d = 0) → ∑ d, f d = 0 := fun f hf => Finset.sum_eq_zero fun d _ => hf d
    have hm : h.val % 2 = 0 ∨ h.val % 2 = 1 := by omega
    rcases hm with e | e
    · rw [z (fun d => _ * if (64 + d.val) / 64 = h.val % 2 then _ else 0) (fun d => by rw [if_neg (by omega), mul_zero]), add_zero]
      refine Finset.sum_congr rfl fun d _ => ?_
      have e2 : 128 * (h.val / 2) + d.val = 64 * h.val + d.val := by omega
      rw [if_pos (by omega)]
      simp only [e2]
    · rw [z (fun d => _ * if d.val / 64 = h.val % 2 then _ else 0) (fun d => by rw [if_neg (by omega), mul_zero]), zero_add]
      refine Finset.sum_congr rfl fun d _ => ?_
      have e2 : 128 * (h.val / 2) + (64 + d.val) = 64 * h.val + d.val := by omega
      rw [if_pos (by omega)]
      simp only [e2]
  · rw [← bias_lanes cq (ck k) h]
    refine Finset.sum_congr rfl fun l _ => ?_
    rw [query_bias, h1 _ _ (by omega) l.isLt, h3 _ _ (by omega) l.isLt]

/-- The normalized sum of a head's values at a query. -/
def headOut (s v : ℕ → EReal) : EReal :=
  ∑ k ∈ Finset.range 4096, v k * Ideal.div (Ideal.exp (s k - top s 4096)) (∑ j ∈ Finset.range 4096, Ideal.exp (s j - top s 4096))

theorem pair_head (n : ℕ) (hn : n < 8) (x0 x1 : Vec Ideal S512x512 .bf16) (x2 x3 : Vec Ideal S4096x512 .bf16) (x4 : Vec Ideal S512x4096 .bf16) (h : Fin 8) (q : Fin 512) (d : Fin 64)
    (cq : ℕ → EReal) (ck : ℕ → ℕ → EReal)
    (h1 : ∀ p l : ℕ, p < 4 → l < 128 → x1 (ix2 q (⟨(128 * p + l) % 512, Nat.mod_lt _ (by decide)⟩ : Fin 512)) = laneQ cq p l)
    (h3 : ∀ k p l : ℕ, p < 4 → l < 128 → x3 (ix2 (⟨k % 4096, Nat.mod_lt _ (by decide)⟩ : Fin 4096) (⟨(128 * p + l) % 512, Nat.mod_lt _ (by decide)⟩ : Fin 512)) = laneK (ck k) p l)
    (hs : ∀ k, headScore x0 x2 cq ck h.val q k ≠ ⊤) (h0 : headScore x0 x2 cq ck h.val q 0 ≠ ⊥) :
    Ideal.div (headSums n x0 x1 x2 x3 x4 h (ix2 (⟨d.val, by omega⟩ : Fin 80) q)) (headSums n x0 x1 x2 x3 x4 h (ix2 (64 : Fin 80) q))
      = headOut (causal (headScore x0 x2 cq ck h.val q) (512 * n + q.val))
          (fun k => x4 (ix2 (⟨(64 * h.val + d.val) % 512, Nat.mod_lt _ (by decide)⟩ : Fin 512) (⟨k % 4096, Nat.mod_lt _ (by decide)⟩ : Fin 4096))) := by
  have e : rawScore (queryOf x0 x1 h) x2 x3 (h.val / 2) q = headScore x0 x2 cq ck h.val q := funext fun k => rawScore_eq x0 x1 x2 x3 h q k cq ck h1 (h3 k)
  have hs' : ∀ k, rawScore (queryOf x0 x1 h) x2 x3 (h.val / 2) q k ≠ ⊤ := by rw [e]; exact hs
  unfold headSums
  rw [last_eq (queryOf x0 x1) x2 x3 x4 h q _ hs' n hn, last_eq (queryOf x0 x1) x2 x3 x4 h q _ hs' n hn, e]
  have hd := d.isLt
  have ev : rawValue x4 h.val (⟨d.val, by omega⟩ : Fin 80) = fun k => x4 (ix2 (⟨(64 * h.val + d.val) % 512, Nat.mod_lt _ (by decide)⟩ : Fin 512) (⟨k % 4096, Nat.mod_lt _ (by decide)⟩ : Fin 4096)) :=
    funext fun k => if_pos hd
  have eo : rawValue x4 h.val (64 : Fin 80) = fun _ => 1 := funext fun k => if_neg (by decide)
  rw [ev, eo]
  refine quotient (causal_ne_top hs _) (by decide) ?_
  show (if 0 ≤ _ then _ else _) ≠ ⊥
  rw [if_pos (Nat.zero_le _)]
  exact h0

/-- What one grid point stores, at an index. -/
theorem blockOut_at (n : ℕ) (hn : n < 8) (x0 x1 : Vec Ideal S512x512 .bf16) (x2 x3 : Vec Ideal S4096x512 .bf16) (x4 : Vec Ideal S512x4096 .bf16) (x5 : Vec Ideal S512x512 .bf16)
    (q col : Fin 512) (cq : ℕ → EReal) (ck : ℕ → ℕ → EReal)
    (h1 : ∀ p l : ℕ, p < 4 → l < 128 → x1 (ix2 q (⟨(128 * p + l) % 512, Nat.mod_lt _ (by decide)⟩ : Fin 512)) = laneQ cq p l)
    (h3 : ∀ k p l : ℕ, p < 4 → l < 128 → x3 (ix2 (⟨k % 4096, Nat.mod_lt _ (by decide)⟩ : Fin 4096) (⟨(128 * p + l) % 512, Nat.mod_lt _ (by decide)⟩ : Fin 512)) = laneK (ck k) p l)
    (hs : ∀ h k, h < 8 → headScore x0 x2 cq ck h q k ≠ ⊤) (h0 : ∀ h, h < 8 → headScore x0 x2 cq ck h q 0 ≠ ⊥) :
    blockOut n x0 x1 x2 x3 x4 x5 (ix2 q col)
      = headOut (causal (headScore x0 x2 cq ck (col.val / 64) q) (512 * n + q.val)) (fun k => x4 (ix2 col (⟨k % 4096, Nat.mod_lt _ (by decide)⟩ : Fin 4096)))
        * Ideal.logistic (x5 (ix2 q col)) := by
  have hc := col.isLt
  have eq : (⟨q.val % 512, Nat.mod_lt _ (by decide)⟩ : Fin 512) = q := Fin.ext (Nat.mod_eq_of_lt q.isLt)
  show tileOut n x0 x1 x2 x3 x4 x5 (col.val / 128) (ix2 (⟨q.val % 512, Nat.mod_lt _ (by decide)⟩ : Fin 512) (⟨col.val % 128, Nat.mod_lt _ (by decide)⟩ : Fin 128)) = _
  unfold tileOut
  rw [eq, pair_at, laneTile_at]
  have e5 : (⟨(128 * (col.val / 128) + col.val % 128) % 512, Nat.mod_lt _ (by decide)⟩ : Fin 512) = col := Fin.ext (by show (128 * (col.val / 128) + col.val % 128) % 512 = col.val; omega)
  have e5' : x5 (ix2 q (⟨(128 * (col.val / 128) + col.val % 128) % 512, Nat.mod_lt _ (by decide)⟩ : Fin 512)) = x5 (ix2 q col) := by rw [e5]
  refine congrArg₂ (· * ·) ?_ (congrArg Ideal.logistic e5')
  by_cases c : col.val % 128 < 64
  · rw [dif_pos c]
    refine (pair_head n hn x0 x1 x2 x3 x4 _ q ⟨col.val % 128, c⟩ cq ck h1 h3 (fun k => hs _ k (Nat.mod_lt _ (by decide))) (h0 _ (Nat.mod_lt _ (by decide)))).trans ?_
    have eh : 2 * (col.val / 128) % 8 = col.val / 64 := by omega
    have er : (⟨(64 * (col.val / 64) + col.val % 128) % 512, Nat.mod_lt _ (by decide)⟩ : Fin 512) = col := Fin.ext (by show (64 * (col.val / 64) + col.val % 128) % 512 = col.val; omega)
    simp only [eh, er]
  · rw [dif_neg c]
    refine (pair_head n hn x0 x1 x2 x3 x4 _ q ⟨col.val % 128 - 64, by omega⟩ cq ck h1 h3 (fun k => hs _ k (Nat.mod_lt _ (by decide))) (h0 _ (Nat.mod_lt _ (by decide)))).trans ?_
    have eh : (2 * (col.val / 128) + 1) % 8 = col.val / 64 := by omega
    have er : (⟨(64 * (col.val / 64) + (col.val % 128 - 64)) % 512, Nat.mod_lt _ (by decide)⟩ : Fin 512) = col := Fin.ext (by show (64 * (col.val / 64) + (col.val % 128 - 64)) % 512 = col.val; omega)
    simp only [eh, er]

end Cert.KernelIdeal.Gen
-- ==== Proof.BiasValue.lean ====
module

public import proofs.«01_k».proof.Proof.BiasIdeal
public import proofs.«01_k».proof.Proof.BiasData
public import proofs.«01_k».proof.Proof.AttnValue

@[expose] public section

set_option maxRecDepth 16384

noncomputable section

namespace Cert.KernelIdeal.Gen

open Idealize.ShloMosaic Idealize.ShloMosaic.TcCoe Idealize.ShloMosaic.Tactic Cert.Online
open Idealize.ShloMosaic.Pipeline (Dat Cfg Window)

/-- The forget sum of head `h` at position `t` of sequence `b`, over real gates. -/
def cumOf (G : ℕ → ℕ → ℝ) (b t h : ℕ) : ℝ := ∑ j ∈ Finset.range (t + 1), logSig (G h (4096 * b + j))

theorem sum_upto (f : ℕ → ℝ) (i r : ℕ) (hr : r < 512) :
    (∑ j : Fin 512, (if j.val ≤ r then f (512 * i + j.val) else 0)) + ∑ j ∈ Finset.range (512 * i), f j = ∑ j ∈ Finset.range (512 * i + r + 1), f j := by
  rw [add_assoc, Finset.sum_range_add _ (512 * i) (r + 1), add_comm]
  congr 1
  rw [← Finset.sum_range (fun j => if j ≤ r then f (512 * i + j) else 0), ← Finset.sum_filter]
  refine Finset.sum_congr (Finset.ext fun j => ?_) fun _ _ => rfl
  rw [Finset.mem_filter, Finset.mem_range, Finset.mem_range]
  omega

section blocks
variable {F : FTy → Type} [FloatOps F] [Named F]
variable (V : (c : Dev nD) → (b : Ref sig .tc) → Buf (Elt F) ((c : Thread nD τ).loc b)) (c : Dev nD)

theorem idx0_0 : ∀ t : Fin cfg0.N, win0_0.index t 0 = t.val ∧ win0_0.index t 1 = 0 := by decide +kernel
theorem idx0_1 : ∀ t : Fin cfg0.N, win0_1.index t 0 = 0 ∧ win0_1.index t 1 = 0 := by decide +kernel
theorem idx0_2 : ∀ t : Fin cfg0.N, win0_2.index t 0 = 0 ∧ win0_2.index t 1 = 0 := by decide +kernel
theorem idx0_3 : ∀ t : Fin cfg0.N, win0_3.index t 0 = 0 ∧ win0_3.index t 1 = 0 := by decide +kernel
theorem idx0_4 : ∀ t : Fin cfg0.N, win0_4.index t 0 = 0 ∧ win0_4.index t 1 = 0 := by decide +kernel
theorem idx0_5 : ∀ t : Fin cfg0.N, win0_5.index t 0 = 0 ∧ win0_5.index t 1 = 0 := by decide +kernel
theorem idx0_6 : ∀ t : Fin cfg0.N, win0_6.index t 0 = t.val ∧ win0_6.index t 1 = 0 := by decide +kernel
theorem idx0_7 : ∀ t : Fin cfg0.N, win0_7.index t 0 = t.val ∧ win0_7.index t 1 = 0 := by decide +kernel

theorem N0_eq : cfg0.N = 32 := by decide +kernel

theorem blk0_0_at (t : Fin cfg0.N) (r : Fin 512) (l : Fin 128) :
    blk0 V c 0 t (ix2 r l) = V c main_v9 (ix2 (⟨512 * t.val + r.val, by have := t.isLt; have := N0_eq; omega⟩ : Fin 16384) l) := by
  unfold blk0
  rw [View.read_apply]
  show V c main_v9 _ = V c main_v9 _
  congr 1
  funext a
  apply Fin.ext
  match a with
  | ⟨0, _⟩ => show win0_0.index t 0 * 512 + 1 * r.val = 512 * t.val + r.val; rw [(idx0_0 t).1]; omega
  | ⟨1, _⟩ => show win0_0.index t 1 * 128 + 1 * l.val = l.val; rw [(idx0_0 t).2]; omega

theorem blk0_1_at (t : Fin cfg0.N) (l : Fin 128) : blk0 V c 1 t (ix2 (0 : Fin 1) l) = V c main_v14 (ix2 (0 : Fin 1) l) := by
  unfold blk0
  rw [View.read_apply]
  show V c main_v14 _ = V c main_v14 _
  congr 1
  funext a
  apply Fin.ext
  match a with
  | ⟨0, _⟩ => show win0_1.index t 0 * 1 + 1 * 0 = 0; rw [(idx0_1 t).1]
  | ⟨1, _⟩ => show win0_1.index t 1 * 128 + 1 * l.val = l.val; rw [(idx0_1 t).2]; omega

theorem blk0_2_at (t : Fin cfg0.N) (j : Fin 128) (l : Fin 1024) : blk0 V c 2 t (ix2 j l) = V c main_v63 (ix2 j l) := by
  unfold blk0
  rw [View.read_apply]
  show V c main_v63 _ = V c main_v63 _
  congr 1
  funext a
  apply Fin.ext
  match a with
  | ⟨0, _⟩ => show win0_2.index t 0 * 128 + 1 * j.val = j.val; rw [(idx0_2 t).1]; omega
  | ⟨1, _⟩ => show win0_2.index t 1 * 1024 + 1 * l.val = l.val; rw [(idx0_2 t).2]; omega

theorem blk0_3_at (t : Fin cfg0.N) (j : Fin 128) (l : Fin 1024) : blk0 V c 3 t (ix2 j l) = V c main_v64 (ix2 j l) := by
  unfold blk0
  rw [View.read_apply]
  show V c main_v64 _ = V c main_v64 _
  congr 1
  funext a
  apply Fin.ext
  match a with
  | ⟨0, _⟩ => show win0_3.index t 0 * 128 + 1 * j.val = j.val; rw [(idx0_3 t).1]; omega
  | ⟨1, _⟩ => show win0_3.index t 1 * 1024 + 1 * l.val = l.val; rw [(idx0_3 t).2]; omega

theorem blk0_4_at (t : Fin cfg0.N) (l : Fin 1024) : blk0 V c 4 t (ix2 (0 : Fin 1) l) = V c main_v60 (ix2 (0 : Fin 1) l) := by
  unfold blk0
  rw [View.read_apply]
  show V c main_v60 _ = V c main_v60 _
  congr 1
  funext a
  apply Fin.ext
  match a with
  | ⟨0, _⟩ => show win0_4.index t 0 * 1 + 1 * 0 = 0; rw [(idx0_4 t).1]
  | ⟨1, _⟩ => show win0_4.index t 1 * 1024 + 1 * l.val = l.val; rw [(idx0_4 t).2]; omega

theorem blk0_5_at (t : Fin cfg0.N) (l : Fin 1024) : blk0 V c 5 t (ix2 (0 : Fin 1) l) = V c main_v62 (ix2 (0 : Fin 1) l) := by
  unfold blk0
  rw [View.read_apply]
  show V c main_v62 _ = V c main_v62 _
  congr 1
  funext a
  apply Fin.ext
  match a with
  | ⟨0, _⟩ => show win0_5.index t 0 * 1 + 1 * 0 = 0; rw [(idx0_5 t).1]
  | ⟨1, _⟩ => show win0_5.index t 1 * 1024 + 1 * l.val = l.val; rw [(idx0_5 t).2]; omega

/-- Where a point's output block lies. -/
theorem out0_6_at (t : Fin cfg0.N) (A : Vec F S16384x1024 .bf16) (r : Fin 512) (l : Fin 1024) :
    ((cfg0.win 6).blk t).view.read (Elt F) A (ix2 r l) = A (ix2 (⟨512 * t.val + r.val, by have := t.isLt; have := N0_eq; omega⟩ : Fin 16384) l) := by
  rw [View.read_apply]
  show A _ = A _
  congr 1
  funext a
  apply Fin.ext
  match a with
  | ⟨0, _⟩ => show win0_6.index t 0 * 512 + 1 * r.val = 512 * t.val + r.val; rw [(idx0_6 t).1]; omega
  | ⟨1, _⟩ => show win0_6.index t 1 * 1024 + 1 * l.val = l.val; rw [(idx0_6 t).2]; omega

theorem out0_7_at (t : Fin cfg0.N) (A : Vec F S16384x1024 .bf16) (r : Fin 512) (l : Fin 1024) :
    ((cfg0.win 7).blk t).view.read (Elt F) A (ix2 r l) = A (ix2 (⟨512 * t.val + r.val, by have := t.isLt; have := N0_eq; omega⟩ : Fin 16384) l) := by
  rw [View.read_apply]
  show A _ = A _
  congr 1
  funext a
  apply Fin.ext
  match a with
  | ⟨0, _⟩ => show win0_7.index t 0 * 512 + 1 * r.val = 512 * t.val + r.val; rw [(idx0_7 t).1]; omega
  | ⟨1, _⟩ => show win0_7.index t 1 * 1024 + 1 * l.val = l.val; rw [(idx0_7 t).2]; omega

theorem xsize0_6 : ∀ t : Fin cfg0.N, win0_6.xsize (grid0.coords t) 0 = 512 ∧ win0_6.xsize (grid0.coords t) 1 = 1024 := by decide +kernel
theorem xsize0_7 : ∀ t : Fin cfg0.N, win0_7.xsize (grid0.coords t) 0 = 512 ∧ win0_7.xsize (grid0.coords t) 1 = 1024 := by decide +kernel

theorem covered0_6 (i : S16384x1024.Idx) : ∃ t : Fin cfg0.N, (cfg0.win 6).flush t = true ∧ i ∈ ((cfg0.win 6).blk t).view.set := by
  have h0 : (i 0 : Nat) < 16384 := (i 0).isLt
  have h1 : (i 1 : Nat) < 1024 := (i 1).isLt
  refine ⟨⟨(i 0 : Nat) / 512, by rw [N0_eq]; omega⟩, flush0_6 _, ?_⟩
  generalize ht : (⟨(i 0 : Nat) / 512, by rw [N0_eq]; omega⟩ : Fin cfg0.N) = t
  have hv : t.val = (i 0 : Nat) / 512 := by rw [← ht]
  show i ∈ ((View.whole main_v65_0).slice (win0_6.rect t)).set
  rw [View.set_slice_whole, Rect.mem_set_unit]
  intro a
  match a with
  | ⟨0, _⟩ =>
    show win0_6.index t 0 * 512 ≤ (i 0 : Nat) ∧ (i 0 : Nat) < win0_6.index t 0 * 512 + win0_6.xsize (grid0.coords t) 0
    rw [(idx0_6 t).1, (xsize0_6 t).1]; omega
  | ⟨1, _⟩ =>
    show win0_6.index t 1 * 1024 ≤ (i 1 : Nat) ∧ (i 1 : Nat) < win0_6.index t 1 * 1024 + win0_6.xsize (grid0.coords t) 1
    rw [(idx0_6 t).2, (xsize0_6 t).2]; omega

theorem covered0_7 (i : S16384x1024.Idx) : ∃ t : Fin cfg0.N, (cfg0.win 7).flush t = true ∧ i ∈ ((cfg0.win 7).blk t).view.set := by
  have h0 : (i 0 : Nat) < 16384 := (i 0).isLt
  have h1 : (i 1 : Nat) < 1024 := (i 1).isLt
  refine ⟨⟨(i 0 : Nat) / 512, by rw [N0_eq]; omega⟩, flush0_7 _, ?_⟩
  generalize ht : (⟨(i 0 : Nat) / 512, by rw [N0_eq]; omega⟩ : Fin cfg0.N) = t
  have hv : t.val = (i 0 : Nat) / 512 := by rw [← ht]
  show i ∈ ((View.whole main_v65_1).slice (win0_7.rect t)).set
  rw [View.set_slice_whole, Rect.mem_set_unit]
  intro a
  match a with
  | ⟨0, _⟩ =>
    show win0_7.index t 0 * 512 ≤ (i 0 : Nat) ∧ (i 0 : Nat) < win0_7.index t 0 * 512 + win0_7.xsize (grid0.coords t) 0
    rw [(idx0_7 t).1, (xsize0_7 t).1]; omega
  | ⟨1, _⟩ =>
    show win0_7.index t 1 * 1024 ≤ (i 1 : Nat) ∧ (i 1 : Nat) < win0_7.index t 1 * 1024 + win0_7.xsize (grid0.coords t) 1
    rw [(idx0_7 t).2, (xsize0_7 t).2]; omega

end blocks

variable (V : (c : Dev nD) → (b : Ref sig .tc) → Buf (Elt Ideal) ((c : Thread nD τ).loc b)) (c : Dev nD) (G : ℕ → ℕ → ℝ)

/-- The gate of head `h` at each row, with its bias, is real. -/
def RealGates : Prop := ∀ (h : Fin 16) (row : Fin 16384),
  HAdd.hAdd (α := EReal) (β := EReal) (γ := EReal) (V c main_v9 (ix2 row (⟨16 + h.val, by omega⟩ : Fin 128))) (V c main_v14 (ix2 (0 : Fin 1) (⟨16 + h.val, by omega⟩ : Fin 128))) = ((G h.val row.val : ℝ) : EReal)

variable {V c G}

theorem gates_blk (hG : RealGates V c G) (t : Fin cfg0.N) (h : Fin 16) (j : Fin 512) :
    HAdd.hAdd (α := EReal) (β := EReal) (γ := EReal) (blk0 V c 0 t (ix2 j (⟨16 + h.val, by omega⟩ : Fin 128))) (blk0 V c 1 t (ix2 (0 : Fin 1) (⟨16 + h.val, by omega⟩ : Fin 128)))
      = ((G h.val (4096 * (t.val / 8) + (512 * (t.val % 8) + j.val)) : ℝ) : EReal) := by
  rw [blk0_0_at V c t j, blk0_1_at V c t]
  refine (hG h _).trans ?_
  congr 2
  show 512 * t.val + j.val = _
  omega

theorem block_running (hG : RealGates V c G) (t : Fin cfg0.N) (h : Fin 16) (w : Vec Ideal S8x128 .f32) (r : Fin 512)
    (hw : w (ix2 (0 : Fin 8) (⟨16 + h.val, by omega⟩ : Fin 128)) = ((∑ j ∈ Finset.range (512 * (t.val % 8)), logSig (G h.val (4096 * (t.val / 8) + j)) : ℝ) : EReal)) :
    k0_pay7 (k0_pay5 (blk0 V c 0 t) (blk0 V c 1 t)) (k0_pay6 (blk0 V c 0 t) (blk0 V c 1 t)) (rowOf w) (ix2 r (⟨16 + h.val, by omega⟩ : Fin 128))
      = ((cumOf G (t.val / 8) (512 * (t.val % 8) + r.val) h.val : ℝ) : EReal) := by
  rw [running_at (blk0 V c 0 t) (blk0 V c 1 t) (rowOf w) r _ (fun j => G h.val (4096 * (t.val / 8) + (512 * (t.val % 8) + j.val))) _ (gates_blk hG t h) ((row_at w _).trans hw)]
  congr 1
  exact sum_upto (fun j => logSig (G h.val (4096 * (t.val / 8) + j))) (t.val % 8) r.val r.isLt

/-- What the carried block holds after each point. -/
theorem sums_at0 (hG : RealGates V c G) (h : Fin 16) (n : ℕ) (hn : n < cfg0.N) (r : Fin 8) :
    sums V c n hn (ix2 r (⟨16 + h.val, by omega⟩ : Fin 128)) = ((∑ j ∈ Finset.range (512 * (n % 8 + 1)), logSig (G h.val (4096 * (n / 8) + j)) : ℝ) : EReal) := by
  induction n using Nat.strong_induction_on generalizing r with
  | _ n ih =>
    have e := congrFun (sums_eq V c ⟨n, hn⟩) (ix2 r (⟨16 + h.val, by omega⟩ : Fin 128))
    refine e.trans ?_
    unfold biasNext
    rw [next8_at]
    refine (block_running hG ⟨n, hn⟩ h (sumsIn V c ⟨n, hn⟩) 511 ?_).trans ?_
    · by_cases z : n % 8 = 0
      · rw [sumsIn_first V c ⟨n, hn⟩ z, zero3_at]
        show (0 : EReal) = ((∑ j ∈ Finset.range (512 * (n % 8)), _ : ℝ) : EReal)
        rw [z, Nat.mul_zero, Finset.range_zero, Finset.sum_empty, EReal.coe_zero]
      · rw [sumsIn_later V c ⟨n, hn⟩ z]
        refine (ih (n - 1) (by omega) (by omega) 0).trans ?_
        have e1 : (n - 1) % 8 + 1 = n % 8 := by omega
        have e2 : (n - 1) / 8 = n / 8 := by omega
        rw [e1, e2]
    · unfold cumOf
      show ((∑ j ∈ Finset.range (512 * (n % 8) + 511 + 1), _ : ℝ) : EReal) = _
      have e1 : 512 * (n % 8) + 511 + 1 = 512 * (n % 8 + 1) := by omega
      rw [e1]

theorem sumsIn_at0 (hG : RealGates V c G) (h : Fin 16) (t : Fin cfg0.N) (r : Fin 8) :
    sumsIn V c t (ix2 r (⟨16 + h.val, by omega⟩ : Fin 128)) = ((∑ j ∈ Finset.range (512 * (t.val % 8)), logSig (G h.val (4096 * (t.val / 8) + j)) : ℝ) : EReal) := by
  by_cases z : t.val % 8 = 0
  · rw [sumsIn_first V c t z, zero3_at, z, Nat.mul_zero, Finset.range_zero, Finset.sum_empty, EReal.coe_zero]
  · rw [sumsIn_later V c t z]
    refine (sums_at0 hG h _ _ r).trans ?_
    have e1 : (t.val - 1) % 8 + 1 = t.val % 8 := by omega
    have e2 : (t.val - 1) / 8 = t.val / 8 := by omega
    rw [e1, e2]

/-- The parts laid out for a point's rows. -/
theorem terms_at0 (hG : RealGates V c G) (t : Fin cfg0.N) (r : Fin 512) (l : Fin 128) :
    biasTerms (blk0 V c 0 t) (blk0 V c 1 t) (sumsIn V c t) (ix2 r l)
      = if 16 ≤ l.val ∧ l.val < 32 then ((cumOf G (t.val / 8) (512 * (t.val % 8) + r.val) (l.val - 16) : ℝ) : EReal) else 0 := by
  have key : ∀ j : Fin 128, 16 ≤ j.val → j.val < 32 →
      k0_pay7 (k0_pay5 (blk0 V c 0 t) (blk0 V c 1 t)) (k0_pay6 (blk0 V c 0 t) (blk0 V c 1 t)) (rowOf (sumsIn V c t)) (ix2 r j)
        = ((cumOf G (t.val / 8) (512 * (t.val % 8) + r.val) (j.val - 16) : ℝ) : EReal) := by
    intro j h0 h1
    have e : j = (⟨16 + (j.val - 16), by omega⟩ : Fin 128) := Fin.ext (by show j.val = 16 + (j.val - 16); omega)
    have := block_running hG t ⟨j.val - 16, by omega⟩ (sumsIn V c t) r (sumsIn_at0 hG _ t 0)
    rw [e]
    refine this.trans ?_
    congr 2
    show j.val - 16 = 16 + (j.val - 16) - 16
    omega
  unfold biasTerms
  rw [terms9_at _ _ _ _ _ fun j h0 h1 => ⟨_, key j h0 h1⟩]
  by_cases z : 16 ≤ l.val ∧ l.val < 32
  · rw [if_pos z, if_pos z, key l z.1 z.2]
  · rw [if_neg z, if_neg z]

/-- The two placing matrices and the two rows of ones, as the host prepares them. -/
structure Placed (V : (c : Dev nD) → (b : Ref sig .tc) → Buf (Elt Ideal) ((c : Thread nD τ).loc b)) (c : Dev nD) : Prop where
  pq : ∀ (j : Fin 128) (l : Fin 1024), @Eq EReal (V c main_v63 (ix2 j l)) (if l.val % 128 < 16 ∧ l.val % 8 < 3 ∧ j.val = 16 + 16 * (l.val % 8) + (2 * (l.val / 128) + l.val % 128 / 8) then 1 else 0)
  pk : ∀ (j : Fin 128) (l : Fin 1024), @Eq EReal (V c main_v64 (ix2 j l)) (if l.val % 128 < 16 ∧ (3 ≤ l.val % 8 ∧ l.val % 8 < 6) ∧ j.val = 16 + 16 * (l.val % 8 - 3) + (2 * (l.val / 128) + l.val % 128 / 8) then -1 else 0)
  oq : ∀ l : Fin 1024, @Eq EReal (V c main_v60 (ix2 (0 : Fin 1) l)) (if l.val % 128 < 16 ∧ (3 ≤ l.val % 8 ∧ l.val % 8 < 6) then 1 else 0)
  ok : ∀ l : Fin 1024, @Eq EReal (V c main_v62 (ix2 (0 : Fin 1) l)) (if l.val % 128 < 16 ∧ l.val % 8 < 3 then 1 else 0)

theorem sum_placed (f : Fin 128 → EReal) (P : Prop) [Decidable P] (n : ℕ) (hn : P → n < 128) (x : EReal) :
    (∑ j : Fin 128, f j * (if P ∧ j.val = n then x else 0)) = if h : P then f ⟨n, hn h⟩ * x else 0 := by
  by_cases h : P
  · rw [dif_pos h, Finset.sum_eq_single ⟨n, hn h⟩]
    · rw [if_pos ⟨h, rfl⟩]
    · intro j _ hj
      rw [if_neg (fun e => hj (Fin.ext e.2)), mul_zero]
    · intro e
      exact absurd (Finset.mem_univ _) e
  · rw [dif_neg h]
    exact Finset.sum_eq_zero fun j _ => by rw [if_neg (fun e => h e.1), mul_zero]

/-- The query lanes of a point. -/
theorem eq_at0 (hG : RealGates V c G) (hP : Placed V c) (t : Fin cfg0.N) (r : Fin 512) (l : Fin 1024) :
    biasEq (blk0 V c 0 t) (blk0 V c 1 t) (blk0 V c 2 t) (blk0 V c 4 t) (sumsIn V c t) (ix2 r l)
      = laneQ (fun h => ((cumOf G (t.val / 8) (512 * (t.val % 8) + r.val) h : ℝ) : EReal)) (l.val / 128) (l.val % 128) := by
  have hl := l.isLt
  have m8 : l.val % 128 % 8 = l.val % 8 := by omega
  unfold biasEq
  rw [lanes1_at, blk0_4_at V c t, hP.oq]
  have e : ∀ j : Fin 128, @Eq EReal (blk0 V c 2 t (ix2 j l)) (if (l.val % 128 < 16 ∧ l.val % 8 < 3) ∧ j.val = 16 + 16 * (l.val % 8) + (2 * (l.val / 128) + l.val % 128 / 8) then 1 else 0) := by
    intro j
    refine (blk0_2_at V c t j l).trans ((hP.pq j l).trans ?_)
    simp only [and_assoc]
  simp only [e]
  rw [sum_placed _ _ _ (fun h => by omega)]
  unfold laneQ
  rw [m8]
  by_cases a : l.val % 128 < 16
  · rw [if_pos a]
    by_cases b : l.val % 8 < 3
    · rw [dif_pos ⟨a, b⟩, if_neg (by omega), terms_at0 hG, mul_one, zero_add]
      by_cases z : l.val % 8 = 0
      · rw [if_pos z, if_pos ⟨by show 16 ≤ _ + _; omega, by show _ + _ < 32; omega⟩]
        congr 2
        show 16 + 16 * (l.val % 8) + (2 * (l.val / 128) + l.val % 128 / 8) - 16 = _
        omega
      · rw [if_neg z, if_pos b, if_neg (fun h => by have h2 : 16 + 16 * (l.val % 8) + (2 * (l.val / 128) + l.val % 128 / 8) < 32 := h.2; omega)]
    · rw [dif_neg (fun h => b h.2), add_zero, if_neg (by omega : ¬ l.val % 8 = 0), if_neg b]
      by_cases d : l.val % 8 < 6
      · rw [if_pos ⟨a, by omega, d⟩, if_pos d]
      · rw [if_neg (fun h => d h.2.2), if_neg d]
  · rw [if_neg a, if_neg (fun h => a h.1), dif_neg (fun h => a h.1), add_zero]

/-- The key lanes of a point. -/
theorem ek_at0 (hG : RealGates V c G) (hP : Placed V c) (t : Fin cfg0.N) (r : Fin 512) (l : Fin 1024) :
    biasEk (blk0 V c 0 t) (blk0 V c 1 t) (blk0 V c 3 t) (blk0 V c 5 t) (sumsIn V c t) (ix2 r l)
      = laneK (fun h => ((cumOf G (t.val / 8) (512 * (t.val % 8) + r.val) h : ℝ) : EReal)) (l.val / 128) (l.val % 128) := by
  have hl := l.isLt
  have m8 : l.val % 128 % 8 = l.val % 8 := by omega
  unfold biasEk
  rw [lanes2_at, blk0_5_at V c t, hP.ok]
  have e : ∀ j : Fin 128, @Eq EReal (blk0 V c 3 t (ix2 j l)) (if (l.val % 128 < 16 ∧ (3 ≤ l.val % 8 ∧ l.val % 8 < 6)) ∧ j.val = 16 + 16 * (l.val % 8 - 3) + (2 * (l.val / 128) + l.val % 128 / 8) then -1 else 0) := by
    intro j
    refine (blk0_3_at V c t j l).trans ((hP.pk j l).trans ?_)
    simp only [and_assoc]
  simp only [e]
  rw [sum_placed _ _ _ (fun h => by omega)]
  unfold laneK
  rw [m8]
  by_cases a : l.val % 128 < 16
  · rw [if_pos a]
    by_cases b : 3 ≤ l.val % 8 ∧ l.val % 8 < 6
    · rw [dif_pos ⟨a, b⟩, if_neg (by omega), if_neg (by omega), terms_at0 hG, zero_add]
      by_cases z : l.val % 8 = 3
      · rw [if_pos z, if_pos ⟨by show 16 ≤ _ + _; omega, by show _ + _ < 32; omega⟩, mul_neg, mul_one]
        congr 3
        show 16 + 16 * (l.val % 8 - 3) + (2 * (l.val / 128) + l.val % 128 / 8) - 16 = _
        omega
      · rw [if_neg z, if_neg (fun h => by have h2 : 16 + 16 * (l.val % 8 - 3) + (2 * (l.val / 128) + l.val % 128 / 8) < 32 := h.2; omega), zero_mul]
    · rw [dif_neg (fun h => b h.2), add_zero]
      by_cases d : l.val % 8 < 3
      · rw [if_pos ⟨a, d⟩, if_pos d]
      · rw [if_neg (fun h => d h.2), if_neg d, if_neg (by omega)]
  · rw [if_neg a, if_neg (fun h => a h.1), dif_neg (fun h => a h.1), add_zero]

/-- The two lane arrays the bias region leaves. -/
def laneArrQ (G : ℕ → ℕ → ℝ) : Vec Ideal S16384x1024 .bf16 := fun y =>
  laneQ (fun h => ((cumOf G ((y 0).val / 4096) ((y 0).val % 4096) h : ℝ) : EReal)) ((y 1).val / 128) ((y 1).val % 128)
def laneArrK (G : ℕ → ℕ → ℝ) : Vec Ideal S16384x1024 .bf16 := fun y =>
  laneK (fun h => ((cumOf G ((y 0).val / 4096) ((y 0).val % 4096) h : ℝ) : EReal)) ((y 1).val / 128) ((y 1).val % 128)

theorem arrQ_eq (hG : RealGates V c G) (hP : Placed V c) : (biasDat V c).arrAt 6 cfg0.N = laneArrQ G :=
  (biasDat V c).arrAt_eq_of_cover 6 (laneArrQ G) (fun t _ => by
    show (cfg0.win 6).cut (grid0.coords t) ((biasDat V c).after 6 t) = _
    rw [biasAfter_6]
    funext y
    have e : y = (ix2 (y 0) (y 1) : S512x1024.Idx) := by funext a; match a with | 0 => rfl | 1 => rfl
    have ht := t.isLt
    have hN := N0_eq
    rw [e]
    refine Eq.trans ?_ (out0_6_at t (laneArrQ G) (y 0) (y 1)).symm
    refine (eq_at0 hG hP t (y 0) (y 1)).trans ?_
    have h0 : (y 0).val < 512 := (y 0).isLt
    show _ = laneQ (fun h => ((cumOf G ((512 * t.val + (y 0).val) / 4096) ((512 * t.val + (y 0).val) % 4096) h : ℝ) : EReal)) _ _
    have a1 : (512 * t.val + (y 0).val) / 4096 = t.val / 8 := by omega
    have a2 : (512 * t.val + (y 0).val) % 4096 = 512 * (t.val % 8) + (y 0).val := by omega
    rw [a1, a2]
    rfl) covered0_6

theorem arrK_eq (hG : RealGates V c G) (hP : Placed V c) : (biasDat V c).arrAt 7 cfg0.N = laneArrK G :=
  (biasDat V c).arrAt_eq_of_cover 7 (laneArrK G) (fun t _ => by
    show (cfg0.win 7).cut (grid0.coords t) ((biasDat V c).after 7 t) = _
    rw [biasAfter_7]
    funext y
    have e : y = (ix2 (y 0) (y 1) : S512x1024.Idx) := by funext a; match a with | 0 => rfl | 1 => rfl
    have ht := t.isLt
    have hN := N0_eq
    rw [e]
    refine Eq.trans ?_ (out0_7_at t (laneArrK G) (y 0) (y 1)).symm
    refine (ek_at0 hG hP t (y 0) (y 1)).trans ?_
    have h0 : (y 0).val < 512 := (y 0).isLt
    show _ = laneK (fun h => ((cumOf G ((512 * t.val + (y 0).val) / 4096) ((512 * t.val + (y 0).val) % 4096) h : ℝ) : EReal)) _ _
    have a1 : (512 * t.val + (y 0).val) / 4096 = t.val / 8 := by omega
    have a2 : (512 * t.val + (y 0).val) % 4096 = 512 * (t.val % 8) + (y 0).val := by omega
    rw [a1, a2]
    rfl) covered0_7

end Cert.KernelIdeal.Gen
-- ==== Proof.AttnArrays.lean ====
module

public import proofs.«01_k».proof.Proof.BiasValue
public import proofs.«01_k».proof.Proof.AttnData

@[expose] public section

set_option maxRecDepth 16384

noncomputable section

namespace Cert.KernelIdeal.Gen

open Idealize.ShloMosaic Idealize.ShloMosaic.TcCoe Idealize.ShloMosaic.Tactic Cert.Online
open Idealize.ShloMosaic.Pipeline (Dat Cfg Window)

section blocks
variable {F : FTy → Type} [FloatOps F] [Named F]
variable (V : (c : Dev nD) → (b : Ref sig .tc) → Buf (Elt F) ((c : Thread nD τ).loc b)) (c : Dev nD)

theorem N1_eq : cfg1.N = 64 := by decide +kernel
theorem coord1_2 : ∀ t : Fin cfg1.N, ((grid1.coords t) 2).val = t.val % 8 := by decide +kernel
theorem idx1_0 : ∀ t : Fin cfg1.N, win1_0.index t 0 = 8 * (t.val / 16) + t.val % 8 ∧ win1_0.index t 1 = t.val / 8 % 2 := by decide +kernel
theorem idx1_1 : ∀ t : Fin cfg1.N, win1_1.index t 0 = 8 * (t.val / 16) + t.val % 8 ∧ win1_1.index t 1 = t.val / 8 % 2 := by decide +kernel
theorem idx1_2 : ∀ t : Fin cfg1.N, win1_2.index t 0 = t.val / 16 ∧ win1_2.index t 1 = 2 + t.val / 8 % 2 := by decide +kernel
theorem idx1_3 : ∀ t : Fin cfg1.N, win1_3.index t 0 = t.val / 16 ∧ win1_3.index t 1 = t.val / 8 % 2 := by decide +kernel
theorem idx1_4 : ∀ t : Fin cfg1.N, win1_4.index t 0 = t.val / 8 % 2 ∧ win1_4.index t 1 = t.val / 16 := by decide +kernel
theorem idx1_5 : ∀ t : Fin cfg1.N, win1_5.index t 0 = 8 * (t.val / 16) + t.val % 8 ∧ win1_5.index t 1 = 4 + t.val / 8 % 2 := by decide +kernel
theorem idx1_6 : ∀ t : Fin cfg1.N, win1_6.index t 0 = 8 * (t.val / 16) + t.val % 8 ∧ win1_6.index t 1 = t.val / 8 % 2 := by decide +kernel

theorem blk1_0_at (t : Fin cfg1.N) (r : Fin 512) (l : Fin 512) :
    blk1 V c 0 t (ix2 r l) = V c main_v2 (ix2 (⟨512 * (8 * (t.val / 16) + t.val % 8) + r.val, by have := t.isLt; have := N1_eq; have := r.isLt; have := l.isLt; omega⟩ : Fin 16384) (⟨512 * (t.val / 8 % 2) + l.val, by have := t.isLt; have := N1_eq; have := r.isLt; have := l.isLt; omega⟩ : Fin 3072)) := by
  unfold blk1
  rw [View.read_apply]
  show V c main_v2 _ = V c main_v2 _
  congr 1
  funext a
  apply Fin.ext
  match a with
  | ⟨0, _⟩ => show win1_0.index t 0 * 512 + 1 * r.val = 512 * (8 * (t.val / 16) + t.val % 8) + r.val; rw [(idx1_0 t).1]; omega
  | ⟨1, _⟩ => show win1_0.index t 1 * 512 + 1 * l.val = 512 * (t.val / 8 % 2) + l.val; rw [(idx1_0 t).2]; omega

theorem blk1_1_at (t : Fin cfg1.N) (r : Fin 512) (l : Fin 512) :
    blk1 V c 1 t (ix2 r l) = V c main_v65_0 (ix2 (⟨512 * (8 * (t.val / 16) + t.val % 8) + r.val, by have := t.isLt; have := N1_eq; have := r.isLt; have := l.isLt; omega⟩ : Fin 16384) (⟨512 * (t.val / 8 % 2) + l.val, by have := t.isLt; have := N1_eq; have := r.isLt; have := l.isLt; omega⟩ : Fin 1024)) := by
  unfold blk1
  rw [View.read_apply]
  show V c main_v65_0 _ = V c main_v65_0 _
  congr 1
  funext a
  apply Fin.ext
  match a with
  | ⟨0, _⟩ => show win1_1.index t 0 * 512 + 1 * r.val = 512 * (8 * (t.val / 16) + t.val % 8) + r.val; rw [(idx1_1 t).1]; omega
  | ⟨1, _⟩ => show win1_1.index t 1 * 512 + 1 * l.val = 512 * (t.val / 8 % 2) + l.val; rw [(idx1_1 t).2]; omega

theorem blk1_2_at (t : Fin cfg1.N) (r : Fin 4096) (l : Fin 512) :
    blk1 V c 2 t (ix2 r l) = V c main_v2 (ix2 (⟨4096 * (t.val / 16) + r.val, by have := t.isLt; have := N1_eq; have := r.isLt; have := l.isLt; omega⟩ : Fin 16384) (⟨512 * (2 + t.val / 8 % 2) + l.val, by have := t.isLt; have := N1_eq; have := r.isLt; have := l.isLt; omega⟩ : Fin 3072)) := by
  unfold blk1
  rw [View.read_apply]
  show V c main_v2 _ = V c main_v2 _
  congr 1
  funext a
  apply Fin.ext
  match a with
  | ⟨0, _⟩ => show win1_2.index t 0 * 4096 + 1 * r.val = 4096 * (t.val / 16) + r.val; rw [(idx1_2 t).1]; omega
  | ⟨1, _⟩ => show win1_2.index t 1 * 512 + 1 * l.val = 512 * (2 + t.val / 8 % 2) + l.val; rw [(idx1_2 t).2]; omega

theorem blk1_3_at (t : Fin cfg1.N) (r : Fin 4096) (l : Fin 512) :
    blk1 V c 3 t (ix2 r l) = V c main_v65_1 (ix2 (⟨4096 * (t.val / 16) + r.val, by have := t.isLt; have := N1_eq; have := r.isLt; have := l.isLt; omega⟩ : Fin 16384) (⟨512 * (t.val / 8 % 2) + l.val, by have := t.isLt; have := N1_eq; have := r.isLt; have := l.isLt; omega⟩ : Fin 1024)) := by
  unfold blk1
  rw [View.read_apply]
  show V c main_v65_1 _ = V c main_v65_1 _
  congr 1
  funext a
  apply Fin.ext
  match a with
  | ⟨0, _⟩ => show win1_3.index t 0 * 4096 + 1 * r.val = 4096 * (t.val / 16) + r.val; rw [(idx1_3 t).1]; omega
  | ⟨1, _⟩ => show win1_3.index t 1 * 512 + 1 * l.val = 512 * (t.val / 8 % 2) + l.val; rw [(idx1_3 t).2]; omega

theorem blk1_4_at (t : Fin cfg1.N) (r : Fin 512) (l : Fin 4096) :
    blk1 V c 4 t (ix2 r l) = V c main_v5 (ix2 (⟨512 * (t.val / 8 % 2) + r.val, by have := t.isLt; have := N1_eq; have := r.isLt; have := l.isLt; omega⟩ : Fin 1024) (⟨4096 * (t.val / 16) + l.val, by have := t.isLt; have := N1_eq; have := r.isLt; have := l.isLt; omega⟩ : Fin 16384)) := by
  unfold blk1
  rw [View.read_apply]
  show V c main_v5 _ = V c main_v5 _
  congr 1
  funext a
  apply Fin.ext
  match a with
  | ⟨0, _⟩ => show win1_4.index t 0 * 512 + 1 * r.val = 512 * (t.val / 8 % 2) + r.val; rw [(idx1_4 t).1]; omega
  | ⟨1, _⟩ => show win1_4.index t 1 * 4096 + 1 * l.val = 4096 * (t.val / 16) + l.val; rw [(idx1_4 t).2]; omega

theorem blk1_5_at (t : Fin cfg1.N) (r : Fin 512) (l : Fin 512) :
    blk1 V c 5 t (ix2 r l) = V c main_v2 (ix2 (⟨512 * (8 * (t.val / 16) + t.val % 8) + r.val, by have := t.isLt; have := N1_eq; have := r.isLt; have := l.isLt; omega⟩ : Fin 16384) (⟨512 * (4 + t.val / 8 % 2) + l.val, by have := t.isLt; have := N1_eq; have := r.isLt; have := l.isLt; omega⟩ : Fin 3072)) := by
  unfold blk1
  rw [View.read_apply]
  show V c main_v2 _ = V c main_v2 _
  congr 1
  funext a
  apply Fin.ext
  match a with
  | ⟨0, _⟩ => show win1_5.index t 0 * 512 + 1 * r.val = 512 * (8 * (t.val / 16) + t.val % 8) + r.val; rw [(idx1_5 t).1]; omega
  | ⟨1, _⟩ => show win1_5.index t 1 * 512 + 1 * l.val = 512 * (4 + t.val / 8 % 2) + l.val; rw [(idx1_5 t).2]; omega

theorem out1_6_at (t : Fin cfg1.N) (A : Vec F S16384x1024 .bf16) (r : Fin 512) (l : Fin 512) :
    ((cfg1.win 6).blk t).view.read (Elt F) A (ix2 r l) = A (ix2 (⟨512 * (8 * (t.val / 16) + t.val % 8) + r.val, by have := t.isLt; have := N1_eq; have := r.isLt; have := l.isLt; omega⟩ : Fin 16384) (⟨512 * (t.val / 8 % 2) + l.val, by have := t.isLt; have := N1_eq; have := r.isLt; have := l.isLt; omega⟩ : Fin 1024)) := by
  rw [View.read_apply]
  show A _ = A _
  congr 1
  funext a
  apply Fin.ext
  match a with
  | ⟨0, _⟩ => show win1_6.index t 0 * 512 + 1 * r.val = 512 * (8 * (t.val / 16) + t.val % 8) + r.val; rw [(idx1_6 t).1]; omega
  | ⟨1, _⟩ => show win1_6.index t 1 * 512 + 1 * l.val = 512 * (t.val / 8 % 2) + l.val; rw [(idx1_6 t).2]; omega

theorem xsize1_6 : ∀ t : Fin cfg1.N, win1_6.xsize (grid1.coords t) 0 = 512 ∧ win1_6.xsize (grid1.coords t) 1 = 512 := by decide +kernel

theorem covered1_6 (i : S16384x1024.Idx) : ∃ t : Fin cfg1.N, (cfg1.win 6).flush t = true ∧ i ∈ ((cfg1.win 6).blk t).view.set := by
  have h0 : (i 0 : Nat) < 16384 := (i 0).isLt
  have h1 : (i 1 : Nat) < 1024 := (i 1).isLt
  have hb : (i 0 : Nat) / 4096 * 16 + (i 1 : Nat) / 512 * 8 + (i 0 : Nat) / 512 % 8 < cfg1.N := by rw [N1_eq]; omega
  refine ⟨⟨_, hb⟩, flush1_6 _, ?_⟩
  generalize ht : (⟨_, hb⟩ : Fin cfg1.N) = t
  have hv : t.val = (i 0 : Nat) / 4096 * 16 + (i 1 : Nat) / 512 * 8 + (i 0 : Nat) / 512 % 8 := by rw [← ht]
  show i ∈ ((View.whole main_v66).slice (win1_6.rect t)).set
  rw [View.set_slice_whole, Rect.mem_set_unit]
  intro a
  match a with
  | ⟨0, _⟩ =>
    show win1_6.index t 0 * 512 ≤ (i 0 : Nat) ∧ (i 0 : Nat) < win1_6.index t 0 * 512 + win1_6.xsize (grid1.coords t) 0
    rw [(idx1_6 t).1, (xsize1_6 t).1]; omega
  | ⟨1, _⟩ =>
    show win1_6.index t 1 * 512 ≤ (i 1 : Nat) ∧ (i 1 : Nat) < win1_6.index t 1 * 512 + win1_6.xsize (grid1.coords t) 1
    rw [(idx1_6 t).2, (xsize1_6 t).2]; omega

end blocks

variable (X : Vec Ideal S16384x3072 .bf16) (T : Vec Ideal S1024x16384 .bf16) (C : ℕ → ℕ → ℕ → EReal)

/-- The score of a row's query against the `k`-th key of its sequence, in head `h`. -/
def rowScore (h row k : ℕ) : EReal :=
  (∑ d : Fin 64, X (ix2 (⟨(4096 * (row / 4096) + k % 4096) % 16384, Nat.mod_lt _ (by decide)⟩ : Fin 16384) (⟨(1024 + (64 * h + d.val)) % 3072, Nat.mod_lt _ (by decide)⟩ : Fin 3072))
      * (X (ix2 (⟨row % 16384, Nat.mod_lt _ (by decide)⟩ : Fin 16384) (⟨(64 * h + d.val) % 3072, Nat.mod_lt _ (by decide)⟩ : Fin 3072)) * ((1 / 8 : ℝ) : EReal)))
    + (C (row / 4096) (row % 4096) h + -C (row / 4096) (k % 4096) h)

/-- The gated output of a row in one column. -/
def rowOut (row col : ℕ) : EReal :=
  headOut (causal (rowScore X C (col / 64) row) (row % 4096))
      (fun k => T (ix2 (⟨col % 1024, Nat.mod_lt _ (by decide)⟩ : Fin 1024) (⟨(4096 * (row / 4096) + k % 4096) % 16384, Nat.mod_lt _ (by decide)⟩ : Fin 16384)))
    * Ideal.logistic (X (ix2 (⟨row % 16384, Nat.mod_lt _ (by decide)⟩ : Fin 16384) (⟨(2048 + col) % 3072, Nat.mod_lt _ (by decide)⟩ : Fin 3072)))

def outArr : Vec Ideal S16384x1024 .bf16 := fun y => rowOut X T C (y 0).val (y 1).val

/-- The two lane arrays over given forget sums. -/
def lanesQOf : Vec Ideal S16384x1024 .bf16 := fun y => laneQ (fun h => C ((y 0).val / 4096) ((y 0).val % 4096) h) ((y 1).val / 128) ((y 1).val % 128)
def lanesKOf : Vec Ideal S16384x1024 .bf16 := fun y => laneK (fun h => C ((y 0).val / 4096) ((y 0).val % 4096) h) ((y 1).val / 128) ((y 1).val % 128)

theorem laneQ_step (c : ℕ → EReal) (s p l : ℕ) : laneQ c (4 * s + p) l = laneQ (fun h => c (8 * s + h)) p l := by
  unfold laneQ
  rw [show 2 * (4 * s + p) + l / 8 = 8 * s + (2 * p + l / 8) by omega]

theorem laneK_step (c : ℕ → EReal) (s p l : ℕ) : laneK c (4 * s + p) l = laneK (fun h => c (8 * s + h)) p l := by
  unfold laneK
  rw [show 2 * (4 * s + p) + l / 8 = 8 * s + (2 * p + l / 8) by omega]

variable (V : (c : Dev nD) → (b : Ref sig .tc) → Buf (Elt Ideal) ((c : Thread nD τ).loc b)) (c : Dev nD)
variable {X T C V c}

theorem headScore_row (hX : V c main_v2 = X) (t : Fin cfg1.N) (q : Fin 512) (h k : ℕ) (hh : h < 8) :
    headScore (blk1 V c 0 t) (blk1 V c 2 t) (fun h => C (t.val / 16) (512 * (t.val % 8) + q.val) (8 * (t.val / 8 % 2) + h))
        (fun k h => C (t.val / 16) (k % 4096) (8 * (t.val / 8 % 2) + h)) h q k
      = rowScore X C (8 * (t.val / 8 % 2) + h) (512 * (8 * (t.val / 16) + t.val % 8) + q.val) k := by
  have ht := t.isLt
  have hN := N1_eq
  have hq := q.isLt
  unfold headScore rowScore
  have r0 : (512 * (8 * (t.val / 16) + t.val % 8) + q.val) / 4096 = t.val / 16 := by omega
  have r1 : (512 * (8 * (t.val / 16) + t.val % 8) + q.val) % 4096 = 512 * (t.val % 8) + q.val := by omega
  simp only [r0, r1]
  congr 1
  refine Finset.sum_congr rfl fun d _ => ?_
  have hd := d.isLt
  refine congrArg₂ (· * ·) ((blk1_2_at V c t _ _).trans ?_) (congrArg (· * _) ((blk1_0_at V c t _ _).trans ?_))
  · rw [hX]
    congr 2
    · apply Fin.ext
      show 4096 * (t.val / 16) + k % 4096 = (4096 * (t.val / 16) + k % 4096) % 16384
      omega
    · apply Fin.ext
      show 512 * (2 + t.val / 8 % 2) + (64 * h + d.val) % 512 = (1024 + (64 * (8 * (t.val / 8 % 2) + h) + d.val)) % 3072
      omega
  · rw [hX]
    congr 2
    · apply Fin.ext
      show 512 * (8 * (t.val / 16) + t.val % 8) + q.val = (512 * (8 * (t.val / 16) + t.val % 8) + q.val) % 16384
      omega
    · apply Fin.ext
      show 512 * (t.val / 8 % 2) + (64 * h + d.val) % 512 = (64 * (8 * (t.val / 8 % 2) + h) + d.val) % 3072
      omega

/-- One point's block of the output. -/
theorem attn_at (hX : V c main_v2 = X) (hT : V c main_v5 = T) (hQ : V c main_v65_0 = lanesQOf C) (hK : V c main_v65_1 = lanesKOf C)
    (hs : ∀ h row k, h < 16 → rowScore X C h row k ≠ ⊤) (h0 : ∀ h row, h < 16 → rowScore X C h row 0 ≠ ⊥) (t : Fin cfg1.N) (q col : Fin 512) :
    attnAt V c t (ix2 q col) = rowOut X T C (512 * (8 * (t.val / 16) + t.val % 8) + q.val) (512 * (t.val / 8 % 2) + col.val) := by
  have ht := t.isLt
  have hN := N1_eq
  have hq := q.isLt
  have hc := col.isLt
  rw [attnAt_eq, coord1_2]
  rw [blockOut_at (t.val % 8) (by omega) (blk1 V c 0 t) (blk1 V c 1 t) (blk1 V c 2 t) (blk1 V c 3 t) (blk1 V c 4 t) (blk1 V c 5 t) q col
    (fun h => C (t.val / 16) (512 * (t.val % 8) + q.val) (8 * (t.val / 8 % 2) + h)) (fun k h => C (t.val / 16) (k % 4096) (8 * (t.val / 8 % 2) + h))
    (fun p l hp hl => by
      refine (blk1_1_at V c t _ _).trans ?_
      rw [hQ]
      unfold lanesQOf
      show laneQ (fun h => C ((512 * (8 * (t.val / 16) + t.val % 8) + q.val) / 4096) ((512 * (8 * (t.val / 16) + t.val % 8) + q.val) % 4096) h)
        ((512 * (t.val / 8 % 2) + (128 * p + l) % 512) / 128) ((512 * (t.val / 8 % 2) + (128 * p + l) % 512) % 128) = _
      have r0 : (512 * (8 * (t.val / 16) + t.val % 8) + q.val) / 4096 = t.val / 16 := by omega
      have r1 : (512 * (8 * (t.val / 16) + t.val % 8) + q.val) % 4096 = 512 * (t.val % 8) + q.val := by omega
      have r2 : (512 * (t.val / 8 % 2) + (128 * p + l) % 512) / 128 = 4 * (t.val / 8 % 2) + p := by omega
      have r3 : (512 * (t.val / 8 % 2) + (128 * p + l) % 512) % 128 = l := by omega
      rw [r0, r1, r2, r3, laneQ_step])
    (fun k p l hp hl => by
      refine (blk1_3_at V c t _ _).trans ?_
      rw [hK]
      unfold lanesKOf
      show laneK (fun h => C ((4096 * (t.val / 16) + k % 4096) / 4096) ((4096 * (t.val / 16) + k % 4096) % 4096) h)
        ((512 * (t.val / 8 % 2) + (128 * p + l) % 512) / 128) ((512 * (t.val / 8 % 2) + (128 * p + l) % 512) % 128) = _
      have r0 : (4096 * (t.val / 16) + k % 4096) / 4096 = t.val / 16 := by omega
      have r1 : (4096 * (t.val / 16) + k % 4096) % 4096 = k % 4096 := by omega
      have r2 : (512 * (t.val / 8 % 2) + (128 * p + l) % 512) / 128 = 4 * (t.val / 8 % 2) + p := by omega
      have r3 : (512 * (t.val / 8 % 2) + (128 * p + l) % 512) % 128 = l := by omega
      rw [r0, r1, r2, r3, laneK_step])
    (fun h k hh => by rw [headScore_row hX t q h k hh]; exact hs _ _ _ (by omega))
    (fun h hh => by rw [headScore_row hX t q h 0 hh]; exact h0 _ _ (by omega))]
  unfold rowOut
  have r0 : (512 * (8 * (t.val / 16) + t.val % 8) + q.val) / 4096 = t.val / 16 := by omega
  have r1 : (512 * (8 * (t.val / 16) + t.val % 8) + q.val) % 4096 = 512 * (t.val % 8) + q.val := by omega
  have r2 : (512 * (t.val / 8 % 2) + col.val) / 64 = 8 * (t.val / 8 % 2) + col.val / 64 := by omega
  simp only [r0, r1, r2]
  refine congrArg₂ (· * ·) (congrArg₂ headOut (congrArg (fun s => causal s (512 * (t.val % 8) + q.val)) (funext fun k => headScore_row hX t q _ k (by omega))) (funext fun k => ?_)) (congrArg Ideal.logistic ?_)
  · refine (blk1_4_at V c t _ _).trans ?_
    rw [hT]
    congr 2
    · apply Fin.ext
      show 512 * (t.val / 8 % 2) + col.val = (512 * (t.val / 8 % 2) + col.val) % 1024
      omega
    · apply Fin.ext
      show 4096 * (t.val / 16) + k % 4096 = (4096 * (t.val / 16) + k % 4096) % 16384
      omega
  · refine (blk1_5_at V c t _ _).trans ?_
    rw [hX]
    congr 2
    · apply Fin.ext
      show 512 * (8 * (t.val / 16) + t.val % 8) + q.val = (512 * (8 * (t.val / 16) + t.val % 8) + q.val) % 16384
      omega
    · apply Fin.ext
      show 512 * (4 + t.val / 8 % 2) + col.val = (2048 + (512 * (t.val / 8 % 2) + col.val)) % 3072
      omega

/-- The array the attention leaves. -/
theorem attnArr_eq (hX : V c main_v2 = X) (hT : V c main_v5 = T) (hQ : V c main_v65_0 = lanesQOf C) (hK : V c main_v65_1 = lanesKOf C)
    (hs : ∀ h row k, h < 16 → rowScore X C h row k ≠ ⊤) (h0 : ∀ h row, h < 16 → rowScore X C h row 0 ≠ ⊥) :
    (attnDat V c).arrAt 6 cfg1.N = outArr X T C :=
  (attnDat V c).arrAt_eq_of_cover 6 (outArr X T C) (fun t _ => by
    show (cfg1.win 6).cut (grid1.coords t) ((attnDat V c).after 6 t) = _
    rw [attnAfter_6]
    funext y
    have e : y = (ix2 (y 0) (y 1) : S512x512.Idx) := by funext a; match a with | 0 => rfl | 1 => rfl
    rw [e]
    exact (attn_at hX hT hQ hK hs h0 t (y 0) (y 1)).trans (out1_6_at t (outArr X T C) (y 0) (y 1)).symm) covered1_6

end Cert.KernelIdeal.Gen
-- ==== Proof.HostValue.lean ====
module

public import proofs.«01_k».proof.Proof.AttnArrays
public import proofs.«01_k».proof.Proof.Run
public import Idealize.ShloMosaic.Lib.StableHlo.ReadAt
public import Idealize.ShloMosaic.Lib.Routing.OpsSet

/-! What the host prepares for the two regions, read at an index of the arguments. -/

@[expose] public section

set_option maxRecDepth 16384

noncomputable section

namespace Cert.KernelIdeal.Gen

open Idealize.ShloMosaic Idealize.ShloMosaic.TcCoe Idealize.ShloMosaic.StableHlo Idealize.ShloMosaic.Tactic Cert.Online

/-! ## The lane words -/

theorem andi_bool (a b : Bool) : IntOp.andi (BitVec.ofBool a) (BitVec.ofBool b) = BitVec.ofBool (a && b) := by cases a <;> cases b <;> rfl

theorem lane_lt : ∀ l : Fin 1024, IntOp.cmpi .slt (IntOp.andi (BitVec.ofNat 32 l.val) 127#32) 16#32 = BitVec.ofBool (decide (l.val % 128 < 16)) := by decide +kernel
theorem term_lt3 : ∀ l : Fin 1024, IntOp.cmpi .slt (IntOp.andi (IntOp.andi (BitVec.ofNat 32 l.val) 127#32) 7#32) 3#32 = BitVec.ofBool (decide (l.val % 8 < 3)) := by decide +kernel
theorem term_lt6 : ∀ l : Fin 1024, IntOp.cmpi .slt (IntOp.andi (IntOp.andi (BitVec.ofNat 32 l.val) 127#32) 7#32) 6#32 = BitVec.ofBool (decide (l.val % 8 < 6)) := by decide +kernel
theorem term_ge3 : ∀ l : Fin 1024, IntOp.cmpi .sge (IntOp.andi (IntOp.andi (BitVec.ofNat 32 l.val) 127#32) 7#32) 3#32 = BitVec.ofBool (decide (3 ≤ l.val % 8)) := by decide +kernel

theorem place_q : ∀ l : Fin 1024, IntOp.addi (IntOp.addi (16#32) (IntOp.muli (IntOp.andi (IntOp.andi (BitVec.ofNat 32 l.val) 127#32) 7#32) 16#32))
    (IntOp.addi (IntOp.muli (2#32) (IntOp.shrsi ArithUnit.host (BitVec.ofNat 32 l.val) 7#32)) (IntOp.shrsi ArithUnit.host (IntOp.andi (BitVec.ofNat 32 l.val) 127#32) 3#32))
      = BitVec.ofNat 32 (16 + 16 * (l.val % 8) + (2 * (l.val / 128) + l.val % 128 / 8)) := by decide +kernel
theorem place_k : ∀ l : Fin 1024, 3 ≤ l.val % 8 → IntOp.addi (IntOp.addi (16#32) (IntOp.muli (IntOp.subi (IntOp.andi (IntOp.andi (BitVec.ofNat 32 l.val) 127#32) 7#32) 3#32) 16#32))
    (IntOp.addi (IntOp.muli (2#32) (IntOp.shrsi ArithUnit.host (BitVec.ofNat 32 l.val) 7#32)) (IntOp.shrsi ArithUnit.host (IntOp.andi (BitVec.ofNat 32 l.val) 127#32) 3#32))
      = BitVec.ofNat 32 (16 + 16 * (l.val % 8 - 3) + (2 * (l.val / 128) + l.val % 128 / 8)) := by decide +kernel

theorem negOne_f32 : Ideal.ofBits .f32 0xBF800000#32 = -1 := by
  simp [Ideal.ofBits, Ideal.ieee]
  norm_num [← EReal.coe_mul, ← EReal.coe_inv]

variable (m : (ℓ : Loc nD τ sig) → Buf (Elt Ideal) ℓ) (c : Dev nD)

theorem toV1 (r : Ref sig .tc) (h1 : r ∉ hostOps0_1_W) (h2 : r ∉ hostOps0_2_W) (h3 : r ∉ hostOps0_3_W) (h4 : r ∉ hostOps0_4_W) (h5 : r ∉ hostOps0_5_W)
    (h6 : r ∉ hostOps0_6_W) (h7 : r ∉ hostOps0_7_W) (h8 : r ∉ hostOps0_8_W) : V9 m c r = V1 m c r :=
  (V9_of m c r h8).trans <| (V8_of m c r h7).trans <| (V7_of m c r h6).trans <| (V6_of m c r h5).trans <| (V5_of m c r h4).trans <| (V4_of m c r h3).trans <| (V3_of m c r h2).trans (V2_of m c r h1)

/-- The projections, side by side. -/
theorem fox_at (row : Fin 16384) (l : Fin 3072) : @Eq EReal (V9 m c main_v2 (ix2 row l))
    (if h : l.val < 1024 then m ((c : Thread nD τ).loc main_arg0) (ix3 (⟨row.val / 4096, by omega⟩ : Fin 4) (⟨row.val % 4096, by omega⟩ : Fin 4096) (⟨l.val, h⟩ : Fin 1024))
     else if h : l.val - 1024 < 1024 then m ((c : Thread nD τ).loc main_arg1) (ix3 (⟨row.val / 4096, by omega⟩ : Fin 4) (⟨row.val % 4096, by omega⟩ : Fin 4096) (⟨l.val - 1024, h⟩ : Fin 1024))
     else m ((c : Thread nD τ).loc main_arg4) (ix3 (⟨row.val / 4096, by omega⟩ : Fin 4) (⟨row.val % 4096, by omega⟩ : Fin 4096) (⟨l.val - 1024 - 1024, by omega⟩ : Fin 1024))) := by
  rw [toV1 m c main_v2 (by decide) (by decide) (by decide) (by decide) (by decide) (by decide) (by decide) (by decide)]
  unfold V1 V0
  after_reads_at
  after_reads_at

/-- The values, transposed. -/
theorem vt_at (row : Fin 16384) (l : Fin 1024) : @Eq EReal (V9 m c main_v5 (ix2 l row))
    (m ((c : Thread nD τ).loc main_arg2) (ix3 (⟨row.val / 4096, by omega⟩ : Fin 4) (⟨row.val % 4096, by omega⟩ : Fin 4096) l)) := by
  rw [toV1 m c main_v5 (by decide) (by decide) (by decide) (by decide) (by decide) (by decide) (by decide) (by decide)]
  unfold V1 V0
  after_reads_at

theorem small_at (row : Fin 16384) (h : Fin 16) : @Eq EReal (V9 m c main_v9 (ix2 row (⟨16 + h.val, by omega⟩ : Fin 128)))
    (m ((c : Thread nD τ).loc main_arg3) (ix3 (⟨row.val / 4096, by omega⟩ : Fin 4) (⟨row.val % 4096, by omega⟩ : Fin 4096) h)) := by
  rw [toV1 m c main_v9 (by decide) (by decide) (by decide) (by decide) (by decide) (by decide) (by decide) (by decide)]
  unfold V1 V0
  after_reads_at
  after_reads_at

/-- Where the bias starts. -/
def biasStart : IVec S2 32 := concatenate S2 0 [⟨S1, broadcastInDim S1 ![] bcast_S_S1 (constantI S_ 32 0#32)⟩, ⟨S1, broadcastInDim S1 ![] bcast_S_S1 (constantI S_ 32 16#32)⟩] concatenates_S1_S1_S2_d0

theorem biasStart_lands : ∀ k : Fin 16, scatter_S1x128_S2_S16_0_0_01_0.resultIdx? (ix1 k) biasStart = some (ix2 (0 : Fin 1) (⟨16 + k.val, by omega⟩ : Fin 128)) := by decide +kernel

theorem biasRow_at (h : Fin 16) : @Eq EReal (V9 m c main_v14 (ix2 (0 : Fin 1) (⟨16 + h.val, by omega⟩ : Fin 128)))
    (m ((c : Thread nD τ).loc main_arg5) (ix1 h)) := by
  rw [toV1 m c main_v14 (by decide) (by decide) (by decide) (by decide) (by decide) (by decide) (by decide) (by decide)]
  have e11 : upto hostOps0 (V0 m c) 18 (Proc.devRef .tc main_v11) = broadcastInDim S1 ![] bcast_S_S1 (constantI S_ 32 0#32) := by
    after_reads_simp
  have e12 : upto hostOps0 (V0 m c) 18 (Proc.devRef .tc main_v12) = broadcastInDim S1 ![] bcast_S_S1 (constantI S_ 32 16#32) := by
    after_reads_simp
  unfold V0 at e11 e12
  unfold V1 V0
  after_reads_at
  rw [e11, e12]
  show Host.scatter scatter_S1x128_S2_S16_0_0_01_0 (fun _ b => b) _ biasStart _ _ = _
  refine Routing.scatter_set_hit _ _ _ _ _ _ (fun k hk => ?_) (ix1 h) (biasStart_lands h)
  have k' := biasStart_lands (k 0)
  have hk1 : k = ix1 (k 0) := eq_ix1 k
  rw [hk1] at hk
  have := Option.some.inj (k'.symm.trans hk)
  have e1 := congrArg Fin.val (congrFun this 1)
  change 16 + (k 0).val = 16 + h.val at e1
  rw [hk1]
  congr 2
  exact Fin.ext (by omega)

theorem placed : Placed (found0 m) c where
  pq j l := by
    have hl := l.isLt
    have hj := j.isLt
    unfold found0 V9 V8 V7 V6 V5 V4 V3 V2 V1 V0
    after_reads_at
    rw [lane_lt, term_lt3, place_q, WordCmp.cmpi_eq_ofNat (by omega) (by omega), andi_bool, andi_bool, select_bool]
    simp only [Bool.and_eq_true, decide_eq_true_eq, and_assoc]
  pk j l := by
    have hl := l.isLt
    have hj := j.isLt
    unfold found0 V9 V8 V7 V6 V5 V4 V3 V2 V1 V0
    after_reads_at
    rw [lane_lt, term_lt6, term_ge3, negOne_f32]
    by_cases h3 : 3 ≤ l.val % 8
    · rw [place_k l h3, WordCmp.cmpi_eq_ofNat (by omega) (by omega), andi_bool, andi_bool, andi_bool, select_bool]
      simp only [Bool.and_eq_true, decide_eq_true_eq, and_assoc]
    · rw [decide_eq_false h3, andi_bool, andi_bool, if_neg (fun h => h3 h.2.1.1), Bool.false_and, Bool.and_false]
      rw [show ∀ x : BitVec 1, IntOp.andi (BitVec.ofBool false) x = BitVec.ofBool false by decide, select_bool]
      rfl
  oq l := by
    unfold found0 V9 V8 V7 V6 V5 V4 V3 V2 V1 V0
    after_reads_at
    rw [lane_lt, term_lt6, term_ge3, andi_bool, andi_bool, select_bool]
    simp only [Bool.and_eq_true, decide_eq_true_eq, and_assoc]
  ok l := by
    unfold found0 V9 V8 V7 V6 V5 V4 V3 V2 V1 V0
    after_reads_at
    rw [lane_lt, term_lt3, andi_bool, select_bool]
    simp only [Bool.and_eq_true, decide_eq_true_eq, and_assoc]

end Cert.KernelIdeal.Gen
-- ==== Proof.RefStages.lean ====
module

public import proofs.«01_k».proof.Proof.Frames
public import Idealize.ShloMosaic.Lib.StableHlo.ReadAt
public import Idealize.ShloMosaic.Lib.Pointwise

/-! The reference's result as a composition of four stages: the gates' running sums, the scores, the weights, the output. -/

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.ShloMosaic.Tactic Idealize.SL.Sem

/-- The gate with its bias, negated. -/
def negGate (a3 : FVec Ideal S4x4096x16 .f32) (a5 : FVec Ideal S16 .f32) : FVec Ideal S4x4096x16 .f32 :=
  Host.negf (addf a3 (broadcastInDim S4x4096x16 ![0, 1, 2] bcast_S1x1x16_S4x4096x16_0_1_2 (broadcastInDim S1x1x16 ![2] bcast_S16_S1x1x16_2 a5)))

/-- The zeros the logarithm is written with. -/
def zeros3 : FVec Ideal S4x4096x16 .f32 := broadcastInDim S4x4096x16 ![] bcast_S_S4x4096x16 (constant S_ .f32 0x00000000#32)

/-- Minus the softplus. -/
def negSoft (z : FVec Ideal S4x4096x16 .f32) : FVec Ideal S4x4096x16 .f32 :=
  Host.negf (select (cmpf .une (subf z zeros3) (subf z zeros3)) (addf z zeros3)
    (addf (maximumf z zeros3) (Host.log1p (Host.exp (Host.negf (Host.absf (subf z zeros3)))))))

/-- The running sums along the sequence, heads ahead of positions. -/
def sumsOf (g : FVec Ideal S4x4096x16 .f32) : FVec Ideal S4x16x4096 .f32 :=
  transpose S4x16x4096 [0, 2, 1] (Host.reduceWindowAdd ![1, 4096, 1] ![1, 1, 1] ![0, 4095, 0] ![0, 0, 0] g
    (broadcastInDim S_ ![] bcast_S_S_ (constant S_ .f32 0x00000000#32)) reduceWindows_S4x4096x16_S4x4096x16_w1s1p0_0_w4096s1p4095_0_w1s1p0_0 h_S_) transposes_S4x4096x16_S4x16x4096_0_2_1

/-- The causal scores. -/
def scoresOf (q k : FVec Ideal S4x4096x1024 .f32) (s : FVec Ideal S4x16x4096 .f32) : FVec Ideal S4x16x4096x4096 .f32 :=
  select
    (broadcastInDim S4x16x4096x4096 ![2, 3] bcast_S4096x4096_S4x16x4096x4096_2_3
      (cmpi .sle (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))
    (subf
      (addf
        (mulf (Host.dotGeneral dot_S4x4096x16x64_S4x4096x16x64_S4x16x4096x4096_3_3_1_1_02_02 none
            (shapeCast S4x4096x16x64 q shapeCasts_S4x4096x1024_S4x4096x16x64) (shapeCast S4x4096x16x64 k shapeCasts_S4x4096x1024_S4x4096x16x64))
          (broadcastInDim S4x16x4096x4096 ![] bcast_S_S4x16x4096x4096 (constant S_ .f32 0x3E000000#32)))
        (broadcastInDim S4x16x4096x4096 ![0, 1, 2, 3] bcast_S4x16x4096x1_S4x16x4096x4096_0_1_2_3 (broadcastInDim S4x16x4096x1 ![0, 1, 2] bcast_S4x16x4096_S4x16x4096x1_0_1_2 s)))
      (broadcastInDim S4x16x4096x4096 ![0, 1, 2, 3] bcast_S4x16x1x4096_S4x16x4096x4096_0_1_2_3 (broadcastInDim S4x16x1x4096 ![0, 1, 3] bcast_S4x16x4096_S4x16x1x4096_0_1_3 s)))
    (broadcastInDim S4x16x4096x4096 ![] bcast_S_S4x16x4096x4096 (id (constant S_ .f32 0xFF800000#32)))

/-- The row maxima. -/
def topsOf (x : FVec Ideal S4x16x4096x4096 .f32) : FVec Ideal S4x16x4096 .f32 :=
  maximumf (broadcastInDim S4x16x4096 ![] bcast_S_S4x16x4096 (constant S_ .f32 0xFF800000#32))
    (Host.reduce FloatOps.maximumf x (constant S_ .f32 0xFF800000#32) reducesTo_S4x16x4096x4096_S4x16x4096_d3 h_S_)

/-- The exponentials. -/
def expsOf (x : FVec Ideal S4x16x4096x4096 .f32) (t : FVec Ideal S4x16x4096 .f32) : FVec Ideal S4x16x4096x4096 .f32 :=
  Host.exp (subf x (broadcastInDim S4x16x4096x4096 ![0, 1, 2, 3] bcast_S4x16x4096x1_S4x16x4096x4096_0_1_2_3 (broadcastInDim S4x16x4096x1 ![0, 1, 2] bcast_S4x16x4096_S4x16x4096x1_0_1_2 t)))

/-- The weights. -/
def weightsOf (e : FVec Ideal S4x16x4096x4096 .f32) : FVec Ideal S4x16x4096x4096 .f32 :=
  Host.divf e (broadcastInDim S4x16x4096x4096 ![0, 1, 2, 3] bcast_S4x16x4096x1_S4x16x4096x4096_0_1_2_3
    (broadcastInDim S4x16x4096x1 ![0, 1, 2] bcast_S4x16x4096_S4x16x4096x1_0_1_2
      (Host.reduceAdd e (constant S_ .f32 0x00000000#32) reducesTo_S4x16x4096x4096_S4x16x4096_d3 h_S_)))

/-- The gated output. -/
def outputOf (w : FVec Ideal S4x16x4096x4096 .f32) (a2 a4 : FVec Ideal S4x4096x1024 .f32) : FVec Ideal S16384x1024 .bf16 :=
  truncf .bf16 (shapeCast S16384x1024
    (mulf
      (shapeCast S4x4096x1024 (transpose S4x4096x16x64 [0, 3, 1, 2]
        (Host.dotGeneral dot_S4x4096x16x64_S4x16x4096x4096_S4x16x64x4096_1_3_3_2_02_01 none (shapeCast S4x4096x16x64 a2 shapeCasts_S4x4096x1024_S4x4096x16x64) w)
        transposes_S4x16x64x4096_S4x4096x16x64_0_3_1_2) shapeCasts_S4x4096x16x64_S4x4096x1024)
      (Host.divf (broadcastInDim S4x4096x1024 ![] bcast_S_S4x4096x1024 (constant S_ .f32 0x3F800000#32))
        (addf (broadcastInDim S4x4096x1024 ![] bcast_S_S4x4096x1024 (constant S_ .f32 0x3F800000#32)) (Host.exp (Host.negf a4)))))
    shapeCasts_S4x4096x1024_S16384x1024) bitsLt_bf16_f32

theorem out_eq (m : (ℓ : Loc nD τ sig) → Buf (Elt Ideal) ℓ) (c : Dev nD) (a0 a1 a2 a4 : FVec Ideal S4x4096x1024 .f32) (a3 : FVec Ideal S4x4096x16 .f32) (a5 : FVec Ideal S16 .f32)
    (h0 : m ((c.tc : Thread nD τ).loc main_arg0) = a0) (h1 : m ((c.tc : Thread nD τ).loc main_arg1) = a1) (h2 : m ((c.tc : Thread nD τ).loc main_arg2) = a2)
    (h3 : m ((c.tc : Thread nD τ).loc main_arg3) = a3) (h4 : m ((c.tc : Thread nD τ).loc main_arg4) = a4) (h5 : m ((c.tc : Thread nD τ).loc main_arg5) = a5) :
    out m c = outputOf (weightsOf (expsOf (scoresOf a0 a1 (sumsOf (negSoft (negGate a3 a5)))) (topsOf (scoresOf a0 a1 (sumsOf (negSoft (negGate a3 a5))))))) a2 a4 := by
  subst h0 h1 h2 h3 h4 h5
  unfold out
  after_reads_simp
  rfl

end Cert.Proof.Ref
-- ==== Proof.RefValue.lean ====
module

public import proofs.«01_k».proof.Proof.RefStages
public import proofs.«01_k».proof.Proof.AttnArrays

@[expose] public section

set_option maxRecDepth 16384

noncomputable section

namespace Cert.Proof.Ref

open Cert.ReferenceIdeal Cert.ReferenceIdeal.Gen Cert.Online
open Idealize.ShloMosaic Idealize.ShloMosaic.TcCoe Idealize.ShloMosaic.StableHlo Idealize.ShloMosaic.Tactic Idealize.SL.Sem

theorem negGate_at (a3 : FVec Ideal S4x4096x16 .f32) (a5 : FVec Ideal S16 .f32) (b : Fin 4) (t : Fin 4096) (h : Fin 16) :
    negGate a3 a5 (ix3 b t h) = -(a3 (ix3 b t h) + a5 (ix1 h)) := by
  pointwise [negGate]

theorem negSoft_at (z : FVec Ideal S4x4096x16 .f32) (i : S4x4096x16.Idx) (x : ℝ) (hx : z i = ((-x : ℝ) : EReal)) :
    negSoft z i = ((Cert.KernelIdeal.Gen.logSig x : ℝ) : EReal) := by
  pointwise [negSoft, zeros3]
  rw [if_neg (fun h => h rfl), hx, Cert.KernelIdeal.Gen.absf_coe, abs_neg, ← EReal.coe_neg, ← EReal.coe_zero, ← Cert.KernelIdeal.Gen.coe_max]
  refine (congrArg (fun y => -(((max (-x) 0 : ℝ) : EReal) + y)) (Cert.KernelIdeal.Gen.log_soft x)).trans ?_
  rw [← EReal.coe_add, ← EReal.coe_neg]
  rfl

theorem foldl_plus {β : Type} (g : β → EReal) (l : List β) (v : EReal) : l.foldl (fun r n => r + g n) v = v + (l.map g).sum := by
  induction l generalizing v with
  | nil => rw [List.foldl_nil, List.map_nil, List.sum_nil, add_zero]
  | cons a l ih => rw [List.foldl_cons, ih, List.map_cons, List.sum_cons, add_assoc]

/-- A running sum along the middle axis of a rank-three array, at any extents. -/
theorem window_sum {B N M H : ℕ} (hN : M + 1 = N) (g : (⟨3, ![B, N, H]⟩ : Shape).Idx → EReal) (v : (⟨0, ![]⟩ : Shape).Idx → EReal) (hv : ∀ i, v i = 0)
    (hw : (⟨3, ![B, N, H]⟩ : Shape).ReduceWindows (![1, N, 1] : Fin 3 → Nat) ![1, 1, 1] ![0, M, 0] ![0, 0, 0] (⟨3, ![B, N, H]⟩ : Shape)) (hu : 0 < (⟨0, ![]⟩ : Shape).numel)
    (b : Fin B) (t : Fin N) (h : Fin H) :
    Host.reduceWindow (fun x y : EReal => x + y) ![1, N, 1] ![1, 1, 1] ![0, M, 0] ![0, 0, 0] g v hw hu (ix3 b t h)
      = ∑ j ∈ Finset.range (t.val + 1), g (ix3 b (⟨j % N, Nat.mod_lt _ (by omega)⟩ : Fin N) h) := by
  have ht := t.isLt
  have hb := b.isLt
  have hh := h.isLt
  unfold Host.reduceWindow
  dsimp only
  refine (foldl_plus _ _ _).trans ?_
  rw [hv, zero_add, ← Fin.sum_univ_def]
  refine (Fintype.sum_equiv ((⟨3, ![1, N, 1]⟩ : Shape).rowMajor.symm) _
    (fun i : (⟨3, ![1, N, 1]⟩ : Shape).Idx => if M ≤ t.val + (i 1).val then g (ix3 b (⟨(t.val + (i 1).val - M) % N, Nat.mod_lt _ (by omega)⟩ : Fin N) h) else 0) (fun n => ?_)).trans ?_
  · have i0 : ((⟨3, ![1, N, 1]⟩ : Shape).rowMajor.symm n 0).val < 1 := ((⟨3, ![1, N, 1]⟩ : Shape).rowMajor.symm n 0).isLt
    have i1 : ((⟨3, ![1, N, 1]⟩ : Shape).rowMajor.symm n 1).val < N := ((⟨3, ![1, N, 1]⟩ : Shape).rowMajor.symm n 1).isLt
    have i2 : ((⟨3, ![1, N, 1]⟩ : Shape).rowMajor.symm n 2).val < 1 := ((⟨3, ![1, N, 1]⟩ : Shape).rowMajor.symm n 2).isLt
    by_cases c : M ≤ t.val + ((⟨3, ![1, N, 1]⟩ : Shape).rowMajor.symm n 1).val
    · rw [dif_pos (fun a => by
        match a with
        | ⟨0, _⟩ => show 0 ≤ b.val * 1 + ((⟨3, ![1, N, 1]⟩ : Shape).rowMajor.symm n 0).val ∧ b.val * 1 + ((⟨3, ![1, N, 1]⟩ : Shape).rowMajor.symm n 0).val - 0 < B; omega
        | ⟨1, _⟩ => show M ≤ t.val * 1 + ((⟨3, ![1, N, 1]⟩ : Shape).rowMajor.symm n 1).val ∧ t.val * 1 + ((⟨3, ![1, N, 1]⟩ : Shape).rowMajor.symm n 1).val - M < N; omega
        | ⟨2, _⟩ => show 0 ≤ h.val * 1 + ((⟨3, ![1, N, 1]⟩ : Shape).rowMajor.symm n 2).val ∧ h.val * 1 + ((⟨3, ![1, N, 1]⟩ : Shape).rowMajor.symm n 2).val - 0 < H; omega), if_pos c]
      refine congrArg g (funext fun a => Fin.ext ?_)
      match a with
      | ⟨0, _⟩ => show b.val * 1 + ((⟨3, ![1, N, 1]⟩ : Shape).rowMajor.symm n 0).val - 0 = b.val; omega
      | ⟨1, _⟩ => show t.val * 1 + ((⟨3, ![1, N, 1]⟩ : Shape).rowMajor.symm n 1).val - M = (t.val + ((⟨3, ![1, N, 1]⟩ : Shape).rowMajor.symm n 1).val - M) % N; rw [Nat.mod_eq_of_lt (by omega)]; omega
      | ⟨2, _⟩ => show h.val * 1 + ((⟨3, ![1, N, 1]⟩ : Shape).rowMajor.symm n 2).val - 0 = h.val; omega
    · rw [dif_neg (fun hin => by
        have h1 := (hin 1).1
        change M ≤ t.val * 1 + ((⟨3, ![1, N, 1]⟩ : Shape).rowMajor.symm n 1).val at h1
        omega), if_neg c]
  rw [sum_idx3, Fin.sum_univ_one]
  simp only [Fin.sum_univ_one, ix3_1]
  refine (Fin.sum_univ_eq_sum_range (fun n : ℕ => if M ≤ t.val + n then g (ix3 b (⟨(t.val + n - M) % N, Nat.mod_lt _ (by omega)⟩ : Fin N) h) else 0) N).trans ?_
  have e2 : Finset.range N = Finset.range ((M - t.val) + (t.val + 1)) := congrArg Finset.range (by omega)
  rw [e2, Finset.sum_range_add, Finset.sum_eq_zero, zero_add]
  · refine Finset.sum_congr rfl fun j hj => ?_
    have hj' := Finset.mem_range.mp hj
    rw [if_pos (by omega)]
    congr 2
    apply Fin.ext
    show (t.val + (M - t.val + j) - M) % N = j % N
    congr 1
    omega
  · intro j hj
    have hj' := Finset.mem_range.mp hj
    rw [if_neg (by omega)]

theorem cumsum_at (g : FVec Ideal S4x4096x16 .f32) (v : FVec Ideal S_ .f32) (hv : ∀ i, v i = 0) (b : Fin 4) (t : Fin 4096) (h : Fin 16) :
    Host.reduceWindowAdd ![1, 4096, 1] ![1, 1, 1] ![0, 4095, 0] ![0, 0, 0] g v reduceWindows_S4x4096x16_S4x4096x16_w1s1p0_0_w4096s1p4095_0_w1s1p0_0 h_S_ (ix3 b t h)
      = ∑ j ∈ Finset.range (t.val + 1), g (ix3 b (⟨j % 4096, Nat.mod_lt _ (by decide)⟩ : Fin 4096) h) := by
  unfold Host.reduceWindowAdd
  rw [Ideal.hostReduceWindowAdd_def]
  unfold Ideal.hostReduceWindowAdd
  exact window_sum (M := 4095) (by omega) g _ (fun _ => hv _) _ _ b t h

theorem sums_at (g : FVec Ideal S4x4096x16 .f32) (b : Fin 4) (t : Fin 4096) (h : Fin 16) :
    sumsOf g (ix3 b h t) = ∑ j ∈ Finset.range (t.val + 1), g (ix3 b (⟨j % 4096, Nat.mod_lt _ (by decide)⟩ : Fin 4096) h) := by
  pointwise [sumsOf]
  exact cumsum_at g _ (fun i => by pointwise) b t h

theorem scores_at (q k : FVec Ideal S4x4096x1024 .f32) (s : FVec Ideal S4x16x4096 .f32) (b : Fin 4) (h : Fin 16) (t u : Fin 4096) :
    scoresOf q k s (ix4 b h t u) = if u.val ≤ t.val then
      (∑ d : Fin 64, q (ix3 b t (⟨64 * h.val + d.val, by omega⟩ : Fin 1024)) * k (ix3 b u (⟨64 * h.val + d.val, by omega⟩ : Fin 1024))) * ((1 / 8 : ℝ) : EReal) + s (ix3 b h t) - s (ix3 b h u) else ⊥ := by
  pointwise [scoresOf]
  rw [WordCmp.cmpi_sle_ofNat (by omega) (by omega), Cert.KernelIdeal.Gen.select_bool, eighth_f32]
  have e : ∀ d : Fin 64, (⟨64 * h.val + d.val, by omega⟩ : Fin 1024) = ⟨h.val * 64 + d.val, by omega⟩ := fun d => Fin.ext (by show 64 * h.val + d.val = h.val * 64 + d.val; omega)
  have n : id (constant (F := Ideal) S_ .f32 4286578688#32) ix0 = (⊥ : EReal) := ninf_f32
  simp only [e, n, decide_eq_true_eq]

theorem maxf_at (a r : FVec Ideal S4x16x4096 .f32) (j : S4x16x4096.Idx) : maximumf a r j = max (a j) (r j) := rfl

theorem bots_at (j : S4x16x4096.Idx) : broadcastInDim S4x16x4096 ![] bcast_S_S4x16x4096 (constant (F := Ideal) S_ .f32 0xFF800000#32) j = (⊥ : EReal) := ninf_f32

theorem hostMax_at (x : FVec Ideal S4x16x4096x4096 .f32) (c : FVec Ideal S_ .f32) (j : S4x16x4096.Idx) (hr : S4x16x4096x4096.ReducesTo [3] S4x16x4096) (hu : 0 < S_.numel) :
    Host.reduce FloatOps.maximumf x c hr hu j = Finset.univ.fold max (c (Shape.Idx.first hu)) fun u : Fin 4096 => x (ix4 (j 0) (j 1) (j 2) u) := by
  simp only [pointwise]

theorem tops_at (x : FVec Ideal S4x16x4096x4096 .f32) (b : Fin 4) (h : Fin 16) (t : Fin 4096) :
    topsOf x (ix3 b h t) = Finset.univ.sup fun u : Fin 4096 => x (ix4 b h t u) := by
  unfold topsOf
  rw [maxf_at, bots_at, bot_sup_eq]
  refine (hostMax_at x _ (ix3 b h t) _ _).trans ?_
  rw [show (constant (F := Ideal) S_ .f32 0xFF800000#32) (Shape.Idx.first h_S_) = (⊥ : EReal) from ninf_f32]
  rfl

theorem exps_at (x : FVec Ideal S4x16x4096x4096 .f32) (m : FVec Ideal S4x16x4096 .f32) (b : Fin 4) (h : Fin 16) (t u : Fin 4096) :
    expsOf x m (ix4 b h t u) = Ideal.exp (x (ix4 b h t u) - m (ix3 b h t)) := by
  pointwise [expsOf]

theorem weights_at (e : FVec Ideal S4x16x4096x4096 .f32) (b : Fin 4) (h : Fin 16) (t u : Fin 4096) :
    weightsOf e (ix4 b h t u) = Ideal.div (e (ix4 b h t u)) (∑ j : Fin 4096, e (ix4 b h t j)) := by
  pointwise [weightsOf]

theorem output_at (w : FVec Ideal S4x16x4096x4096 .f32) (a2 a4 : FVec Ideal S4x4096x1024 .f32) (b : Fin 4) (t : Fin 4096) (c : Fin 1024) :
    outputOf w a2 a4 (ix2 (⟨4096 * b.val + t.val, by omega⟩ : Fin 16384) c)
      = (∑ u : Fin 4096, a2 (ix3 b u c) * w (ix4 b (⟨c.val / 64, by omega⟩ : Fin 16) t u)) * Ideal.logistic (a4 (ix3 b t c)) := by
  pointwise [outputOf]
  rfl

end Cert.Proof.Ref
-- ==== Proof.Value.lean ====
module

public import proofs.«01_k».proof.Defs
public import proofs.«01_k».proof.Proof.HostValue
public import proofs.«01_k».proof.Proof.RefValue

/-! The kernel's result and the reference's are one array, where the queries, the keys, the gates and the bias are finite. -/

@[expose] public section

set_option maxRecDepth 16384

noncomputable section

namespace Cert.Proof

open Idealize.ShloMosaic Idealize.ShloMosaic.TcCoe Cert.Online
open Cert.KernelIdeal.Gen (logSig cumOf rowScore rowOut outArr causal headOut)

/-- An extended real that is neither infinity. -/
def IsReal (x : EReal) : Prop := x = ((x.toReal : ℝ) : EReal)

theorem isReal_add {x y : EReal} (hx : IsReal x) (hy : IsReal y) : IsReal (x + y) := by
  unfold IsReal at *
  rw [hx, hy, ← EReal.coe_add, EReal.toReal_coe]

/-- What the precondition's comparison says of one element. -/
theorem isReal_of_lt {x : EReal} (h : (FloatOps.cmpf (F := Ideal) (φ := .f32) .olt (max x (-x)) (Ideal.ofBits .f32 0x7F800000#32)) = 1#1) : IsReal x := by
  rw [inf_f32] at h
  induction x with
  | bot => exact absurd h (by simp [FloatOps.cmpf, Ideal.cmp])
  | top => exact absurd h (by simp [FloatOps.cmpf, Ideal.cmp])
  | coe r => exact congrArg _ (EReal.toReal_coe r).symm

/-- Attention over `4096` keys, its sums over naturals or over the keys' positions. -/
theorem head_eq (x w : Fin 4096 → EReal) (s v : ℕ → EReal) (hs : ∀ u : Fin 4096, s u.val = x u) (hv : ∀ u : Fin 4096, v u.val = w u) :
    headOut s v = ∑ u : Fin 4096, w u * Ideal.div (Ideal.exp (x u - Finset.univ.sup x)) (∑ j : Fin 4096, Ideal.exp (x j - Finset.univ.sup x)) := by
  have ht : top s 4096 = Finset.univ.sup x := by
    unfold top
    apply le_antisymm
    · refine Finset.sup_le fun k hk => ?_
      have := Finset.le_sup (f := x) (Finset.mem_univ (⟨k, Finset.mem_range.mp hk⟩ : Fin 4096))
      rw [← hs] at this
      exact this
    · refine Finset.sup_le fun u _ => ?_
      rw [← hs]
      exact Finset.le_sup (f := s) (Finset.mem_range.mpr u.isLt)
  unfold headOut
  rw [ht, Finset.sum_range, Finset.sum_range]
  simp only [hs, hv]

section arrays
variable (a0 a1 a2 a4 : FVec Ideal Cert.ReferenceIdeal.S4x4096x1024 .f32) (a3 : FVec Ideal Cert.ReferenceIdeal.S4x4096x16 .f32) (a5 : FVec Ideal Cert.ReferenceIdeal.S16 .f32)

/-- The gate of a head at a row, with its bias. -/
def gateOf (h row : ℕ) : ℝ :=
  EReal.toReal (a3 (ix3 (⟨row / 4096 % 4, Nat.mod_lt _ (by decide)⟩ : Fin 4) (⟨row % 4096, Nat.mod_lt _ (by decide)⟩ : Fin 4096) (⟨h % 16, Nat.mod_lt _ (by decide)⟩ : Fin 16))
    + a5 (ix1 (⟨h % 16, Nat.mod_lt _ (by decide)⟩ : Fin 16)))

/-- A score, over the reals. -/
def realScore (b : Fin 4) (t u : Fin 4096) (h : Fin 16) : ℝ :=
  (∑ d : Fin 64, EReal.toReal (a0 (ix3 b t (⟨64 * h.val + d.val, by omega⟩ : Fin 1024))) * EReal.toReal (a1 (ix3 b u (⟨64 * h.val + d.val, by omega⟩ : Fin 1024)))) * (1 / 8)
    + cumOf (gateOf a3 a5) b.val t.val h.val - cumOf (gateOf a3 a5) b.val u.val h.val

variable {a0 a1 a2 a4 a3 a5}

theorem gate_real (h3 : ∀ i, IsReal (a3 i)) (h5 : ∀ i, IsReal (a5 i)) (b : Fin 4) (t : Fin 4096) (h : Fin 16) :
    a3 (ix3 b t h) + a5 (ix1 h) = ((gateOf a3 a5 h.val (4096 * b.val + t.val) : ℝ) : EReal) := by
  have e0 : (⟨(4096 * b.val + t.val) / 4096 % 4, Nat.mod_lt _ (by decide)⟩ : Fin 4) = b := Fin.ext (by show (4096 * b.val + t.val) / 4096 % 4 = b.val; omega)
  have e1 : (⟨(4096 * b.val + t.val) % 4096, Nat.mod_lt _ (by decide)⟩ : Fin 4096) = t := Fin.ext (by show (4096 * b.val + t.val) % 4096 = t.val; omega)
  have e2 : (⟨h.val % 16, Nat.mod_lt _ (by decide)⟩ : Fin 16) = h := Fin.ext (by show h.val % 16 = h.val; omega)
  unfold gateOf
  rw [e0, e1, e2]
  exact isReal_add (h3 _) (h5 _)

theorem sums_real (h3 : ∀ i, IsReal (a3 i)) (h5 : ∀ i, IsReal (a5 i)) (b : Fin 4) (t : Fin 4096) (h : Fin 16) :
    Ref.sumsOf (Ref.negSoft (Ref.negGate a3 a5)) (ix3 b h t) = ((cumOf (gateOf a3 a5) b.val t.val h.val : ℝ) : EReal) := by
  rw [Ref.sums_at]
  unfold cumOf
  rw [coe_sum]
  refine Finset.sum_congr rfl fun j hj => ?_
  have hj' := Finset.mem_range.mp hj
  have ht := t.isLt
  refine Ref.negSoft_at _ _ _ ?_
  rw [Ref.negGate_at, gate_real h3 h5, ← EReal.coe_neg]
  congr 3
  show 4096 * b.val + j % 4096 = 4096 * b.val + j
  omega

theorem ref_score (h0 : ∀ i, IsReal (a0 i)) (h1 : ∀ i, IsReal (a1 i)) (h3 : ∀ i, IsReal (a3 i)) (h5 : ∀ i, IsReal (a5 i)) (b : Fin 4) (t u : Fin 4096) (h : Fin 16) :
    Ref.scoresOf a0 a1 (Ref.sumsOf (Ref.negSoft (Ref.negGate a3 a5))) (ix4 b h t u) = if u.val ≤ t.val then ((realScore a0 a1 a3 a5 b t u h : ℝ) : EReal) else ⊥ := by
  rw [Ref.scores_at, sums_real h3 h5, sums_real h3 h5]
  unfold realScore
  rw [EReal.coe_sub, EReal.coe_add, EReal.coe_mul, coe_sum]
  have e : ∀ d : Fin 64, a0 (ix3 b t (⟨64 * h.val + d.val, by omega⟩ : Fin 1024)) * a1 (ix3 b u (⟨64 * h.val + d.val, by omega⟩ : Fin 1024))
      = ((EReal.toReal (a0 (ix3 b t (⟨64 * h.val + d.val, by omega⟩ : Fin 1024))) * EReal.toReal (a1 (ix3 b u (⟨64 * h.val + d.val, by omega⟩ : Fin 1024))) : ℝ) : EReal) := by
    intro d
    rw [EReal.coe_mul]
    exact congrArg₂ (· * ·) (h0 _) (h1 _)
  simp only [e]

variable {X : Vec Ideal Cert.KernelIdeal.S16384x3072 .bf16} {T : Vec Ideal Cert.KernelIdeal.S1024x16384 .bf16}

/-- The projections the attention region reads are the arguments. -/
structure Laid (a0 a1 a2 a4 : FVec Ideal Cert.ReferenceIdeal.S4x4096x1024 .f32) (X : Vec Ideal Cert.KernelIdeal.S16384x3072 .bf16) (T : Vec Ideal Cert.KernelIdeal.S1024x16384 .bf16) : Prop where
  q : ∀ (row : Fin 16384) (l : Fin 1024), @Eq EReal (X (ix2 row (⟨l.val, by omega⟩ : Fin 3072))) (a0 (ix3 (⟨row.val / 4096, by omega⟩ : Fin 4) (⟨row.val % 4096, by omega⟩ : Fin 4096) l))
  k : ∀ (row : Fin 16384) (l : Fin 1024), @Eq EReal (X (ix2 row (⟨1024 + l.val, by omega⟩ : Fin 3072))) (a1 (ix3 (⟨row.val / 4096, by omega⟩ : Fin 4) (⟨row.val % 4096, by omega⟩ : Fin 4096) l))
  g : ∀ (row : Fin 16384) (l : Fin 1024), @Eq EReal (X (ix2 row (⟨2048 + l.val, by omega⟩ : Fin 3072))) (a4 (ix3 (⟨row.val / 4096, by omega⟩ : Fin 4) (⟨row.val % 4096, by omega⟩ : Fin 4096) l))
  v : ∀ (row : Fin 16384) (l : Fin 1024), @Eq EReal (T (ix2 l row)) (a2 (ix3 (⟨row.val / 4096, by omega⟩ : Fin 4) (⟨row.val % 4096, by omega⟩ : Fin 4096) l))

/-- The kernel's score of a row, over the reals. -/
def rowReal (a0 a1 : FVec Ideal Cert.ReferenceIdeal.S4x4096x1024 .f32) (G : ℕ → ℕ → ℝ) (h row k : ℕ) : ℝ :=
  (∑ d : Fin 64, EReal.toReal (a1 (ix3 (⟨(4096 * (row / 4096) + k % 4096) % 16384 / 4096, by omega⟩ : Fin 4) (⟨(4096 * (row / 4096) + k % 4096) % 16384 % 4096, by omega⟩ : Fin 4096) (⟨(64 * h + d.val) % 1024, by omega⟩ : Fin 1024)))
      * (EReal.toReal (a0 (ix3 (⟨row % 16384 / 4096, by omega⟩ : Fin 4) (⟨row % 16384 % 4096, by omega⟩ : Fin 4096) (⟨(64 * h + d.val) % 1024, by omega⟩ : Fin 1024))) * (1 / 8)))
    + (cumOf G (row / 4096) (row % 4096) h + -cumOf G (row / 4096) (k % 4096) h)

theorem row_score (hL : Laid a0 a1 a2 a4 X T) (h0 : ∀ i, IsReal (a0 i)) (h1 : ∀ i, IsReal (a1 i)) (G : ℕ → ℕ → ℝ) (h row k : ℕ) (hh : h < 16) :
    rowScore X (fun b t h => ((cumOf G b t h : ℝ) : EReal)) h row k = ((rowReal a0 a1 G h row k : ℝ) : EReal) := by
  unfold rowScore rowReal
  rw [EReal.coe_add, EReal.coe_add, EReal.coe_neg, coe_sum]
  refine congrArg (· + _) (Finset.sum_congr rfl fun d _ => ?_)
  have hd := d.isLt
  rw [EReal.coe_mul, EReal.coe_mul]
  refine congrArg₂ (· * ·) ?_ (congrArg (· * _) ?_)
  · have e : (⟨(1024 + (64 * h + d.val)) % 3072, Nat.mod_lt _ (by decide)⟩ : Fin 3072) = ⟨1024 + (64 * h + d.val) % 1024, by omega⟩ :=
      Fin.ext (by show (1024 + (64 * h + d.val)) % 3072 = 1024 + (64 * h + d.val) % 1024; omega)
    rw [e]
    exact (hL.k _ (⟨(64 * h + d.val) % 1024, by omega⟩ : Fin 1024)).trans (h1 _)
  · have e : (⟨(64 * h + d.val) % 3072, Nat.mod_lt _ (by decide)⟩ : Fin 3072) = ⟨(64 * h + d.val) % 1024, by omega⟩ :=
      Fin.ext (by show (64 * h + d.val) % 3072 = (64 * h + d.val) % 1024; omega)
    rw [e]
    exact (hL.q _ (⟨(64 * h + d.val) % 1024, by omega⟩ : Fin 1024)).trans (h0 _)

theorem row_real (b : Fin 4) (t u : Fin 4096) (h : Fin 16) :
    rowReal a0 a1 (gateOf a3 a5) h.val (4096 * b.val + t.val) u.val = realScore a0 a1 a3 a5 b t u h := by
  have hb := b.isLt
  have ht := t.isLt
  have hu := u.isLt
  have hh := h.isLt
  unfold rowReal realScore
  have r0 : (4096 * b.val + t.val) / 4096 = b.val := by omega
  have r1 : (4096 * b.val + t.val) % 4096 = t.val := by omega
  have r2 : u.val % 4096 = u.val := by omega
  simp only [r0, r1, r2]
  rw [Finset.sum_mul, add_sub_assoc, sub_eq_add_neg]
  refine congrArg (· + _) (Finset.sum_congr rfl fun d _ => ?_)
  have hd := d.isLt
  have e1 : (⟨(4096 * b.val + u.val) % 16384 / 4096, by omega⟩ : Fin 4) = b := Fin.ext (by show (4096 * b.val + u.val) % 16384 / 4096 = b.val; omega)
  have e2 : (⟨(4096 * b.val + u.val) % 16384 % 4096, by omega⟩ : Fin 4096) = u := Fin.ext (by show (4096 * b.val + u.val) % 16384 % 4096 = u.val; omega)
  have e3 : (⟨(4096 * b.val + t.val) % 16384 / 4096, by omega⟩ : Fin 4) = b := Fin.ext (by show (4096 * b.val + t.val) % 16384 / 4096 = b.val; omega)
  have e4 : (⟨(4096 * b.val + t.val) % 16384 % 4096, by omega⟩ : Fin 4096) = t := Fin.ext (by show (4096 * b.val + t.val) % 16384 % 4096 = t.val; omega)
  have e5 : (⟨(64 * h.val + d.val) % 1024, by omega⟩ : Fin 1024) = ⟨64 * h.val + d.val, by omega⟩ := Fin.ext (by show (64 * h.val + d.val) % 1024 = 64 * h.val + d.val; omega)
  rw [e1, e2, e3, e4, e5]
  ring

/-- One element of the output, by either program. -/
theorem out_at (hL : Laid a0 a1 a2 a4 X T) (h0 : ∀ i, IsReal (a0 i)) (h1 : ∀ i, IsReal (a1 i)) (h3 : ∀ i, IsReal (a3 i)) (h5 : ∀ i, IsReal (a5 i)) (b : Fin 4) (t : Fin 4096) (c : Fin 1024) :
    rowOut X T (fun b t h => ((cumOf (gateOf a3 a5) b t h : ℝ) : EReal)) (4096 * b.val + t.val) c.val
      = Ref.outputOf (Ref.weightsOf (Ref.expsOf (Ref.scoresOf a0 a1 (Ref.sumsOf (Ref.negSoft (Ref.negGate a3 a5)))) (Ref.topsOf (Ref.scoresOf a0 a1 (Ref.sumsOf (Ref.negSoft (Ref.negGate a3 a5))))))) a2 a4
          (ix2 (⟨4096 * b.val + t.val, by omega⟩ : Fin 16384) c) := by
  have hb := b.isLt
  have ht := t.isLt
  have hc := c.isLt
  rw [Ref.output_at]
  unfold rowOut
  refine congrArg₂ (· * ·) ?_ (congrArg Ideal.logistic ?_)
  · simp only [Ref.weights_at, Ref.exps_at, Ref.tops_at]
    refine head_eq (fun u => Ref.scoresOf a0 a1 (Ref.sumsOf (Ref.negSoft (Ref.negGate a3 a5))) (ix4 b (⟨c.val / 64, by omega⟩ : Fin 16) t u)) (fun u => a2 (ix3 b u c)) _ _ (fun u => ?_) (fun u => ?_)
    · rw [ref_score h0 h1 h3 h5]
      unfold causal
      have r1 : (4096 * b.val + t.val) % 4096 = t.val := by omega
      rw [r1]
      refine if_congr Iff.rfl ?_ rfl
      rw [row_score hL h0 h1 _ _ _ _ (by omega)]
      exact congrArg _ (row_real b t u (⟨c.val / 64, by omega⟩ : Fin 16))
    · have hu := u.isLt
      refine (hL.v _ _).trans (congrArg a2 ?_)
      refine congr (congrArg₂ ix3 (Fin.ext ?_) (Fin.ext ?_)) (Fin.ext ?_)
      · show (4096 * ((4096 * b.val + t.val) / 4096) + u.val % 4096) % 16384 / 4096 = b.val
        omega
      · show (4096 * ((4096 * b.val + t.val) / 4096) + u.val % 4096) % 16384 % 4096 = u.val
        omega
      · show c.val % 1024 = c.val
        omega
  · have e : (⟨(2048 + c.val) % 3072, Nat.mod_lt _ (by decide)⟩ : Fin 3072) = ⟨2048 + c.val, by omega⟩ := Fin.ext (by show (2048 + c.val) % 3072 = 2048 + c.val; omega)
    rw [e]
    refine (hL.g _ c).trans (congrArg a4 ?_)
    refine congr (congrArg₂ ix3 (Fin.ext ?_) (Fin.ext ?_)) rfl
    · show (4096 * b.val + t.val) % 16384 / 4096 = b.val
      omega
    · show (4096 * b.val + t.val) % 16384 % 4096 = t.val
      omega

end arrays

section memories
open Cert.KernelIdeal Cert.KernelIdeal.Gen
variable (m : (ℓ : Loc nD τ sig) → Buf (Elt Ideal) ℓ) (c : Dev nD)
variable (a0 a1 a2 a4 : FVec Ideal Cert.ReferenceIdeal.S4x4096x1024 .f32) (a3 : FVec Ideal Cert.ReferenceIdeal.S4x4096x16 .f32) (a5 : FVec Ideal Cert.ReferenceIdeal.S16 .f32)

variable {m c a0 a1 a2 a4 a3 a5}

theorem laid (e0 : m ((c : Thread nD τ).loc main_arg0) = a0) (e1 : m ((c : Thread nD τ).loc main_arg1) = a1) (e2 : m ((c : Thread nD τ).loc main_arg2) = a2) (e4 : m ((c : Thread nD τ).loc main_arg4) = a4) :
    Laid a0 a1 a2 a4 (V9 m c main_v2) (V9 m c main_v5) where
  q row l := by
    have hl := l.isLt
    refine (fox_at m c row _).trans ?_
    rw [dif_pos hl, e0]
  k row l := by
    have hl := l.isLt
    refine (fox_at m c row _).trans ?_
    rw [dif_neg (by show ¬ 1024 + l.val < 1024; omega), dif_pos (by show 1024 + l.val - 1024 < 1024; omega), e1]
    refine congrArg a1 (congrArg (ix3 _ _) (Fin.ext ?_))
    show 1024 + l.val - 1024 = l.val
    omega
  g row l := by
    have hl := l.isLt
    refine (fox_at m c row _).trans ?_
    rw [dif_neg (by show ¬ 2048 + l.val < 1024; omega), dif_neg (by show ¬ 2048 + l.val - 1024 < 1024; omega), e4]
    refine congrArg a4 (congrArg (ix3 _ _) (Fin.ext ?_))
    show 2048 + l.val - 1024 - 1024 = l.val
    omega
  v row l := by
    refine (vt_at m c row l).trans ?_
    rw [e2]

theorem realGates (e3 : m ((c : Thread nD τ).loc main_arg3) = a3) (e5 : m ((c : Thread nD τ).loc main_arg5) = a5) (h3 : ∀ i, IsReal (a3 i)) (h5 : ∀ i, IsReal (a5 i)) :
    RealGates (found0 m) c (gateOf a3 a5) := by
  intro h row
  refine (congrArg₂ (HAdd.hAdd (α := EReal) (β := EReal) (γ := EReal)) (small_at m c row h) (biasRow_at m c h)).trans ?_
  rw [e3, e5]
  refine (gate_real h3 h5 (⟨row.val / 4096, by omega⟩ : Fin 4) (⟨row.val % 4096, by omega⟩ : Fin 4096) h).trans ?_
  congr 2
  show 4096 * (row.val / 4096) + row.val % 4096 = row.val
  omega

/-- The kernel's result is the reference's composition of the arguments. -/
theorem result_eq (e0 : m ((c : Thread nD τ).loc main_arg0) = a0) (e1 : m ((c : Thread nD τ).loc main_arg1) = a1) (e2 : m ((c : Thread nD τ).loc main_arg2) = a2)
    (e3 : m ((c : Thread nD τ).loc main_arg3) = a3) (e4 : m ((c : Thread nD τ).loc main_arg4) = a4) (e5 : m ((c : Thread nD τ).loc main_arg5) = a5)
    (h0 : ∀ i, IsReal (a0 i)) (h1 : ∀ i, IsReal (a1 i)) (h3 : ∀ i, IsReal (a3 i)) (h5 : ∀ i, IsReal (a5 i)) :
    result m c = Ref.outputOf (Ref.weightsOf (Ref.expsOf (Ref.scoresOf a0 a1 (Ref.sumsOf (Ref.negSoft (Ref.negGate a3 a5)))) (Ref.topsOf (Ref.scoresOf a0 a1 (Ref.sumsOf (Ref.negSoft (Ref.negGate a3 a5))))))) a2 a4 := by
  have hL := laid (m := m) (c := c) e0 e1 e2 e4
  have hG := realGates (m := m) (c := c) e3 e5 h3 h5
  have k : result m c = outArr (V9 m c main_v2) (V9 m c main_v5) (fun b t h => ((cumOf (gateOf a3 a5) b t h : ℝ) : EReal)) := by
    unfold result
    refine attnArr_eq (V := found1 m) (c := c) (between_of m c main_v2 (by decide) (by decide)) (between_of m c main_v5 (by decide) (by decide)) ?_ ?_ (fun h row k hh => ?_) (fun h row hh => ?_)
    · exact (between_lanesQ m c).trans (arrQ_eq hG (placed m c))
    · exact (between_lanesK m c).trans (arrK_eq hG (placed m c))
    · rw [row_score hL h0 h1 _ _ _ _ hh]
      exact EReal.coe_ne_top _
    · rw [row_score hL h0 h1 _ _ _ _ hh]
      exact EReal.coe_ne_bot _
  rw [k]
  funext y
  have y0 : (y 0).val < 16384 := (y 0).isLt
  have ey : y = (ix2 (⟨4096 * ((y 0).val / 4096) + (y 0).val % 4096, by omega⟩ : Fin 16384) (y 1) : Cert.KernelIdeal.S16384x1024.Idx) := by
    funext a
    match a with
    | ⟨0, _⟩ => exact Fin.ext (by show (y 0).val = 4096 * ((y 0).val / 4096) + (y 0).val % 4096; omega)
    | ⟨1, _⟩ => rfl
  rw [ey]
  exact out_at hL h0 h1 h3 h5 (⟨(y 0).val / 4096, by omega⟩ : Fin 4) (⟨(y 0).val % 4096, by omega⟩ : Fin 4096) (y 1)

end memories

end Cert.Proof
-- ==== Proof.Equal.lean ====
module

public import proofs.«01_k».proof.Defs
public import proofs.«01_k».proof.Proof.Frames
public import proofs.«01_k».proof.Proof.Value

/-! Both idealized programs end with one array. -/

@[expose] public section

set_option maxRecDepth 16384

noncomputable section

namespace Cert.Proof

open Idealize.ShloMosaic Idealize.ShloMosaic.TcCoe Idealize.SL.Sem

theorem finite_facts : Cert.Pre_finite_inputs.Facts := ⟨by decide, by decide, by decide⟩

section pre
variable [Cert.Pre_finite_inputs.Facts] (x0 x1 x2 x4 : FVec Ideal Cert.Pre_finite_inputs.S4x4096x1024 .f32) (x3 : FVec Ideal Cert.Pre_finite_inputs.S4x4096x16 .f32) (x5 : FVec Ideal Cert.Pre_finite_inputs.S16 .f32)

theorem pre_q (h : (Cert.Pre_finite_inputs.fn x0 x1 x2 x3 x4 x5).1 = fun _ => 1#1) (i : Cert.Pre_finite_inputs.S4x4096x1024.Idx) : IsReal (x0 i) :=
  isReal_of_lt (congrFun h i)

theorem pre_k (h : (Cert.Pre_finite_inputs.fn x0 x1 x2 x3 x4 x5).2.1 = fun _ => 1#1) (i : Cert.Pre_finite_inputs.S4x4096x1024.Idx) : IsReal (x1 i) :=
  isReal_of_lt (congrFun h i)

theorem pre_f (h : (Cert.Pre_finite_inputs.fn x0 x1 x2 x3 x4 x5).2.2.1 = fun _ => 1#1) (i : Cert.Pre_finite_inputs.S4x4096x16.Idx) : IsReal (x3 i) :=
  isReal_of_lt (congrFun h i)

theorem pre_b (h : (Cert.Pre_finite_inputs.fn x0 x1 x2 x3 x4 x5).2.2.2 = fun _ => 1#1) (i : Cert.Pre_finite_inputs.S16.Idx) : IsReal (x5 i) :=
  isReal_of_lt (congrFun h i)

end pre

theorem ideal_frame_pre : Cert.quiescent_KernelIdeal_pre_finite_inputs (hKernelIdeal := Cert.KernelIdeal.Gen.facts) (hPre_finite_inputs := finite_facts) :=
  fun m ρ _ => ideal_frame m ρ trivial

theorem reference_frame_pre : Cert.quiescent_ReferenceIdeal_pre_finite_inputs (hReferenceIdeal := Cert.ReferenceIdeal.Gen.facts) (hPre_finite_inputs := finite_facts) :=
  fun m ρ _ => reference_frame m ρ trivial

theorem equal : Cert.algebraic_KernelIdeal_ReferenceIdeal_pre_finite_inputs (hKernelIdeal := Cert.KernelIdeal.Gen.facts)
    (hReferenceIdeal := Cert.ReferenceIdeal.Gen.facts) (hPre_finite_inputs := finite_facts) := by
  intro m g m' g' hp hm
  refine ⟨fun c => Cert.KernelIdeal.Gen.result m c, ?_, ?_⟩
  · exact (θ_run Cert.KernelIdeal.defs _ _).mono (fun _ h => h.1) (Cert.KernelIdeal.Gen.run_main m g)
  · refine (θ_run Cert.ReferenceIdeal.defs _ _).mono (fun _ h c => ⟨(h c).1.trans ?_, (h c).2⟩) (Ref.run_main m' g')
    letI := finite_facts
    obtain ⟨p0, p1, p3, p5⟩ := hp c
    obtain ⟨q0, q1, q2, q3, q4, q5⟩ := hm c
    refine (Ref.out_eq m' c _ _ _ _ _ _ q0 q1 q2 q3 q4 q5).trans ?_
    exact (result_eq (m := m) (c := c) rfl rfl rfl rfl rfl rfl (pre_q _ _ _ _ _ _ p0) (pre_k _ _ _ _ _ _ p1) (pre_f _ _ _ _ _ _ p3) (pre_b _ _ _ _ _ _ p5)).symm

end Cert.Proof

end
-- ==== Proof.Rms.lean ====
module

public import proofs.«01_k».proof.Proof.Value

/-! The normalization by the root mean square, of one row; the gate of the feed-forward block. -/

@[expose] public section

noncomputable section

namespace Cert.Rms

open Idealize.ShloMosaic Cert.Online Cert.Proof

/-- An element of a normalized row. -/
def rmsAt (x w : Fin 1024 → EReal) (l : Fin 1024) : EReal :=
  x l * Ideal.rsqrt (Ideal.div (∑ j : Fin 1024, x j * x j) (Ideal.ofBits .f32 0x44800000#32) + Ideal.ofBits .f32 0x358637BD#32) * w l

/-- A feed-forward row's element: the normalized row through the gated hidden layer, added to the row, normalized again. -/
def ffnAt (act : EReal → EReal) (x w wf : Fin 1024 → EReal) (wg wu : Fin 1024 → Fin 2816 → EReal) (wd : Fin 2816 → Fin 1024 → EReal) (n : Fin 1024) : EReal :=
  rmsAt (fun l => x l + ∑ k : Fin 2816, act (∑ j : Fin 1024, rmsAt x w j * wg j k) * (∑ j : Fin 1024, rmsAt x w j * wu j k) * wd k l) wf n

end Cert.Rms
-- ==== Proof.Ffn.lean ====
module

public import proofs.«01_k».proof.Proof.Gen.Kernel2Ideal.Value
public import proofs.«01_k».proof.Proof.Rms
public import Idealize.ShloMosaic.Lib.StableHlo.ReadAt

/-! The feed-forward block's call, element by element. -/

@[expose] public section

set_option maxRecDepth 16384

noncomputable section

namespace Cert.Kernel2Ideal.Gen

open Cert.Kernel2Ideal Idealize.ShloMosaic Idealize.ShloMosaic.TcCoe Idealize.ShloMosaic.StableHlo Idealize.ShloMosaic.Tactic Cert.Online Cert.Rms

theorem zero2 : (![0, 0] : Fin 2 → Nat) = fun _ => 0 := funext fun a => by fin_cases a <;> rfl

/-- The kernel's form of the activation. -/
def act (y : EReal) : EReal := ((1 / 2 : ℝ) : EReal) * y + ((1 / 2 : ℝ) : EReal) * y * Ideal.tanh (((1 / 2 : ℝ) : EReal) * y)

/-- The gated hidden layer with the residual, at an element. -/
theorem hidden_at (x0 : Vec Ideal S512x1024 .f32) (x1 : Vec Ideal S1x1024 .f32) (x2 x3 : Vec Ideal S1024x2816 .bf16) (x4 : Vec Ideal S2816x1024 .bf16) (r : Fin 512) (l : Fin 1024) :
    k0_pay2 x0 x1 x2 x3 x4 (ix2 r l) = @HAdd.hAdd EReal EReal EReal _ (x0 (ix2 r l))
      (∑ k : Fin 2816, act (∑ j : Fin 1024, rmsAt (fun j => x0 (ix2 r j)) (fun j => x1 (ix2 0 j)) j * x2 (ix2 j k)) * (∑ j : Fin 1024, rmsAt (fun j => x0 (ix2 r j)) (fun j => x1 (ix2 0 j)) j * x3 (ix2 j k)) * x4 (ix2 k l)) := by
  unfold rmsAt act
  pointwise [k0_pay2]
  simp only [half_f32]

/-- A token tile's result, at an element. -/
theorem tile_at (x0 : Vec Ideal S512x1024 .f32) (x1 : Vec Ideal S1x1024 .f32) (x2 x3 : Vec Ideal S1024x2816 .bf16) (x4 : Vec Ideal S2816x1024 .bf16) (x5 : Vec Ideal S1x1024 .f32) (r : Fin 512) (n : Fin 1024) :
    out0_6 x0 x1 x2 x3 x4 x5 (ix2 r n) = ffnAt act (fun j => x0 (ix2 r j)) (fun j => x1 (ix2 0 j)) (fun j => x5 (ix2 0 j)) (fun j k => x2 (ix2 j k)) (fun j k => x3 (ix2 j k)) (fun k l => x4 (ix2 k l)) n := by
  unfold out0_6
  rw [View.canon_unit_zero (S := S512x1024) zero2]
  simp only [View.ld_unit_zero (S := S512x1024) zero2, View.ld_unit_zero (S := S1x1024) zero2, View.ld_unit_zero (S := S1024x2816) zero2, View.ld_unit_zero (S := S2816x1024) zero2]
  unfold ffnAt
  simp only [← hidden_at]
  unfold k0_pay4
  generalize k0_pay2 x0 x1 x2 x3 x4 = h
  unfold rmsAt
  pointwise [k0_pay1, k0_pay3]

variable (m : (ℓ : Loc nD τ sig) → Buf (Elt Ideal) ℓ) (c : Dev nD)

theorem at_x (row : Fin 16384) (l : Fin 1024) : @Eq EReal (V m c main_v0 (ix2 row l)) (m ((c : Thread nD τ).loc main_arg0) (ix3 (⟨row.val / 4096, by omega⟩ : Fin 4) (⟨row.val % 4096, by omega⟩ : Fin 4096) l)) := by
  after_reads_at
theorem at_w (l : Fin 1024) : @Eq EReal (V m c main_v1 (ix2 0 l)) (m ((c : Thread nD τ).loc main_arg1) (ix1 l)) := by
  after_reads_at
theorem at_wf (l : Fin 1024) : @Eq EReal (V m c main_v5 (ix2 0 l)) (m ((c : Thread nD τ).loc main_arg5) (ix1 l)) := by
  after_reads_at
theorem at_wg : V m c main_v2 = m ((c : Thread nD τ).loc main_arg2) := by
  after_reads_simp
  rfl
theorem at_wu : V m c main_v3 = m ((c : Thread nD τ).loc main_arg3) := by
  after_reads_simp
  rfl
theorem at_wd : V m c main_v4 = m ((c : Thread nD τ).loc main_arg4) := by
  after_reads_simp
  rfl

theorem N_eq : cfg0.N = 32 := by decide +kernel
theorem idx_tok (t : Fin cfg0.N) : (win0_0.index t 0 = t.val ∧ win0_0.index t 1 = 0) ∧ (win0_6.index t 0 = t.val ∧ win0_6.index t 1 = 0) := by
  revert t; decide +kernel
theorem idx_w (t : Fin cfg0.N) : (win0_1.index t 0 = 0 ∧ win0_1.index t 1 = 0) ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) := by
  revert t; decide +kernel

/-- The row of the whole array that a tile's row is. -/
def rowOf (t : Fin cfg0.N) (r : Fin 512) : Fin 16384 := ⟨512 * t.val + r.val, by have := t.isLt; have := N_eq; omega⟩

theorem blk_x (t : Fin cfg0.N) (r : Fin 512) (l : Fin 1024) : iblk m c 0 t (ix2 r l) = V m c main_v0 (ix2 (rowOf t r) l) := by
  refine congrArg (V m c main_v0) (funext fun a => Fin.ext ?_)
  match a with
  | ⟨0, _⟩ => show win0_0.index t 0 * 512 + 1 * r.val = 512 * t.val + r.val; rw [(idx_tok t).1.1]; omega
  | ⟨1, _⟩ => show win0_0.index t 1 * 1024 + 1 * l.val = l.val; rw [(idx_tok t).1.2]; omega
theorem blk_o (t : Fin cfg0.N) (A : Vec Ideal S16384x1024 .f32) (r : Fin 512) (l : Fin 1024) : ((cfg0.win 6).blk t).view.read (Elt Ideal) A (ix2 r l) = A (ix2 (rowOf t r) l) := by
  refine congrArg A (funext fun a => Fin.ext ?_)
  match a with
  | ⟨0, _⟩ => show win0_6.index t 0 * 512 + 1 * r.val = 512 * t.val + r.val; rw [(idx_tok t).2.1]; omega
  | ⟨1, _⟩ => show win0_6.index t 1 * 1024 + 1 * l.val = l.val; rw [(idx_tok t).2.2]; omega
theorem blk_w (t : Fin cfg0.N) (k : Fin 1) (l : Fin 1024) : iblk m c 1 t (ix2 k l) = V m c main_v1 (ix2 k l) := by
  refine congrArg (V m c main_v1) (funext fun a => Fin.ext ?_)
  match a with
  | ⟨0, _⟩ => show win0_1.index t 0 * 1 + 1 * k.val = k.val; rw [(idx_w t).1.1]; omega
  | ⟨1, _⟩ => show win0_1.index t 1 * 1024 + 1 * l.val = l.val; rw [(idx_w t).1.2]; omega
theorem blk_wg (t : Fin cfg0.N) (k : Fin 1024) (l : Fin 2816) : iblk m c 2 t (ix2 k l) = V m c main_v2 (ix2 k l) := by
  refine congrArg (V m c main_v2) (funext fun a => Fin.ext ?_)
  match a with
  | ⟨0, _⟩ => show win0_2.index t 0 * 1024 + 1 * k.val = k.val; rw [(idx_w t).2.1.1]; omega
  | ⟨1, _⟩ => show win0_2.index t 1 * 2816 + 1 * l.val = l.val; rw [(idx_w t).2.1.2]; omega
theorem blk_wu (t : Fin cfg0.N) (k : Fin 1024) (l : Fin 2816) : iblk m c 3 t (ix2 k l) = V m c main_v3 (ix2 k l) := by
  refine congrArg (V m c main_v3) (funext fun a => Fin.ext ?_)
  match a with
  | ⟨0, _⟩ => show win0_3.index t 0 * 1024 + 1 * k.val = k.val; rw [(idx_w t).2.2.1.1]; omega
  | ⟨1, _⟩ => show win0_3.index t 1 * 2816 + 1 * l.val = l.val; rw [(idx_w t).2.2.1.2]; omega
theorem blk_wd (t : Fin cfg0.N) (k : Fin 2816) (l : Fin 1024) : iblk m c 4 t (ix2 k l) = V m c main_v4 (ix2 k l) := by
  refine congrArg (V m c main_v4) (funext fun a => Fin.ext ?_)
  match a with
  | ⟨0, _⟩ => show win0_4.index t 0 * 2816 + 1 * k.val = k.val; rw [(idx_w t).2.2.2.1.1]; omega
  | ⟨1, _⟩ => show win0_4.index t 1 * 1024 + 1 * l.val = l.val; rw [(idx_w t).2.2.2.1.2]; omega
theorem blk_wf (t : Fin cfg0.N) (k : Fin 1) (l : Fin 1024) : iblk m c 5 t (ix2 k l) = V m c main_v5 (ix2 k l) := by
  refine congrArg (V m c main_v5) (funext fun a => Fin.ext ?_)
  match a with
  | ⟨0, _⟩ => show win0_5.index t 0 * 1 + 1 * k.val = k.val; rw [(idx_w t).2.2.2.2.1]; omega
  | ⟨1, _⟩ => show win0_5.index t 1 * 1024 + 1 * l.val = l.val; rw [(idx_w t).2.2.2.2.2]; omega

theorem xsize_o : ∀ t : Fin cfg0.N, win0_6.xsize (grid0.coords t) 0 = 512 ∧ win0_6.xsize (grid0.coords t) 1 = 1024 := by decide +kernel

theorem covered (i : S16384x1024.Idx) : ∃ t : Fin cfg0.N, (cfg0.win 6).flush t = true ∧ i ∈ ((cfg0.win 6).blk t).view.set := by
  have h0 : (i 0 : Nat) < 16384 := (i 0).isLt
  have h1 : (i 1 : Nat) < 1024 := (i 1).isLt
  refine ⟨⟨(i 0 : Nat) / 512, by rw [N_eq]; omega⟩, flush0_6 _, ?_⟩
  generalize ht : (⟨(i 0 : Nat) / 512, by rw [N_eq]; omega⟩ : Fin cfg0.N) = t
  have hv : t.val = (i 0 : Nat) / 512 := by rw [← ht]
  show i ∈ ((View.whole main_v6).slice (win0_6.rect t)).set
  rw [View.set_slice_whole, Rect.mem_set_unit]
  intro a
  match a with
  | ⟨0, _⟩ =>
    show win0_6.index t 0 * 512 ≤ (i 0 : Nat) ∧ (i 0 : Nat) < win0_6.index t 0 * 512 + win0_6.xsize (grid0.coords t) 0
    rw [(idx_tok t).2.1, (xsize_o t).1]; omega
  | ⟨1, _⟩ =>
    show win0_6.index t 1 * 1024 ≤ (i 1 : Nat) ∧ (i 1 : Nat) < win0_6.index t 1 * 1024 + win0_6.xsize (grid0.coords t) 1
    rw [(idx_tok t).2.2, (xsize_o t).2]; omega

/-- A row of the call's input. -/
def xRow (row : Fin 16384) (l : Fin 1024) : EReal := m ((c : Thread nD τ).loc main_arg0) (ix3 (⟨row.val / 4096, by omega⟩ : Fin 4) (⟨row.val % 4096, by omega⟩ : Fin 4096) l)

/-- An element of the array the call leaves. -/
def ffnElt (row : Fin 16384) (n : Fin 1024) : EReal :=
  ffnAt act (xRow m c row) (fun j => m ((c : Thread nD τ).loc main_arg1) (ix1 j)) (fun j => m ((c : Thread nD τ).loc main_arg5) (ix1 j))
    (fun j k => m ((c : Thread nD τ).loc main_arg2) (ix2 j k)) (fun j k => m ((c : Thread nD τ).loc main_arg3) (ix2 j k)) (fun k l => m ((c : Thread nD τ).loc main_arg4) (ix2 k l)) n

/-- The array the call leaves. -/
def ffnOut : Vec Ideal S16384x1024 .f32 := fun y => ffnElt m c (y 0) (y 1)

theorem tile_eq (t : Fin cfg0.N) (r : Fin 512) (n : Fin 1024) :
    out0_6 (iblk m c 0 t) (iblk m c 1 t) (iblk m c 2 t) (iblk m c 3 t) (iblk m c 4 t) (iblk m c 5 t) (ix2 r n) = ffnOut m c (ix2 (rowOf t r) n) := by
  refine (tile_at _ _ _ _ _ _ r n).trans ?_
  have e0 : (fun j : Fin 1024 => (iblk m c 0 t (ix2 r j) : EReal)) = xRow m c (rowOf t r) := funext fun j => (blk_x m c t r j).trans (at_x m c _ j)
  have e1 : (fun j : Fin 1024 => (iblk m c 1 t (ix2 0 j) : EReal)) = fun j => m ((c : Thread nD τ).loc main_arg1) (ix1 j) := funext fun j => (blk_w m c t 0 j).trans (at_w m c j)
  have e5 : (fun j : Fin 1024 => (iblk m c 5 t (ix2 0 j) : EReal)) = fun j => m ((c : Thread nD τ).loc main_arg5) (ix1 j) := funext fun j => (blk_wf m c t 0 j).trans (at_wf m c j)
  have e2 : (fun (j : Fin 1024) (k : Fin 2816) => (iblk m c 2 t (ix2 j k) : EReal)) = fun j k => m ((c : Thread nD τ).loc main_arg2) (ix2 j k) := funext fun j => funext fun k => (blk_wg m c t j k).trans (congrFun (at_wg m c) _)
  have e3 : (fun (j : Fin 1024) (k : Fin 2816) => (iblk m c 3 t (ix2 j k) : EReal)) = fun j k => m ((c : Thread nD τ).loc main_arg3) (ix2 j k) := funext fun j => funext fun k => (blk_wu m c t j k).trans (congrFun (at_wu m c) _)
  have e4 : (fun (j : Fin 2816) (k : Fin 1024) => (iblk m c 4 t (ix2 j k) : EReal)) = fun j k => m ((c : Thread nD τ).loc main_arg4) (ix2 j k) := funext fun j => funext fun k => (blk_wd m c t j k).trans (congrFun (at_wd m c) _)
  show ffnAt act (fun j : Fin 1024 => (iblk m c 0 t (ix2 r j) : EReal)) (fun j : Fin 1024 => (iblk m c 1 t (ix2 0 j) : EReal)) (fun j : Fin 1024 => (iblk m c 5 t (ix2 0 j) : EReal))
    (fun (j : Fin 1024) (k : Fin 2816) => (iblk m c 2 t (ix2 j k) : EReal)) (fun (j : Fin 1024) (k : Fin 2816) => (iblk m c 3 t (ix2 j k) : EReal)) (fun (j : Fin 2816) (k : Fin 1024) => (iblk m c 4 t (ix2 j k) : EReal)) n = ffnElt m c (rowOf t r) n
  rw [e0, e1, e2, e3, e4, e5]
  rfl

theorem arr_eq : (dats m 0 c).arrAt 6 cfg0.N = ffnOut m c :=
  (dats m 0 c).arrAt_eq_of_cover 6 (ffnOut m c) (fun t _ => by
    rw [Cert.Kernel2Ideal.Value.flushed6]
    funext y
    have e : y = (ix2 (y 0) (y 1) : S512x1024.Idx) := by funext a; match a with | 0 => rfl | 1 => rfl
    rw [e]
    exact (tile_eq m c t (y 0) (y 1)).trans (blk_o t (ffnOut m c) (y 0) (y 1)).symm) covered

end Cert.Kernel2Ideal.Gen
-- ==== Proof.FfnRef.lean ====
module

public import proofs.«01_k».proof.Proof.Gen.Reference2Ideal.Run
public import proofs.«01_k».proof.Proof.Rms
public import Idealize.ShloMosaic.Lib.Pointwise

/-! The feed-forward block's reference, element by element. -/

@[expose] public section

set_option maxRecDepth 16384

noncomputable section

namespace Cert.Reference2Ideal.Value

open Cert.Reference2Ideal Cert.Reference2Ideal.Gen Idealize.ShloMosaic Idealize.ShloMosaic.TcCoe Idealize.ShloMosaic.Tactic Cert.Online Cert.Rms

/-- The normalization of every row. -/
def refRms (x : FVec Ideal S4x4096x1024 .f32) (w : FVec Ideal S1024 .f32) : FVec Ideal S4x4096x1024 .f32 :=
  mulf (mulf x (broadcastInDim S4x4096x1024 ![0, 1, 2] bcast_S4x4096x1_S4x4096x1024_0_1_2 (Host.rsqrt (addf
    (Host.divf (broadcastInDim S4x4096x1 ![0, 1] bcast_S4x4096_S4x4096x1_0_1 (Host.reduceAdd (mulf x x) (constant S_ .f32 0x00000000#32) reducesTo_S4x4096x1024_S4x4096_d2 h_S_))
      (broadcastInDim S4x4096x1 ![] bcast_S_S4x4096x1 (constant S_ .f32 0x44800000#32)))
    (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 w))

theorem refRms_at (x : FVec Ideal S4x4096x1024 .f32) (w : FVec Ideal S1024 .f32) (b : Fin 4) (t : Fin 4096) (l : Fin 1024) :
    refRms x w (ix3 b t l) = rmsAt (fun j => x (ix3 b t j)) (fun j => w (ix1 j)) l := by
  unfold rmsAt
  pointwise [refRms]

/-- The gate's activation. -/
def refSilu (y : FVec Ideal S4x4096x2816 .f32) : FVec Ideal S4x4096x2816 .f32 :=
  mulf y (Host.divf (broadcastInDim S4x4096x2816 ![] bcast_S_S4x4096x2816 (constant S_ .f32 0x3F800000#32))
    (addf (broadcastInDim S4x4096x2816 ![] bcast_S_S4x4096x2816 (constant S_ .f32 0x3F800000#32)) (Host.exp (Host.negf y))))

/-- The residual with the gated hidden layer's projection. -/
def refHidden (x h : FVec Ideal S4x4096x1024 .f32) (wg wu : FVec Ideal S1024x2816 .f32) (wd : FVec Ideal S2816x1024 .f32) : FVec Ideal S4x4096x1024 .f32 :=
  addf x (Host.dotGeneral dot_S4x4096x2816_S2816x1024_S4x4096x1024_2_0_01_1_n_n none
    (mulf (refSilu (Host.dotGeneral dot_S4x4096x1024_S1024x2816_S4x4096x2816_2_0_01_1_n_n none h wg))
      (Host.dotGeneral dot_S4x4096x1024_S1024x2816_S4x4096x2816_2_0_01_1_n_n none h wu)) wd)

theorem refHidden_at (x h : FVec Ideal S4x4096x1024 .f32) (wg wu : FVec Ideal S1024x2816 .f32) (wd : FVec Ideal S2816x1024 .f32) (b : Fin 4) (t : Fin 4096) (l : Fin 1024) :
    refHidden x h wg wu wd (ix3 b t l) = @HAdd.hAdd EReal EReal EReal _ (x (ix3 b t l)) (∑ k : Fin 2816, (fun y => y * Ideal.logistic y) (∑ j : Fin 1024, h (ix3 b t j) * wg (ix2 j k))
      * (∑ j : Fin 1024, h (ix3 b t j) * wu (ix2 j k)) * wd (ix2 k l)) := by
  pointwise [refHidden, refSilu]
  rfl

/-- The reference's composition of its arguments. -/
def refOut (x : FVec Ideal S4x4096x1024 .f32) (w : FVec Ideal S1024 .f32) (wg wu : FVec Ideal S1024x2816 .f32) (wd : FVec Ideal S2816x1024 .f32) (wf : FVec Ideal S1024 .f32) : FVec Ideal S16384x1024 .f32 :=
  shapeCast S16384x1024 (refRms (refHidden x (refRms x w) wg wu wd) wf) shapeCasts_S4x4096x1024_S16384x1024

theorem refOut_at (x : FVec Ideal S4x4096x1024 .f32) (w : FVec Ideal S1024 .f32) (wg wu : FVec Ideal S1024x2816 .f32) (wd : FVec Ideal S2816x1024 .f32) (wf : FVec Ideal S1024 .f32)
    (row : Fin 16384) (n : Fin 1024) :
    refOut x w wg wu wd wf (ix2 row n) = ffnAt (fun y => y * Ideal.logistic y)
      (fun l => x (ix3 (⟨row.val / 4096, by omega⟩ : Fin 4) (⟨row.val % 4096, by omega⟩ : Fin 4096) l)) (fun j => w (ix1 j)) (fun j => wf (ix1 j))
      (fun j k => wg (ix2 j k)) (fun j k => wu (ix2 j k)) (fun k l => wd (ix2 k l)) n := by
  have e : refOut x w wg wu wd wf (ix2 row n) = refRms (refHidden x (refRms x w) wg wu wd) wf (ix3 (⟨row.val / 4096, by omega⟩ : Fin 4) (⟨row.val % 4096, by omega⟩ : Fin 4096) n) := by
    pointwise [refOut]
  rw [e, refRms_at]
  unfold ffnAt
  simp only [refHidden_at, refRms_at]

end Cert.Reference2Ideal.Value
-- ==== Proof.FfnReal.lean ====
module

public import proofs.«01_k».proof.Proof.Rms

/-! The gate's input is finite, and there both forms of the activation agree. -/

@[expose] public section

noncomputable section

namespace Cert.Rms

open Idealize.ShloMosaic Cert.Online Cert.Proof

theorem width_f32 : Ideal.ofBits .f32 0x44800000#32 = ((1024 : ℝ) : EReal) := by
  simp [Ideal.ofBits, Ideal.ieee]
  norm_num [← EReal.coe_mul, ← EReal.coe_inv]

theorem eps_f32 : ∃ e : ℝ, 0 < e ∧ Ideal.ofBits .f32 0x358637BD#32 = ((e : ℝ) : EReal) := by
  refine ⟨((2 : ℝ) ^ 43)⁻¹ * 8796093, by positivity, ?_⟩
  simp [Ideal.ofBits, Ideal.ieee]
  norm_num [← EReal.coe_mul, ← EReal.coe_inv]

theorem isReal_coe (r : ℝ) : IsReal ((r : ℝ) : EReal) := congrArg _ (EReal.toReal_coe r).symm

theorem isReal_mul {x y : EReal} (hx : IsReal x) (hy : IsReal y) : IsReal (x * y) := by
  unfold IsReal at hx hy
  rw [hx, hy, ← EReal.coe_mul]
  exact isReal_coe _

theorem isReal_sum {n : ℕ} (f : Fin n → EReal) (h : ∀ i, IsReal (f i)) : IsReal (∑ i, f i) := by
  induction n with
  | zero => rw [Fin.sum_univ_zero]; exact isReal_coe 0
  | succ n ih => rw [Fin.sum_univ_succ]; exact isReal_add (h 0) (ih _ fun i => h i.succ)

theorem sq_nonneg' (x : EReal) : 0 ≤ x * x := by
  induction x with
  | bot => simp
  | top => simp
  | coe r => rw [← EReal.coe_mul]; exact_mod_cast mul_self_nonneg r

/-- The inverse root of a row's mean square, against one of its elements, is finite. -/
theorem isReal_scaled (x : Fin 1024 → EReal) (l : Fin 1024) :
    IsReal (x l * Ideal.rsqrt (Ideal.div (∑ j : Fin 1024, x j * x j) (Ideal.ofBits .f32 0x44800000#32) + Ideal.ofBits .f32 0x358637BD#32)) := by
  obtain ⟨e, he, hee⟩ := eps_f32
  have hw : (((1024 : ℝ) : EReal)) ≠ 0 := by norm_num
  rw [width_f32, hee]
  unfold Ideal.div
  rw [if_neg hw, ← EReal.coe_inv]
  have h0 : 0 ≤ ∑ j : Fin 1024, x j * x j := Finset.sum_nonneg fun j _ => sq_nonneg' (x j)
  by_cases h : ∀ j, IsReal (x j)
  · have hs := isReal_sum _ fun j => isReal_mul (h j) (h j)
    generalize (∑ j : Fin 1024, x j * x j) = s at h0 hs
    unfold IsReal at hs
    rw [hs] at h0 ⊢
    have h0' : 0 ≤ s.toReal := by exact_mod_cast h0
    rw [← EReal.coe_mul, ← EReal.coe_add]
    have hp : 0 < s.toReal * 1024⁻¹ + e := by positivity
    refine isReal_mul (h l) ?_
    show IsReal (if s.toReal * 1024⁻¹ + e < 0 then ⊥ else if s.toReal * 1024⁻¹ + e = 0 then ⊤ else (((Real.sqrt (s.toReal * 1024⁻¹ + e))⁻¹ : ℝ) : EReal))
    rw [if_neg (not_lt.mpr hp.le), if_neg hp.ne']
    exact isReal_coe _
  · obtain ⟨j, hj⟩ := not_forall.mp h
    have ht : x j * x j = ⊤ := by
      generalize x j = v at hj
      induction v with
      | bot => simp
      | top => simp
      | coe r => exact absurd (isReal_coe r) hj
    have hs : (∑ j : Fin 1024, x j * x j) = ⊤ := by
      apply top_le_iff.mp
      rw [← ht]
      exact Finset.single_le_sum (f := fun j => x j * x j) (fun i _ => sq_nonneg' (x i)) (Finset.mem_univ j)
    rw [hs, EReal.top_mul_coe_of_pos (by norm_num), EReal.top_add_coe]
    show IsReal (x l * 0)
    rw [mul_zero]
    exact isReal_coe 0

theorem isReal_rmsAt (x w : Fin 1024 → EReal) (h : ∀ j, IsReal (w j)) (l : Fin 1024) : IsReal (rmsAt x w l) :=
  isReal_mul (isReal_scaled x l) (h l)

/-- The activation's two forms, at a finite value. -/
theorem silu_eq (y : EReal) (h : IsReal y) : ((1 / 2 : ℝ) : EReal) * y + ((1 / 2 : ℝ) : EReal) * y * Ideal.tanh (((1 / 2 : ℝ) : EReal) * y) = y * Ideal.logistic y := by
  rw [← gate_eq y]
  unfold IsReal at h
  rw [h]
  generalize y.toReal = r
  rw [← EReal.coe_mul]
  show ((1 / 2 * r : ℝ) : EReal) + ((1 / 2 * r : ℝ) : EReal) * ((Real.tanh (1 / 2 * r) : ℝ) : EReal) = (r : EReal) * (((1 / 2 : ℝ) : EReal) * ((Real.tanh (1 / 2 * r) : ℝ) : EReal) + ((1 / 2 : ℝ) : EReal))
  rw [← EReal.coe_mul, ← EReal.coe_mul, ← EReal.coe_add, ← EReal.coe_add, ← EReal.coe_mul]
  congr 1
  ring

theorem ffnAt_silu (x w wf : Fin 1024 → EReal) (wg wu : Fin 1024 → Fin 2816 → EReal) (wd : Fin 2816 → Fin 1024 → EReal) (hw : ∀ j, IsReal (w j)) (hg : ∀ j k, IsReal (wg j k)) (n : Fin 1024) :
    ffnAt (fun y => ((1 / 2 : ℝ) : EReal) * y + ((1 / 2 : ℝ) : EReal) * y * Ideal.tanh (((1 / 2 : ℝ) : EReal) * y)) x w wf wg wu wd n = ffnAt (fun y => y * Ideal.logistic y) x w wf wg wu wd n := by
  unfold ffnAt
  refine congrArg (fun z => rmsAt z wf n) (funext fun l => ?_)
  refine congrArg₂ (HAdd.hAdd (α := EReal)) rfl (Finset.sum_congr rfl fun k _ => ?_)
  refine congrArg₂ (HMul.hMul (α := EReal)) (congrArg₂ (HMul.hMul (α := EReal)) (silu_eq _ ?_) rfl) rfl
  exact isReal_sum _ fun j => isReal_mul (isReal_rmsAt x w hw j) (hg j k)

end Cert.Rms
-- ==== Proof.FfnEqual.lean ====
module

public import proofs.«01_k».proof.Defs
public import proofs.«01_k».proof.Proof.Ffn
public import proofs.«01_k».proof.Proof.FfnRef
public import proofs.«01_k».proof.Proof.FfnReal
public import proofs.«01_k».proof.Proof.Gen.Kernel2.Frame

/-! The claims about the feed-forward block. -/

@[expose] public section

set_option maxRecDepth 16384

noncomputable section

namespace Cert.Proof

open Idealize.ShloMosaic Idealize.ShloMosaic.TcCoe Idealize.ShloMosaic.StableHlo Idealize.SL.Sem

theorem gate_facts : Cert.Pre_finite_gate.Facts := ⟨by decide, by decide⟩

section pre
variable [Cert.Pre_finite_gate.Facts] (x0 : FVec Ideal Cert.Pre_finite_gate.S4x4096x1024 .f32) (x1 x5 : FVec Ideal Cert.Pre_finite_gate.S1024 .f32)
  (x2 x3 : FVec Ideal Cert.Pre_finite_gate.S1024x2816 .f32) (x4 : FVec Ideal Cert.Pre_finite_gate.S2816x1024 .f32)

theorem pre_norm (h : (Cert.Pre_finite_gate.fn x0 x1 x2 x3 x4 x5).1 = fun _ => 1#1) (i : Cert.Pre_finite_gate.S1024.Idx) : IsReal (x1 i) :=
  isReal_of_lt (congrFun h i)

theorem pre_gate (h : (Cert.Pre_finite_gate.fn x0 x1 x2 x3 x4 x5).2 = fun _ => 1#1) (i : Cert.Pre_finite_gate.S1024x2816.Idx) : IsReal (x2 i) :=
  isReal_of_lt (congrFun h i)

end pre

theorem ffn_frame : Cert.quiescent_Kernel2 (hKernel2 := Cert.Kernel2.Gen.facts) :=
  fun m ρ _ => Cert.Kernel2.Gen.frame m ρ

theorem ffn_ideal_frame : Cert.quiescent_Kernel2Ideal (hKernel2Ideal := Cert.Kernel2Ideal.Gen.facts) :=
  fun m ρ _ => Cert.Kernel2Ideal.Gen.frame m ρ

theorem ffn_ideal_frame_pre : Cert.quiescent_Kernel2Ideal_pre_finite_gate (hKernel2Ideal := Cert.Kernel2Ideal.Gen.facts) (hPre_finite_gate := gate_facts) :=
  fun m ρ _ => ffn_ideal_frame m ρ trivial

theorem ffn_ref_frame : Cert.quiescent_Reference2Ideal (hReference2Ideal := Cert.Reference2Ideal.Gen.facts) :=
  fun m ρ _ => (θ_run Cert.Reference2Ideal.defs _ _).mono
    (fun r h => ⟨fun c => (h c).2, sem_eq_zero_of_no_sems (by decide) r.2⟩) (Cert.Reference2Ideal.Value.run m ρ)

theorem ffn_ref_frame_pre : Cert.quiescent_Reference2Ideal_pre_finite_gate (hReference2Ideal := Cert.Reference2Ideal.Gen.facts) (hPre_finite_gate := gate_facts) :=
  fun m ρ _ => ffn_ref_frame m ρ trivial

theorem ffn_preserved : Cert.preserves_Kernel2_Kernel2Ideal := trivial

theorem ffn_equal : Cert.algebraic_Kernel2Ideal_Reference2Ideal_pre_finite_gate (hKernel2Ideal := Cert.Kernel2Ideal.Gen.facts)
    (hReference2Ideal := Cert.Reference2Ideal.Gen.facts) (hPre_finite_gate := gate_facts) := by
  intro m g m' g' hp hm
  refine ⟨fun c => Cert.Kernel2Ideal.Gen.ffnOut m c, ?_, ?_⟩
  · exact (θ_run Cert.Kernel2Ideal.defs _ _).mono (fun _ h c => ⟨(h c).1.trans (Cert.Kernel2Ideal.Gen.arr_eq m c), (h c).2⟩) (Cert.Kernel2Ideal.Value.run_blocks m g)
  · refine (θ_run Cert.Reference2Ideal.defs _ _).mono (fun _ h c => ⟨(h c).1.trans ?_, (h c).2⟩) (Cert.Reference2Ideal.Value.run m' g')
    letI := gate_facts
    obtain ⟨p1, p2⟩ := hp c
    obtain ⟨q0, q1, q2, q3, q4, q5⟩ := hm c
    show Cert.Reference2Ideal.Value.refOut (m' ((c : Thread Cert.Reference2Ideal.nD Cert.Reference2Ideal.τ).loc Cert.Reference2Ideal.main_arg0)) (m' ((c : Thread Cert.Reference2Ideal.nD Cert.Reference2Ideal.τ).loc Cert.Reference2Ideal.main_arg1))
      (m' ((c : Thread Cert.Reference2Ideal.nD Cert.Reference2Ideal.τ).loc Cert.Reference2Ideal.main_arg2)) (m' ((c : Thread Cert.Reference2Ideal.nD Cert.Reference2Ideal.τ).loc Cert.Reference2Ideal.main_arg3))
      (m' ((c : Thread Cert.Reference2Ideal.nD Cert.Reference2Ideal.τ).loc Cert.Reference2Ideal.main_arg4)) (m' ((c : Thread Cert.Reference2Ideal.nD Cert.Reference2Ideal.τ).loc Cert.Reference2Ideal.main_arg5)) = _
    rw [q0, q1, q2, q3, q4, q5]
    funext y
    have e : y = (ix2 (y 0) (y 1) : Cert.Reference2Ideal.S16384x1024.Idx) := by funext a; match a with | 0 => rfl | 1 => rfl
    rw [e]
    refine (Cert.Reference2Ideal.Value.refOut_at _ _ _ _ _ _ (y 0) (y 1)).trans ?_
    exact (Cert.Rms.ffnAt_silu _ _ _ _ _ _ (fun j => pre_norm _ _ _ _ _ _ p1 _) (fun j k => pre_gate _ _ _ _ _ _ p2 _) (y 1)).symm

end Cert.Proof

end
-- ==== Proof.MergeRef.lean ====
module

public import proofs.«01_k».proof.Proof.Gen.Reference3Ideal.Run
public import proofs.«01_k».proof.Proof.Consts
public import Idealize.ShloMosaic.Lib.Pointwise

/-! The merge's reference, element by element. -/

@[expose] public section

set_option maxRecDepth 16384

noncomputable section

namespace Cert.Reference3Ideal.Value

open Cert.Reference3Ideal Cert.Reference3Ideal.Gen Idealize.ShloMosaic Idealize.ShloMosaic.TcCoe Idealize.ShloMosaic.Tactic Cert.Online

/-- An element of the merged and projected output: the two branches' projections, each behind its gate, projected again and
    added to the residual. -/
def mergeAt (a0 a1 a2 a3 a4 : FVec Ideal S4x4096x1024 .f32) (a5 a6 a7 : FVec Ideal S1024x1024 .f32) (b : Fin 4) (t : Fin 4096) (n : Fin 1024) : EReal :=
  a0 (ix3 b t n) + ∑ k : Fin 1024, (Ideal.logistic (a3 (ix3 b t k)) * (∑ l : Fin 1024, a1 (ix3 b t l) * a5 (ix2 l k))
    + Ideal.logistic (a4 (ix3 b t k)) * (∑ l : Fin 1024, a2 (ix3 b t l) * a6 (ix2 l k))) * a7 (ix2 k n)

/-- The reference's composition of its arguments. -/
def refOut (a0 a1 a2 a3 a4 : FVec Ideal S4x4096x1024 .f32) (a5 a6 a7 : FVec Ideal S1024x1024 .f32) : FVec Ideal S16384x1024 .f32 :=
  shapeCast S16384x1024
    (addf a0 (Host.dotGeneral dot_S4x4096x1024_S1024x1024_S4x4096x1024_2_0_01_1_n_n none
      (addf
        (mulf (Host.divf (broadcastInDim S4x4096x1024 ![] bcast_S_S4x4096x1024 (constant S_ .f32 0x3F800000#32))
          (addf (broadcastInDim S4x4096x1024 ![] bcast_S_S4x4096x1024 (constant S_ .f32 0x3F800000#32)) (Host.exp (Host.negf a3))))
          (Host.dotGeneral dot_S4x4096x1024_S1024x1024_S4x4096x1024_2_0_01_1_n_n none a1 a5))
        (mulf (Host.divf (broadcastInDim S4x4096x1024 ![] bcast_S_S4x4096x1024 (constant S_ .f32 0x3F800000#32))
          (addf (broadcastInDim S4x4096x1024 ![] bcast_S_S4x4096x1024 (constant S_ .f32 0x3F800000#32)) (Host.exp (Host.negf a4))))
          (Host.dotGeneral dot_S4x4096x1024_S1024x1024_S4x4096x1024_2_0_01_1_n_n none a2 a6)))
      a7)) shapeCasts_S4x4096x1024_S16384x1024

theorem refOut_at (a0 a1 a2 a3 a4 : FVec Ideal S4x4096x1024 .f32) (a5 a6 a7 : FVec Ideal S1024x1024 .f32) (row : Fin 16384) (n : Fin 1024) :
    refOut a0 a1 a2 a3 a4 a5 a6 a7 (ix2 row n) = mergeAt a0 a1 a2 a3 a4 a5 a6 a7 (⟨row.val / 4096, by omega⟩ : Fin 4) (⟨row.val % 4096, by omega⟩ : Fin 4096) n := by
  unfold mergeAt
  pointwise [refOut]
  rfl

end Cert.Reference3Ideal.Value
-- ==== Proof.Merge.lean ====
module

public import proofs.«01_k».proof.Proof.Gen.Kernel3Ideal.Value
public import proofs.«01_k».proof.Proof.MergeRef
public import Idealize.ShloMosaic.Lib.StableHlo.ReadAt

/-! The merge's call, element by element. -/

@[expose] public section

set_option maxRecDepth 16384

noncomputable section

namespace Cert.Kernel3Ideal.Gen

open Cert.Kernel3Ideal Idealize.ShloMosaic Idealize.ShloMosaic.TcCoe Idealize.ShloMosaic.StableHlo Idealize.ShloMosaic.Tactic Cert.Online
open Cert.Reference3Ideal.Value (mergeAt)

theorem zero2 : (![0, 0] : Fin 2 → Nat) = fun _ => 0 := funext fun a => by fin_cases a <;> rfl

/-- A token tile's result, at an element. -/
theorem tile_at (x0 : Vec Ideal S1024x1024 .f32) (x1 x2 x3 x4 x5 x6 x7 : Vec Ideal S1024x1024 .bf16) (r n : Fin 1024) :
    out0_8 x0 x1 x2 x3 x4 x5 x6 x7 (ix2 r n) = @HAdd.hAdd EReal EReal EReal _ (x0 (ix2 r n)) (∑ k : Fin 1024, (Ideal.logistic (x3 (ix2 r k)) * (∑ l : Fin 1024, x1 (ix2 r l) * x5 (ix2 l k))
      + Ideal.logistic (x4 (ix2 r k)) * (∑ l : Fin 1024, x2 (ix2 r l) * x6 (ix2 l k))) * x7 (ix2 k n)) := by
  unfold out0_8
  rw [View.canon_unit_zero (S := S1024x1024) zero2]
  simp only [View.ld_unit_zero (S := S1024x1024) zero2]
  pointwise [k0_pay1, k0_pay2, k0_pay3]
  simp only [half_f32, gate_eq]

variable (m : (ℓ : Loc nD τ sig) → Buf (Elt Ideal) ℓ) (c : Dev nD)

theorem at_x (row : Fin 16384) (l : Fin 1024) : @Eq EReal (V m c main_v3 (ix2 row l)) (m ((c : Thread nD τ).loc main_arg0) (ix3 (⟨row.val / 4096, by omega⟩ : Fin 4) (⟨row.val % 4096, by omega⟩ : Fin 4096) l)) := by
  after_reads_at
theorem at_a (row : Fin 16384) (l : Fin 1024) : @Eq EReal (V m c main_v5 (ix2 row l)) (m ((c : Thread nD τ).loc main_arg1) (ix3 (⟨row.val / 4096, by omega⟩ : Fin 4) (⟨row.val % 4096, by omega⟩ : Fin 4096) l)) := by
  after_reads_at
theorem at_b (row : Fin 16384) (l : Fin 1024) : @Eq EReal (V m c main_v7 (ix2 row l)) (m ((c : Thread nD τ).loc main_arg2) (ix3 (⟨row.val / 4096, by omega⟩ : Fin 4) (⟨row.val % 4096, by omega⟩ : Fin 4096) l)) := by
  after_reads_at
theorem at_g (row : Fin 16384) (l : Fin 2048) : @Eq EReal (V m c main_v2 (ix2 row l))
    (if h : l.val < 1024 then m ((c : Thread nD τ).loc main_arg3) (ix3 (⟨row.val / 4096, by omega⟩ : Fin 4) (⟨row.val % 4096, by omega⟩ : Fin 4096) (⟨l.val, h⟩ : Fin 1024))
     else m ((c : Thread nD τ).loc main_arg4) (ix3 (⟨row.val / 4096, by omega⟩ : Fin 4) (⟨row.val % 4096, by omega⟩ : Fin 4096) (⟨l.val - 1024, by omega⟩ : Fin 1024))) := by
  after_reads_at
  after_reads_at
theorem at_wa : V m c main_v8 = m ((c : Thread nD τ).loc main_arg5) := by
  after_reads_simp
  rfl
theorem at_wb : V m c main_v9 = m ((c : Thread nD τ).loc main_arg6) := by
  after_reads_simp
  rfl
theorem at_wo : V m c main_v10 = m ((c : Thread nD τ).loc main_arg7) := by
  after_reads_simp
  rfl

theorem N_eq : cfg0.N = 16 := by decide +kernel
theorem idx_tok (t : Fin cfg0.N) : (win0_0.index t 0 = t.val ∧ win0_0.index t 1 = 0) ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 1) ∧ (win0_8.index t 0 = t.val ∧ win0_8.index t 1 = 0) := by
  revert t; decide +kernel
theorem idx_w (t : Fin cfg0.N) : (win0_5.index t 0 = 0 ∧ win0_5.index t 1 = 0) ∧ (win0_6.index t 0 = 0 ∧ win0_6.index t 1 = 0) ∧ (win0_7.index t 0 = 0 ∧ win0_7.index t 1 = 0) := by
  revert t; decide +kernel

/-- The row of the whole array that a tile's row is. -/
def rowOf (t : Fin cfg0.N) (r : Fin 1024) : Fin 16384 := ⟨1024 * t.val + r.val, by have := t.isLt; have := N_eq; omega⟩

theorem blk_x (t : Fin cfg0.N) (r l : Fin 1024) : iblk m c 0 t (ix2 r l) = V m c main_v3 (ix2 (rowOf t r) l) := by
  refine congrArg (V m c main_v3) (funext fun a => Fin.ext ?_)
  match a with
  | ⟨0, _⟩ => show win0_0.index t 0 * 1024 + 1 * r.val = 1024 * t.val + r.val; rw [(idx_tok t).1.1]; omega
  | ⟨1, _⟩ => show win0_0.index t 1 * 1024 + 1 * l.val = l.val; rw [(idx_tok t).1.2]; omega
theorem blk_a (t : Fin cfg0.N) (r l : Fin 1024) : iblk m c 1 t (ix2 r l) = V m c main_v5 (ix2 (rowOf t r) l) := by
  refine congrArg (V m c main_v5) (funext fun a => Fin.ext ?_)
  match a with
  | ⟨0, _⟩ => show win0_1.index t 0 * 1024 + 1 * r.val = 1024 * t.val + r.val; rw [(idx_tok t).2.1.1]; omega
  | ⟨1, _⟩ => show win0_1.index t 1 * 1024 + 1 * l.val = l.val; rw [(idx_tok t).2.1.2]; omega
theorem blk_b (t : Fin cfg0.N) (r l : Fin 1024) : iblk m c 2 t (ix2 r l) = V m c main_v7 (ix2 (rowOf t r) l) := by
  refine congrArg (V m c main_v7) (funext fun a => Fin.ext ?_)
  match a with
  | ⟨0, _⟩ => show win0_2.index t 0 * 1024 + 1 * r.val = 1024 * t.val + r.val; rw [(idx_tok t).2.2.1.1]; omega
  | ⟨1, _⟩ => show win0_2.index t 1 * 1024 + 1 * l.val = l.val; rw [(idx_tok t).2.2.1.2]; omega
theorem blk_ga (t : Fin cfg0.N) (r l : Fin 1024) : iblk m c 3 t (ix2 r l) = V m c main_v2 (ix2 (rowOf t r) (⟨l.val, by omega⟩ : Fin 2048)) := by
  refine congrArg (V m c main_v2) (funext fun a => Fin.ext ?_)
  match a with
  | ⟨0, _⟩ => show win0_3.index t 0 * 1024 + 1 * r.val = 1024 * t.val + r.val; rw [(idx_tok t).2.2.2.1.1]; omega
  | ⟨1, _⟩ => show win0_3.index t 1 * 1024 + 1 * l.val = l.val; rw [(idx_tok t).2.2.2.1.2]; omega
theorem blk_gb (t : Fin cfg0.N) (r l : Fin 1024) : iblk m c 4 t (ix2 r l) = V m c main_v2 (ix2 (rowOf t r) (⟨1024 + l.val, by omega⟩ : Fin 2048)) := by
  refine congrArg (V m c main_v2) (funext fun a => Fin.ext ?_)
  match a with
  | ⟨0, _⟩ => show win0_4.index t 0 * 1024 + 1 * r.val = 1024 * t.val + r.val; rw [(idx_tok t).2.2.2.2.1.1]; omega
  | ⟨1, _⟩ => show win0_4.index t 1 * 1024 + 1 * l.val = 1024 + l.val; rw [(idx_tok t).2.2.2.2.1.2]; omega
theorem blk_wa (t : Fin cfg0.N) (k l : Fin 1024) : iblk m c 5 t (ix2 k l) = V m c main_v8 (ix2 k l) := by
  refine congrArg (V m c main_v8) (funext fun a => Fin.ext ?_)
  match a with
  | ⟨0, _⟩ => show win0_5.index t 0 * 1024 + 1 * k.val = k.val; rw [(idx_w t).1.1]; omega
  | ⟨1, _⟩ => show win0_5.index t 1 * 1024 + 1 * l.val = l.val; rw [(idx_w t).1.2]; omega
theorem blk_wb (t : Fin cfg0.N) (k l : Fin 1024) : iblk m c 6 t (ix2 k l) = V m c main_v9 (ix2 k l) := by
  refine congrArg (V m c main_v9) (funext fun a => Fin.ext ?_)
  match a with
  | ⟨0, _⟩ => show win0_6.index t 0 * 1024 + 1 * k.val = k.val; rw [(idx_w t).2.1.1]; omega
  | ⟨1, _⟩ => show win0_6.index t 1 * 1024 + 1 * l.val = l.val; rw [(idx_w t).2.1.2]; omega
theorem blk_wo (t : Fin cfg0.N) (k l : Fin 1024) : iblk m c 7 t (ix2 k l) = V m c main_v10 (ix2 k l) := by
  refine congrArg (V m c main_v10) (funext fun a => Fin.ext ?_)
  match a with
  | ⟨0, _⟩ => show win0_7.index t 0 * 1024 + 1 * k.val = k.val; rw [(idx_w t).2.2.1]; omega
  | ⟨1, _⟩ => show win0_7.index t 1 * 1024 + 1 * l.val = l.val; rw [(idx_w t).2.2.2]; omega
theorem blk_o (t : Fin cfg0.N) (A : Vec Ideal S16384x1024 .f32) (r l : Fin 1024) : ((cfg0.win 8).blk t).view.read (Elt Ideal) A (ix2 r l) = A (ix2 (rowOf t r) l) := by
  refine congrArg A (funext fun a => Fin.ext ?_)
  match a with
  | ⟨0, _⟩ => show win0_8.index t 0 * 1024 + 1 * r.val = 1024 * t.val + r.val; rw [(idx_tok t).2.2.2.2.2.1]; omega
  | ⟨1, _⟩ => show win0_8.index t 1 * 1024 + 1 * l.val = l.val; rw [(idx_tok t).2.2.2.2.2.2]; omega

theorem xsize_o : ∀ t : Fin cfg0.N, win0_8.xsize (grid0.coords t) 0 = 1024 ∧ win0_8.xsize (grid0.coords t) 1 = 1024 := by decide +kernel

theorem covered (i : S16384x1024.Idx) : ∃ t : Fin cfg0.N, (cfg0.win 8).flush t = true ∧ i ∈ ((cfg0.win 8).blk t).view.set := by
  have h0 : (i 0 : Nat) < 16384 := (i 0).isLt
  have h1 : (i 1 : Nat) < 1024 := (i 1).isLt
  refine ⟨⟨(i 0 : Nat) / 1024, by rw [N_eq]; omega⟩, flush0_8 _, ?_⟩
  generalize ht : (⟨(i 0 : Nat) / 1024, by rw [N_eq]; omega⟩ : Fin cfg0.N) = t
  have hv : t.val = (i 0 : Nat) / 1024 := by rw [← ht]
  show i ∈ ((View.whole main_v11).slice (win0_8.rect t)).set
  rw [View.set_slice_whole, Rect.mem_set_unit]
  intro a
  match a with
  | ⟨0, _⟩ =>
    show win0_8.index t 0 * 1024 ≤ (i 0 : Nat) ∧ (i 0 : Nat) < win0_8.index t 0 * 1024 + win0_8.xsize (grid0.coords t) 0
    rw [(idx_tok t).2.2.2.2.2.1, (xsize_o t).1]; omega
  | ⟨1, _⟩ =>
    show win0_8.index t 1 * 1024 ≤ (i 1 : Nat) ∧ (i 1 : Nat) < win0_8.index t 1 * 1024 + win0_8.xsize (grid0.coords t) 1
    rw [(idx_tok t).2.2.2.2.2.2, (xsize_o t).2]; omega

/-- The array the call leaves. -/
def merged : Vec Ideal S16384x1024 .f32 := fun y =>
  mergeAt (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (⟨(y 0).val / 4096, by have : (y 0).val < 16384 := (y 0).isLt; omega⟩ : Fin 4) (⟨(y 0).val % 4096, by omega⟩ : Fin 4096) (y 1)

theorem tile_eq (t : Fin cfg0.N) (r n : Fin 1024) :
    out0_8 (iblk m c 0 t) (iblk m c 1 t) (iblk m c 2 t) (iblk m c 3 t) (iblk m c 4 t) (iblk m c 5 t) (iblk m c 6 t) (iblk m c 7 t) (ix2 r n) = merged m c (ix2 (rowOf t r) n) := by
  refine (tile_at _ _ _ _ _ _ _ _ r n).trans ?_
  unfold merged mergeAt
  refine congrArg₂ (HAdd.hAdd (α := EReal)) ((blk_x m c t r n).trans (at_x m c _ _)) (Finset.sum_congr rfl fun k _ => ?_)
  refine congrArg₂ (HMul.hMul (α := EReal)) ?_ ((blk_wo m c t k n).trans (congrFun (at_wo m c) _))
  refine congrArg₂ (HAdd.hAdd (α := EReal)) (congrArg₂ (HMul.hMul (α := EReal)) (congrArg Ideal.logistic ?_) (Finset.sum_congr rfl fun l _ => ?_))
    (congrArg₂ (HMul.hMul (α := EReal)) (congrArg Ideal.logistic ?_) (Finset.sum_congr rfl fun l _ => ?_))
  · refine (blk_ga m c t r k).trans ((at_g m c _ _).trans ?_)
    rw [dif_pos k.isLt]
    rfl
  · exact congrArg₂ (HMul.hMul (α := EReal)) ((blk_a m c t r l).trans (at_a m c _ _)) ((blk_wa m c t l k).trans (congrFun (at_wa m c) _))
  · refine (blk_gb m c t r k).trans ((at_g m c _ _).trans ?_)
    rw [dif_neg (by show ¬ 1024 + k.val < 1024; omega)]
    refine congrArg _ (congrArg (ix3 _ _) (Fin.ext ?_))
    show 1024 + k.val - 1024 = k.val
    omega
  · exact congrArg₂ (HMul.hMul (α := EReal)) ((blk_b m c t r l).trans (at_b m c _ _)) ((blk_wb m c t l k).trans (congrFun (at_wb m c) _))

theorem arr_eq : (dats m 0 c).arrAt 8 cfg0.N = merged m c :=
  (dats m 0 c).arrAt_eq_of_cover 8 (merged m c) (fun t _ => by
    rw [Cert.Kernel3Ideal.Value.flushed8]
    funext y
    have e : y = (ix2 (y 0) (y 1) : S1024x1024.Idx) := by funext a; match a with | 0 => rfl | 1 => rfl
    rw [e]
    exact (tile_eq m c t (y 0) (y 1)).trans (blk_o t (merged m c) (y 0) (y 1)).symm) covered

end Cert.Kernel3Ideal.Gen
-- ==== Proof.MergeEqual.lean ====
module

public import proofs.«01_k».proof.Defs
public import proofs.«01_k».proof.Proof.Merge
public import proofs.«01_k».proof.Proof.Gen.Kernel3.Frame

/-! The claims about the merge. -/

@[expose] public section

set_option maxRecDepth 16384

noncomputable section

namespace Cert.Proof

open Idealize.ShloMosaic Idealize.ShloMosaic.TcCoe Idealize.ShloMosaic.StableHlo Idealize.SL.Sem

theorem merge_ideal_frame : Cert.quiescent_Kernel3Ideal (hKernel3Ideal := Cert.Kernel3Ideal.Gen.facts) :=
  fun m ρ _ => Cert.Kernel3Ideal.Gen.frame m ρ

theorem merge_frame : Cert.quiescent_Kernel3 (hKernel3 := Cert.Kernel3.Gen.facts) :=
  fun m ρ _ => Cert.Kernel3.Gen.frame m ρ

theorem merge_ref_frame : Cert.quiescent_Reference3Ideal (hReference3Ideal := Cert.Reference3Ideal.Gen.facts) :=
  fun m ρ _ => (θ_run Cert.Reference3Ideal.defs _ _).mono
    (fun r h => ⟨fun c => (h c).2, sem_eq_zero_of_no_sems (by decide) r.2⟩) (Cert.Reference3Ideal.Value.run m ρ)

theorem merge_preserved : Cert.preserves_Kernel3_Kernel3Ideal := trivial

theorem merge_equal : Cert.algebraic_Kernel3Ideal_Reference3Ideal (hKernel3Ideal := Cert.Kernel3Ideal.Gen.facts)
    (hReference3Ideal := Cert.Reference3Ideal.Gen.facts) := by
  intro m g m' g' _ hm
  refine ⟨fun c => Cert.Kernel3Ideal.Gen.merged m c, ?_, ?_⟩
  · exact (θ_run Cert.Kernel3Ideal.defs _ _).mono (fun _ h c => ⟨(h c).1.trans (Cert.Kernel3Ideal.Gen.arr_eq m c), (h c).2⟩) (Cert.Kernel3Ideal.Value.run_blocks m g)
  · refine (θ_run Cert.Reference3Ideal.defs _ _).mono (fun _ h c => ⟨(h c).1.trans ?_, (h c).2⟩) (Cert.Reference3Ideal.Value.run m' g')
    obtain ⟨q0, q1, q2, q3, q4, q5, q6, q7⟩ := hm c
    rw [q0, q1, q2, q3, q4, q5, q6, q7]
    funext y
    have e : y = (ix2 (y 0) (y 1) : Cert.Reference3Ideal.S16384x1024.Idx) := by funext a; match a with | 0 => rfl | 1 => rfl
    rw [e]
    exact Cert.Reference3Ideal.Value.refOut_at _ _ _ _ _ _ _ _ (y 0) (y 1)

end Cert.Proof

end
-- ==== Proof.ProjRef.lean ====
module

public import proofs.«01_k».proof.Proof.FfnRef
public import proofs.«01_k».proof.Proof.Gen.Reference4Ideal.Run
public import proofs.«01_k».proof.Proof.Gen.Reference5Ideal.Run
public import proofs.«01_k».proof.Proof.Gen.Reference6Ideal.Run

/-! The projections' references, element by element. -/

@[expose] public section

set_option maxRecDepth 16384

noncomputable section

namespace Cert.Rms

open Idealize.ShloMosaic Idealize.ShloMosaic.Tactic

/-- An element of the projected token: its normalized row against a column of the weights. -/
def projAt (x w : Fin 1024 → EReal) (W : Fin 1024 → Fin 10272 → EReal) (col : Fin 10272) : EReal :=
  ∑ j : Fin 1024, rmsAt x w j * W j col

/-- The column of the weights behind a column of the attention's projection. -/
def foxCol (n : Fin 3072) : Fin 10272 := ⟨if n.val < 2048 then 4112 + n.val else 5152 + n.val, by split <;> omega⟩
/-- The column behind a column of the values' projection. -/
def valueCol (n : Fin 1024) : Fin 10272 := ⟨6160 + n.val, by omega⟩
/-- The column behind a column of the merge gates' projection. -/
def gateCol (n : Fin 2048) : Fin 10272 := ⟨8224 + n.val, by omega⟩
/-- The column behind a column of the narrow projections, of the first thirty-two. -/
def smallCol (n : Fin 128) (h : n.val < 32) : Fin 10272 := ⟨if n.val < 16 then 4096 + n.val else 7168 + n.val, by split <;> omega⟩
/-- The column behind a column of the delta rule's projection. -/
def deltaCol (n : Fin 4096) : Fin 10272 := ⟨n.val, by omega⟩

end Cert.Rms

namespace Cert.Reference4Ideal.Value

open Cert.Reference4Ideal Cert.Reference4Ideal.Gen Idealize.ShloMosaic Idealize.ShloMosaic.TcCoe Idealize.ShloMosaic.Tactic Cert.Online Cert.Rms
open Cert.Reference2Ideal.Value (refRms refRms_at)

/-- Every token's projection. -/
def refProj (x : FVec Ideal S4x4096x1024 .f32) (w : FVec Ideal S1024 .f32) (W : FVec Ideal S1024x10272 .f32) : FVec Ideal S16384x10272 .f32 :=
  shapeCast S16384x10272 (Host.dotGeneral dot_S4x4096x1024_S1024x10272_S4x4096x10272_2_0_01_1_n_n none (refRms x w) W) shapeCasts_S4x4096x10272_S16384x10272

theorem refProj_at (x : FVec Ideal S4x4096x1024 .f32) (w : FVec Ideal S1024 .f32) (W : FVec Ideal S1024x10272 .f32) (row : Fin 16384) (n : Fin 10272) :
    refProj x w W (ix2 row n) = projAt (fun l => x (ix3 (⟨row.val / 4096, by omega⟩ : Fin 4) (⟨row.val % 4096, by omega⟩ : Fin 4096) l)) (fun j => w (ix1 j)) (fun j k => W (ix2 j k)) n := by
  unfold projAt
  simp only [← refRms_at]
  unfold refProj
  generalize refRms x w = h
  pointwise []

/-- The attention's part, and the values turned. -/
def refFox (P : FVec Ideal S16384x10272 .f32) : FVec Ideal S16384x3072 .bf16 :=
  truncf .bf16 (concatenate S16384x3072 1 [⟨S16384x1024, extractStridedSlice S16384x1024 ![0, 4112] P slices_S16384x10272_S16384x1024_0_4112⟩,
    ⟨S16384x1024, extractStridedSlice S16384x1024 ![0, 5136] P slices_S16384x10272_S16384x1024_0_5136⟩,
    ⟨S16384x1024, extractStridedSlice S16384x1024 ![0, 7200] P slices_S16384x10272_S16384x1024_0_7200⟩] concatenates_S16384x1024_S16384x1024_S16384x1024_S16384x3072_d1) bitsLt_bf16_f32
def refValue (P : FVec Ideal S16384x10272 .f32) : FVec Ideal S1024x16384 .bf16 :=
  truncf .bf16 (transpose S1024x16384 [1, 0] (extractStridedSlice S16384x1024 ![0, 6160] P slices_S16384x10272_S16384x1024_0_6160) transposes_S16384x1024_S1024x16384_1_0) bitsLt_bf16_f32

theorem refFox_at (P : FVec Ideal S16384x10272 .f32) (row : Fin 16384) (n : Fin 3072) : refFox P (ix2 row n) = P (ix2 row (foxCol n)) := by
  pointwise [refFox]
  split_ifs <;> exact congrArg P (congrArg (ix2 row) (Fin.ext (by simp only [foxCol]; (try split_ifs) <;> omega)))
theorem refValue_at (P : FVec Ideal S16384x10272 .f32) (row : Fin 16384) (n : Fin 1024) : refValue P (ix2 n row) = P (ix2 row (valueCol n)) := by
  pointwise [refValue]
  rfl

end Cert.Reference4Ideal.Value

namespace Cert.Reference5Ideal.Value

open Cert.Reference5Ideal Cert.Reference5Ideal.Gen Idealize.ShloMosaic Idealize.ShloMosaic.TcCoe Idealize.ShloMosaic.Tactic Cert.Online Cert.Rms

/-- The merge gates' part, and the narrow ones padded. -/
def refGate (P : FVec Ideal S16384x10272 .f32) : FVec Ideal S16384x2048 .bf16 :=
  truncf .bf16 (concatenate S16384x2048 1 [⟨S16384x1024, extractStridedSlice S16384x1024 ![0, 8224] P slices_S16384x10272_S16384x1024_0_8224⟩,
    ⟨S16384x1024, extractStridedSlice S16384x1024 ![0, 9248] P slices_S16384x10272_S16384x1024_0_9248⟩] concatenates_S16384x1024_S16384x1024_S16384x2048_d1) bitsLt_bf16_f32

theorem refGate_at (P : FVec Ideal S16384x10272 .f32) (row : Fin 16384) (n : Fin 2048) : refGate P (ix2 row n) = P (ix2 row (gateCol n)) := by
  pointwise [refGate]
  split_ifs <;> exact congrArg P (congrArg (ix2 row) (Fin.ext (by simp only [gateCol]; try omega)))

def refSmall (P : FVec Ideal S16384x10272 .f32) : FVec Ideal S16384x128 .f32 :=
  pad S16384x128 ![0, 0] ![0, 96] ![0, 0] (concatenate S16384x32 1 [⟨S16384x8, extractStridedSlice S16384x8 ![0, 4096] P slices_S16384x10272_S16384x8_0_4096⟩,
    ⟨S16384x8, extractStridedSlice S16384x8 ![0, 4104] P slices_S16384x10272_S16384x8_0_4104⟩,
    ⟨S16384x16, extractStridedSlice S16384x16 ![0, 7184] P slices_S16384x10272_S16384x16_0_7184⟩] concatenates_S16384x8_S16384x8_S16384x16_S16384x32_d1)
    (sitofp .f32 (constantI S_ 32 0#32)) pads_S16384x32_S16384x128_000_0960 h_S_

theorem refSmall_at (P : FVec Ideal S16384x10272 .f32) (row : Fin 16384) (n : Fin 128) :
    @Eq EReal (refSmall P (ix2 row n)) (if h : n.val < 32 then P (ix2 row (smallCol n h)) else 0) := by
  pointwise [refSmall]
  by_cases h : n.val < 32
  · rw [dif_pos h, dif_pos h]
    split_ifs <;> exact congrArg P (congrArg (ix2 row) (Fin.ext (by simp only [smallCol]; split_ifs <;> omega)))
  · rw [dif_neg h, dif_neg h]
    show ((((0#32 : BitVec 32).toInt : ℝ)) : EReal) = 0
    simp

end Cert.Reference5Ideal.Value

namespace Cert.Reference6Ideal.Value

open Cert.Reference6Ideal Cert.Reference6Ideal.Gen Idealize.ShloMosaic Idealize.ShloMosaic.TcCoe Idealize.ShloMosaic.Tactic Cert.Online Cert.Rms

def refDelta (P : FVec Ideal S16384x10272 .f32) : FVec Ideal S16384x4096 .f32 :=
  concatenate S16384x4096 1 [⟨S16384x1024, extractStridedSlice S16384x1024 ![0, 0] P slices_S16384x10272_S16384x1024_0_0⟩,
    ⟨S16384x1024, extractStridedSlice S16384x1024 ![0, 1024] P slices_S16384x10272_S16384x1024_0_1024⟩,
    ⟨S16384x1024, extractStridedSlice S16384x1024 ![0, 2048] P slices_S16384x10272_S16384x1024_0_2048⟩,
    ⟨S16384x1024, extractStridedSlice S16384x1024 ![0, 3072] P slices_S16384x10272_S16384x1024_0_3072⟩] concatenates_S16384x1024_S16384x1024_S16384x1024_S16384x1024_S16384x4096_d1

theorem refDelta_at (P : FVec Ideal S16384x10272 .f32) (row : Fin 16384) (n : Fin 4096) : refDelta P (ix2 row n) = P (ix2 row (deltaCol n)) := by
  pointwise [refDelta]
  split_ifs <;> exact congrArg P (congrArg (ix2 row) (Fin.ext (by simp only [deltaCol]; try omega)))

end Cert.Reference6Ideal.Value
-- ==== Proof.ProjFox.lean ====
module

public import proofs.«01_k».proof.Proof.Gen.Kernel4Ideal.Value
public import proofs.«01_k».proof.Proof.ProjRef
public import Idealize.ShloMosaic.Lib.StableHlo.ReadAt

/-! The attention's projections, element by element. -/

@[expose] public section

set_option maxRecDepth 16384

noncomputable section

namespace Cert.Kernel4Ideal.Gen

open Cert.Kernel4Ideal Idealize.ShloMosaic Idealize.ShloMosaic.TcCoe Idealize.ShloMosaic.StableHlo Idealize.ShloMosaic.Tactic Cert.Online Cert.Rms

theorem zero2 : (![0, 0] : Fin 2 → Nat) = fun _ => 0 := funext fun a => by fin_cases a <;> rfl

/-- The tile's normalized rows. -/
theorem norm_at (x0 : Vec Ideal S1024x1024 .f32) (x1 : Vec Ideal S1x1024 .f32) (r : Fin 1024) (j : Fin 1024) :
    @Eq EReal (k0_pay2 x0 x1 (ix2 r j)) (rmsAt (fun j => x0 (ix2 r j)) (fun j => x1 (ix2 0 j)) j) := by
  unfold rmsAt
  pointwise [k0_pay2]

/-- A tile of the projection. -/
def foxTile (x0 : Vec Ideal S1024x1024 .f32) (x1 : Vec Ideal S1x1024 .f32) (x2 : Vec Ideal S1024x3072 .bf16) : Vec Ideal S1024x3072 .bf16 := fun y =>
  ((∑ j : Fin 1024, rmsAt (fun j => x0 (ix2 (y 0) j)) (fun j => x1 (ix2 0 j)) j * x2 (ix2 j (y 1)) : EReal))

theorem fox_chunk0 (x0 : Vec Ideal S1024x1024 .f32) (x1 : Vec Ideal S1x1024 .f32) (x2 : Vec Ideal S1024x3072 .bf16) (x : S1024x1024.Idx) :
    k0_pay3 (View.ld x0 r0_0) (View.ld x1 r0_1) (View.ld x2 r0_2) x = foxTile x0 x1 x2 (r0_2.emb x) := by
  have ex : x = (ix2 (x 0) (x 1) : S1024x1024.Idx) := by funext a; match a with | 0 => rfl | 1 => rfl
  rw [ex]
  generalize hr : x 0 = r
  generalize hk : x 1 = k
  have hk1 : k.val < 1024 := k.isLt
  have e0 : r0_2.emb (ix2 r k : S1024x1024.Idx) = (ix2 r (⟨0 + k.val, by omega⟩ : Fin 3072) : S1024x3072.Idx) := by
    funext a
    apply Fin.ext
    match a with
    | ⟨0, _⟩ => show 0 + 1 * r.val = r.val; omega
    | ⟨1, _⟩ => show 0 + 1 * k.val = 0 + k.val; omega
  have e1 : ∀ j : Fin 1024, View.ld x2 r0_2 (ix2 j k) = x2 (ix2 j (⟨0 + k.val, by omega⟩ : Fin 3072)) := fun j => by
    refine congrArg x2 (funext fun a => Fin.ext ?_)
    match a with
    | ⟨0, _⟩ => show 0 + 1 * j.val = j.val; omega
    | ⟨1, _⟩ => show 0 + 1 * k.val = 0 + k.val; omega
  rw [e0]
  simp only [View.ld_unit_zero (S := S1024x1024) zero2, View.ld_unit_zero (S := S1x1024) zero2]
  have e2 : ∀ v : Vec Ideal S1024x1024 .bf16, @Eq EReal (k0_pay3 x0 x1 v (ix2 r k)) (∑ j : Fin 1024, k0_pay2 x0 x1 (ix2 r j) * v (ix2 j k)) := fun v => by
    pointwise [k0_pay3]
  refine (e2 _).trans ?_
  unfold foxTile
  exact Finset.sum_congr rfl fun j _ => congrArg₂ (HMul.hMul (α := EReal)) (norm_at x0 x1 r j) (e1 j)

theorem fox_chunk1 (x0 : Vec Ideal S1024x1024 .f32) (x1 : Vec Ideal S1x1024 .f32) (x2 : Vec Ideal S1024x3072 .bf16) (x : S1024x1024.Idx) :
    k0_pay4 (View.ld x0 r0_0) (View.ld x1 r0_1) (View.ld x2 r0_3) x = foxTile x0 x1 x2 (r0_3.emb x) := by
  have ex : x = (ix2 (x 0) (x 1) : S1024x1024.Idx) := by funext a; match a with | 0 => rfl | 1 => rfl
  rw [ex]
  generalize hr : x 0 = r
  generalize hk : x 1 = k
  have hk1 : k.val < 1024 := k.isLt
  have e0 : r0_3.emb (ix2 r k : S1024x1024.Idx) = (ix2 r (⟨1024 + k.val, by omega⟩ : Fin 3072) : S1024x3072.Idx) := by
    funext a
    apply Fin.ext
    match a with
    | ⟨0, _⟩ => show 0 + 1 * r.val = r.val; omega
    | ⟨1, _⟩ => show 1024 + 1 * k.val = 1024 + k.val; omega
  have e1 : ∀ j : Fin 1024, View.ld x2 r0_3 (ix2 j k) = x2 (ix2 j (⟨1024 + k.val, by omega⟩ : Fin 3072)) := fun j => by
    refine congrArg x2 (funext fun a => Fin.ext ?_)
    match a with
    | ⟨0, _⟩ => show 0 + 1 * j.val = j.val; omega
    | ⟨1, _⟩ => show 1024 + 1 * k.val = 1024 + k.val; omega
  rw [e0]
  simp only [View.ld_unit_zero (S := S1024x1024) zero2, View.ld_unit_zero (S := S1x1024) zero2]
  have e2 : ∀ v : Vec Ideal S1024x1024 .bf16, @Eq EReal (k0_pay4 x0 x1 v (ix2 r k)) (∑ j : Fin 1024, k0_pay2 x0 x1 (ix2 r j) * v (ix2 j k)) := fun v => by
    pointwise [k0_pay4]
  refine (e2 _).trans ?_
  unfold foxTile
  exact Finset.sum_congr rfl fun j _ => congrArg₂ (HMul.hMul (α := EReal)) (norm_at x0 x1 r j) (e1 j)

theorem fox_chunk2 (x0 : Vec Ideal S1024x1024 .f32) (x1 : Vec Ideal S1x1024 .f32) (x2 : Vec Ideal S1024x3072 .bf16) (x : S1024x1024.Idx) :
    k0_pay5 (View.ld x0 r0_0) (View.ld x1 r0_1) (View.ld x2 r0_4) x = foxTile x0 x1 x2 (r0_4.emb x) := by
  have ex : x = (ix2 (x 0) (x 1) : S1024x1024.Idx) := by funext a; match a with | 0 => rfl | 1 => rfl
  rw [ex]
  generalize hr : x 0 = r
  generalize hk : x 1 = k
  have hk1 : k.val < 1024 := k.isLt
  have e0 : r0_4.emb (ix2 r k : S1024x1024.Idx) = (ix2 r (⟨2048 + k.val, by omega⟩ : Fin 3072) : S1024x3072.Idx) := by
    funext a
    apply Fin.ext
    match a with
    | ⟨0, _⟩ => show 0 + 1 * r.val = r.val; omega
    | ⟨1, _⟩ => show 2048 + 1 * k.val = 2048 + k.val; omega
  have e1 : ∀ j : Fin 1024, View.ld x2 r0_4 (ix2 j k) = x2 (ix2 j (⟨2048 + k.val, by omega⟩ : Fin 3072)) := fun j => by
    refine congrArg x2 (funext fun a => Fin.ext ?_)
    match a with
    | ⟨0, _⟩ => show 0 + 1 * j.val = j.val; omega
    | ⟨1, _⟩ => show 2048 + 1 * k.val = 2048 + k.val; omega
  rw [e0]
  simp only [View.ld_unit_zero (S := S1024x1024) zero2, View.ld_unit_zero (S := S1x1024) zero2]
  have e2 : ∀ v : Vec Ideal S1024x1024 .bf16, @Eq EReal (k0_pay5 x0 x1 v (ix2 r k)) (∑ j : Fin 1024, k0_pay2 x0 x1 (ix2 r j) * v (ix2 j k)) := fun v => by
    pointwise [k0_pay5]
  refine (e2 _).trans ?_
  unfold foxTile
  exact Finset.sum_congr rfl fun j _ => congrArg₂ (HMul.hMul (α := EReal)) (norm_at x0 x1 r j) (e1 j)

theorem fox_at (x0 : Vec Ideal S1024x1024 .f32) (x1 : Vec Ideal S1x1024 .f32) (x2 : Vec Ideal S1024x3072 .bf16) (x3 : Vec Ideal S1024x1024 .bf16) (y : S1024x3072.Idx) : out0_4 x0 x1 x2 x3 y = foxTile x0 x1 x2 y := by
  unfold out0_4
  refine View.canon_apply_of_pieces (foxTile x0 x1 x2) _ ?_ y (cover0_4 _ _ _ y)
  intro pc hpc x
  rcases List.mem_cons.mp hpc with rfl | hpc
  · exact fox_chunk2 x0 x1 x2 x
  rcases List.mem_cons.mp hpc with rfl | hpc
  · exact fox_chunk1 x0 x1 x2 x
  rcases List.mem_cons.mp hpc with rfl | hpc
  · exact fox_chunk0 x0 x1 x2 x
  exact absurd hpc List.not_mem_nil

/-- The turned tile: a weight row against a normalized token row. -/
theorem val_at (x0 : Vec Ideal S1024x1024 .f32) (x1 : Vec Ideal S1x1024 .f32) (x2 : Vec Ideal S1024x3072 .bf16) (x3 : Vec Ideal S1024x1024 .bf16) (n : Fin 1024) (r : Fin 1024) :
    @Eq EReal (out0_5 x0 x1 x2 x3 (ix2 n r)) (∑ j : Fin 1024, rmsAt (fun j => x0 (ix2 r j)) (fun j => x1 (ix2 0 j)) j * x3 (ix2 n j)) := by
  simp only [← norm_at]
  unfold out0_5
  rw [View.canon_unit_zero (S := S1024x1024) zero2]
  simp only [View.ld_unit_zero (S := S1024x1024) zero2, View.ld_unit_zero (S := S1x1024) zero2]
  generalize k0_pay2 x0 x1 = h
  pointwise [k0_pay1]
  exact Finset.sum_congr rfl fun j _ => mul_comm (G := EReal) _ _

variable (m : (ℓ : Loc nD τ sig) → Buf (Elt Ideal) ℓ) (c : Dev nD)

theorem at_x (row : Fin 16384) (l : Fin 1024) : @Eq EReal (V m c main_v8 (ix2 row l)) (m ((c : Thread nD τ).loc main_arg0) (ix3 (⟨row.val / 4096, by omega⟩ : Fin 4) (⟨row.val % 4096, by omega⟩ : Fin 4096) l)) := by
  after_reads_at
theorem at_w (l : Fin 1024) : @Eq EReal (V m c main_v9 (ix2 0 l)) (m ((c : Thread nD τ).loc main_arg1) (ix1 l)) := by
  after_reads_at
theorem at_foxw (j : Fin 1024) (n : Fin 3072) : @Eq EReal (V m c main_v4 (ix2 j n)) (m ((c : Thread nD τ).loc main_arg2) (ix2 j (foxCol n))) := by
  after_reads_at
  after_reads_at
  split_ifs <;> exact congrArg (m ((c : Thread nD τ).loc main_arg2)) (congrArg (ix2 j) (Fin.ext (by simp only [foxCol]; split_ifs <;> omega)))
theorem at_valw (j n : Fin 1024) : @Eq EReal (V m c main_v7 (ix2 n j)) (m ((c : Thread nD τ).loc main_arg2) (ix2 j (valueCol n))) := by
  after_reads_at
  rfl

theorem N_eq : cfg0.N = 16 := by decide +kernel
theorem idx_x (t : Fin cfg0.N) : win0_0.index t 0 = t.val ∧ win0_0.index t 1 = 0 := by
  revert t; decide +kernel
theorem idx_w (t : Fin cfg0.N) : win0_1.index t 0 = 0 ∧ win0_1.index t 1 = 0 := by
  revert t; decide +kernel
theorem idx_foxw (t : Fin cfg0.N) : win0_2.index t 0 = 0 ∧ win0_2.index t 1 = 0 := by
  revert t; decide +kernel
theorem idx_valw (t : Fin cfg0.N) : win0_3.index t 0 = 0 ∧ win0_3.index t 1 = 0 := by
  revert t; decide +kernel
theorem idx_fox (t : Fin cfg0.N) : win0_4.index t 0 = t.val ∧ win0_4.index t 1 = 0 := by
  revert t; decide +kernel
theorem idx_val (t : Fin cfg0.N) : win0_5.index t 0 = 0 ∧ win0_5.index t 1 = t.val := by
  revert t; decide +kernel

/-- The row of the whole array that a tile's row is. -/
def rowOf (t : Fin cfg0.N) (r : Fin 1024) : Fin 16384 := ⟨1024 * t.val + r.val, by have := t.isLt; have := N_eq; omega⟩

theorem blk_x (t : Fin cfg0.N) (r : Fin 1024) (l : Fin 1024) : iblk m c 0 t (ix2 r l) = V m c main_v8 (ix2 (rowOf t r) l) := by
  refine congrArg (V m c main_v8) (funext fun a => Fin.ext ?_)
  match a with
  | ⟨0, _⟩ => show win0_0.index t 0 * 1024 + 1 * r.val = 1024 * t.val + r.val; rw [(idx_x t).1]; omega
  | ⟨1, _⟩ => show win0_0.index t 1 * 1024 + 1 * l.val = l.val; rw [(idx_x t).2]; omega
theorem blk_w (t : Fin cfg0.N) (k : Fin 1) (l : Fin 1024) : iblk m c 1 t (ix2 k l) = V m c main_v9 (ix2 k l) := by
  refine congrArg (V m c main_v9) (funext fun a => Fin.ext ?_)
  match a with
  | ⟨0, _⟩ => show win0_1.index t 0 * 1 + 1 * k.val = k.val; rw [(idx_w t).1]; omega
  | ⟨1, _⟩ => show win0_1.index t 1 * 1024 + 1 * l.val = l.val; rw [(idx_w t).2]; omega
theorem blk_foxw (t : Fin cfg0.N) (k : Fin 1024) (l : Fin 3072) : iblk m c 2 t (ix2 k l) = V m c main_v4 (ix2 k l) := by
  refine congrArg (V m c main_v4) (funext fun a => Fin.ext ?_)
  match a with
  | ⟨0, _⟩ => show win0_2.index t 0 * 1024 + 1 * k.val = k.val; rw [(idx_foxw t).1]; omega
  | ⟨1, _⟩ => show win0_2.index t 1 * 3072 + 1 * l.val = l.val; rw [(idx_foxw t).2]; omega
theorem blk_valw (t : Fin cfg0.N) (k : Fin 1024) (l : Fin 1024) : iblk m c 3 t (ix2 k l) = V m c main_v7 (ix2 k l) := by
  refine congrArg (V m c main_v7) (funext fun a => Fin.ext ?_)
  match a with
  | ⟨0, _⟩ => show win0_3.index t 0 * 1024 + 1 * k.val = k.val; rw [(idx_valw t).1]; omega
  | ⟨1, _⟩ => show win0_3.index t 1 * 1024 + 1 * l.val = l.val; rw [(idx_valw t).2]; omega

/-- A row of the call's input, its normalization's weights and the projection's. -/
def xRow (row : Fin 16384) (l : Fin 1024) : EReal := m ((c : Thread nD τ).loc main_arg0) (ix3 (⟨row.val / 4096, by omega⟩ : Fin 4) (⟨row.val % 4096, by omega⟩ : Fin 4096) l)
def wRow (l : Fin 1024) : EReal := m ((c : Thread nD τ).loc main_arg1) (ix1 l)
def wIn (j : Fin 1024) (k : Fin 10272) : EReal := m ((c : Thread nD τ).loc main_arg2) (ix2 j k)

theorem norm_eq (t : Fin cfg0.N) (r : Fin 1024) (j : Fin 1024) :
    rmsAt (fun j => (iblk m c 0 t (ix2 r j) : EReal)) (fun j => (iblk m c 1 t (ix2 0 j) : EReal)) j = rmsAt (xRow m c (rowOf t r)) (wRow m c) j := by
  have e0 : (fun j : Fin 1024 => (iblk m c 0 t (ix2 r j) : EReal)) = xRow m c (rowOf t r) := funext fun j => (blk_x m c t r j).trans (at_x m c _ j)
  have e1 : (fun j : Fin 1024 => (iblk m c 1 t (ix2 0 j) : EReal)) = wRow m c := funext fun j => (blk_w m c t 0 j).trans (at_w m c j)
  rw [e0, e1]

/-- An element of the array the call leaves, and the array. -/
def foxElt (row : Fin 16384) (n : Fin 3072) : EReal := projAt (xRow m c row) (wRow m c) (wIn m c) (foxCol n)
def foxOut : Vec Ideal S16384x3072 .bf16 := fun y => foxElt m c (y 0) (y 1)

theorem fox_covered (i : S16384x3072.Idx) : ∃ t : Fin cfg0.N, (cfg0.win 4).flush t = true ∧ i ∈ ((cfg0.win 4).blk t).view.set := by
  have h0 : (i 0 : Nat) < 16384 := (i 0).isLt
  have h1 : (i 1 : Nat) < 3072 := (i 1).isLt
  have xs : ∀ t : Fin cfg0.N, win0_4.xsize (grid0.coords t) 0 = 1024 ∧ win0_4.xsize (grid0.coords t) 1 = 3072 := by decide +kernel
  refine ⟨⟨(i 0 : Nat) / 1024, by rw [N_eq]; omega⟩, flush0_4 _, ?_⟩
  generalize ht : (⟨(i 0 : Nat) / 1024, by rw [N_eq]; omega⟩ : Fin cfg0.N) = t
  have hv : t.val = (i 0 : Nat) / 1024 := by rw [← ht]
  show i ∈ ((View.whole main_v10_0).slice (win0_4.rect t)).set
  rw [View.set_slice_whole, Rect.mem_set_unit]
  intro a
  match a with
  | ⟨0, _⟩ =>
    show win0_4.index t 0 * 1024 ≤ (i 0 : Nat) ∧ (i 0 : Nat) < win0_4.index t 0 * 1024 + win0_4.xsize (grid0.coords t) 0
    rw [(idx_fox t).1, (xs t).1]; omega
  | ⟨1, _⟩ =>
    show win0_4.index t 1 * 3072 ≤ (i 1 : Nat) ∧ (i 1 : Nat) < win0_4.index t 1 * 3072 + win0_4.xsize (grid0.coords t) 1
    rw [(idx_fox t).2, (xs t).2]; omega

theorem fox_blk (t : Fin cfg0.N) (A : Vec Ideal S16384x3072 .bf16) (r : Fin 1024) (n : Fin 3072) : ((cfg0.win 4).blk t).view.read (Elt Ideal) A (ix2 r n) = A (ix2 (rowOf t r) n) := by
  refine congrArg A (funext fun a => Fin.ext ?_)
  match a with
  | ⟨0, _⟩ => show win0_4.index t 0 * 1024 + 1 * r.val = 1024 * t.val + r.val; rw [(idx_fox t).1]; omega
  | ⟨1, _⟩ => show win0_4.index t 1 * 3072 + 1 * n.val = n.val; rw [(idx_fox t).2]; omega

theorem fox_tile (t : Fin cfg0.N) (r : Fin 1024) (n : Fin 3072) : @Eq EReal (out0_4 (iblk m c 0 t) (iblk m c 1 t) (iblk m c 2 t) (iblk m c 3 t) (ix2 r n)) (foxElt m c (rowOf t r) n) := by
  refine (congrFun (funext fun y => fox_at _ _ _ _ y) (ix2 r n)).trans ?_
  unfold foxElt projAt
  exact Finset.sum_congr rfl fun j _ => congrArg₂ (HMul.hMul (α := EReal)) (norm_eq m c t r j) ((blk_foxw m c t j n).trans (at_foxw m c j n))

theorem fox_eq : (dats m 0 c).arrAt 4 cfg0.N = foxOut m c :=
  (dats m 0 c).arrAt_eq_of_cover 4 (foxOut m c) (fun t _ => by
    rw [Cert.Kernel4Ideal.Value.flushed4]
    funext y
    have e : y = (ix2 (y 0) (y 1) : S1024x3072.Idx) := by funext a; match a with | 0 => rfl | 1 => rfl
    rw [e]
    exact (fox_tile m c t (y 0) (y 1)).trans (fox_blk t (foxOut m c) (y 0) (y 1)).symm) fox_covered

/-- An element of the array the call leaves, and the array. -/
def valElt (row : Fin 16384) (n : Fin 1024) : EReal := projAt (xRow m c row) (wRow m c) (wIn m c) (valueCol n)
def valOut : Vec Ideal S1024x16384 .bf16 := fun y => valElt m c (y 1) (y 0)

theorem val_covered (i : S1024x16384.Idx) : ∃ t : Fin cfg0.N, (cfg0.win 5).flush t = true ∧ i ∈ ((cfg0.win 5).blk t).view.set := by
  have h0 : (i 0 : Nat) < 1024 := (i 0).isLt
  have h1 : (i 1 : Nat) < 16384 := (i 1).isLt
  have xs : ∀ t : Fin cfg0.N, win0_5.xsize (grid0.coords t) 0 = 1024 ∧ win0_5.xsize (grid0.coords t) 1 = 1024 := by decide +kernel
  refine ⟨⟨(i 1 : Nat) / 1024, by rw [N_eq]; omega⟩, flush0_5 _, ?_⟩
  generalize ht : (⟨(i 1 : Nat) / 1024, by rw [N_eq]; omega⟩ : Fin cfg0.N) = t
  have hv : t.val = (i 1 : Nat) / 1024 := by rw [← ht]
  show i ∈ ((View.whole main_v10_1).slice (win0_5.rect t)).set
  rw [View.set_slice_whole, Rect.mem_set_unit]
  intro a
  match a with
  | ⟨0, _⟩ =>
    show win0_5.index t 0 * 1024 ≤ (i 0 : Nat) ∧ (i 0 : Nat) < win0_5.index t 0 * 1024 + win0_5.xsize (grid0.coords t) 0
    rw [(idx_val t).1, (xs t).1]; omega
  | ⟨1, _⟩ =>
    show win0_5.index t 1 * 1024 ≤ (i 1 : Nat) ∧ (i 1 : Nat) < win0_5.index t 1 * 1024 + win0_5.xsize (grid0.coords t) 1
    rw [(idx_val t).2, (xs t).2]; omega

theorem val_blk (t : Fin cfg0.N) (A : Vec Ideal S1024x16384 .bf16) (n : Fin 1024) (r : Fin 1024) : ((cfg0.win 5).blk t).view.read (Elt Ideal) A (ix2 n r) = A (ix2 n (rowOf t r)) := by
  refine congrArg A (funext fun a => Fin.ext ?_)
  match a with
  | ⟨0, _⟩ => show win0_5.index t 0 * 1024 + 1 * n.val = n.val; rw [(idx_val t).1]; omega
  | ⟨1, _⟩ => show win0_5.index t 1 * 1024 + 1 * r.val = 1024 * t.val + r.val; rw [(idx_val t).2]; omega

theorem val_tile (t : Fin cfg0.N) (n : Fin 1024) (r : Fin 1024) : @Eq EReal (out0_5 (iblk m c 0 t) (iblk m c 1 t) (iblk m c 2 t) (iblk m c 3 t) (ix2 n r)) (valElt m c (rowOf t r) n) := by
  refine (val_at _ _ _ _ n r).trans ?_
  unfold valElt projAt
  exact Finset.sum_congr rfl fun j _ => congrArg₂ (HMul.hMul (α := EReal)) (norm_eq m c t r j) ((blk_valw m c t n j).trans (at_valw m c j n))

theorem val_eq : (dats m 0 c).arrAt 5 cfg0.N = valOut m c :=
  (dats m 0 c).arrAt_eq_of_cover 5 (valOut m c) (fun t _ => by
    rw [Cert.Kernel4Ideal.Value.flushed5]
    funext y
    have e : y = (ix2 (y 0) (y 1) : S1024x1024.Idx) := by funext a; match a with | 0 => rfl | 1 => rfl
    rw [e]
    exact (val_tile m c t (y 0) (y 1)).trans (val_blk t (valOut m c) (y 0) (y 1)).symm) val_covered

end Cert.Kernel4Ideal.Gen
-- ==== Proof.ProjGate.lean ====
module

public import proofs.«01_k».proof.Proof.Gen.Kernel5Ideal.Value
public import proofs.«01_k».proof.Proof.ProjRef
public import Idealize.ShloMosaic.Lib.StableHlo.ReadAt

/-! The merge gates' and the narrow projections, element by element. -/

@[expose] public section

set_option maxRecDepth 16384

noncomputable section

namespace Cert.Kernel5Ideal.Gen

open Cert.Kernel5Ideal Idealize.ShloMosaic Idealize.ShloMosaic.TcCoe Idealize.ShloMosaic.StableHlo Idealize.ShloMosaic.Tactic Cert.Online Cert.Rms

theorem zero2 : (![0, 0] : Fin 2 → Nat) = fun _ => 0 := funext fun a => by fin_cases a <;> rfl

/-- The tile's normalized rows. -/
theorem norm_at (x0 : Vec Ideal S1024x1024 .f32) (x1 : Vec Ideal S1x1024 .f32) (r : Fin 1024) (j : Fin 1024) :
    @Eq EReal (k0_pay1 x0 x1 (ix2 r j)) (rmsAt (fun j => x0 (ix2 r j)) (fun j => x1 (ix2 0 j)) j) := by
  unfold rmsAt
  pointwise [k0_pay1]

/-- A tile of the projection. -/
def gateTile (x0 : Vec Ideal S1024x1024 .f32) (x1 : Vec Ideal S1x1024 .f32) (x2 : Vec Ideal S1024x2048 .bf16) : Vec Ideal S1024x2048 .bf16 := fun y =>
  ((∑ j : Fin 1024, rmsAt (fun j => x0 (ix2 (y 0) j)) (fun j => x1 (ix2 0 j)) j * x2 (ix2 j (y 1)) : EReal))

theorem gate_chunk0 (x0 : Vec Ideal S1024x1024 .f32) (x1 : Vec Ideal S1x1024 .f32) (x2 : Vec Ideal S1024x2048 .bf16) (x : S1024x1024.Idx) :
    k0_pay2 (View.ld x0 r0_0) (View.ld x1 r0_1) (View.ld x2 r0_2) x = gateTile x0 x1 x2 (r0_2.emb x) := by
  have ex : x = (ix2 (x 0) (x 1) : S1024x1024.Idx) := by funext a; match a with | 0 => rfl | 1 => rfl
  rw [ex]
  generalize hr : x 0 = r
  generalize hk : x 1 = k
  have hk1 : k.val < 1024 := k.isLt
  have e0 : r0_2.emb (ix2 r k : S1024x1024.Idx) = (ix2 r (⟨0 + k.val, by omega⟩ : Fin 2048) : S1024x2048.Idx) := by
    funext a
    apply Fin.ext
    match a with
    | ⟨0, _⟩ => show 0 + 1 * r.val = r.val; omega
    | ⟨1, _⟩ => show 0 + 1 * k.val = 0 + k.val; omega
  have e1 : ∀ j : Fin 1024, View.ld x2 r0_2 (ix2 j k) = x2 (ix2 j (⟨0 + k.val, by omega⟩ : Fin 2048)) := fun j => by
    refine congrArg x2 (funext fun a => Fin.ext ?_)
    match a with
    | ⟨0, _⟩ => show 0 + 1 * j.val = j.val; omega
    | ⟨1, _⟩ => show 0 + 1 * k.val = 0 + k.val; omega
  rw [e0]
  simp only [View.ld_unit_zero (S := S1024x1024) zero2, View.ld_unit_zero (S := S1x1024) zero2]
  have e2 : ∀ v : Vec Ideal S1024x1024 .bf16, @Eq EReal (k0_pay2 x0 x1 v (ix2 r k)) (∑ j : Fin 1024, k0_pay1 x0 x1 (ix2 r j) * v (ix2 j k)) := fun v => by
    pointwise [k0_pay2]
  refine (e2 _).trans ?_
  unfold gateTile
  exact Finset.sum_congr rfl fun j _ => congrArg₂ (HMul.hMul (α := EReal)) (norm_at x0 x1 r j) (e1 j)

theorem gate_chunk1 (x0 : Vec Ideal S1024x1024 .f32) (x1 : Vec Ideal S1x1024 .f32) (x2 : Vec Ideal S1024x2048 .bf16) (x : S1024x1024.Idx) :
    k0_pay3 (View.ld x0 r0_0) (View.ld x1 r0_1) (View.ld x2 r0_3) x = gateTile x0 x1 x2 (r0_3.emb x) := by
  have ex : x = (ix2 (x 0) (x 1) : S1024x1024.Idx) := by funext a; match a with | 0 => rfl | 1 => rfl
  rw [ex]
  generalize hr : x 0 = r
  generalize hk : x 1 = k
  have hk1 : k.val < 1024 := k.isLt
  have e0 : r0_3.emb (ix2 r k : S1024x1024.Idx) = (ix2 r (⟨1024 + k.val, by omega⟩ : Fin 2048) : S1024x2048.Idx) := by
    funext a
    apply Fin.ext
    match a with
    | ⟨0, _⟩ => show 0 + 1 * r.val = r.val; omega
    | ⟨1, _⟩ => show 1024 + 1 * k.val = 1024 + k.val; omega
  have e1 : ∀ j : Fin 1024, View.ld x2 r0_3 (ix2 j k) = x2 (ix2 j (⟨1024 + k.val, by omega⟩ : Fin 2048)) := fun j => by
    refine congrArg x2 (funext fun a => Fin.ext ?_)
    match a with
    | ⟨0, _⟩ => show 0 + 1 * j.val = j.val; omega
    | ⟨1, _⟩ => show 1024 + 1 * k.val = 1024 + k.val; omega
  rw [e0]
  simp only [View.ld_unit_zero (S := S1024x1024) zero2, View.ld_unit_zero (S := S1x1024) zero2]
  have e2 : ∀ v : Vec Ideal S1024x1024 .bf16, @Eq EReal (k0_pay3 x0 x1 v (ix2 r k)) (∑ j : Fin 1024, k0_pay1 x0 x1 (ix2 r j) * v (ix2 j k)) := fun v => by
    pointwise [k0_pay3]
  refine (e2 _).trans ?_
  unfold gateTile
  exact Finset.sum_congr rfl fun j _ => congrArg₂ (HMul.hMul (α := EReal)) (norm_at x0 x1 r j) (e1 j)

theorem gate_at (x0 : Vec Ideal S1024x1024 .f32) (x1 : Vec Ideal S1x1024 .f32) (x2 : Vec Ideal S1024x2048 .bf16) (x3 : Vec Ideal S1024x128 .bf16) (y : S1024x2048.Idx) : out0_4 x0 x1 x2 x3 y = gateTile x0 x1 x2 y := by
  unfold out0_4
  refine View.canon_apply_of_pieces (gateTile x0 x1 x2) _ ?_ y (cover0_4 _ _ y)
  intro pc hpc x
  rcases List.mem_cons.mp hpc with rfl | hpc
  · exact gate_chunk1 x0 x1 x2 x
  rcases List.mem_cons.mp hpc with rfl | hpc
  · exact gate_chunk0 x0 x1 x2 x
  exact absurd hpc List.not_mem_nil

/-- The narrow projection of a tile. -/
theorem small_at (x0 : Vec Ideal S1024x1024 .f32) (x1 : Vec Ideal S1x1024 .f32) (x2 : Vec Ideal S1024x2048 .bf16) (x3 : Vec Ideal S1024x128 .bf16) (r : Fin 1024) (n : Fin 128) :
    @Eq EReal (out0_5 x0 x1 x2 x3 (ix2 r n)) (∑ j : Fin 1024, rmsAt (fun j => x0 (ix2 r j)) (fun j => x1 (ix2 0 j)) j * x3 (ix2 j n)) := by
  simp only [← norm_at]
  unfold out0_5
  rw [View.canon_unit_zero (S := S1024x128) zero2]
  simp only [View.ld_unit_zero (S := S1024x1024) zero2, View.ld_unit_zero (S := S1x1024) zero2, View.ld_unit_zero (S := S1024x128) zero2]
  pointwise [k0_pay4]

variable (m : (ℓ : Loc nD τ sig) → Buf (Elt Ideal) ℓ) (c : Dev nD)

theorem at_x (row : Fin 16384) (l : Fin 1024) : @Eq EReal (V m c main_v10 (ix2 row l)) (m ((c : Thread nD τ).loc main_arg0) (ix3 (⟨row.val / 4096, by omega⟩ : Fin 4) (⟨row.val % 4096, by omega⟩ : Fin 4096) l)) := by
  after_reads_at
theorem at_w (l : Fin 1024) : @Eq EReal (V m c main_v11 (ix2 0 l)) (m ((c : Thread nD τ).loc main_arg1) (ix1 l)) := by
  after_reads_at
theorem at_gatew (j : Fin 1024) (n : Fin 2048) : @Eq EReal (V m c main_v3 (ix2 j n)) (m ((c : Thread nD τ).loc main_arg2) (ix2 j (gateCol n))) := by
  after_reads_at
  after_reads_at
  split_ifs <;> exact congrArg (m ((c : Thread nD τ).loc main_arg2)) (congrArg (ix2 j) (Fin.ext (by simp only [gateCol]; try omega)))
theorem at_smallw (j : Fin 1024) (n : Fin 128) : @Eq EReal (V m c main_v9 (ix2 j n)) (if h : n.val < 32 then m ((c : Thread nD τ).loc main_arg2) (ix2 j (smallCol n h)) else 0) := by
  after_reads_at
  after_reads_at
  by_cases h : n.val < 32
  · rw [dif_pos h]
    split_ifs <;> first | omega | exact congrArg (m ((c : Thread nD τ).loc main_arg2)) (congrArg (ix2 j) (Fin.ext (by simp only [smallCol]; split_ifs <;> omega)))
  · rw [dif_neg h]
    split_ifs <;> first | omega | simp

theorem N_eq : cfg0.N = 16 := by decide +kernel
theorem idx_x (t : Fin cfg0.N) : win0_0.index t 0 = t.val ∧ win0_0.index t 1 = 0 := by
  revert t; decide +kernel
theorem idx_w (t : Fin cfg0.N) : win0_1.index t 0 = 0 ∧ win0_1.index t 1 = 0 := by
  revert t; decide +kernel
theorem idx_gatew (t : Fin cfg0.N) : win0_2.index t 0 = 0 ∧ win0_2.index t 1 = 0 := by
  revert t; decide +kernel
theorem idx_smallw (t : Fin cfg0.N) : win0_3.index t 0 = 0 ∧ win0_3.index t 1 = 0 := by
  revert t; decide +kernel
theorem idx_gate (t : Fin cfg0.N) : win0_4.index t 0 = t.val ∧ win0_4.index t 1 = 0 := by
  revert t; decide +kernel
theorem idx_small (t : Fin cfg0.N) : win0_5.index t 0 = t.val ∧ win0_5.index t 1 = 0 := by
  revert t; decide +kernel

/-- The row of the whole array that a tile's row is. -/
def rowOf (t : Fin cfg0.N) (r : Fin 1024) : Fin 16384 := ⟨1024 * t.val + r.val, by have := t.isLt; have := N_eq; omega⟩

theorem blk_x (t : Fin cfg0.N) (r : Fin 1024) (l : Fin 1024) : iblk m c 0 t (ix2 r l) = V m c main_v10 (ix2 (rowOf t r) l) := by
  refine congrArg (V m c main_v10) (funext fun a => Fin.ext ?_)
  match a with
  | ⟨0, _⟩ => show win0_0.index t 0 * 1024 + 1 * r.val = 1024 * t.val + r.val; rw [(idx_x t).1]; omega
  | ⟨1, _⟩ => show win0_0.index t 1 * 1024 + 1 * l.val = l.val; rw [(idx_x t).2]; omega
theorem blk_w (t : Fin cfg0.N) (k : Fin 1) (l : Fin 1024) : iblk m c 1 t (ix2 k l) = V m c main_v11 (ix2 k l) := by
  refine congrArg (V m c main_v11) (funext fun a => Fin.ext ?_)
  match a with
  | ⟨0, _⟩ => show win0_1.index t 0 * 1 + 1 * k.val = k.val; rw [(idx_w t).1]; omega
  | ⟨1, _⟩ => show win0_1.index t 1 * 1024 + 1 * l.val = l.val; rw [(idx_w t).2]; omega
theorem blk_gatew (t : Fin cfg0.N) (k : Fin 1024) (l : Fin 2048) : iblk m c 2 t (ix2 k l) = V m c main_v3 (ix2 k l) := by
  refine congrArg (V m c main_v3) (funext fun a => Fin.ext ?_)
  match a with
  | ⟨0, _⟩ => show win0_2.index t 0 * 1024 + 1 * k.val = k.val; rw [(idx_gatew t).1]; omega
  | ⟨1, _⟩ => show win0_2.index t 1 * 2048 + 1 * l.val = l.val; rw [(idx_gatew t).2]; omega
theorem blk_smallw (t : Fin cfg0.N) (k : Fin 1024) (l : Fin 128) : iblk m c 3 t (ix2 k l) = V m c main_v9 (ix2 k l) := by
  refine congrArg (V m c main_v9) (funext fun a => Fin.ext ?_)
  match a with
  | ⟨0, _⟩ => show win0_3.index t 0 * 1024 + 1 * k.val = k.val; rw [(idx_smallw t).1]; omega
  | ⟨1, _⟩ => show win0_3.index t 1 * 128 + 1 * l.val = l.val; rw [(idx_smallw t).2]; omega

/-- A row of the call's input, its normalization's weights and the projection's. -/
def xRow (row : Fin 16384) (l : Fin 1024) : EReal := m ((c : Thread nD τ).loc main_arg0) (ix3 (⟨row.val / 4096, by omega⟩ : Fin 4) (⟨row.val % 4096, by omega⟩ : Fin 4096) l)
def wRow (l : Fin 1024) : EReal := m ((c : Thread nD τ).loc main_arg1) (ix1 l)
def wIn (j : Fin 1024) (k : Fin 10272) : EReal := m ((c : Thread nD τ).loc main_arg2) (ix2 j k)

theorem norm_eq (t : Fin cfg0.N) (r : Fin 1024) (j : Fin 1024) :
    rmsAt (fun j => (iblk m c 0 t (ix2 r j) : EReal)) (fun j => (iblk m c 1 t (ix2 0 j) : EReal)) j = rmsAt (xRow m c (rowOf t r)) (wRow m c) j := by
  have e0 : (fun j : Fin 1024 => (iblk m c 0 t (ix2 r j) : EReal)) = xRow m c (rowOf t r) := funext fun j => (blk_x m c t r j).trans (at_x m c _ j)
  have e1 : (fun j : Fin 1024 => (iblk m c 1 t (ix2 0 j) : EReal)) = wRow m c := funext fun j => (blk_w m c t 0 j).trans (at_w m c j)
  rw [e0, e1]

/-- An element of the array the call leaves, and the array. -/
def gateElt (row : Fin 16384) (n : Fin 2048) : EReal := projAt (xRow m c row) (wRow m c) (wIn m c) (gateCol n)
def gateOut : Vec Ideal S16384x2048 .bf16 := fun y => gateElt m c (y 0) (y 1)

theorem gate_covered (i : S16384x2048.Idx) : ∃ t : Fin cfg0.N, (cfg0.win 4).flush t = true ∧ i ∈ ((cfg0.win 4).blk t).view.set := by
  have h0 : (i 0 : Nat) < 16384 := (i 0).isLt
  have h1 : (i 1 : Nat) < 2048 := (i 1).isLt
  have xs : ∀ t : Fin cfg0.N, win0_4.xsize (grid0.coords t) 0 = 1024 ∧ win0_4.xsize (grid0.coords t) 1 = 2048 := by decide +kernel
  refine ⟨⟨(i 0 : Nat) / 1024, by rw [N_eq]; omega⟩, flush0_4 _, ?_⟩
  generalize ht : (⟨(i 0 : Nat) / 1024, by rw [N_eq]; omega⟩ : Fin cfg0.N) = t
  have hv : t.val = (i 0 : Nat) / 1024 := by rw [← ht]
  show i ∈ ((View.whole main_v12_0).slice (win0_4.rect t)).set
  rw [View.set_slice_whole, Rect.mem_set_unit]
  intro a
  match a with
  | ⟨0, _⟩ =>
    show win0_4.index t 0 * 1024 ≤ (i 0 : Nat) ∧ (i 0 : Nat) < win0_4.index t 0 * 1024 + win0_4.xsize (grid0.coords t) 0
    rw [(idx_gate t).1, (xs t).1]; omega
  | ⟨1, _⟩ =>
    show win0_4.index t 1 * 2048 ≤ (i 1 : Nat) ∧ (i 1 : Nat) < win0_4.index t 1 * 2048 + win0_4.xsize (grid0.coords t) 1
    rw [(idx_gate t).2, (xs t).2]; omega

theorem gate_blk (t : Fin cfg0.N) (A : Vec Ideal S16384x2048 .bf16) (r : Fin 1024) (n : Fin 2048) : ((cfg0.win 4).blk t).view.read (Elt Ideal) A (ix2 r n) = A (ix2 (rowOf t r) n) := by
  refine congrArg A (funext fun a => Fin.ext ?_)
  match a with
  | ⟨0, _⟩ => show win0_4.index t 0 * 1024 + 1 * r.val = 1024 * t.val + r.val; rw [(idx_gate t).1]; omega
  | ⟨1, _⟩ => show win0_4.index t 1 * 2048 + 1 * n.val = n.val; rw [(idx_gate t).2]; omega

theorem gate_tile (t : Fin cfg0.N) (r : Fin 1024) (n : Fin 2048) : @Eq EReal (out0_4 (iblk m c 0 t) (iblk m c 1 t) (iblk m c 2 t) (iblk m c 3 t) (ix2 r n)) (gateElt m c (rowOf t r) n) := by
  refine (congrFun (funext fun y => gate_at _ _ _ _ y) (ix2 r n)).trans ?_
  unfold gateElt projAt
  exact Finset.sum_congr rfl fun j _ => congrArg₂ (HMul.hMul (α := EReal)) (norm_eq m c t r j) ((blk_gatew m c t j n).trans (at_gatew m c j n))

theorem gate_eq : (dats m 0 c).arrAt 4 cfg0.N = gateOut m c :=
  (dats m 0 c).arrAt_eq_of_cover 4 (gateOut m c) (fun t _ => by
    rw [Cert.Kernel5Ideal.Value.flushed4]
    funext y
    have e : y = (ix2 (y 0) (y 1) : S1024x2048.Idx) := by funext a; match a with | 0 => rfl | 1 => rfl
    rw [e]
    exact (gate_tile m c t (y 0) (y 1)).trans (gate_blk t (gateOut m c) (y 0) (y 1)).symm) gate_covered

/-- An element of the array the call leaves, and the array. -/
def smallElt (row : Fin 16384) (n : Fin 128) : EReal := if h : n.val < 32 then projAt (xRow m c row) (wRow m c) (wIn m c) (smallCol n h) else 0
def smallOut : Vec Ideal S16384x128 .f32 := fun y => smallElt m c (y 0) (y 1)

theorem small_covered (i : S16384x128.Idx) : ∃ t : Fin cfg0.N, (cfg0.win 5).flush t = true ∧ i ∈ ((cfg0.win 5).blk t).view.set := by
  have h0 : (i 0 : Nat) < 16384 := (i 0).isLt
  have h1 : (i 1 : Nat) < 128 := (i 1).isLt
  have xs : ∀ t : Fin cfg0.N, win0_5.xsize (grid0.coords t) 0 = 1024 ∧ win0_5.xsize (grid0.coords t) 1 = 128 := by decide +kernel
  refine ⟨⟨(i 0 : Nat) / 1024, by rw [N_eq]; omega⟩, flush0_5 _, ?_⟩
  generalize ht : (⟨(i 0 : Nat) / 1024, by rw [N_eq]; omega⟩ : Fin cfg0.N) = t
  have hv : t.val = (i 0 : Nat) / 1024 := by rw [← ht]
  show i ∈ ((View.whole main_v12_1).slice (win0_5.rect t)).set
  rw [View.set_slice_whole, Rect.mem_set_unit]
  intro a
  match a with
  | ⟨0, _⟩ =>
    show win0_5.index t 0 * 1024 ≤ (i 0 : Nat) ∧ (i 0 : Nat) < win0_5.index t 0 * 1024 + win0_5.xsize (grid0.coords t) 0
    rw [(idx_small t).1, (xs t).1]; omega
  | ⟨1, _⟩ =>
    show win0_5.index t 1 * 128 ≤ (i 1 : Nat) ∧ (i 1 : Nat) < win0_5.index t 1 * 128 + win0_5.xsize (grid0.coords t) 1
    rw [(idx_small t).2, (xs t).2]; omega

theorem small_blk (t : Fin cfg0.N) (A : Vec Ideal S16384x128 .f32) (r : Fin 1024) (n : Fin 128) : ((cfg0.win 5).blk t).view.read (Elt Ideal) A (ix2 r n) = A (ix2 (rowOf t r) n) := by
  refine congrArg A (funext fun a => Fin.ext ?_)
  match a with
  | ⟨0, _⟩ => show win0_5.index t 0 * 1024 + 1 * r.val = 1024 * t.val + r.val; rw [(idx_small t).1]; omega
  | ⟨1, _⟩ => show win0_5.index t 1 * 128 + 1 * n.val = n.val; rw [(idx_small t).2]; omega

theorem small_tile (t : Fin cfg0.N) (r : Fin 1024) (n : Fin 128) : @Eq EReal (out0_5 (iblk m c 0 t) (iblk m c 1 t) (iblk m c 2 t) (iblk m c 3 t) (ix2 r n)) (smallElt m c (rowOf t r) n) := by
  refine (small_at _ _ _ _ r n).trans ?_
  unfold smallElt
  have e : ∀ j : Fin 1024, (rmsAt (fun j => (iblk m c 0 t (ix2 r j) : EReal)) (fun j => (iblk m c 1 t (ix2 0 j) : EReal)) j * iblk m c 3 t (ix2 j n) : EReal)
      = rmsAt (xRow m c (rowOf t r)) (wRow m c) j * (if h : n.val < 32 then wIn m c j (smallCol n h) else 0) := fun j =>
    congrArg₂ (HMul.hMul (α := EReal)) (norm_eq m c t r j) ((blk_smallw m c t j n).trans (at_smallw m c j n))
  refine (Finset.sum_congr rfl fun j _ => e j).trans ?_
  by_cases h : n.val < 32
  · simp only [dif_pos h]
    rfl
  · simp only [dif_neg h, mul_zero, Finset.sum_const_zero]

theorem small_eq : (dats m 0 c).arrAt 5 cfg0.N = smallOut m c :=
  (dats m 0 c).arrAt_eq_of_cover 5 (smallOut m c) (fun t _ => by
    rw [Cert.Kernel5Ideal.Value.flushed5]
    funext y
    have e : y = (ix2 (y 0) (y 1) : S1024x128.Idx) := by funext a; match a with | 0 => rfl | 1 => rfl
    rw [e]
    exact (small_tile m c t (y 0) (y 1)).trans (small_blk t (smallOut m c) (y 0) (y 1)).symm) small_covered

end Cert.Kernel5Ideal.Gen
-- ==== Proof.ProjDelta.lean ====
module

public import proofs.«01_k».proof.Proof.Gen.Kernel6Ideal.Value
public import proofs.«01_k».proof.Proof.ProjRef
public import Idealize.ShloMosaic.Lib.StableHlo.ReadAt

/-! The delta rule's projection, element by element. -/

@[expose] public section

set_option maxRecDepth 16384

noncomputable section

namespace Cert.Kernel6Ideal.Gen

open Cert.Kernel6Ideal Idealize.ShloMosaic Idealize.ShloMosaic.TcCoe Idealize.ShloMosaic.StableHlo Idealize.ShloMosaic.Tactic Cert.Online Cert.Rms

theorem zero2 : (![0, 0] : Fin 2 → Nat) = fun _ => 0 := funext fun a => by fin_cases a <;> rfl

/-- The tile's normalized rows. -/
theorem norm_at (x0 : Vec Ideal S512x1024 .f32) (x1 : Vec Ideal S1x1024 .f32) (r : Fin 512) (j : Fin 1024) :
    @Eq EReal (k0_pay2 x0 x1 (ix2 r j)) (rmsAt (fun j => x0 (ix2 r j)) (fun j => x1 (ix2 0 j)) j) := by
  unfold rmsAt
  pointwise [k0_pay2]

/-- A tile of the projection. -/
def deltaTile (x0 : Vec Ideal S512x1024 .f32) (x1 : Vec Ideal S1x1024 .f32) (x2 : Vec Ideal S1024x4096 .bf16) : Vec Ideal S512x4096 .f32 := fun y =>
  ((∑ j : Fin 1024, rmsAt (fun j => x0 (ix2 (y 0) j)) (fun j => x1 (ix2 0 j)) j * x2 (ix2 j (y 1)) : EReal))

theorem delta_chunk0 (x0 : Vec Ideal S512x1024 .f32) (x1 : Vec Ideal S1x1024 .f32) (x2 : Vec Ideal S1024x4096 .bf16) (x : S512x1024.Idx) :
    k0_pay3 (View.ld x0 r0_0) (View.ld x1 r0_1) (View.ld x2 r0_2) x = deltaTile x0 x1 x2 (r0_3.emb x) := by
  have ex : x = (ix2 (x 0) (x 1) : S512x1024.Idx) := by funext a; match a with | 0 => rfl | 1 => rfl
  rw [ex]
  generalize hr : x 0 = r
  generalize hk : x 1 = k
  have hk1 : k.val < 1024 := k.isLt
  have e0 : r0_3.emb (ix2 r k : S512x1024.Idx) = (ix2 r (⟨0 + k.val, by omega⟩ : Fin 4096) : S512x4096.Idx) := by
    funext a
    apply Fin.ext
    match a with
    | ⟨0, _⟩ => show 0 + 1 * r.val = r.val; omega
    | ⟨1, _⟩ => show 0 + 1 * k.val = 0 + k.val; omega
  have e1 : ∀ j : Fin 1024, View.ld x2 r0_2 (ix2 j k) = x2 (ix2 j (⟨0 + k.val, by omega⟩ : Fin 4096)) := fun j => by
    refine congrArg x2 (funext fun a => Fin.ext ?_)
    match a with
    | ⟨0, _⟩ => show 0 + 1 * j.val = j.val; omega
    | ⟨1, _⟩ => show 0 + 1 * k.val = 0 + k.val; omega
  rw [e0]
  simp only [View.ld_unit_zero (S := S512x1024) zero2, View.ld_unit_zero (S := S1x1024) zero2]
  have e2 : ∀ v : Vec Ideal S1024x1024 .bf16, @Eq EReal (k0_pay3 x0 x1 v (ix2 r k)) (∑ j : Fin 1024, k0_pay2 x0 x1 (ix2 r j) * v (ix2 j k)) := fun v => by
    pointwise [k0_pay3]
  refine (e2 _).trans ?_
  unfold deltaTile
  exact Finset.sum_congr rfl fun j _ => congrArg₂ (HMul.hMul (α := EReal)) (norm_at x0 x1 r j) (e1 j)

theorem delta_chunk1 (x0 : Vec Ideal S512x1024 .f32) (x1 : Vec Ideal S1x1024 .f32) (x2 : Vec Ideal S1024x4096 .bf16) (x : S512x1024.Idx) :
    k0_pay4 (View.ld x0 r0_0) (View.ld x1 r0_1) (View.ld x2 r0_4) x = deltaTile x0 x1 x2 (r0_5.emb x) := by
  have ex : x = (ix2 (x 0) (x 1) : S512x1024.Idx) := by funext a; match a with | 0 => rfl | 1 => rfl
  rw [ex]
  generalize hr : x 0 = r
  generalize hk : x 1 = k
  have hk1 : k.val < 1024 := k.isLt
  have e0 : r0_5.emb (ix2 r k : S512x1024.Idx) = (ix2 r (⟨1024 + k.val, by omega⟩ : Fin 4096) : S512x4096.Idx) := by
    funext a
    apply Fin.ext
    match a with
    | ⟨0, _⟩ => show 0 + 1 * r.val = r.val; omega
    | ⟨1, _⟩ => show 1024 + 1 * k.val = 1024 + k.val; omega
  have e1 : ∀ j : Fin 1024, View.ld x2 r0_4 (ix2 j k) = x2 (ix2 j (⟨1024 + k.val, by omega⟩ : Fin 4096)) := fun j => by
    refine congrArg x2 (funext fun a => Fin.ext ?_)
    match a with
    | ⟨0, _⟩ => show 0 + 1 * j.val = j.val; omega
    | ⟨1, _⟩ => show 1024 + 1 * k.val = 1024 + k.val; omega
  rw [e0]
  simp only [View.ld_unit_zero (S := S512x1024) zero2, View.ld_unit_zero (S := S1x1024) zero2]
  have e2 : ∀ v : Vec Ideal S1024x1024 .bf16, @Eq EReal (k0_pay4 x0 x1 v (ix2 r k)) (∑ j : Fin 1024, k0_pay2 x0 x1 (ix2 r j) * v (ix2 j k)) := fun v => by
    pointwise [k0_pay4]
  refine (e2 _).trans ?_
  unfold deltaTile
  exact Finset.sum_congr rfl fun j _ => congrArg₂ (HMul.hMul (α := EReal)) (norm_at x0 x1 r j) (e1 j)

theorem delta_chunk2 (x0 : Vec Ideal S512x1024 .f32) (x1 : Vec Ideal S1x1024 .f32) (x2 : Vec Ideal S1024x4096 .bf16) (x : S512x1024.Idx) :
    k0_pay5 (View.ld x0 r0_0) (View.ld x1 r0_1) (View.ld x2 r0_6) x = deltaTile x0 x1 x2 (r0_7.emb x) := by
  have ex : x = (ix2 (x 0) (x 1) : S512x1024.Idx) := by funext a; match a with | 0 => rfl | 1 => rfl
  rw [ex]
  generalize hr : x 0 = r
  generalize hk : x 1 = k
  have hk1 : k.val < 1024 := k.isLt
  have e0 : r0_7.emb (ix2 r k : S512x1024.Idx) = (ix2 r (⟨2048 + k.val, by omega⟩ : Fin 4096) : S512x4096.Idx) := by
    funext a
    apply Fin.ext
    match a with
    | ⟨0, _⟩ => show 0 + 1 * r.val = r.val; omega
    | ⟨1, _⟩ => show 2048 + 1 * k.val = 2048 + k.val; omega
  have e1 : ∀ j : Fin 1024, View.ld x2 r0_6 (ix2 j k) = x2 (ix2 j (⟨2048 + k.val, by omega⟩ : Fin 4096)) := fun j => by
    refine congrArg x2 (funext fun a => Fin.ext ?_)
    match a with
    | ⟨0, _⟩ => show 0 + 1 * j.val = j.val; omega
    | ⟨1, _⟩ => show 2048 + 1 * k.val = 2048 + k.val; omega
  rw [e0]
  simp only [View.ld_unit_zero (S := S512x1024) zero2, View.ld_unit_zero (S := S1x1024) zero2]
  have e2 : ∀ v : Vec Ideal S1024x1024 .bf16, @Eq EReal (k0_pay5 x0 x1 v (ix2 r k)) (∑ j : Fin 1024, k0_pay2 x0 x1 (ix2 r j) * v (ix2 j k)) := fun v => by
    pointwise [k0_pay5]
  refine (e2 _).trans ?_
  unfold deltaTile
  exact Finset.sum_congr rfl fun j _ => congrArg₂ (HMul.hMul (α := EReal)) (norm_at x0 x1 r j) (e1 j)

theorem delta_chunk3 (x0 : Vec Ideal S512x1024 .f32) (x1 : Vec Ideal S1x1024 .f32) (x2 : Vec Ideal S1024x4096 .bf16) (x : S512x1024.Idx) :
    k0_pay1 (k0_pay2 (View.ld x0 r0_0) (View.ld x1 r0_1)) (k0_pay6 (View.ld x2 r0_8)) (constant S512x1024 .f32 0x00000000#32) x = deltaTile x0 x1 x2 (r0_9.emb x) := by
  have ex : x = (ix2 (x 0) (x 1) : S512x1024.Idx) := by funext a; match a with | 0 => rfl | 1 => rfl
  rw [ex]
  generalize hr : x 0 = r
  generalize hk : x 1 = k
  have hk1 : k.val < 1024 := k.isLt
  have e0 : r0_9.emb (ix2 r k : S512x1024.Idx) = (ix2 r (⟨3072 + k.val, by omega⟩ : Fin 4096) : S512x4096.Idx) := by
    funext a
    apply Fin.ext
    match a with
    | ⟨0, _⟩ => show 0 + 1 * r.val = r.val; omega
    | ⟨1, _⟩ => show 3072 + 1 * k.val = 3072 + k.val; omega
  have e1 : ∀ j : Fin 1024, View.ld x2 r0_8 (ix2 j k) = x2 (ix2 j (⟨3072 + k.val, by omega⟩ : Fin 4096)) := fun j => by
    refine congrArg x2 (funext fun a => Fin.ext ?_)
    match a with
    | ⟨0, _⟩ => show 0 + 1 * j.val = j.val; omega
    | ⟨1, _⟩ => show 3072 + 1 * k.val = 3072 + k.val; omega
  rw [e0]
  simp only [View.ld_unit_zero (S := S512x1024) zero2, View.ld_unit_zero (S := S1x1024) zero2]
  have e2 : ∀ v : Vec Ideal S1024x1024 .bf16, @Eq EReal (k0_pay1 (k0_pay2 x0 x1) (k0_pay6 v) (constant S512x1024 .f32 0x00000000#32) (ix2 r k)) (∑ j : Fin 1024, k0_pay2 x0 x1 (ix2 r j) * v (ix2 j k)) := fun v => by
    pointwise [k0_pay1, k0_pay6]
  refine (e2 _).trans ?_
  unfold deltaTile
  exact Finset.sum_congr rfl fun j _ => congrArg₂ (HMul.hMul (α := EReal)) (norm_at x0 x1 r j) (e1 j)

theorem delta_at (x0 : Vec Ideal S512x1024 .f32) (x1 : Vec Ideal S1x1024 .f32) (x2 : Vec Ideal S1024x4096 .bf16) (y : S512x4096.Idx) : out0_3 x0 x1 x2 y = deltaTile x0 x1 x2 y := by
  unfold out0_3
  refine View.canon_apply_of_pieces (deltaTile x0 x1 x2) _ ?_ y (cover0_3 _ _ _ _ y)
  intro pc hpc x
  rcases List.mem_cons.mp hpc with rfl | hpc
  · exact delta_chunk3 x0 x1 x2 x
  rcases List.mem_cons.mp hpc with rfl | hpc
  · exact delta_chunk2 x0 x1 x2 x
  rcases List.mem_cons.mp hpc with rfl | hpc
  · exact delta_chunk1 x0 x1 x2 x
  rcases List.mem_cons.mp hpc with rfl | hpc
  · exact delta_chunk0 x0 x1 x2 x
  exact absurd hpc List.not_mem_nil

variable (m : (ℓ : Loc nD τ sig) → Buf (Elt Ideal) ℓ) (c : Dev nD)

theorem at_x (row : Fin 16384) (l : Fin 1024) : @Eq EReal (V m c main_v6 (ix2 row l)) (m ((c : Thread nD τ).loc main_arg0) (ix3 (⟨row.val / 4096, by omega⟩ : Fin 4) (⟨row.val % 4096, by omega⟩ : Fin 4096) l)) := by
  after_reads_at
theorem at_w (l : Fin 1024) : @Eq EReal (V m c main_v7 (ix2 0 l)) (m ((c : Thread nD τ).loc main_arg1) (ix1 l)) := by
  after_reads_at
theorem at_deltaw (j : Fin 1024) (n : Fin 4096) : @Eq EReal (V m c main_v5 (ix2 j n)) (m ((c : Thread nD τ).loc main_arg2) (ix2 j (deltaCol n))) := by
  after_reads_at
  after_reads_at
  split_ifs <;> exact congrArg (m ((c : Thread nD τ).loc main_arg2)) (congrArg (ix2 j) (Fin.ext (by simp only [deltaCol]; try omega)))

theorem N_eq : cfg0.N = 32 := by decide +kernel
theorem idx_x (t : Fin cfg0.N) : win0_0.index t 0 = t.val ∧ win0_0.index t 1 = 0 := by
  revert t; decide +kernel
theorem idx_w (t : Fin cfg0.N) : win0_1.index t 0 = 0 ∧ win0_1.index t 1 = 0 := by
  revert t; decide +kernel
theorem idx_deltaw (t : Fin cfg0.N) : win0_2.index t 0 = 0 ∧ win0_2.index t 1 = 0 := by
  revert t; decide +kernel
theorem idx_delta (t : Fin cfg0.N) : win0_3.index t 0 = t.val ∧ win0_3.index t 1 = 0 := by
  revert t; decide +kernel

/-- The row of the whole array that a tile's row is. -/
def rowOf (t : Fin cfg0.N) (r : Fin 512) : Fin 16384 := ⟨512 * t.val + r.val, by have := t.isLt; have := N_eq; omega⟩

theorem blk_x (t : Fin cfg0.N) (r : Fin 512) (l : Fin 1024) : iblk m c 0 t (ix2 r l) = V m c main_v6 (ix2 (rowOf t r) l) := by
  refine congrArg (V m c main_v6) (funext fun a => Fin.ext ?_)
  match a with
  | ⟨0, _⟩ => show win0_0.index t 0 * 512 + 1 * r.val = 512 * t.val + r.val; rw [(idx_x t).1]; omega
  | ⟨1, _⟩ => show win0_0.index t 1 * 1024 + 1 * l.val = l.val; rw [(idx_x t).2]; omega
theorem blk_w (t : Fin cfg0.N) (k : Fin 1) (l : Fin 1024) : iblk m c 1 t (ix2 k l) = V m c main_v7 (ix2 k l) := by
  refine congrArg (V m c main_v7) (funext fun a => Fin.ext ?_)
  match a with
  | ⟨0, _⟩ => show win0_1.index t 0 * 1 + 1 * k.val = k.val; rw [(idx_w t).1]; omega
  | ⟨1, _⟩ => show win0_1.index t 1 * 1024 + 1 * l.val = l.val; rw [(idx_w t).2]; omega
theorem blk_deltaw (t : Fin cfg0.N) (k : Fin 1024) (l : Fin 4096) : iblk m c 2 t (ix2 k l) = V m c main_v5 (ix2 k l) := by
  refine congrArg (V m c main_v5) (funext fun a => Fin.ext ?_)
  match a with
  | ⟨0, _⟩ => show win0_2.index t 0 * 1024 + 1 * k.val = k.val; rw [(idx_deltaw t).1]; omega
  | ⟨1, _⟩ => show win0_2.index t 1 * 4096 + 1 * l.val = l.val; rw [(idx_deltaw t).2]; omega

/-- A row of the call's input, its normalization's weights and the projection's. -/
def xRow (row : Fin 16384) (l : Fin 1024) : EReal := m ((c : Thread nD τ).loc main_arg0) (ix3 (⟨row.val / 4096, by omega⟩ : Fin 4) (⟨row.val % 4096, by omega⟩ : Fin 4096) l)
def wRow (l : Fin 1024) : EReal := m ((c : Thread nD τ).loc main_arg1) (ix1 l)
def wIn (j : Fin 1024) (k : Fin 10272) : EReal := m ((c : Thread nD τ).loc main_arg2) (ix2 j k)

theorem norm_eq (t : Fin cfg0.N) (r : Fin 512) (j : Fin 1024) :
    rmsAt (fun j => (iblk m c 0 t (ix2 r j) : EReal)) (fun j => (iblk m c 1 t (ix2 0 j) : EReal)) j = rmsAt (xRow m c (rowOf t r)) (wRow m c) j := by
  have e0 : (fun j : Fin 1024 => (iblk m c 0 t (ix2 r j) : EReal)) = xRow m c (rowOf t r) := funext fun j => (blk_x m c t r j).trans (at_x m c _ j)
  have e1 : (fun j : Fin 1024 => (iblk m c 1 t (ix2 0 j) : EReal)) = wRow m c := funext fun j => (blk_w m c t 0 j).trans (at_w m c j)
  rw [e0, e1]

/-- An element of the array the call leaves, and the array. -/
def deltaElt (row : Fin 16384) (n : Fin 4096) : EReal := projAt (xRow m c row) (wRow m c) (wIn m c) (deltaCol n)
def deltaOut : Vec Ideal S16384x4096 .f32 := fun y => deltaElt m c (y 0) (y 1)

theorem delta_covered (i : S16384x4096.Idx) : ∃ t : Fin cfg0.N, (cfg0.win 3).flush t = true ∧ i ∈ ((cfg0.win 3).blk t).view.set := by
  have h0 : (i 0 : Nat) < 16384 := (i 0).isLt
  have h1 : (i 1 : Nat) < 4096 := (i 1).isLt
  have xs : ∀ t : Fin cfg0.N, win0_3.xsize (grid0.coords t) 0 = 512 ∧ win0_3.xsize (grid0.coords t) 1 = 4096 := by decide +kernel
  refine ⟨⟨(i 0 : Nat) / 512, by rw [N_eq]; omega⟩, flush0_3 _, ?_⟩
  generalize ht : (⟨(i 0 : Nat) / 512, by rw [N_eq]; omega⟩ : Fin cfg0.N) = t
  have hv : t.val = (i 0 : Nat) / 512 := by rw [← ht]
  show i ∈ ((View.whole main_v8).slice (win0_3.rect t)).set
  rw [View.set_slice_whole, Rect.mem_set_unit]
  intro a
  match a with
  | ⟨0, _⟩ =>
    show win0_3.index t 0 * 512 ≤ (i 0 : Nat) ∧ (i 0 : Nat) < win0_3.index t 0 * 512 + win0_3.xsize (grid0.coords t) 0
    rw [(idx_delta t).1, (xs t).1]; omega
  | ⟨1, _⟩ =>
    show win0_3.index t 1 * 4096 ≤ (i 1 : Nat) ∧ (i 1 : Nat) < win0_3.index t 1 * 4096 + win0_3.xsize (grid0.coords t) 1
    rw [(idx_delta t).2, (xs t).2]; omega

theorem delta_blk (t : Fin cfg0.N) (A : Vec Ideal S16384x4096 .f32) (r : Fin 512) (n : Fin 4096) : ((cfg0.win 3).blk t).view.read (Elt Ideal) A (ix2 r n) = A (ix2 (rowOf t r) n) := by
  refine congrArg A (funext fun a => Fin.ext ?_)
  match a with
  | ⟨0, _⟩ => show win0_3.index t 0 * 512 + 1 * r.val = 512 * t.val + r.val; rw [(idx_delta t).1]; omega
  | ⟨1, _⟩ => show win0_3.index t 1 * 4096 + 1 * n.val = n.val; rw [(idx_delta t).2]; omega

theorem delta_tile (t : Fin cfg0.N) (r : Fin 512) (n : Fin 4096) : @Eq EReal (out0_3 (iblk m c 0 t) (iblk m c 1 t) (iblk m c 2 t) (ix2 r n)) (deltaElt m c (rowOf t r) n) := by
  refine (congrFun (funext fun y => delta_at _ _ _ y) (ix2 r n)).trans ?_
  unfold deltaElt projAt
  exact Finset.sum_congr rfl fun j _ => congrArg₂ (HMul.hMul (α := EReal)) (norm_eq m c t r j) ((blk_deltaw m c t j n).trans (at_deltaw m c j n))

theorem delta_eq : (dats m 0 c).arrAt 3 cfg0.N = deltaOut m c :=
  (dats m 0 c).arrAt_eq_of_cover 3 (deltaOut m c) (fun t _ => by
    rw [Cert.Kernel6Ideal.Value.flushed3]
    funext y
    have e : y = (ix2 (y 0) (y 1) : S512x4096.Idx) := by funext a; match a with | 0 => rfl | 1 => rfl
    rw [e]
    exact (delta_tile m c t (y 0) (y 1)).trans (delta_blk t (deltaOut m c) (y 0) (y 1)).symm) delta_covered

end Cert.Kernel6Ideal.Gen
-- ==== Proof.ProjEqual.lean ====
module

public import proofs.«01_k».proof.Defs
public import proofs.«01_k».proof.Proof.ProjFox
public import proofs.«01_k».proof.Proof.ProjGate
public import proofs.«01_k».proof.Proof.ProjDelta
public import proofs.«01_k».proof.Proof.Gen.Kernel4.Frame
public import proofs.«01_k».proof.Proof.Gen.Kernel5.Frame
public import proofs.«01_k».proof.Proof.Gen.Kernel6.Frame

/-! The claims about the projections. -/

@[expose] public section

set_option maxRecDepth 16384

noncomputable section

namespace Cert.Proof

open Idealize.ShloMosaic Idealize.ShloMosaic.TcCoe Idealize.ShloMosaic.StableHlo Idealize.SL.Sem
open Cert.Reference4Ideal.Value (refProj refProj_at refFox refFox_at refValue refValue_at)
open Cert.Reference5Ideal.Value (refGate refGate_at refSmall refSmall_at)
open Cert.Reference6Ideal.Value (refDelta refDelta_at)

theorem fox_frame : Cert.quiescent_Kernel4 (hKernel4 := Cert.Kernel4.Gen.facts) :=
  fun m ρ _ => Cert.Kernel4.Gen.frame m ρ

theorem fox_ideal_frame : Cert.quiescent_Kernel4Ideal (hKernel4Ideal := Cert.Kernel4Ideal.Gen.facts) :=
  fun m ρ _ => Cert.Kernel4Ideal.Gen.frame m ρ

theorem fox_ref_frame : Cert.quiescent_Reference4Ideal (hReference4Ideal := Cert.Reference4Ideal.Gen.facts) :=
  fun m ρ _ => (θ_run Cert.Reference4Ideal.defs _ _).mono
    (fun r h => ⟨fun c => (h c).2.2, sem_eq_zero_of_no_sems (by decide) r.2⟩) (Cert.Reference4Ideal.Value.run m ρ)

theorem fox_preserved : Cert.preserves_Kernel4_Kernel4Ideal := trivial

theorem fox_result (m : (ℓ : Loc Cert.Kernel4Ideal.nD Cert.Kernel4Ideal.τ Cert.Kernel4Ideal.sig) → Buf (Elt Ideal) ℓ) (c : Dev Cert.Kernel4Ideal.nD) :
    refFox (refProj (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2))) = Cert.Kernel4Ideal.Gen.foxOut m c := by
  funext y
  have e : y = (ix2 (y 0) (y 1) : Cert.Reference4Ideal.S16384x3072.Idx) := by funext a; match a with | 0 => rfl | 1 => rfl
  rw [e]
  refine (refFox_at _ (y 0) (y 1)).trans ?_
  exact refProj_at _ _ _ (y 0) _

theorem val_result (m : (ℓ : Loc Cert.Kernel4Ideal.nD Cert.Kernel4Ideal.τ Cert.Kernel4Ideal.sig) → Buf (Elt Ideal) ℓ) (c : Dev Cert.Kernel4Ideal.nD) :
    refValue (refProj (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2))) = Cert.Kernel4Ideal.Gen.valOut m c := by
  funext y
  have e : y = (ix2 (y 0) (y 1) : Cert.Reference4Ideal.S1024x16384.Idx) := by funext a; match a with | 0 => rfl | 1 => rfl
  rw [e]
  refine (refValue_at _ (y 1) (y 0)).trans ?_
  exact refProj_at _ _ _ (y 1) _

theorem fox_equal : Cert.algebraic_Kernel4Ideal_Reference4Ideal (hKernel4Ideal := Cert.Kernel4Ideal.Gen.facts) (hReference4Ideal := Cert.Reference4Ideal.Gen.facts) := by
  intro m g m' g' _ hm
  refine ⟨fun c => Cert.Kernel4Ideal.Gen.foxOut m c, fun c => Cert.Kernel4Ideal.Gen.valOut m c, ?_, ?_⟩
  · exact (θ_run Cert.Kernel4Ideal.defs _ _).mono (fun _ h c => ⟨(h c).1.trans (Cert.Kernel4Ideal.Gen.fox_eq m c), (h c).2.1.trans (Cert.Kernel4Ideal.Gen.val_eq m c), (h c).2.2⟩) (Cert.Kernel4Ideal.Value.run_blocks m g)
  · refine (θ_run Cert.Reference4Ideal.defs _ _).mono (fun _ h c => ⟨(h c).1.trans ?_, (h c).2.1.trans ?_, (h c).2.2⟩) (Cert.Reference4Ideal.Value.run m' g')
    · obtain ⟨q0, q1, q2⟩ := hm c
      show refFox (refProj (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2))) = _
      rw [q0, q1, q2]
      exact fox_result m c
    · obtain ⟨q0, q1, q2⟩ := hm c
      show refValue (refProj (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2))) = _
      rw [q0, q1, q2]
      exact val_result m c

theorem gate_frame : Cert.quiescent_Kernel5 (hKernel5 := Cert.Kernel5.Gen.facts) :=
  fun m ρ _ => Cert.Kernel5.Gen.frame m ρ

theorem gate_ideal_frame : Cert.quiescent_Kernel5Ideal (hKernel5Ideal := Cert.Kernel5Ideal.Gen.facts) :=
  fun m ρ _ => Cert.Kernel5Ideal.Gen.frame m ρ

theorem gate_ref_frame : Cert.quiescent_Reference5Ideal (hReference5Ideal := Cert.Reference5Ideal.Gen.facts) :=
  fun m ρ _ => (θ_run Cert.Reference5Ideal.defs _ _).mono
    (fun r h => ⟨fun c => (h c).2.2, sem_eq_zero_of_no_sems (by decide) r.2⟩) (Cert.Reference5Ideal.Value.run m ρ)

theorem gate_preserved : Cert.preserves_Kernel5_Kernel5Ideal := trivial

theorem gate_result (m : (ℓ : Loc Cert.Kernel5Ideal.nD Cert.Kernel5Ideal.τ Cert.Kernel5Ideal.sig) → Buf (Elt Ideal) ℓ) (c : Dev Cert.Kernel5Ideal.nD) :
    refGate (refProj (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2))) = Cert.Kernel5Ideal.Gen.gateOut m c := by
  funext y
  have e : y = (ix2 (y 0) (y 1) : Cert.Reference5Ideal.S16384x2048.Idx) := by funext a; match a with | 0 => rfl | 1 => rfl
  rw [e]
  refine (refGate_at _ (y 0) (y 1)).trans ?_
  exact refProj_at _ _ _ (y 0) _

theorem small_result (m : (ℓ : Loc Cert.Kernel5Ideal.nD Cert.Kernel5Ideal.τ Cert.Kernel5Ideal.sig) → Buf (Elt Ideal) ℓ) (c : Dev Cert.Kernel5Ideal.nD) :
    refSmall (refProj (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2))) = Cert.Kernel5Ideal.Gen.smallOut m c := by
  funext y
  have e : y = (ix2 (y 0) (y 1) : Cert.Reference5Ideal.S16384x128.Idx) := by funext a; match a with | 0 => rfl | 1 => rfl
  rw [e]
  refine (refSmall_at _ (y 0) (y 1)).trans ?_
  show _ = Cert.Kernel5Ideal.Gen.smallElt m c (y 0) (y 1)
  unfold Cert.Kernel5Ideal.Gen.smallElt
  by_cases h : (y 1).val < 32
  · rw [dif_pos h, dif_pos h]
    exact refProj_at _ _ _ (y 0) _
  · rw [dif_neg h, dif_neg h]

theorem gate_equal : Cert.algebraic_Kernel5Ideal_Reference5Ideal (hKernel5Ideal := Cert.Kernel5Ideal.Gen.facts) (hReference5Ideal := Cert.Reference5Ideal.Gen.facts) := by
  intro m g m' g' _ hm
  refine ⟨fun c => Cert.Kernel5Ideal.Gen.gateOut m c, fun c => Cert.Kernel5Ideal.Gen.smallOut m c, ?_, ?_⟩
  · exact (θ_run Cert.Kernel5Ideal.defs _ _).mono (fun _ h c => ⟨(h c).1.trans (Cert.Kernel5Ideal.Gen.gate_eq m c), (h c).2.1.trans (Cert.Kernel5Ideal.Gen.small_eq m c), (h c).2.2⟩) (Cert.Kernel5Ideal.Value.run_blocks m g)
  · refine (θ_run Cert.Reference5Ideal.defs _ _).mono (fun _ h c => ⟨(h c).1.trans ?_, (h c).2.1.trans ?_, (h c).2.2⟩) (Cert.Reference5Ideal.Value.run m' g')
    · obtain ⟨q0, q1, q2⟩ := hm c
      show refGate (refProj (m' ((c : Thread Cert.Reference5Ideal.nD Cert.Reference5Ideal.τ).loc Cert.Reference5Ideal.main_arg0)) (m' ((c : Thread Cert.Reference5Ideal.nD Cert.Reference5Ideal.τ).loc Cert.Reference5Ideal.main_arg1)) (m' ((c : Thread Cert.Reference5Ideal.nD Cert.Reference5Ideal.τ).loc Cert.Reference5Ideal.main_arg2))) = _
      rw [q0, q1, q2]
      exact gate_result m c
    · obtain ⟨q0, q1, q2⟩ := hm c
      show refSmall (refProj (m' ((c : Thread Cert.Reference5Ideal.nD Cert.Reference5Ideal.τ).loc Cert.Reference5Ideal.main_arg0)) (m' ((c : Thread Cert.Reference5Ideal.nD Cert.Reference5Ideal.τ).loc Cert.Reference5Ideal.main_arg1)) (m' ((c : Thread Cert.Reference5Ideal.nD Cert.Reference5Ideal.τ).loc Cert.Reference5Ideal.main_arg2))) = _
      rw [q0, q1, q2]
      exact small_result m c

theorem delta_frame : Cert.quiescent_Kernel6 (hKernel6 := Cert.Kernel6.Gen.facts) :=
  fun m ρ _ => Cert.Kernel6.Gen.frame m ρ

theorem delta_ideal_frame : Cert.quiescent_Kernel6Ideal (hKernel6Ideal := Cert.Kernel6Ideal.Gen.facts) :=
  fun m ρ _ => Cert.Kernel6Ideal.Gen.frame m ρ

theorem delta_ref_frame : Cert.quiescent_Reference6Ideal (hReference6Ideal := Cert.Reference6Ideal.Gen.facts) :=
  fun m ρ _ => (θ_run Cert.Reference6Ideal.defs _ _).mono
    (fun r h => ⟨fun c => (h c).2, sem_eq_zero_of_no_sems (by decide) r.2⟩) (Cert.Reference6Ideal.Value.run m ρ)

theorem delta_preserved : Cert.preserves_Kernel6_Kernel6Ideal := trivial

theorem delta_result (m : (ℓ : Loc Cert.Kernel6Ideal.nD Cert.Kernel6Ideal.τ Cert.Kernel6Ideal.sig) → Buf (Elt Ideal) ℓ) (c : Dev Cert.Kernel6Ideal.nD) :
    refDelta (refProj (m ((c : Thread Cert.Kernel6Ideal.nD Cert.Kernel6Ideal.τ).loc Cert.Kernel6Ideal.main_arg0)) (m ((c : Thread Cert.Kernel6Ideal.nD Cert.Kernel6Ideal.τ).loc Cert.Kernel6Ideal.main_arg1)) (m ((c : Thread Cert.Kernel6Ideal.nD Cert.Kernel6Ideal.τ).loc Cert.Kernel6Ideal.main_arg2))) = Cert.Kernel6Ideal.Gen.deltaOut m c := by
  funext y
  have e : y = (ix2 (y 0) (y 1) : Cert.Reference6Ideal.S16384x4096.Idx) := by funext a; match a with | 0 => rfl | 1 => rfl
  rw [e]
  refine (refDelta_at _ (y 0) (y 1)).trans ?_
  exact refProj_at _ _ _ (y 0) _

theorem delta_equal : Cert.algebraic_Kernel6Ideal_Reference6Ideal (hKernel6Ideal := Cert.Kernel6Ideal.Gen.facts) (hReference6Ideal := Cert.Reference6Ideal.Gen.facts) := by
  intro m g m' g' _ hm
  refine ⟨fun c => Cert.Kernel6Ideal.Gen.deltaOut m c, ?_, ?_⟩
  · exact (θ_run Cert.Kernel6Ideal.defs _ _).mono (fun _ h c => ⟨(h c).1.trans (Cert.Kernel6Ideal.Gen.delta_eq m c), (h c).2⟩) (Cert.Kernel6Ideal.Value.run_blocks m g)
  · refine (θ_run Cert.Reference6Ideal.defs _ _).mono (fun _ h c => ⟨(h c).1.trans ?_, (h c).2⟩) (Cert.Reference6Ideal.Value.run m' g')
    obtain ⟨q0, q1, q2⟩ := hm c
    show refDelta (refProj (m' ((c : Thread Cert.Reference6Ideal.nD Cert.Reference6Ideal.τ).loc Cert.Reference6Ideal.main_arg0)) (m' ((c : Thread Cert.Reference6Ideal.nD Cert.Reference6Ideal.τ).loc Cert.Reference6Ideal.main_arg1)) (m' ((c : Thread Cert.Reference6Ideal.nD Cert.Reference6Ideal.τ).loc Cert.Reference6Ideal.main_arg2))) = _
    rw [q0, q1, q2]
    exact delta_result m c

end Cert.Proof

end
-- ==== Proof.lean ====
module

public import proofs.«01_k».proof.Defs
public import proofs.«01_k».proof.Proof.Equal
public import proofs.«01_k».proof.Proof.FfnEqual
public import proofs.«01_k».proof.Proof.MergeEqual
public import proofs.«01_k».proof.Proof.ProjEqual
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference3Ideal.Run

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    finite_facts, gate_facts,
    kernel_frame, ideal_frame, ideal_frame_pre, reference_frame, reference_frame_pre,
    ffn_frame, ffn_ideal_frame, ffn_ideal_frame_pre, ffn_ref_frame, ffn_ref_frame_pre,
    merge_frame, merge_ideal_frame, merge_ref_frame,
    fox_frame, fox_ideal_frame, fox_ref_frame,
    gate_frame, gate_ideal_frame, gate_ref_frame,
    delta_frame, delta_ideal_frame, delta_ref_frame,
    mask_preserved, equal, ffn_preserved, ffn_equal, merge_preserved, merge_equal,
    fox_preserved, fox_equal, gate_preserved, gate_equal, delta_preserved, delta_equal⟩

end Cert.Proof

end
